-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite [hPre_finite : Cert.Pre_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite [hPre_finite : Cert.Pre_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))) = (fun _ => 1#1)

def Pre_LruKernel (m : (ℓ : Loc Cert.LruKernel.nD Cert.LruKernel.τ Cert.LruKernel.sig) → Buf (Elt Bits) ℓ) : Prop :=
  True

def Pre_LruKernelIdeal (m : (ℓ : Loc Cert.LruKernelIdeal.nD Cert.LruKernelIdeal.τ Cert.LruKernelIdeal.sig) → Buf (Elt Ideal) ℓ) : Prop :=
  True

def Pre_InputKernel (m : (ℓ : Loc Cert.InputKernel.nD Cert.InputKernel.τ Cert.InputKernel.sig) → Buf (Elt Bits) ℓ) : Prop :=
  True

def Pre_InputKernelIdeal (m : (ℓ : Loc Cert.InputKernelIdeal.nD Cert.InputKernelIdeal.τ Cert.InputKernelIdeal.sig) → Buf (Elt Ideal) ℓ) : Prop :=
  True

def Pre_InputKernelIdeal_all_finite [hPre_all_finite : Cert.Pre_all_finite.Facts] (m : (ℓ : Loc Cert.InputKernelIdeal.nD Cert.InputKernelIdeal.τ Cert.InputKernelIdeal.sig) → Buf (Elt Ideal) ℓ) : Prop :=
  ∀ c : Dev Cert.InputKernelIdeal.nD,
    (Cert.Pre_all_finite.fn (F := Ideal) (m ((c.tc : Thread Cert.InputKernelIdeal.nD Cert.InputKernelIdeal.τ).loc Cert.InputKernelIdeal.main_arg0)) (m ((c.tc : Thread Cert.InputKernelIdeal.nD Cert.InputKernelIdeal.τ).loc Cert.InputKernelIdeal.main_arg1)) (m ((c.tc : Thread Cert.InputKernelIdeal.nD Cert.InputKernelIdeal.τ).loc Cert.InputKernelIdeal.main_arg2)) (m ((c.tc : Thread Cert.InputKernelIdeal.nD Cert.InputKernelIdeal.τ).loc Cert.InputKernelIdeal.main_arg3)) (m ((c.tc : Thread Cert.InputKernelIdeal.nD Cert.InputKernelIdeal.τ).loc Cert.InputKernelIdeal.main_arg4)) (m ((c.tc : Thread Cert.InputKernelIdeal.nD Cert.InputKernelIdeal.τ).loc Cert.InputKernelIdeal.main_arg5)) (m ((c.tc : Thread Cert.InputKernelIdeal.nD Cert.InputKernelIdeal.τ).loc Cert.InputKernelIdeal.main_arg6)) (m ((c.tc : Thread Cert.InputKernelIdeal.nD Cert.InputKernelIdeal.τ).loc Cert.InputKernelIdeal.main_arg7)) (m ((c.tc : Thread Cert.InputKernelIdeal.nD Cert.InputKernelIdeal.τ).loc Cert.InputKernelIdeal.main_arg8)) (m ((c.tc : Thread Cert.InputKernelIdeal.nD Cert.InputKernelIdeal.τ).loc Cert.InputKernelIdeal.main_arg9)) (m ((c.tc : Thread Cert.InputKernelIdeal.nD Cert.InputKernelIdeal.τ).loc Cert.InputKernelIdeal.main_arg10))) = (fun _ => 1#1)

def Pre_InputReferenceIdeal (m : (ℓ : Loc Cert.InputReferenceIdeal.nD Cert.InputReferenceIdeal.τ Cert.InputReferenceIdeal.sig) → Buf (Elt Ideal) ℓ) : Prop :=
  True

def Pre_InputReferenceIdeal_all_finite [hPre_all_finite : Cert.Pre_all_finite.Facts] (m : (ℓ : Loc Cert.InputReferenceIdeal.nD Cert.InputReferenceIdeal.τ Cert.InputReferenceIdeal.sig) → Buf (Elt Ideal) ℓ) : Prop :=
  ∀ c : Dev Cert.InputReferenceIdeal.nD,
    (Cert.Pre_all_finite.fn (F := Ideal) (m ((c.tc : Thread Cert.InputReferenceIdeal.nD Cert.InputReferenceIdeal.τ).loc Cert.InputReferenceIdeal.main_arg0)) (m ((c.tc : Thread Cert.InputReferenceIdeal.nD Cert.InputReferenceIdeal.τ).loc Cert.InputReferenceIdeal.main_arg1)) (m ((c.tc : Thread Cert.InputReferenceIdeal.nD Cert.InputReferenceIdeal.τ).loc Cert.InputReferenceIdeal.main_arg2)) (m ((c.tc : Thread Cert.InputReferenceIdeal.nD Cert.InputReferenceIdeal.τ).loc Cert.InputReferenceIdeal.main_arg3)) (m ((c.tc : Thread Cert.InputReferenceIdeal.nD Cert.InputReferenceIdeal.τ).loc Cert.InputReferenceIdeal.main_arg4)) (m ((c.tc : Thread Cert.InputReferenceIdeal.nD Cert.InputReferenceIdeal.τ).loc Cert.InputReferenceIdeal.main_arg5)) (m ((c.tc : Thread Cert.InputReferenceIdeal.nD Cert.InputReferenceIdeal.τ).loc Cert.InputReferenceIdeal.main_arg6)) (m ((c.tc : Thread Cert.InputReferenceIdeal.nD Cert.InputReferenceIdeal.τ).loc Cert.InputReferenceIdeal.main_arg7)) (m ((c.tc : Thread Cert.InputReferenceIdeal.nD Cert.InputReferenceIdeal.τ).loc Cert.InputReferenceIdeal.main_arg8)) (m ((c.tc : Thread Cert.InputReferenceIdeal.nD Cert.InputReferenceIdeal.τ).loc Cert.InputReferenceIdeal.main_arg9)) (m ((c.tc : Thread Cert.InputReferenceIdeal.nD Cert.InputReferenceIdeal.τ).loc Cert.InputReferenceIdeal.main_arg10))) = (fun _ => 1#1)

def Pre_TailKernel (m : (ℓ : Loc Cert.TailKernel.nD Cert.TailKernel.τ Cert.TailKernel.sig) → Buf (Elt Bits) ℓ) : Prop :=
  True

def Pre_TailKernelIdeal (m : (ℓ : Loc Cert.TailKernelIdeal.nD Cert.TailKernelIdeal.τ Cert.TailKernelIdeal.sig) → Buf (Elt Ideal) ℓ) : Prop :=
  True

def Pre_TailKernelIdeal_each_finite [hPre_each_finite : Cert.Pre_each_finite.Facts] (m : (ℓ : Loc Cert.TailKernelIdeal.nD Cert.TailKernelIdeal.τ Cert.TailKernelIdeal.sig) → Buf (Elt Ideal) ℓ) : Prop :=
  ∀ c : Dev Cert.TailKernelIdeal.nD,
    (Cert.Pre_each_finite.fn (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9))) = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_each_finite [hPre_each_finite : Cert.Pre_each_finite.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_each_finite.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9))) = (fun _ => 1#1)

def Pre_BranchKernel (m : (ℓ : Loc Cert.BranchKernel.nD Cert.BranchKernel.τ Cert.BranchKernel.sig) → Buf (Elt Bits) ℓ) : Prop :=
  True

def Pre_BranchKernelIdeal (m : (ℓ : Loc Cert.BranchKernelIdeal.nD Cert.BranchKernelIdeal.τ Cert.BranchKernelIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnKernelIdeal_pre_finite [hAttnKernelIdeal : Cert.AttnKernelIdeal.Facts] [hPre_finite : Cert.Pre_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_AttnReferenceIdeal_pre_finite [hAttnReferenceIdeal : Cert.AttnReferenceIdeal.Facts] [hPre_finite : Cert.Pre_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_LruKernel [hLruKernel : Cert.LruKernel.Facts] : Prop :=
  ∀ (m : (ℓ : Loc Cert.LruKernel.nD Cert.LruKernel.τ Cert.LruKernel.sig) → Buf (Elt Bits) ℓ) (g : Dev Cert.LruKernel.nD → PrngReg), Pre_LruKernel m →
    θ_run (Cert.LruKernel.defs (F := Bits)) (onTc (τ := Cert.LruKernel.τ) (Cert.LruKernel.main (F := Bits))) ⟨m, fun _ => 0, g⟩ (fun r => (∀ c : Dev Cert.LruKernel.nD,
      r.2.mem ((c.tc : Thread Cert.LruKernel.nD Cert.LruKernel.τ).loc Cert.LruKernel.main_arg0) = m ((c.tc : Thread Cert.LruKernel.nD Cert.LruKernel.τ).loc Cert.LruKernel.main_arg0)
      ∧ r.2.mem ((c.tc : Thread Cert.LruKernel.nD Cert.LruKernel.τ).loc Cert.LruKernel.main_arg1) = m ((c.tc : Thread Cert.LruKernel.nD Cert.LruKernel.τ).loc Cert.LruKernel.main_arg1)
      ∧ r.2.mem ((c.tc : Thread Cert.LruKernel.nD Cert.LruKernel.τ).loc Cert.LruKernel.main_arg2) = m ((c.tc : Thread Cert.LruKernel.nD Cert.LruKernel.τ).loc Cert.LruKernel.main_arg2)
      ∧ r.2.mem ((c.tc : Thread Cert.LruKernel.nD Cert.LruKernel.τ).loc Cert.LruKernel.main_arg3) = m ((c.tc : Thread Cert.LruKernel.nD Cert.LruKernel.τ).loc Cert.LruKernel.main_arg3)
      ∧ r.2.mem ((c.tc : Thread Cert.LruKernel.nD Cert.LruKernel.τ).loc Cert.LruKernel.main_arg4) = m ((c.tc : Thread Cert.LruKernel.nD Cert.LruKernel.τ).loc Cert.LruKernel.main_arg4)
      ∧ r.2.mem ((c.tc : Thread Cert.LruKernel.nD Cert.LruKernel.τ).loc Cert.LruKernel.main_arg5) = m ((c.tc : Thread Cert.LruKernel.nD Cert.LruKernel.τ).loc Cert.LruKernel.main_arg5)
      ∧ r.2.mem ((c.tc : Thread Cert.LruKernel.nD Cert.LruKernel.τ).loc Cert.LruKernel.main_arg6) = m ((c.tc : Thread Cert.LruKernel.nD Cert.LruKernel.τ).loc Cert.LruKernel.main_arg6)
      ∧ r.2.mem ((c.tc : Thread Cert.LruKernel.nD Cert.LruKernel.τ).loc Cert.LruKernel.main_arg7) = m ((c.tc : Thread Cert.LruKernel.nD Cert.LruKernel.τ).loc Cert.LruKernel.main_arg7)
      ∧ r.2.mem ((c.tc : Thread Cert.LruKernel.nD Cert.LruKernel.τ).loc Cert.LruKernel.main_arg8) = m ((c.tc : Thread Cert.LruKernel.nD Cert.LruKernel.τ).loc Cert.LruKernel.main_arg8))
      ∧ r.2.sem = fun _ => 0)

def quiescent_LruKernelIdeal [hLruKernelIdeal : Cert.LruKernelIdeal.Facts] : Prop :=
  ∀ (m : (ℓ : Loc Cert.LruKernelIdeal.nD Cert.LruKernelIdeal.τ Cert.LruKernelIdeal.sig) → Buf (Elt Ideal) ℓ) (g : Dev Cert.LruKernelIdeal.nD → PrngReg), Pre_LruKernelIdeal m →
    θ_run (Cert.LruKernelIdeal.defs (F := Ideal)) (onTc (τ := Cert.LruKernelIdeal.τ) (Cert.LruKernelIdeal.main (F := Ideal))) ⟨m, fun _ => 0, g⟩ (fun r => (∀ c : Dev Cert.LruKernelIdeal.nD,
      r.2.mem ((c.tc : Thread Cert.LruKernelIdeal.nD Cert.LruKernelIdeal.τ).loc Cert.LruKernelIdeal.main_arg0) = m ((c.tc : Thread Cert.LruKernelIdeal.nD Cert.LruKernelIdeal.τ).loc Cert.LruKernelIdeal.main_arg0)
      ∧ r.2.mem ((c.tc : Thread Cert.LruKernelIdeal.nD Cert.LruKernelIdeal.τ).loc Cert.LruKernelIdeal.main_arg1) = m ((c.tc : Thread Cert.LruKernelIdeal.nD Cert.LruKernelIdeal.τ).loc Cert.LruKernelIdeal.main_arg1)
      ∧ r.2.mem ((c.tc : Thread Cert.LruKernelIdeal.nD Cert.LruKernelIdeal.τ).loc Cert.LruKernelIdeal.main_arg2) = m ((c.tc : Thread Cert.LruKernelIdeal.nD Cert.LruKernelIdeal.τ).loc Cert.LruKernelIdeal.main_arg2)
      ∧ r.2.mem ((c.tc : Thread Cert.LruKernelIdeal.nD Cert.LruKernelIdeal.τ).loc Cert.LruKernelIdeal.main_arg3) = m ((c.tc : Thread Cert.LruKernelIdeal.nD Cert.LruKernelIdeal.τ).loc Cert.LruKernelIdeal.main_arg3)
      ∧ r.2.mem ((c.tc : Thread Cert.LruKernelIdeal.nD Cert.LruKernelIdeal.τ).loc Cert.LruKernelIdeal.main_arg4) = m ((c.tc : Thread Cert.LruKernelIdeal.nD Cert.LruKernelIdeal.τ).loc Cert.LruKernelIdeal.main_arg4)
      ∧ r.2.mem ((c.tc : Thread Cert.LruKernelIdeal.nD Cert.LruKernelIdeal.τ).loc Cert.LruKernelIdeal.main_arg5) = m ((c.tc : Thread Cert.LruKernelIdeal.nD Cert.LruKernelIdeal.τ).loc Cert.LruKernelIdeal.main_arg5)
      ∧ r.2.mem ((c.tc : Thread Cert.LruKernelIdeal.nD Cert.LruKernelIdeal.τ).loc Cert.LruKernelIdeal.main_arg6) = m ((c.tc : Thread Cert.LruKernelIdeal.nD Cert.LruKernelIdeal.τ).loc Cert.LruKernelIdeal.main_arg6)
      ∧ r.2.mem ((c.tc : Thread Cert.LruKernelIdeal.nD Cert.LruKernelIdeal.τ).loc Cert.LruKernelIdeal.main_arg7) = m ((c.tc : Thread Cert.LruKernelIdeal.nD Cert.LruKernelIdeal.τ).loc Cert.LruKernelIdeal.main_arg7)
      ∧ r.2.mem ((c.tc : Thread Cert.LruKernelIdeal.nD Cert.LruKernelIdeal.τ).loc Cert.LruKernelIdeal.main_arg8) = m ((c.tc : Thread Cert.LruKernelIdeal.nD Cert.LruKernelIdeal.τ).loc Cert.LruKernelIdeal.main_arg8))
      ∧ r.2.sem = fun _ => 0)

def quiescent_InputKernel [hInputKernel : Cert.InputKernel.Facts] : Prop :=
  ∀ (m : (ℓ : Loc Cert.InputKernel.nD Cert.InputKernel.τ Cert.InputKernel.sig) → Buf (Elt Bits) ℓ) (g : Dev Cert.InputKernel.nD → PrngReg), Pre_InputKernel m →
    θ_run (Cert.InputKernel.defs (F := Bits)) (onTc (τ := Cert.InputKernel.τ) (Cert.InputKernel.main (F := Bits))) ⟨m, fun _ => 0, g⟩ (fun r => (∀ c : Dev Cert.InputKernel.nD,
      r.2.mem ((c.tc : Thread Cert.InputKernel.nD Cert.InputKernel.τ).loc Cert.InputKernel.main_arg0) = m ((c.tc : Thread Cert.InputKernel.nD Cert.InputKernel.τ).loc Cert.InputKernel.main_arg0)
      ∧ r.2.mem ((c.tc : Thread Cert.InputKernel.nD Cert.InputKernel.τ).loc Cert.InputKernel.main_arg1) = m ((c.tc : Thread Cert.InputKernel.nD Cert.InputKernel.τ).loc Cert.InputKernel.main_arg1)
      ∧ r.2.mem ((c.tc : Thread Cert.InputKernel.nD Cert.InputKernel.τ).loc Cert.InputKernel.main_arg2) = m ((c.tc : Thread Cert.InputKernel.nD Cert.InputKernel.τ).loc Cert.InputKernel.main_arg2)
      ∧ r.2.mem ((c.tc : Thread Cert.InputKernel.nD Cert.InputKernel.τ).loc Cert.InputKernel.main_arg3) = m ((c.tc : Thread Cert.InputKernel.nD Cert.InputKernel.τ).loc Cert.InputKernel.main_arg3)
      ∧ r.2.mem ((c.tc : Thread Cert.InputKernel.nD Cert.InputKernel.τ).loc Cert.InputKernel.main_arg4) = m ((c.tc : Thread Cert.InputKernel.nD Cert.InputKernel.τ).loc Cert.InputKernel.main_arg4)
      ∧ r.2.mem ((c.tc : Thread Cert.InputKernel.nD Cert.InputKernel.τ).loc Cert.InputKernel.main_arg5) = m ((c.tc : Thread Cert.InputKernel.nD Cert.InputKernel.τ).loc Cert.InputKernel.main_arg5)
      ∧ r.2.mem ((c.tc : Thread Cert.InputKernel.nD Cert.InputKernel.τ).loc Cert.InputKernel.main_arg6) = m ((c.tc : Thread Cert.InputKernel.nD Cert.InputKernel.τ).loc Cert.InputKernel.main_arg6)
      ∧ r.2.mem ((c.tc : Thread Cert.InputKernel.nD Cert.InputKernel.τ).loc Cert.InputKernel.main_arg7) = m ((c.tc : Thread Cert.InputKernel.nD Cert.InputKernel.τ).loc Cert.InputKernel.main_arg7)
      ∧ r.2.mem ((c.tc : Thread Cert.InputKernel.nD Cert.InputKernel.τ).loc Cert.InputKernel.main_arg8) = m ((c.tc : Thread Cert.InputKernel.nD Cert.InputKernel.τ).loc Cert.InputKernel.main_arg8)
      ∧ r.2.mem ((c.tc : Thread Cert.InputKernel.nD Cert.InputKernel.τ).loc Cert.InputKernel.main_arg9) = m ((c.tc : Thread Cert.InputKernel.nD Cert.InputKernel.τ).loc Cert.InputKernel.main_arg9)
      ∧ r.2.mem ((c.tc : Thread Cert.InputKernel.nD Cert.InputKernel.τ).loc Cert.InputKernel.main_arg10) = m ((c.tc : Thread Cert.InputKernel.nD Cert.InputKernel.τ).loc Cert.InputKernel.main_arg10))
      ∧ r.2.sem = fun _ => 0)

def quiescent_InputKernelIdeal [hInputKernelIdeal : Cert.InputKernelIdeal.Facts] : Prop :=
  ∀ (m : (ℓ : Loc Cert.InputKernelIdeal.nD Cert.InputKernelIdeal.τ Cert.InputKernelIdeal.sig) → Buf (Elt Ideal) ℓ) (g : Dev Cert.InputKernelIdeal.nD → PrngReg), Pre_InputKernelIdeal m →
    θ_run (Cert.InputKernelIdeal.defs (F := Ideal)) (onTc (τ := Cert.InputKernelIdeal.τ) (Cert.InputKernelIdeal.main (F := Ideal))) ⟨m, fun _ => 0, g⟩ (fun r => (∀ c : Dev Cert.InputKernelIdeal.nD,
      r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
      ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
      ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
      ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
      ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
      ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5)
      ∧ r.2.mem ((c.tc : Thread Cert.InputKernelIdeal.nD Cert.InputKernelIdeal.τ).loc Cert.InputKernelIdeal.main_arg6) = m ((c.tc : Thread Cert.InputKernelIdeal.nD Cert.InputKernelIdeal.τ).loc Cert.InputKernelIdeal.main_arg6)
      ∧ r.2.mem ((c.tc : Thread Cert.InputKernelIdeal.nD Cert.InputKernelIdeal.τ).loc Cert.InputKernelIdeal.main_arg7) = m ((c.tc : Thread Cert.InputKernelIdeal.nD Cert.InputKernelIdeal.τ).loc Cert.InputKernelIdeal.main_arg7)
      ∧ r.2.mem ((c.tc : Thread Cert.InputKernelIdeal.nD Cert.InputKernelIdeal.τ).loc Cert.InputKernelIdeal.main_arg8) = m ((c.tc : Thread Cert.InputKernelIdeal.nD Cert.InputKernelIdeal.τ).loc Cert.InputKernelIdeal.main_arg8)
      ∧ r.2.mem ((c.tc : Thread Cert.InputKernelIdeal.nD Cert.InputKernelIdeal.τ).loc Cert.InputKernelIdeal.main_arg9) = m ((c.tc : Thread Cert.InputKernelIdeal.nD Cert.InputKernelIdeal.τ).loc Cert.InputKernelIdeal.main_arg9)
      ∧ r.2.mem ((c.tc : Thread Cert.InputKernelIdeal.nD Cert.InputKernelIdeal.τ).loc Cert.InputKernelIdeal.main_arg10) = m ((c.tc : Thread Cert.InputKernelIdeal.nD Cert.InputKernelIdeal.τ).loc Cert.InputKernelIdeal.main_arg10))
      ∧ r.2.sem = fun _ => 0)

def quiescent_InputKernelIdeal_pre_all_finite [hInputKernelIdeal : Cert.InputKernelIdeal.Facts] [hPre_all_finite : Cert.Pre_all_finite.Facts] : Prop :=
  ∀ (m : (ℓ : Loc Cert.InputKernelIdeal.nD Cert.InputKernelIdeal.τ Cert.InputKernelIdeal.sig) → Buf (Elt Ideal) ℓ) (g : Dev Cert.InputKernelIdeal.nD → PrngReg), Pre_InputKernelIdeal_all_finite m →
    θ_run (Cert.InputKernelIdeal.defs (F := Ideal)) (onTc (τ := Cert.InputKernelIdeal.τ) (Cert.InputKernelIdeal.main (F := Ideal))) ⟨m, fun _ => 0, g⟩ (fun r => (∀ c : Dev Cert.InputKernelIdeal.nD,
      r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
      ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
      ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
      ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
      ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
      ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5)
      ∧ r.2.mem ((c.tc : Thread Cert.InputKernelIdeal.nD Cert.InputKernelIdeal.τ).loc Cert.InputKernelIdeal.main_arg6) = m ((c.tc : Thread Cert.InputKernelIdeal.nD Cert.InputKernelIdeal.τ).loc Cert.InputKernelIdeal.main_arg6)
      ∧ r.2.mem ((c.tc : Thread Cert.InputKernelIdeal.nD Cert.InputKernelIdeal.τ).loc Cert.InputKernelIdeal.main_arg7) = m ((c.tc : Thread Cert.InputKernelIdeal.nD Cert.InputKernelIdeal.τ).loc Cert.InputKernelIdeal.main_arg7)
      ∧ r.2.mem ((c.tc : Thread Cert.InputKernelIdeal.nD Cert.InputKernelIdeal.τ).loc Cert.InputKernelIdeal.main_arg8) = m ((c.tc : Thread Cert.InputKernelIdeal.nD Cert.InputKernelIdeal.τ).loc Cert.InputKernelIdeal.main_arg8)
      ∧ r.2.mem ((c.tc : Thread Cert.InputKernelIdeal.nD Cert.InputKernelIdeal.τ).loc Cert.InputKernelIdeal.main_arg9) = m ((c.tc : Thread Cert.InputKernelIdeal.nD Cert.InputKernelIdeal.τ).loc Cert.InputKernelIdeal.main_arg9)
      ∧ r.2.mem ((c.tc : Thread Cert.InputKernelIdeal.nD Cert.InputKernelIdeal.τ).loc Cert.InputKernelIdeal.main_arg10) = m ((c.tc : Thread Cert.InputKernelIdeal.nD Cert.InputKernelIdeal.τ).loc Cert.InputKernelIdeal.main_arg10))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4)
      ∧ r.2.mem ((c.tc : Thread Cert.InputReferenceIdeal.nD Cert.InputReferenceIdeal.τ).loc Cert.InputReferenceIdeal.main_arg5) = m ((c.tc : Thread Cert.InputReferenceIdeal.nD Cert.InputReferenceIdeal.τ).loc Cert.InputReferenceIdeal.main_arg5)
      ∧ r.2.mem ((c.tc : Thread Cert.InputReferenceIdeal.nD Cert.InputReferenceIdeal.τ).loc Cert.InputReferenceIdeal.main_arg6) = m ((c.tc : Thread Cert.InputReferenceIdeal.nD Cert.InputReferenceIdeal.τ).loc Cert.InputReferenceIdeal.main_arg6)
      ∧ r.2.mem ((c.tc : Thread Cert.InputReferenceIdeal.nD Cert.InputReferenceIdeal.τ).loc Cert.InputReferenceIdeal.main_arg7) = m ((c.tc : Thread Cert.InputReferenceIdeal.nD Cert.InputReferenceIdeal.τ).loc Cert.InputReferenceIdeal.main_arg7)
      ∧ r.2.mem ((c.tc : Thread Cert.InputReferenceIdeal.nD Cert.InputReferenceIdeal.τ).loc Cert.InputReferenceIdeal.main_arg8) = m ((c.tc : Thread Cert.InputReferenceIdeal.nD Cert.InputReferenceIdeal.τ).loc Cert.InputReferenceIdeal.main_arg8)
      ∧ r.2.mem ((c.tc : Thread Cert.InputReferenceIdeal.nD Cert.InputReferenceIdeal.τ).loc Cert.InputReferenceIdeal.main_arg9) = m ((c.tc : Thread Cert.InputReferenceIdeal.nD Cert.InputReferenceIdeal.τ).loc Cert.InputReferenceIdeal.main_arg9)
      ∧ r.2.mem ((c.tc : Thread Cert.InputReferenceIdeal.nD Cert.InputReferenceIdeal.τ).loc Cert.InputReferenceIdeal.main_arg10) = m ((c.tc : Thread Cert.InputReferenceIdeal.nD Cert.InputReferenceIdeal.τ).loc Cert.InputReferenceIdeal.main_arg10))
      ∧ r.2.sem = fun _ => 0)

def quiescent_InputReferenceIdeal_pre_all_finite [hInputReferenceIdeal : Cert.InputReferenceIdeal.Facts] [hPre_all_finite : Cert.Pre_all_finite.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal_all_finite m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4)
      ∧ r.2.mem ((c.tc : Thread Cert.InputReferenceIdeal.nD Cert.InputReferenceIdeal.τ).loc Cert.InputReferenceIdeal.main_arg5) = m ((c.tc : Thread Cert.InputReferenceIdeal.nD Cert.InputReferenceIdeal.τ).loc Cert.InputReferenceIdeal.main_arg5)
      ∧ r.2.mem ((c.tc : Thread Cert.InputReferenceIdeal.nD Cert.InputReferenceIdeal.τ).loc Cert.InputReferenceIdeal.main_arg6) = m ((c.tc : Thread Cert.InputReferenceIdeal.nD Cert.InputReferenceIdeal.τ).loc Cert.InputReferenceIdeal.main_arg6)
      ∧ r.2.mem ((c.tc : Thread Cert.InputReferenceIdeal.nD Cert.InputReferenceIdeal.τ).loc Cert.InputReferenceIdeal.main_arg7) = m ((c.tc : Thread Cert.InputReferenceIdeal.nD Cert.InputReferenceIdeal.τ).loc Cert.InputReferenceIdeal.main_arg7)
      ∧ r.2.mem ((c.tc : Thread Cert.InputReferenceIdeal.nD Cert.InputReferenceIdeal.τ).loc Cert.InputReferenceIdeal.main_arg8) = m ((c.tc : Thread Cert.InputReferenceIdeal.nD Cert.InputReferenceIdeal.τ).loc Cert.InputReferenceIdeal.main_arg8)
      ∧ r.2.mem ((c.tc : Thread Cert.InputReferenceIdeal.nD Cert.InputReferenceIdeal.τ).loc Cert.InputReferenceIdeal.main_arg9) = m ((c.tc : Thread Cert.InputReferenceIdeal.nD Cert.InputReferenceIdeal.τ).loc Cert.InputReferenceIdeal.main_arg9)
      ∧ r.2.mem ((c.tc : Thread Cert.InputReferenceIdeal.nD Cert.InputReferenceIdeal.τ).loc Cert.InputReferenceIdeal.main_arg10) = m ((c.tc : Thread Cert.InputReferenceIdeal.nD Cert.InputReferenceIdeal.τ).loc Cert.InputReferenceIdeal.main_arg10))
      ∧ r.2.sem = fun _ => 0)

def quiescent_TailKernel [hTailKernel : Cert.TailKernel.Facts] : Prop :=
  ∀ (m : (ℓ : Loc Cert.TailKernel.nD Cert.TailKernel.τ Cert.TailKernel.sig) → Buf (Elt Bits) ℓ) (g : Dev Cert.TailKernel.nD → PrngReg), Pre_TailKernel m →
    θ_run (Cert.TailKernel.defs (F := Bits)) (onTc (τ := Cert.TailKernel.τ) (Cert.TailKernel.main (F := Bits))) ⟨m, fun _ => 0, g⟩ (fun r => (∀ c : Dev Cert.TailKernel.nD,
      r.2.mem ((c.tc : Thread Cert.TailKernel.nD Cert.TailKernel.τ).loc Cert.TailKernel.main_arg0) = m ((c.tc : Thread Cert.TailKernel.nD Cert.TailKernel.τ).loc Cert.TailKernel.main_arg0)
      ∧ r.2.mem ((c.tc : Thread Cert.TailKernel.nD Cert.TailKernel.τ).loc Cert.TailKernel.main_arg1) = m ((c.tc : Thread Cert.TailKernel.nD Cert.TailKernel.τ).loc Cert.TailKernel.main_arg1)
      ∧ r.2.mem ((c.tc : Thread Cert.TailKernel.nD Cert.TailKernel.τ).loc Cert.TailKernel.main_arg2) = m ((c.tc : Thread Cert.TailKernel.nD Cert.TailKernel.τ).loc Cert.TailKernel.main_arg2)
      ∧ r.2.mem ((c.tc : Thread Cert.TailKernel.nD Cert.TailKernel.τ).loc Cert.TailKernel.main_arg3) = m ((c.tc : Thread Cert.TailKernel.nD Cert.TailKernel.τ).loc Cert.TailKernel.main_arg3)
      ∧ r.2.mem ((c.tc : Thread Cert.TailKernel.nD Cert.TailKernel.τ).loc Cert.TailKernel.main_arg4) = m ((c.tc : Thread Cert.TailKernel.nD Cert.TailKernel.τ).loc Cert.TailKernel.main_arg4)
      ∧ r.2.mem ((c.tc : Thread Cert.TailKernel.nD Cert.TailKernel.τ).loc Cert.TailKernel.main_arg5) = m ((c.tc : Thread Cert.TailKernel.nD Cert.TailKernel.τ).loc Cert.TailKernel.main_arg5)
      ∧ r.2.mem ((c.tc : Thread Cert.TailKernel.nD Cert.TailKernel.τ).loc Cert.TailKernel.main_arg6) = m ((c.tc : Thread Cert.TailKernel.nD Cert.TailKernel.τ).loc Cert.TailKernel.main_arg6)
      ∧ r.2.mem ((c.tc : Thread Cert.TailKernel.nD Cert.TailKernel.τ).loc Cert.TailKernel.main_arg7) = m ((c.tc : Thread Cert.TailKernel.nD Cert.TailKernel.τ).loc Cert.TailKernel.main_arg7)
      ∧ r.2.mem ((c.tc : Thread Cert.TailKernel.nD Cert.TailKernel.τ).loc Cert.TailKernel.main_arg8) = m ((c.tc : Thread Cert.TailKernel.nD Cert.TailKernel.τ).loc Cert.TailKernel.main_arg8)
      ∧ r.2.mem ((c.tc : Thread Cert.TailKernel.nD Cert.TailKernel.τ).loc Cert.TailKernel.main_arg9) = m ((c.tc : Thread Cert.TailKernel.nD Cert.TailKernel.τ).loc Cert.TailKernel.main_arg9))
      ∧ r.2.sem = fun _ => 0)

def quiescent_TailKernelIdeal [hTailKernelIdeal : Cert.TailKernelIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
      ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
      ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9))
      ∧ r.2.sem = fun _ => 0)

def quiescent_TailKernelIdeal_pre_each_finite [hTailKernelIdeal : Cert.TailKernelIdeal.Facts] [hPre_each_finite : Cert.Pre_each_finite.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal_each_finite m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
      ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
      ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9))
      ∧ r.2.sem = fun _ => 0)

def quiescent_TailReferenceIdeal_pre_each_finite [hTailReferenceIdeal : Cert.TailReferenceIdeal.Facts] [hPre_each_finite : Cert.Pre_each_finite.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_each_finite m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9))
      ∧ r.2.sem = fun _ => 0)

def quiescent_BranchKernel [hBranchKernel : Cert.BranchKernel.Facts] : Prop :=
  ∀ (m : (ℓ : Loc Cert.BranchKernel.nD Cert.BranchKernel.τ Cert.BranchKernel.sig) → Buf (Elt Bits) ℓ) (g : Dev Cert.BranchKernel.nD → PrngReg), Pre_BranchKernel m →
    θ_run (Cert.BranchKernel.defs (F := Bits)) (onTc (τ := Cert.BranchKernel.τ) (Cert.BranchKernel.main (F := Bits))) ⟨m, fun _ => 0, g⟩ (fun r => (∀ c : Dev Cert.BranchKernel.nD,
      r.2.mem ((c.tc : Thread Cert.BranchKernel.nD Cert.BranchKernel.τ).loc Cert.BranchKernel.main_arg0) = m ((c.tc : Thread Cert.BranchKernel.nD Cert.BranchKernel.τ).loc Cert.BranchKernel.main_arg0)
      ∧ r.2.mem ((c.tc : Thread Cert.BranchKernel.nD Cert.BranchKernel.τ).loc Cert.BranchKernel.main_arg1) = m ((c.tc : Thread Cert.BranchKernel.nD Cert.BranchKernel.τ).loc Cert.BranchKernel.main_arg1)
      ∧ r.2.mem ((c.tc : Thread Cert.BranchKernel.nD Cert.BranchKernel.τ).loc Cert.BranchKernel.main_arg2) = m ((c.tc : Thread Cert.BranchKernel.nD Cert.BranchKernel.τ).loc Cert.BranchKernel.main_arg2)
      ∧ r.2.mem ((c.tc : Thread Cert.BranchKernel.nD Cert.BranchKernel.τ).loc Cert.BranchKernel.main_arg3) = m ((c.tc : Thread Cert.BranchKernel.nD Cert.BranchKernel.τ).loc Cert.BranchKernel.main_arg3)
      ∧ r.2.mem ((c.tc : Thread Cert.BranchKernel.nD Cert.BranchKernel.τ).loc Cert.BranchKernel.main_arg4) = m ((c.tc : Thread Cert.BranchKernel.nD Cert.BranchKernel.τ).loc Cert.BranchKernel.main_arg4)
      ∧ r.2.mem ((c.tc : Thread Cert.BranchKernel.nD Cert.BranchKernel.τ).loc Cert.BranchKernel.main_arg5) = m ((c.tc : Thread Cert.BranchKernel.nD Cert.BranchKernel.τ).loc Cert.BranchKernel.main_arg5)
      ∧ r.2.mem ((c.tc : Thread Cert.BranchKernel.nD Cert.BranchKernel.τ).loc Cert.BranchKernel.main_arg6) = m ((c.tc : Thread Cert.BranchKernel.nD Cert.BranchKernel.τ).loc Cert.BranchKernel.main_arg6)
      ∧ r.2.mem ((c.tc : Thread Cert.BranchKernel.nD Cert.BranchKernel.τ).loc Cert.BranchKernel.main_arg7) = m ((c.tc : Thread Cert.BranchKernel.nD Cert.BranchKernel.τ).loc Cert.BranchKernel.main_arg7)
      ∧ r.2.mem ((c.tc : Thread Cert.BranchKernel.nD Cert.BranchKernel.τ).loc Cert.BranchKernel.main_arg8) = m ((c.tc : Thread Cert.BranchKernel.nD Cert.BranchKernel.τ).loc Cert.BranchKernel.main_arg8)
      ∧ r.2.mem ((c.tc : Thread Cert.BranchKernel.nD Cert.BranchKernel.τ).loc Cert.BranchKernel.main_arg9) = m ((c.tc : Thread Cert.BranchKernel.nD Cert.BranchKernel.τ).loc Cert.BranchKernel.main_arg9)
      ∧ r.2.mem ((c.tc : Thread Cert.BranchKernel.nD Cert.BranchKernel.τ).loc Cert.BranchKernel.main_arg10) = m ((c.tc : Thread Cert.BranchKernel.nD Cert.BranchKernel.τ).loc Cert.BranchKernel.main_arg10)
      ∧ r.2.mem ((c.tc : Thread Cert.BranchKernel.nD Cert.BranchKernel.τ).loc Cert.BranchKernel.main_arg11) = m ((c.tc : Thread Cert.BranchKernel.nD Cert.BranchKernel.τ).loc Cert.BranchKernel.main_arg11)
      ∧ r.2.mem ((c.tc : Thread Cert.BranchKernel.nD Cert.BranchKernel.τ).loc Cert.BranchKernel.main_arg12) = m ((c.tc : Thread Cert.BranchKernel.nD Cert.BranchKernel.τ).loc Cert.BranchKernel.main_arg12))
      ∧ r.2.sem = fun _ => 0)

def quiescent_BranchKernelIdeal [hBranchKernelIdeal : Cert.BranchKernelIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg), Pre_BranchKernelIdeal m →
    θ_run (Cert.BranchKernelIdeal.defs (F := Ideal)) (onTc (τ := Cert.BranchKernelIdeal.τ) (Cert.BranchKernelIdeal.main (F := Ideal))) ⟨m, fun _ => 0, g⟩ (fun r => (∀ c : Dev Cert.BranchKernelIdeal.nD,
      r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
      ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1)
      ∧ r.2.mem ((c.tc : Thread Cert.BranchKernelIdeal.nD Cert.BranchKernelIdeal.τ).loc Cert.BranchKernelIdeal.main_arg2) = m ((c.tc : Thread Cert.BranchKernelIdeal.nD Cert.BranchKernelIdeal.τ).loc Cert.BranchKernelIdeal.main_arg2)
      ∧ r.2.mem ((c.tc : Thread Cert.BranchKernelIdeal.nD Cert.BranchKernelIdeal.τ).loc Cert.BranchKernelIdeal.main_arg3) = m ((c.tc : Thread Cert.BranchKernelIdeal.nD Cert.BranchKernelIdeal.τ).loc Cert.BranchKernelIdeal.main_arg3)
      ∧ r.2.mem ((c.tc : Thread Cert.BranchKernelIdeal.nD Cert.BranchKernelIdeal.τ).loc Cert.BranchKernelIdeal.main_arg4) = m ((c.tc : Thread Cert.BranchKernelIdeal.nD Cert.BranchKernelIdeal.τ).loc Cert.BranchKernelIdeal.main_arg4)
      ∧ r.2.mem ((c.tc : Thread Cert.BranchKernelIdeal.nD Cert.BranchKernelIdeal.τ).loc Cert.BranchKernelIdeal.main_arg5) = m ((c.tc : Thread Cert.BranchKernelIdeal.nD Cert.BranchKernelIdeal.τ).loc Cert.BranchKernelIdeal.main_arg5)
      ∧ r.2.mem ((c.tc : Thread Cert.BranchKernelIdeal.nD Cert.BranchKernelIdeal.τ).loc Cert.BranchKernelIdeal.main_arg6) = m ((c.tc : Thread Cert.BranchKernelIdeal.nD Cert.BranchKernelIdeal.τ).loc Cert.BranchKernelIdeal.main_arg6)
      ∧ r.2.mem ((c.tc : Thread Cert.BranchKernelIdeal.nD Cert.BranchKernelIdeal.τ).loc Cert.BranchKernelIdeal.main_arg7) = m ((c.tc : Thread Cert.BranchKernelIdeal.nD Cert.BranchKernelIdeal.τ).loc Cert.BranchKernelIdeal.main_arg7)
      ∧ r.2.mem ((c.tc : Thread Cert.BranchKernelIdeal.nD Cert.BranchKernelIdeal.τ).loc Cert.BranchKernelIdeal.main_arg8) = m ((c.tc : Thread Cert.BranchKernelIdeal.nD Cert.BranchKernelIdeal.τ).loc Cert.BranchKernelIdeal.main_arg8)
      ∧ r.2.mem ((c.tc : Thread Cert.BranchKernelIdeal.nD Cert.BranchKernelIdeal.τ).loc Cert.BranchKernelIdeal.main_arg9) = m ((c.tc : Thread Cert.BranchKernelIdeal.nD Cert.BranchKernelIdeal.τ).loc Cert.BranchKernelIdeal.main_arg9)
      ∧ r.2.mem ((c.tc : Thread Cert.BranchKernelIdeal.nD Cert.BranchKernelIdeal.τ).loc Cert.BranchKernelIdeal.main_arg10) = m ((c.tc : Thread Cert.BranchKernelIdeal.nD Cert.BranchKernelIdeal.τ).loc Cert.BranchKernelIdeal.main_arg10)
      ∧ r.2.mem ((c.tc : Thread Cert.BranchKernelIdeal.nD Cert.BranchKernelIdeal.τ).loc Cert.BranchKernelIdeal.main_arg11) = m ((c.tc : Thread Cert.BranchKernelIdeal.nD Cert.BranchKernelIdeal.τ).loc Cert.BranchKernelIdeal.main_arg11)
      ∧ r.2.mem ((c.tc : Thread Cert.BranchKernelIdeal.nD Cert.BranchKernelIdeal.τ).loc Cert.BranchKernelIdeal.main_arg12) = m ((c.tc : Thread Cert.BranchKernelIdeal.nD Cert.BranchKernelIdeal.τ).loc Cert.BranchKernelIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_AttnKernel_AttnKernelIdeal : Prop :=
  IdealRules.named_const.Statement Cert.AttnKernelIdeal.κ "mask" .f32 0xF149F2CA#32 ⊥
  ∧ IdealRules.named_const.Statement Cert.AttnKernelIdeal.κ "ln2" .f32 0x3F317218#32 ((Real.log 2 : ℝ) : EReal)

def algebraic_AttnKernelIdeal_AttnReferenceIdeal_pre_finite [hAttnKernelIdeal : Cert.AttnKernelIdeal.Facts] [hAttnReferenceIdeal : Cert.AttnReferenceIdeal.Facts] [hPre_finite : Cert.Pre_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)) →
    ∃ (v0 : (c : Dev Cert.AttnKernelIdeal.nD) → Buf (Elt Ideal) ((c.tc : Thread Cert.AttnKernelIdeal.nD Cert.AttnKernelIdeal.τ).loc Cert.AttnKernelIdeal.main_v150_0)) (v1 : (c : Dev Cert.AttnKernelIdeal.nD) → Buf (Elt Ideal) ((c.tc : Thread Cert.AttnKernelIdeal.nD Cert.AttnKernelIdeal.τ).loc Cert.AttnKernelIdeal.main_v150_1)) (v2 : (c : Dev Cert.AttnKernelIdeal.nD) → Buf (Elt Ideal) ((c.tc : Thread Cert.AttnKernelIdeal.nD Cert.AttnKernelIdeal.τ).loc Cert.AttnKernelIdeal.main_v150_2)) (v3 : (c : Dev Cert.AttnKernelIdeal.nD) → Buf (Elt Ideal) ((c.tc : Thread Cert.AttnKernelIdeal.nD Cert.AttnKernelIdeal.τ).loc Cert.AttnKernelIdeal.main_v150_3)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v150_0) = v0 c
          ∧ r.2.mem ((c.tc : Thread Cert.AttnKernelIdeal.nD Cert.AttnKernelIdeal.τ).loc Cert.AttnKernelIdeal.main_v150_1) = v1 c
          ∧ r.2.mem ((c.tc : Thread Cert.AttnKernelIdeal.nD Cert.AttnKernelIdeal.τ).loc Cert.AttnKernelIdeal.main_v150_2) = v2 c
          ∧ r.2.mem ((c.tc : Thread Cert.AttnKernelIdeal.nD Cert.AttnKernelIdeal.τ).loc Cert.AttnKernelIdeal.main_v150_3) = v3 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v103) = v0 c
          ∧ r.2.mem ((c.tc : Thread Cert.AttnReferenceIdeal.nD Cert.AttnReferenceIdeal.τ).loc Cert.AttnReferenceIdeal.main_v104) = v1 c
          ∧ r.2.mem ((c.tc : Thread Cert.AttnReferenceIdeal.nD Cert.AttnReferenceIdeal.τ).loc Cert.AttnReferenceIdeal.main_v105) = v2 c
          ∧ r.2.mem ((c.tc : Thread Cert.AttnReferenceIdeal.nD Cert.AttnReferenceIdeal.τ).loc Cert.AttnReferenceIdeal.main_v107) = v3 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4))

def preserves_LruKernel_LruKernelIdeal : Prop :=
  True

def preserves_InputKernel_InputKernelIdeal : Prop :=
  True

def algebraic_InputKernelIdeal_InputReferenceIdeal_pre_all_finite [hInputKernelIdeal : Cert.InputKernelIdeal.Facts] [hInputReferenceIdeal : Cert.InputReferenceIdeal.Facts] [hPre_all_finite : Cert.Pre_all_finite.Facts] : Prop :=
  ∀ (m : (ℓ : Loc Cert.InputKernelIdeal.nD Cert.InputKernelIdeal.τ Cert.InputKernelIdeal.sig) → Buf (Elt Ideal) ℓ) (g : Dev Cert.InputKernelIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputKernelIdeal_all_finite m →
    (∀ c : Dev Cert.InputKernelIdeal.nD,
      m' ((c.tc : Thread Cert.InputReferenceIdeal.nD Cert.InputReferenceIdeal.τ).loc Cert.InputReferenceIdeal.main_arg0) = m ((c.tc : Thread Cert.InputKernelIdeal.nD Cert.InputKernelIdeal.τ).loc Cert.InputKernelIdeal.main_arg0)
      ∧ m' ((c.tc : Thread Cert.InputReferenceIdeal.nD Cert.InputReferenceIdeal.τ).loc Cert.InputReferenceIdeal.main_arg1) = m ((c.tc : Thread Cert.InputKernelIdeal.nD Cert.InputKernelIdeal.τ).loc Cert.InputKernelIdeal.main_arg1)
      ∧ m' ((c.tc : Thread Cert.InputReferenceIdeal.nD Cert.InputReferenceIdeal.τ).loc Cert.InputReferenceIdeal.main_arg2) = m ((c.tc : Thread Cert.InputKernelIdeal.nD Cert.InputKernelIdeal.τ).loc Cert.InputKernelIdeal.main_arg2)
      ∧ m' ((c.tc : Thread Cert.InputReferenceIdeal.nD Cert.InputReferenceIdeal.τ).loc Cert.InputReferenceIdeal.main_arg3) = m ((c.tc : Thread Cert.InputKernelIdeal.nD Cert.InputKernelIdeal.τ).loc Cert.InputKernelIdeal.main_arg3)
      ∧ m' ((c.tc : Thread Cert.InputReferenceIdeal.nD Cert.InputReferenceIdeal.τ).loc Cert.InputReferenceIdeal.main_arg4) = m ((c.tc : Thread Cert.InputKernelIdeal.nD Cert.InputKernelIdeal.τ).loc Cert.InputKernelIdeal.main_arg4)
      ∧ m' ((c.tc : Thread Cert.InputReferenceIdeal.nD Cert.InputReferenceIdeal.τ).loc Cert.InputReferenceIdeal.main_arg5) = m ((c.tc : Thread Cert.InputKernelIdeal.nD Cert.InputKernelIdeal.τ).loc Cert.InputKernelIdeal.main_arg5)
      ∧ m' ((c.tc : Thread Cert.InputReferenceIdeal.nD Cert.InputReferenceIdeal.τ).loc Cert.InputReferenceIdeal.main_arg6) = m ((c.tc : Thread Cert.InputKernelIdeal.nD Cert.InputKernelIdeal.τ).loc Cert.InputKernelIdeal.main_arg6)
      ∧ m' ((c.tc : Thread Cert.InputReferenceIdeal.nD Cert.InputReferenceIdeal.τ).loc Cert.InputReferenceIdeal.main_arg7) = m ((c.tc : Thread Cert.InputKernelIdeal.nD Cert.InputKernelIdeal.τ).loc Cert.InputKernelIdeal.main_arg7)
      ∧ m' ((c.tc : Thread Cert.InputReferenceIdeal.nD Cert.InputReferenceIdeal.τ).loc Cert.InputReferenceIdeal.main_arg8) = m ((c.tc : Thread Cert.InputKernelIdeal.nD Cert.InputKernelIdeal.τ).loc Cert.InputKernelIdeal.main_arg8)
      ∧ m' ((c.tc : Thread Cert.InputReferenceIdeal.nD Cert.InputReferenceIdeal.τ).loc Cert.InputReferenceIdeal.main_arg9) = m ((c.tc : Thread Cert.InputKernelIdeal.nD Cert.InputKernelIdeal.τ).loc Cert.InputKernelIdeal.main_arg9)
      ∧ m' ((c.tc : Thread Cert.InputReferenceIdeal.nD Cert.InputReferenceIdeal.τ).loc Cert.InputReferenceIdeal.main_arg10) = m ((c.tc : Thread Cert.InputKernelIdeal.nD Cert.InputKernelIdeal.τ).loc Cert.InputKernelIdeal.main_arg10)) →
    ∃ (v0 : (c : Dev Cert.InputKernelIdeal.nD) → Buf (Elt Ideal) ((c.tc : Thread Cert.InputKernelIdeal.nD Cert.InputKernelIdeal.τ).loc Cert.InputKernelIdeal.main_v14_0)) (v1 : (c : Dev Cert.InputKernelIdeal.nD) → Buf (Elt Ideal) ((c.tc : Thread Cert.InputKernelIdeal.nD Cert.InputKernelIdeal.τ).loc Cert.InputKernelIdeal.main_v14_1)),
      θ_run (Cert.InputKernelIdeal.defs (F := Ideal)) (onTc (τ := Cert.InputKernelIdeal.τ) (Cert.InputKernelIdeal.main (F := Ideal))) ⟨m, fun _ => 0, g⟩ (fun r => ∀ c : Dev Cert.InputKernelIdeal.nD,
          r.2.mem ((c.tc : Thread Cert.InputKernelIdeal.nD Cert.InputKernelIdeal.τ).loc Cert.InputKernelIdeal.main_v14_0) = v0 c
          ∧ r.2.mem ((c.tc : Thread Cert.InputKernelIdeal.nD Cert.InputKernelIdeal.τ).loc Cert.InputKernelIdeal.main_v14_1) = v1 c
          ∧ r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
          ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
          ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
          ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
          ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
          ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5)
          ∧ r.2.mem ((c.tc : Thread Cert.InputKernelIdeal.nD Cert.InputKernelIdeal.τ).loc Cert.InputKernelIdeal.main_arg6) = m ((c.tc : Thread Cert.InputKernelIdeal.nD Cert.InputKernelIdeal.τ).loc Cert.InputKernelIdeal.main_arg6)
          ∧ r.2.mem ((c.tc : Thread Cert.InputKernelIdeal.nD Cert.InputKernelIdeal.τ).loc Cert.InputKernelIdeal.main_arg7) = m ((c.tc : Thread Cert.InputKernelIdeal.nD Cert.InputKernelIdeal.τ).loc Cert.InputKernelIdeal.main_arg7)
          ∧ r.2.mem ((c.tc : Thread Cert.InputKernelIdeal.nD Cert.InputKernelIdeal.τ).loc Cert.InputKernelIdeal.main_arg8) = m ((c.tc : Thread Cert.InputKernelIdeal.nD Cert.InputKernelIdeal.τ).loc Cert.InputKernelIdeal.main_arg8)
          ∧ r.2.mem ((c.tc : Thread Cert.InputKernelIdeal.nD Cert.InputKernelIdeal.τ).loc Cert.InputKernelIdeal.main_arg9) = m ((c.tc : Thread Cert.InputKernelIdeal.nD Cert.InputKernelIdeal.τ).loc Cert.InputKernelIdeal.main_arg9)
          ∧ r.2.mem ((c.tc : Thread Cert.InputKernelIdeal.nD Cert.InputKernelIdeal.τ).loc Cert.InputKernelIdeal.main_arg10) = m ((c.tc : Thread Cert.InputKernelIdeal.nD Cert.InputKernelIdeal.τ).loc Cert.InputKernelIdeal.main_arg10))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v44) = v0 c
          ∧ r.2.mem ((c.tc : Thread Cert.InputReferenceIdeal.nD Cert.InputReferenceIdeal.τ).loc Cert.InputReferenceIdeal.main_v45) = v1 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3)
          ∧ r.2.mem ((c.tc : Thread Cert.InputReferenceIdeal.nD Cert.InputReferenceIdeal.τ).loc Cert.InputReferenceIdeal.main_arg4) = m' ((c.tc : Thread Cert.InputReferenceIdeal.nD Cert.InputReferenceIdeal.τ).loc Cert.InputReferenceIdeal.main_arg4)
          ∧ r.2.mem ((c.tc : Thread Cert.InputReferenceIdeal.nD Cert.InputReferenceIdeal.τ).loc Cert.InputReferenceIdeal.main_arg5) = m' ((c.tc : Thread Cert.InputReferenceIdeal.nD Cert.InputReferenceIdeal.τ).loc Cert.InputReferenceIdeal.main_arg5)
          ∧ r.2.mem ((c.tc : Thread Cert.InputReferenceIdeal.nD Cert.InputReferenceIdeal.τ).loc Cert.InputReferenceIdeal.main_arg6) = m' ((c.tc : Thread Cert.InputReferenceIdeal.nD Cert.InputReferenceIdeal.τ).loc Cert.InputReferenceIdeal.main_arg6)
          ∧ r.2.mem ((c.tc : Thread Cert.InputReferenceIdeal.nD Cert.InputReferenceIdeal.τ).loc Cert.InputReferenceIdeal.main_arg7) = m' ((c.tc : Thread Cert.InputReferenceIdeal.nD Cert.InputReferenceIdeal.τ).loc Cert.InputReferenceIdeal.main_arg7)
          ∧ r.2.mem ((c.tc : Thread Cert.InputReferenceIdeal.nD Cert.InputReferenceIdeal.τ).loc Cert.InputReferenceIdeal.main_arg8) = m' ((c.tc : Thread Cert.InputReferenceIdeal.nD Cert.InputReferenceIdeal.τ).loc Cert.InputReferenceIdeal.main_arg8)
          ∧ r.2.mem ((c.tc : Thread Cert.InputReferenceIdeal.nD Cert.InputReferenceIdeal.τ).loc Cert.InputReferenceIdeal.main_arg9) = m' ((c.tc : Thread Cert.InputReferenceIdeal.nD Cert.InputReferenceIdeal.τ).loc Cert.InputReferenceIdeal.main_arg9)
          ∧ r.2.mem ((c.tc : Thread Cert.InputReferenceIdeal.nD Cert.InputReferenceIdeal.τ).loc Cert.InputReferenceIdeal.main_arg10) = m' ((c.tc : Thread Cert.InputReferenceIdeal.nD Cert.InputReferenceIdeal.τ).loc Cert.InputReferenceIdeal.main_arg10))

def preserves_TailKernel_TailKernelIdeal : Prop :=
  True

def algebraic_TailKernelIdeal_TailReferenceIdeal_pre_each_finite [hTailKernelIdeal : Cert.TailKernelIdeal.Facts] [hTailReferenceIdeal : Cert.TailReferenceIdeal.Facts] [hPre_each_finite : Cert.Pre_each_finite.Facts] : Prop :=
  ∀ (m : (ℓ : Loc Cert.TailKernelIdeal.nD Cert.TailKernelIdeal.τ Cert.TailKernelIdeal.sig) → Buf (Elt Ideal) ℓ) (g : Dev Cert.TailKernelIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailKernelIdeal_each_finite m →
    (∀ c : Dev Cert.TailKernelIdeal.nD,
      m' ((c.tc : Thread Cert.TailReferenceIdeal.nD Cert.TailReferenceIdeal.τ).loc Cert.TailReferenceIdeal.main_arg0) = m ((c.tc : Thread Cert.TailKernelIdeal.nD Cert.TailKernelIdeal.τ).loc Cert.TailKernelIdeal.main_arg0)
      ∧ m' ((c.tc : Thread Cert.TailReferenceIdeal.nD Cert.TailReferenceIdeal.τ).loc Cert.TailReferenceIdeal.main_arg1) = m ((c.tc : Thread Cert.TailKernelIdeal.nD Cert.TailKernelIdeal.τ).loc Cert.TailKernelIdeal.main_arg1)
      ∧ m' ((c.tc : Thread Cert.TailReferenceIdeal.nD Cert.TailReferenceIdeal.τ).loc Cert.TailReferenceIdeal.main_arg2) = m ((c.tc : Thread Cert.TailKernelIdeal.nD Cert.TailKernelIdeal.τ).loc Cert.TailKernelIdeal.main_arg2)
      ∧ m' ((c.tc : Thread Cert.TailReferenceIdeal.nD Cert.TailReferenceIdeal.τ).loc Cert.TailReferenceIdeal.main_arg3) = m ((c.tc : Thread Cert.TailKernelIdeal.nD Cert.TailKernelIdeal.τ).loc Cert.TailKernelIdeal.main_arg3)
      ∧ m' ((c.tc : Thread Cert.TailReferenceIdeal.nD Cert.TailReferenceIdeal.τ).loc Cert.TailReferenceIdeal.main_arg4) = m ((c.tc : Thread Cert.TailKernelIdeal.nD Cert.TailKernelIdeal.τ).loc Cert.TailKernelIdeal.main_arg4)
      ∧ m' ((c.tc : Thread Cert.TailReferenceIdeal.nD Cert.TailReferenceIdeal.τ).loc Cert.TailReferenceIdeal.main_arg5) = m ((c.tc : Thread Cert.TailKernelIdeal.nD Cert.TailKernelIdeal.τ).loc Cert.TailKernelIdeal.main_arg5)
      ∧ m' ((c.tc : Thread Cert.TailReferenceIdeal.nD Cert.TailReferenceIdeal.τ).loc Cert.TailReferenceIdeal.main_arg6) = m ((c.tc : Thread Cert.TailKernelIdeal.nD Cert.TailKernelIdeal.τ).loc Cert.TailKernelIdeal.main_arg6)
      ∧ m' ((c.tc : Thread Cert.TailReferenceIdeal.nD Cert.TailReferenceIdeal.τ).loc Cert.TailReferenceIdeal.main_arg7) = m ((c.tc : Thread Cert.TailKernelIdeal.nD Cert.TailKernelIdeal.τ).loc Cert.TailKernelIdeal.main_arg7)
      ∧ m' ((c.tc : Thread Cert.TailReferenceIdeal.nD Cert.TailReferenceIdeal.τ).loc Cert.TailReferenceIdeal.main_arg8) = m ((c.tc : Thread Cert.TailKernelIdeal.nD Cert.TailKernelIdeal.τ).loc Cert.TailKernelIdeal.main_arg8)
      ∧ m' ((c.tc : Thread Cert.TailReferenceIdeal.nD Cert.TailReferenceIdeal.τ).loc Cert.TailReferenceIdeal.main_arg9) = m ((c.tc : Thread Cert.TailKernelIdeal.nD Cert.TailKernelIdeal.τ).loc Cert.TailKernelIdeal.main_arg9)) →
    ∃ (v0 : (c : Dev Cert.TailKernelIdeal.nD) → Buf (Elt Ideal) ((c.tc : Thread Cert.TailKernelIdeal.nD Cert.TailKernelIdeal.τ).loc Cert.TailKernelIdeal.main_v4_0)) (v1 : (c : Dev Cert.TailKernelIdeal.nD) → Buf (Elt Ideal) ((c.tc : Thread Cert.TailKernelIdeal.nD Cert.TailKernelIdeal.τ).loc Cert.TailKernelIdeal.main_v4_1)) (v2 : (c : Dev Cert.TailKernelIdeal.nD) → Buf (Elt Ideal) ((c.tc : Thread Cert.TailKernelIdeal.nD Cert.TailKernelIdeal.τ).loc Cert.TailKernelIdeal.main_v4_2)) (v3 : (c : Dev Cert.TailKernelIdeal.nD) → Buf (Elt Ideal) ((c.tc : Thread Cert.TailKernelIdeal.nD Cert.TailKernelIdeal.τ).loc Cert.TailKernelIdeal.main_v4_3)) (v4 : (c : Dev Cert.TailKernelIdeal.nD) → Buf (Elt Ideal) ((c.tc : Thread Cert.TailKernelIdeal.nD Cert.TailKernelIdeal.τ).loc Cert.TailKernelIdeal.main_v4_4)) (v5 : (c : Dev Cert.TailKernelIdeal.nD) → Buf (Elt Ideal) ((c.tc : Thread Cert.TailKernelIdeal.nD Cert.TailKernelIdeal.τ).loc Cert.TailKernelIdeal.main_v4_5)) (v6 : (c : Dev Cert.TailKernelIdeal.nD) → Buf (Elt Ideal) ((c.tc : Thread Cert.TailKernelIdeal.nD Cert.TailKernelIdeal.τ).loc Cert.TailKernelIdeal.main_v4_6)) (v7 : (c : Dev Cert.TailKernelIdeal.nD) → Buf (Elt Ideal) ((c.tc : Thread Cert.TailKernelIdeal.nD Cert.TailKernelIdeal.τ).loc Cert.TailKernelIdeal.main_v4_7)),
      θ_run (Cert.TailKernelIdeal.defs (F := Ideal)) (onTc (τ := Cert.TailKernelIdeal.τ) (Cert.TailKernelIdeal.main (F := Ideal))) ⟨m, fun _ => 0, g⟩ (fun r => ∀ c : Dev Cert.TailKernelIdeal.nD,
          r.2.mem ((c.tc : Thread Cert.TailKernelIdeal.nD Cert.TailKernelIdeal.τ).loc Cert.TailKernelIdeal.main_v4_0) = v0 c
          ∧ r.2.mem ((c.tc : Thread Cert.TailKernelIdeal.nD Cert.TailKernelIdeal.τ).loc Cert.TailKernelIdeal.main_v4_1) = v1 c
          ∧ r.2.mem ((c.tc : Thread Cert.TailKernelIdeal.nD Cert.TailKernelIdeal.τ).loc Cert.TailKernelIdeal.main_v4_2) = v2 c
          ∧ r.2.mem ((c.tc : Thread Cert.TailKernelIdeal.nD Cert.TailKernelIdeal.τ).loc Cert.TailKernelIdeal.main_v4_3) = v3 c
          ∧ r.2.mem ((c.tc : Thread Cert.TailKernelIdeal.nD Cert.TailKernelIdeal.τ).loc Cert.TailKernelIdeal.main_v4_4) = v4 c
          ∧ r.2.mem ((c.tc : Thread Cert.TailKernelIdeal.nD Cert.TailKernelIdeal.τ).loc Cert.TailKernelIdeal.main_v4_5) = v5 c
          ∧ r.2.mem ((c.tc : Thread Cert.TailKernelIdeal.nD Cert.TailKernelIdeal.τ).loc Cert.TailKernelIdeal.main_v4_6) = v6 c
          ∧ r.2.mem ((c.tc : Thread Cert.TailKernelIdeal.nD Cert.TailKernelIdeal.τ).loc Cert.TailKernelIdeal.main_v4_7) = v7 c
          ∧ r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
          ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
          ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
          ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
          ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
          ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
          ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
          ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
          ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
          ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v85) = v0 c
          ∧ r.2.mem ((c.tc : Thread Cert.TailReferenceIdeal.nD Cert.TailReferenceIdeal.τ).loc Cert.TailReferenceIdeal.main_v115) = v1 c
          ∧ r.2.mem ((c.tc : Thread Cert.TailReferenceIdeal.nD Cert.TailReferenceIdeal.τ).loc Cert.TailReferenceIdeal.main_v116) = v2 c
          ∧ r.2.mem ((c.tc : Thread Cert.TailReferenceIdeal.nD Cert.TailReferenceIdeal.τ).loc Cert.TailReferenceIdeal.main_v117) = v3 c
          ∧ r.2.mem ((c.tc : Thread Cert.TailReferenceIdeal.nD Cert.TailReferenceIdeal.τ).loc Cert.TailReferenceIdeal.main_v118) = v4 c
          ∧ r.2.mem ((c.tc : Thread Cert.TailReferenceIdeal.nD Cert.TailReferenceIdeal.τ).loc Cert.TailReferenceIdeal.main_v119) = v5 c
          ∧ r.2.mem ((c.tc : Thread Cert.TailReferenceIdeal.nD Cert.TailReferenceIdeal.τ).loc Cert.TailReferenceIdeal.main_v120) = v6 c
          ∧ r.2.mem ((c.tc : Thread Cert.TailReferenceIdeal.nD Cert.TailReferenceIdeal.τ).loc Cert.TailReferenceIdeal.main_v114) = v7 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9))

def preserves_BranchKernel_BranchKernelIdeal : Prop :=
  True

def Claim : Prop :=
  ∃ (hKernel : Cert.Kernel.Facts) (hKernelIdeal : Cert.KernelIdeal.Facts) (hReferenceIdeal : Cert.ReferenceIdeal.Facts) (hAttnKernel : Cert.AttnKernel.Facts) (hAttnKernelIdeal : Cert.AttnKernelIdeal.Facts) (hAttnReferenceIdeal : Cert.AttnReferenceIdeal.Facts) (hLruKernel : Cert.LruKernel.Facts) (hLruKernelIdeal : Cert.LruKernelIdeal.Facts) (hInputKernel : Cert.InputKernel.Facts) (hInputKernelIdeal : Cert.InputKernelIdeal.Facts) (hInputReferenceIdeal : Cert.InputReferenceIdeal.Facts) (hTailKernel : Cert.TailKernel.Facts) (hTailKernelIdeal : Cert.TailKernelIdeal.Facts) (hTailReferenceIdeal : Cert.TailReferenceIdeal.Facts) (hBranchKernel : Cert.BranchKernel.Facts) (hBranchKernelIdeal : Cert.BranchKernelIdeal.Facts) (hPre_finite : Cert.Pre_finite.Facts) (hPre_all_finite : Cert.Pre_all_finite.Facts) (hPre_each_finite : Cert.Pre_each_finite.Facts),
    quiescent_Kernel (hKernel := hKernel)
    ∧ quiescent_KernelIdeal (hKernelIdeal := hKernelIdeal)
    ∧ quiescent_ReferenceIdeal (hReferenceIdeal := hReferenceIdeal)
    ∧ quiescent_AttnKernel (hAttnKernel := hAttnKernel)
    ∧ quiescent_AttnKernelIdeal (hAttnKernelIdeal := hAttnKernelIdeal)
    ∧ quiescent_AttnKernelIdeal_pre_finite (hAttnKernelIdeal := hAttnKernelIdeal) (hPre_finite := hPre_finite)
    ∧ quiescent_AttnReferenceIdeal (hAttnReferenceIdeal := hAttnReferenceIdeal)
    ∧ quiescent_AttnReferenceIdeal_pre_finite (hAttnReferenceIdeal := hAttnReferenceIdeal) (hPre_finite := hPre_finite)
    ∧ quiescent_LruKernel (hLruKernel := hLruKernel)
    ∧ quiescent_LruKernelIdeal (hLruKernelIdeal := hLruKernelIdeal)
    ∧ quiescent_InputKernel (hInputKernel := hInputKernel)
    ∧ quiescent_InputKernelIdeal (hInputKernelIdeal := hInputKernelIdeal)
    ∧ quiescent_InputKernelIdeal_pre_all_finite (hInputKernelIdeal := hInputKernelIdeal) (hPre_all_finite := hPre_all_finite)
    ∧ quiescent_InputReferenceIdeal (hInputReferenceIdeal := hInputReferenceIdeal)
    ∧ quiescent_InputReferenceIdeal_pre_all_finite (hInputReferenceIdeal := hInputReferenceIdeal) (hPre_all_finite := hPre_all_finite)
    ∧ quiescent_TailKernel (hTailKernel := hTailKernel)
    ∧ quiescent_TailKernelIdeal (hTailKernelIdeal := hTailKernelIdeal)
    ∧ quiescent_TailKernelIdeal_pre_each_finite (hTailKernelIdeal := hTailKernelIdeal) (hPre_each_finite := hPre_each_finite)
    ∧ quiescent_TailReferenceIdeal (hTailReferenceIdeal := hTailReferenceIdeal)
    ∧ quiescent_TailReferenceIdeal_pre_each_finite (hTailReferenceIdeal := hTailReferenceIdeal) (hPre_each_finite := hPre_each_finite)
    ∧ quiescent_BranchKernel (hBranchKernel := hBranchKernel)
    ∧ quiescent_BranchKernelIdeal (hBranchKernelIdeal := hBranchKernelIdeal)
    ∧ preserves_Kernel_KernelIdeal
    ∧ algebraic_KernelIdeal_ReferenceIdeal (hKernelIdeal := hKernelIdeal) (hReferenceIdeal := hReferenceIdeal)
    ∧ preserves_AttnKernel_AttnKernelIdeal
    ∧ algebraic_AttnKernelIdeal_AttnReferenceIdeal_pre_finite (hAttnKernelIdeal := hAttnKernelIdeal) (hAttnReferenceIdeal := hAttnReferenceIdeal) (hPre_finite := hPre_finite)
    ∧ preserves_LruKernel_LruKernelIdeal
    ∧ preserves_InputKernel_InputKernelIdeal
    ∧ algebraic_InputKernelIdeal_InputReferenceIdeal_pre_all_finite (hInputKernelIdeal := hInputKernelIdeal) (hInputReferenceIdeal := hInputReferenceIdeal) (hPre_all_finite := hPre_all_finite)
    ∧ preserves_TailKernel_TailKernelIdeal
    ∧ algebraic_TailKernelIdeal_TailReferenceIdeal_pre_each_finite (hTailKernelIdeal := hTailKernelIdeal) (hTailReferenceIdeal := hTailReferenceIdeal) (hPre_each_finite := hPre_each_finite)
    ∧ preserves_BranchKernel_BranchKernelIdeal
-- ==== Pre_all_finite.lean ====
abbrev S4096x1024 : Shape := ⟨2, ![4096, 1024]⟩
abbrev S1x1024 : Shape := ⟨2, ![1, 1024]⟩
abbrev S1024x6152 : Shape := ⟨2, ![1024, 6152]⟩
abbrev S4096x8 : Shape := ⟨2, ![4096, 8]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x6152 : S_.BroadcastsInDim S1024x6152 (![] : Fin 0 → Fin S1024x6152.rank)
  reducesTo_S1024x6152_S_d0_1 : S1024x6152.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part3 {F : FTy → Type} [FloatOps F] (main_v48 : IVec S_ 1) (main_v49 : FVec F S4096x1024 .f32) (main_v50 : FVec F S4096x1024 .f32) : IVec S_ 1 :=
  let main_v51 : IVec S4096x1024 1 := cmpf .olt main_v49 main_v50
  let main_c_19 : IVec S_ 1 := constantI S_ 1 1#1
  let main_v52 : IVec S_ 1 := (fun x v => Host.reduce IntOp.andi x v reducesTo_S4096x1024_S_d0_1 h_S_) main_v51 main_c_19
  let main_v53 : IVec S_ 1 := andi main_v48 main_v52
  main_v53

def fn_part2 {F : FTy → Type} [FloatOps F] (main_arg7 : FVec F S4096x1024 .f32) (main_arg8 : FVec F S4096x1024 .f32) (main_arg9 : FVec F S4096x1024 .f32) (main_arg10 : FVec F S4096x1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S4096x1024 .f32 := Host.absf main_arg9
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S4096x1024 .f32 := Host.absf main_arg10
  let main_cst_18 : FVec F S_ .f32 := constant S_ .f32 0x7F800000#32
  let main_v50 : FVec F S4096x1024 .f32 := broadcastInDim S4096x1024 ![] bcast_S_S4096x1024 main_cst_18
  fn_part3 (F := F) main_v48 main_v49 main_v50

def fn_part1 {F : FTy → Type} [FloatOps F] (main_arg4 : FVec F S4096x1024 .f32) (main_arg5 : FVec F S4096x1024 .f32) (main_arg6 : FVec F S4096x8 .f32) (main_arg7 : FVec F S4096x1024 .f32) (main_arg8 : FVec F S4096x1024 .f32) (main_arg9 : FVec F S4096x1024 .f32) (main_arg10 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x8 .f32 := Host.absf main_arg6
  let main_cst_10 : FVec F S_ .f32 := constant S_ .f32 0x7F800000#32
  let main_v30 : FVec F S4096x8 .f32 := broadcastInDim S4096x8 ![] bcast_S_S4096x8 main_cst_10
  let main_v31 : IVec S4096x8 1 := cmpf .olt main_v29 main_v30
  let main_c_11 : IVec S_ 1 := constantI S_ 1 1#1
  let main_v32 : IVec S_ 1 := (fun x v => Host.reduce IntOp.andi x v reducesTo_S4096x8_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S1x1024 .f32) (main_arg2 : FVec F S1024x6152 .f32) (main_arg3 : FVec F S4096x1024 .f32) (main_arg4 : FVec F S4096x1024 .f32) (main_arg5 : FVec F S4096x1024 .f32) (main_arg6 : FVec F S4096x8 .f32) (main_arg7 : FVec F S4096x1024 .f32) (main_arg8 : FVec F S4096x1024 .f32) (main_arg9 : FVec F S4096x1024 .f32) (main_arg10 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x6152 .f32 := Host.absf main_arg2
  let main_cst_2 : FVec F S_ .f32 := constant S_ .f32 0x7F800000#32
  let main_v10 : FVec F S1024x6152 .f32 := broadcastInDim S1024x6152 ![] bcast_S_S1024x6152 main_cst_2
  let main_v11 : IVec S1024x6152 1 := cmpf .olt main_v9 main_v10
  let main_c_3 : IVec S_ 1 := constantI S_ 1 1#1
  let main_v12 : IVec S_ 1 := (fun x v => Host.reduce IntOp.andi x v reducesTo_S1024x6152_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_v13 main_v16
-- ==== Pre_each_finite.lean ====
abbrev S4096x2048 : Shape := ⟨2, ![4096, 2048]⟩
abbrev S4096x1024 : Shape := ⟨2, ![4096, 1024]⟩
abbrev S4096x256 : Shape := ⟨2, ![4096, 256]⟩
abbrev S2048x1024 : Shape := ⟨2, ![2048, 1024]⟩
abbrev S1x1024 : Shape := ⟨2, ![1, 1024]⟩
abbrev S256x1024 : Shape := ⟨2, ![256, 1024]⟩
abbrev S1024x1024 : Shape := ⟨2, ![1024, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096x256 : S_.BroadcastsInDim S4096x256 (![] : Fin 0 → Fin S4096x256.rank)
  reducesTo_S4096x256_S_d0_1 : S4096x256.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1x1024 .f32) (main_arg8 : FVec F S1024x1024 .f32) (main_arg9 : FVec F S1x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  main_v48

def fn_part1 {F : FTy → Type} [FloatOps F] (main_arg4 : FVec F S2048x1024 .f32) (main_arg5 : FVec F S1x1024 .f32) (main_arg6 : FVec F S256x1024 .f32) (main_arg7 : FVec F S1x1024 .f32) (main_arg8 : FVec F S1024x1024 .f32) (main_arg9 : FVec F S1x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S256x1024 .f32 := Host.absf main_arg6
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x2048 .f32) (main_arg1 : FVec F S4096x1024 .f32) (main_arg2 : FVec F S4096x256 .f32) (main_arg3 : FVec F S4096x1024 .f32) (main_arg4 : FVec F S2048x1024 .f32) (main_arg5 : FVec F S1x1024 .f32) (main_arg6 : FVec F S256x1024 .f32) (main_arg7 : FVec F S1x1024 .f32) (main_arg8 : FVec F S1024x1024 .f32) (main_arg9 : FVec F S1x1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_v13 main_v16
-- ==== Pre_finite.lean ====
abbrev S4096x1024 : Shape := ⟨2, ![4096, 1024]⟩
abbrev S8x4096 : Shape := ⟨2, ![8, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S4096x1024 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S4096x1024 .f32) (main_arg3 : FVec F S8x4096 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_v13 main_v16
-- ==== Kernel.lean ====
abbrev S4096x8 : Shape := ⟨2, ![4096, 8]⟩
abbrev S1x8 : Shape := ⟨2, ![1, 8]⟩
abbrev S_ : Shape := ⟨0, ![]⟩
abbrev S4096x128 : Shape := ⟨2, ![4096, 128]⟩
abbrev S8x4096 : Shape := ⟨2, ![8, 4096]⟩
abbrev S8x4096x1 : Shape := ⟨3, ![8, 4096, 1]⟩
abbrev S8x4096x128 : Shape := ⟨3, ![8, 4096, 128]⟩
abbrev S8x128 : Shape := ⟨2, ![8, 128]⟩
abbrev S8x256x128 : Shape := ⟨3, ![8, 256, 128]⟩
abbrev S256x128 : Shape := ⟨2, ![256, 128]⟩
abbrev S1x128 : Shape := ⟨2, ![1, 128]⟩
abbrev S1x256x128 : Shape := ⟨3, ![1, 256, 128]⟩
abbrev S256x256 : Shape := ⟨2, ![256, 256]⟩
abbrev S128 : Shape := ⟨1, ![128]⟩

abbrev nBuf : Space → Nat
  | .hbm => 13
  | .vmem => 9
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S4096x8, .f32⟩
  | .hbm, ⟨3, _⟩ => ⟨S4096x8, .f32⟩
  | .hbm, ⟨4, _⟩ => ⟨S4096x8, .f32⟩
  | .hbm, ⟨5, _⟩ => ⟨S_, .i32⟩
  | .hbm, ⟨6, _⟩ => ⟨S_, .f32⟩
  | .hbm, ⟨7, _⟩ => ⟨S4096x128, .f32⟩
  | .hbm, ⟨8, _⟩ => ⟨S8x4096, .f32⟩
  | .hbm, ⟨9, _⟩ => ⟨S8x4096x1, .f32⟩
  | .hbm, ⟨10, _⟩ => ⟨S8x4096x128, .f32⟩
  | .hbm, ⟨11, _⟩ => ⟨S4096x128, .bf16⟩
  | .hbm, ⟨12, _⟩ => ⟨S8x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | .local _ .vmem, ⟨4, _⟩ => ⟨S256x128, .bf16⟩
  | .local _ .vmem, ⟨5, _⟩ => ⟨S256x128, .bf16⟩
  | .local _ .vmem, ⟨6, _⟩ => ⟨S8x128, .f32⟩
  | .local _ .vmem, ⟨7, _⟩ => ⟨S1x128, .f32⟩
  | .local _ .vmem, ⟨8, _⟩ => ⟨S8x128, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4096x8 : Shape := ⟨2, ![4096, 8]⟩
abbrev S1x8 : Shape := ⟨2, ![1, 8]⟩
abbrev S_ : Shape := ⟨0, ![]⟩
abbrev S8 : Shape := ⟨1, ![8]⟩
abbrev S4096x128 : Shape := ⟨2, ![4096, 128]⟩
abbrev S8x128 : Shape := ⟨2, ![8, 128]⟩

abbrev nBuf : Space → Nat
  | .hbm => 72
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S4096x8, .f32⟩
  | .hbm, ⟨3, _⟩ => ⟨S4096x8, .f32⟩
  | .hbm, ⟨4, _⟩ => ⟨S4096x8, .f32⟩
  | .hbm, ⟨5, _⟩ => ⟨S4096x8, .f32⟩
  | .hbm, ⟨6, _⟩ => ⟨S_, .f32⟩
  | .hbm, ⟨7, _⟩ => ⟨S4096x8, .f32⟩
  | .hbm, ⟨8, _⟩ => ⟨S4096x8, .f32⟩
  | .hbm, ⟨9, _⟩ => ⟨S4096x8, .f32⟩
  | .hbm, ⟨10, _⟩ => ⟨S4096x8, .f32⟩
  | .hbm, ⟨11, _⟩ => ⟨S4096x8, .i1⟩
  | .hbm, ⟨12, _⟩ => ⟨S4096x8, .f32⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S_, .f32⟩
  | .hbm, ⟨21, _⟩ => ⟨S4096x8, .f32⟩
  | .hbm, ⟨22, _⟩ => ⟨S4096x8, .i1⟩
  | .hbm, ⟨23, _⟩ => ⟨S_, .f32⟩
  | .hbm, ⟨24, _⟩ => ⟨S4096x8, .f32⟩
  | .hbm, ⟨25, _⟩ => ⟨S4096x8, .f32⟩
  | .hbm, ⟨26, _⟩ => ⟨S_, .f32⟩
  | .hbm, ⟨27, _⟩ => ⟨S4096x8, .f32⟩
  | .hbm, ⟨28, _⟩ => ⟨S4096x8, .i1⟩
  | .hbm, ⟨29, _⟩ => ⟨S_, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096x8, .f32⟩
  | .hbm, ⟨42, _⟩ => ⟨S4096x8, .i1⟩
  | .hbm, ⟨43, _⟩ => ⟨S_, .f32⟩
  | .hbm, ⟨44, _⟩ => ⟨S4096x8, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S_, .f32⟩
  | .hbm, ⟨50, _⟩ => ⟨S4096x8, .f32⟩
  | .hbm, ⟨51, _⟩ => ⟨S4096x8, .f32⟩
  | .hbm, ⟨52, _⟩ => ⟨S4096x8, .f32⟩
  | .hbm, ⟨53, _⟩ => ⟨S_, .f32⟩
  | .hbm, ⟨54, _⟩ => ⟨S_, .f32⟩
  | .hbm, ⟨55, _⟩ => ⟨S4096x8, .f32⟩
  | .hbm, ⟨56, _⟩ => ⟨S_, .f32⟩
  | .hbm, ⟨57, _⟩ => ⟨S_, .f32⟩
  | .hbm, ⟨58, _⟩ => ⟨S4096x8, .f32⟩
  | .hbm, ⟨59, _⟩ => ⟨S4096x8, .f32⟩
  | .hbm, ⟨60, _⟩ => ⟨S4096x8, .f32⟩
  | .hbm, ⟨61, _⟩ => ⟨S4096x8, .f32⟩
  | .hbm, ⟨62, _⟩ => ⟨S_, .f32⟩
  | .hbm, ⟨63, _⟩ => ⟨S8, .f32⟩
  | .hbm, ⟨64, _⟩ => ⟨S1x8, .f32⟩
  | .hbm, ⟨65, _⟩ => ⟨S_, .i32⟩
  | .hbm, ⟨66, _⟩ => ⟨S_, .f32⟩
  | .hbm, ⟨67, _⟩ => ⟨S4096x128, .f32⟩
  | .hbm, ⟨68, _⟩ => ⟨S4096x128, .bf16⟩
  | .hbm, ⟨69, _⟩ => ⟨S_, .i32⟩
  | .hbm, ⟨70, _⟩ => ⟨S_, .f32⟩
  | .hbm, ⟨71, _⟩ => ⟨S8x128, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_call1_call0_cst : Ref sig .tc := ⟨.hbm, 53, rfl⟩
abbrev main_call1_call0_v0 : Ref sig .tc := ⟨.hbm, 54, rfl⟩
abbrev main_v3 : Ref sig .tc := ⟨.hbm, 55, rfl⟩
abbrev main_call2_call0_cst : Ref sig .tc := ⟨.hbm, 56, rfl⟩
abbrev main_call2_call0_v0 : Ref sig .tc := ⟨.hbm, 57, rfl⟩
abbrev main_v4 : Ref sig .tc := ⟨.hbm, 58, rfl⟩
abbrev main_call3_v0 : Ref sig .tc := ⟨.hbm, 59, rfl⟩
abbrev main_call3_v1 : Ref sig .tc := ⟨.hbm, 60, rfl⟩
abbrev main_v5 : Ref sig .tc := ⟨.hbm, 61, rfl⟩
abbrev main_cst : Ref sig .tc := ⟨.hbm, 62, rfl⟩
abbrev main_v6 : Ref sig .tc := ⟨.hbm, 63, rfl⟩
abbrev main_v7 : Ref sig .tc := ⟨.hbm, 64, rfl⟩
abbrev main_c : Ref sig .tc := ⟨.hbm, 65, rfl⟩
abbrev main_call4_v0 : Ref sig .tc := ⟨.hbm, 66, rfl⟩
abbrev main_v8 : Ref sig .tc := ⟨.hbm, 67, rfl⟩
abbrev main_v9 : Ref sig .tc := ⟨.hbm, 68, rfl⟩
abbrev main_c_0 : Ref sig .tc := ⟨.hbm, 69, rfl⟩
abbrev main_call5_v0 : Ref sig .tc := ⟨.hbm, 70, rfl⟩
abbrev main_v10 : Ref sig .tc := ⟨.hbm, 71, rfl⟩

abbrev nD : Nat := 1
abbrev τ : Topo := Topo.v7x

variable {F : FTy → Type} [FloatOps F]
-- ==== AttnKernel.lean ====
abbrev S4096x1024 : Shape := ⟨2, ![4096, 1024]⟩
abbrev S8x4096 : Shape := ⟨2, ![8, 4096]⟩
abbrev S10 : Shape := ⟨1, ![10]⟩
abbrev S4096x8x128 : Shape := ⟨3, ![4096, 8, 128]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S4096x8 : Shape := ⟨2, ![4096, 8]⟩
abbrev S4096x8x1 : Shape := ⟨3, ![4096, 8, 1]⟩
abbrev S4096x8x256 : Shape := ⟨3, ![4096, 8, 256]⟩
abbrev S4096x2048 : Shape := ⟨2, ![4096, 2048]⟩
abbrev S8x4096x128 : Shape := ⟨3, ![8, 4096, 128]⟩
abbrev S1024x512 : Shape := ⟨2, ![1024, 512]⟩
abbrev S1 : Shape := ⟨1, ![1]⟩
abbrev S1024x256 : Shape := ⟨2, ![1024, 256]⟩
abbrev S4096x256 : Shape := ⟨2, ![4096, 256]⟩
abbrev S2x4096x128 : Shape := ⟨3, ![2, 4096, 128]⟩
abbrev S2x4096x256 : Shape := ⟨3, ![2, 4096, 256]⟩
abbrev S2x1024x256 : Shape := ⟨3, ![2, 1024, 256]⟩
abbrev S2x1024x128 : Shape := ⟨3, ![2, 1024, 128]⟩
abbrev S1024x128 : Shape := ⟨2, ![1024, 128]⟩
abbrev S1024x1024 : Shape := ⟨2, ![1024, 1024]⟩
abbrev S1x1024x128 : Shape := ⟨3, ![1, 1024, 128]⟩
abbrev S1x1024x256 : Shape := ⟨3, ![1, 1024, 256]⟩
abbrev S1x1024x1 : Shape := ⟨3, ![1, 1024, 1]⟩
abbrev S1024x1 : Shape := ⟨2, ![1024, 1]⟩
abbrev S1x4096x128 : Shape := ⟨3, ![1, 4096, 128]⟩
abbrev S4096x128 : Shape := ⟨2, ![4096, 128]⟩
abbrev S1x4096x1 : Shape := ⟨3, ![1, 4096, 1]⟩

abbrev nBuf : Space → Nat
  | .hbm => 201
  | .vmem => 21
  | .smem => 2
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S8x4096, .f32⟩
  | 4 => ⟨S4096x1024, .f32⟩
  | 5 => ⟨S4096x1024, .bf16⟩
  | 6 => ⟨S4096x1024, .f32⟩
  | 7 => ⟨S4096x8x128, .f32⟩
  | 8 => ⟨S4096x1024, .bf16⟩
  | 9 => ⟨S4096x1024, .f32⟩
  | 10 => ⟨S4096x8x128, .f32⟩
  | 11 => ⟨S4096x1024, .bf16⟩
  | 12 => ⟨S4096x1024, .f32⟩
  | 13 => ⟨S4096x8x128, .f32⟩
  | 14 => ⟨S4096x1024, .bf16⟩
  | 15 => ⟨S4096x1024, .f32⟩
  | 16 => ⟨S4096x8x128, .f32⟩
  | 17 => ⟨S8x4096x4096, .f32⟩
  | 18 => ⟨S_, .f32⟩
  | 19 => ⟨S8x4096x4096, .f32⟩
  | 20 => ⟨S8x4096x4096, .f32⟩
  | 21 => ⟨S8x4096x1, .f32⟩
  | 22 => ⟨S8x1x4096, .f32⟩
  | 23 => ⟨S8x4096x4096, .f32⟩
  | 24 => ⟨S8x4096x4096, .f32⟩
  | 25 => ⟨S8x4096x4096, .f32⟩
  | 26 => ⟨S8x4096x4096, .f32⟩
  | 27 => ⟨S4096, .i32⟩
  | 28 => ⟨S1x4096, .i32⟩
  | 29 => ⟨S4096x1, .i32⟩
  | 30 => ⟨S4096x4096, .i32⟩
  | 31 => ⟨S4096x4096, .i32⟩
  | 32 => ⟨S4096x4096, .i1⟩
  | 33 => ⟨S_, .f32⟩
  | 34 => ⟨S_, .f32⟩
  | 35 => ⟨S8x4096x4096, .i1⟩
  | 36 => ⟨S8x4096x4096, .f32⟩
  | 37 => ⟨S8x4096x4096, .f32⟩
  | 38 => ⟨S_, .f32⟩
  | 39 => ⟨S8x4096, .f32⟩
  | 40 => ⟨S8x4096x1, .f32⟩
  | 41 => ⟨S8x4096x4096, .f32⟩
  | 42 => ⟨S8x4096x4096, .f32⟩
  | 43 => ⟨S8x4096x4096, .f32⟩
  | 44 => ⟨S_, .f32⟩
  | 45 => ⟨S8x4096, .f32⟩
  | 46 => ⟨S8x4096x1, .f32⟩
  | 47 => ⟨S8x4096x4096, .f32⟩
  | 48 => ⟨S8x4096x4096, .f32⟩
  | 49 => ⟨S8x128x4096, .f32⟩
  | 50 => ⟨S4096x8x128, .f32⟩
  | 51 => ⟨S4096x8x128, .f32⟩
  | 52 => ⟨S_, .f32⟩
  | 53 => ⟨S4096x8, .f32⟩
  | 54 => ⟨S4096x8x1, .f32⟩
  | 55 => ⟨S8x4096x1, .f32⟩
  | 56 => ⟨S8x4096x1, .f32⟩
  | 57 => ⟨S8x4096, .f32⟩
  | 58 => ⟨S_, .f32⟩
  | 59 => ⟨S_, .f32⟩
  | 60 => ⟨S4096x8x128, .i32⟩
  | 61 => ⟨S8x4096, .f32⟩
  | 62 => ⟨S8x4096, .f32⟩
  | 63 => ⟨S8x4096, .f32⟩
  | 64 => ⟨S4096x8, .f32⟩
  | 65 => ⟨S4096x8x1, .f32⟩
  | 66 => ⟨S4096x8x128, .f32⟩
  | 67 => ⟨S4096x8x128, .bf16⟩
  | 68 => ⟨S4096x8x128, .f32⟩
  | 69 => ⟨S4096x8x128, .f32⟩
  | 70 => ⟨S4096x8x128, .bf16⟩
  | 71 => ⟨S4096x8x128, .f32⟩
  | 72 => ⟨S4096x8x128, .f32⟩
  | 73 => ⟨S4096x8x128, .bf16⟩
  | 74 => ⟨S_, .i32⟩
  | 75 => ⟨S4096x8x128, .i32⟩
  | 76 => ⟨S4096x8x128, .i1⟩
  | 77 => ⟨S_, .i32⟩
  | 78 => ⟨S4096x8x128, .i32⟩
  | 79 => ⟨S4096x8x128, .i1⟩
  | 80 => ⟨S4096x8x128, .i1⟩
  | 81 => ⟨S_, .f32⟩
  | 82 => ⟨S_, .f32⟩
  | 83 => ⟨S4096x8x128, .f32⟩
  | 84 => ⟨S4096x8x128, .f32⟩
  | 85 => ⟨S4096x8x128, .f32⟩
  | 86 => ⟨S4096x8x128, .bf16⟩
  | 87 => ⟨S_, .i32⟩
  | 88 => ⟨S4096x8x128, .i32⟩
  | 89 => ⟨S4096x8x128, .i1⟩
  | 90 => ⟨S_, .i32⟩
  | 91 => ⟨S4096x8x128, .i32⟩
  | 92 => ⟨S4096x8x128, .i1⟩
  | 93 => ⟨S_, .i32⟩
  | 94 => ⟨S4096x8x128, .i32⟩
  | 95 => ⟨S4096x8x128, .i1⟩
  | 96 => ⟨S4096x8x128, .bf16⟩
  | 97 => ⟨S4096x8x128, .bf16⟩
  | 98 => ⟨S4096x8x128, .bf16⟩
  | 99 => ⟨S8x4096, .f32⟩
  | 100 => ⟨S8x4096, .f32⟩
  | 101 => ⟨S8x4096, .f32⟩
  | 102 => ⟨S4096x8, .f32⟩
  | 103 => ⟨S4096x8x1, .f32⟩
  | 104 => ⟨S4096x8x128, .f32⟩
  | 105 => ⟨S4096x8x128, .bf16⟩
  | 106 => ⟨S4096x8x128, .f32⟩
  | 107 => ⟨S4096x8x128, .f32⟩
  | 108 => ⟨S4096x8x128, .bf16⟩
  | 109 => ⟨S4096x8x128, .f32⟩
  | 110 => ⟨S4096x8x128, .f32⟩
  | 111 => ⟨S4096x8x128, .bf16⟩
  | 112 => ⟨S_, .i32⟩
  | 113 => ⟨S4096x8x128, .i32⟩
  | 114 => ⟨S4096x8x128, .i1⟩
  | 115 => ⟨S_, .i32⟩
  | 116 => ⟨S4096x8x128, .i32⟩
  | 117 => ⟨S4096x8x128, .i1⟩
  | 118 => ⟨S4096x8x128, .i1⟩
  | 119 => ⟨S_, .f32⟩
  | 120 => ⟨S_, .f32⟩
  | 121 => ⟨S4096x8x128, .f32⟩
  | 122 => ⟨S4096x8x128, .f32⟩
  | 123 => ⟨S4096x8x128, .f32⟩
  | 124 => ⟨S4096x8x128, .bf16⟩
  | 125 => ⟨S_, .i32⟩
  | 126 => ⟨S4096x8x128, .i32⟩
  | 127 => ⟨S4096x8x128, .i1⟩
  | _ => ⟨S4096x1024, .f32⟩

abbrev hbmTy0_1 (i : Nat) : BufTy := match i % 128 with
  | 0 => ⟨S_, .i32⟩
  | 1 => ⟨S4096x8x128, .i32⟩
  | 2 => ⟨S4096x8x128, .i1⟩
  | 3 => ⟨S_, .i32⟩
  | 4 => ⟨S4096x8x128, .i32⟩
  | 5 => ⟨S4096x8x128, .i1⟩
  | 6 => ⟨S4096x8x128, .bf16⟩
  | 7 => ⟨S4096x8x128, .bf16⟩
  | 8 => ⟨S4096x8x128, .bf16⟩
  | 9 => ⟨S4096x8x1, .f32⟩
  | 10 => ⟨S4096x8x128, .f32⟩
  | 11 => ⟨S4096x8x128, .bf16⟩
  | 12 => ⟨S4096x8x128, .f32⟩
  | 13 => ⟨S4096x8x128, .f32⟩
  | 14 => ⟨S4096x8x128, .bf16⟩
  | 15 => ⟨S4096x8x128, .f32⟩
  | 16 => ⟨S4096x8x128, .f32⟩
  | 17 => ⟨S4096x8x128, .bf16⟩
  | 18 => ⟨S_, .i32⟩
  | 19 => ⟨S4096x8x128, .i32⟩
  | 20 => ⟨S4096x8x128, .i1⟩
  | 21 => ⟨S_, .i32⟩
  | 22 => ⟨S4096x8x128, .i32⟩
  | 23 => ⟨S4096x8x128, .i1⟩
  | 24 => ⟨S4096x8x128, .i1⟩
  | 25 => ⟨S_, .f32⟩
  | 26 => ⟨S_, .f32⟩
  | 27 => ⟨S4096x8x128, .f32⟩
  | 28 => ⟨S4096x8x128, .f32⟩
  | 29 => ⟨S4096x8x128, .f32⟩
  | 30 => ⟨S4096x8x128, .bf16⟩
  | 31 => ⟨S_, .i32⟩
  | 32 => ⟨S4096x8x128, .i32⟩
  | 33 => ⟨S4096x8x128, .i1⟩
  | 34 => ⟨S_, .i32⟩
  | 35 => ⟨S4096x8x128, .i32⟩
  | 36 => ⟨S4096x8x128, .i1⟩
  | 37 => ⟨S_, .i32⟩
  | 38 => ⟨S4096x8x128, .i32⟩
  | 39 => ⟨S4096x8x128, .i1⟩
  | 40 => ⟨S4096x8x128, .bf16⟩
  | 41 => ⟨S4096x8x128, .bf16⟩
  | 42 => ⟨S4096x8x128, .bf16⟩
  | 43 => ⟨S_, .i32⟩
  | 44 => ⟨S4096x8x128, .i32⟩
  | 45 => ⟨S4096x8x128, .i1⟩
  | 46 => ⟨S_, .f32⟩
  | 47 => ⟨S_, .f32⟩
  | 48 => ⟨S4096x8x128, .f32⟩
  | 49 => ⟨S4096x8x128, .f32⟩
  | 50 => ⟨S4096x8x128, .f32⟩
  | 51 => ⟨S4096x8x128, .bf16⟩
  | 52 => ⟨S_, .f32⟩
  | 53 => ⟨S_, .f32⟩
  | 54 => ⟨S4096x8x128, .f32⟩
  | 55 => ⟨S4096x8x128, .f32⟩
  | 56 => ⟨S4096x8x128, .bf16⟩
  | 57 => ⟨S4096x8x256, .bf16⟩
  | 58 => ⟨S4096x2048, .bf16⟩
  | 59 => ⟨S4096x1024, .bf16⟩
  | 60 => ⟨S4096x8x128, .bf16⟩
  | 61 => ⟨S4096x8x256, .bf16⟩
  | 62 => ⟨S4096x2048, .bf16⟩
  | 63 => ⟨S4096x8x128, .bf16⟩
  | 64 => ⟨S4096x8x256, .bf16⟩
  | 65 => ⟨S4096x2048, .bf16⟩
  | 66 => ⟨S4096x8x128, .bf16⟩
  | 67 => ⟨S4096x8x256, .bf16⟩
  | 68 => ⟨S4096x2048, .bf16⟩
  | 69 => ⟨S4096x1024, .bf16⟩
  | 70 => ⟨S4096x1024, .bf16⟩
  | 71 => ⟨S4096x1024, .bf16⟩
  | 72 => ⟨S8x4096x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S4096x256, .bf16⟩
  | .local _ .vmem, ⟨11, _⟩ => ⟨S4096x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S2x4096x128, .f32⟩
  | .local _ .vmem, ⟨17, _⟩ => ⟨S2x4096x128, .f32⟩
  | .local _ .vmem, ⟨18, _⟩ => ⟨S2x4096x256, .f32⟩
  | .local _ .vmem, ⟨19, _⟩ => ⟨S2x1024x256, .f32⟩
  | .local _ .vmem, ⟨20, _⟩ => ⟨S2x1024x128, .f32⟩
  | .local _ .smem, ⟨0, _⟩ => ⟨S10, .i32⟩
  | .local _ .smem, ⟨1, _⟩ => ⟨S10, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c_6 : Ref sig .tc := ⟨.hbm, 74, rfl⟩
abbrev main_v60 : Ref sig .tc := ⟨.hbm, 75, rfl⟩
abbrev main_v61 : Ref sig .tc := ⟨.hbm, 76, rfl⟩
abbrev main_c_7 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_8 : Ref sig .tc := ⟨.hbm, 81, rfl⟩
abbrev main_cst_9 : Ref sig .tc := ⟨.hbm, 82, rfl⟩
abbrev main_call1_v0 : Ref sig .tc := ⟨.hbm, 83, rfl⟩
abbrev main_call1_v1 : Ref sig .tc := ⟨.hbm, 84, rfl⟩
abbrev main_v65 : Ref sig .tc := ⟨.hbm, 85, rfl⟩
abbrev main_v66 : Ref sig .tc := ⟨.hbm, 86, rfl⟩
abbrev main_c_10 : Ref sig .tc := ⟨.hbm, 87, rfl⟩
abbrev main_v67 : Ref sig .tc := ⟨.hbm, 88, rfl⟩
abbrev main_v68 : Ref sig .tc := ⟨.hbm, 89, rfl⟩
abbrev main_c_11 : Ref sig .tc := ⟨.hbm, 90, rfl⟩
abbrev main_v69 : Ref sig .tc := ⟨.hbm, 91, rfl⟩
abbrev main_v70 : Ref sig .tc := ⟨.hbm, 92, rfl⟩
abbrev main_c_12 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_c_13 : Ref sig .tc := ⟨.hbm, 112, rfl⟩
abbrev main_v89 : Ref sig .tc := ⟨.hbm, 113, rfl⟩
abbrev main_v90 : Ref sig .tc := ⟨.hbm, 114, rfl⟩
abbrev main_c_14 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_15 : Ref sig .tc := ⟨.hbm, 119, rfl⟩
abbrev main_cst_16 : Ref sig .tc := ⟨.hbm, 120, rfl⟩
abbrev main_call5_v0 : Ref sig .tc := ⟨.hbm, 121, rfl⟩
abbrev main_call5_v1 : Ref sig .tc := ⟨.hbm, 122, rfl⟩
abbrev main_v94 : Ref sig .tc := ⟨.hbm, 123, rfl⟩
abbrev main_v95 : Ref sig .tc := ⟨.hbm, 124, rfl⟩
abbrev main_c_17 : Ref sig .tc := ⟨.hbm, 125, rfl⟩
abbrev main_v96 : Ref sig .tc := ⟨.hbm, 126, rfl⟩
abbrev main_v97 : Ref sig .tc := ⟨.hbm, 127, rfl⟩
abbrev main_c_18 : Ref sig .tc := ⟨.hbm, 128, rfl⟩
abbrev main_v98 : Ref sig .tc := ⟨.hbm, 129, rfl⟩
abbrev main_v99 : Ref sig .tc := ⟨.hbm, 130, rfl⟩
abbrev main_c_19 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_c_20 : Ref sig .tc := ⟨.hbm, 146, rfl⟩
abbrev main_v114 : Ref sig .tc := ⟨.hbm, 147, rfl⟩
abbrev main_v115 : Ref sig .tc := ⟨.hbm, 148, rfl⟩
abbrev main_c_21 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_22 : Ref sig .tc := ⟨.hbm, 153, rfl⟩
abbrev main_cst_23 : Ref sig .tc := ⟨.hbm, 154, rfl⟩
abbrev main_call9_v0 : Ref sig .tc := ⟨.hbm, 155, rfl⟩
abbrev main_call9_v1 : Ref sig .tc := ⟨.hbm, 156, rfl⟩
abbrev main_v119 : Ref sig .tc := ⟨.hbm, 157, rfl⟩
abbrev main_v120 : Ref sig .tc := ⟨.hbm, 158, rfl⟩
abbrev main_c_24 : Ref sig .tc := ⟨.hbm, 159, rfl⟩
abbrev main_v121 : Ref sig .tc := ⟨.hbm, 160, rfl⟩
abbrev main_v122 : Ref sig .tc := ⟨.hbm, 161, rfl⟩
abbrev main_c_25 : Ref sig .tc := ⟨.hbm, 162, rfl⟩
abbrev main_v123 : Ref sig .tc := ⟨.hbm, 163, rfl⟩
abbrev main_v124 : Ref sig .tc := ⟨.hbm, 164, rfl⟩
abbrev main_c_26 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_c_27 : Ref sig .tc := ⟨.hbm, 171, rfl⟩
abbrev main_v130 : Ref sig .tc := ⟨.hbm, 172, rfl⟩
abbrev main_v131 : Ref sig .tc := ⟨.hbm, 173, rfl⟩
abbrev main_cst_28 : Ref sig .tc := ⟨.hbm, 174, rfl⟩
abbrev main_cst_29 : Ref sig .tc := ⟨.hbm, 175, rfl⟩
abbrev main_call13_v0 : Ref sig .tc := ⟨.hbm, 176, rfl⟩
abbrev main_call13_v1 : Ref sig .tc := ⟨.hbm, 177, rfl⟩
abbrev main_v132 : Ref sig .tc := ⟨.hbm, 178, rfl⟩
abbrev main_v133 : Ref sig .tc := ⟨.hbm, 179, rfl⟩
abbrev main_cst_30 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150_0 : Ref sig .tc := ⟨.hbm, 197, rfl⟩
abbrev main_v150_1 : Ref sig .tc := ⟨.hbm, 198, rfl⟩
abbrev main_v150_2 : Ref sig .tc := ⟨.hbm, 199, rfl⟩
abbrev main_v150_3 : Ref sig .tc := ⟨.hbm, 200, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v3 : BitVec 32) : BitVec 32 :=
  let c1024_i32 : BitVec 32 := 1024#32
  let v32 : BitVec 32 := Scalar.muli v3 c1024_i32
  v32
def k0_cond3 (v1 : BitVec 32) (v3 : BitVec 32) : BitVec 1 :=
  let v10 : BitVec 1 := Scalar.cmpi .sgt v3 v1
  let v11 : BitVec 32 := Scalar.extui v10
  let c0_i32_2 : BitVec 32 := 0#32
  let v12 : BitVec 1 := Scalar.cmpi .ne v11 c0_i32_2
  v12

def k0_off2 (v3 : BitVec 32) : Fin 3 → Nat :=
  let c0_42 : Index := 0#32
  let c1024_i32 : BitVec 32 := 1024#32
  let v32 : BitVec 32 := Scalar.muli v3 c1024_i32
  let v33 : BitVec 32 := v32
  let v70 : Index := Scalar.indexCast v33
  let c0_43 : Index := 0#32
  ![0, v70.toNat, 0]
def k0_off3 (v3 : BitVec 32) : Fin 3 → Nat :=
  let c1_64 : Index := 1#32
  let c1024_i32 : BitVec 32 := 1024#32
  let v32 : BitVec 32 := Scalar.muli v3 c1024_i32
  let v33 : BitVec 32 := v32
  let v101 : Index := Scalar.indexCast v33
  let c0_65 : Index := 0#32
  ![1, v101.toNat, 0]
def k0_mult2 (v3 : BitVec 32) : BitVec 32 :=
  let c1024_i32 : BitVec 32 := 1024#32
  let v34 : BitVec 32 := Scalar.muli v3 c1024_i32
  v34
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def k0_off4 (v3 : BitVec 32) : Fin 3 → Nat :=
  let c0_44 : Index := 0#32
  let c1024_i32 : BitVec 32 := 1024#32
  let v34 : BitVec 32 := Scalar.muli v3 c1024_i32
  let v35 : BitVec 32 := v34
  let v78 : Index := Scalar.indexCast v35
  let c0_45 : Index := 0#32
  ![0, v78.toNat, 0]
def k0_off5 (v3 : BitVec 32) : Fin 3 → Nat :=
  let c1_66 : Index := 1#32
  let c1024_i32 : BitVec 32 := 1024#32
  let v34 : BitVec 32 := Scalar.muli v3 c1024_i32
  let v35 : BitVec 32 := v34
  let v109 : Index := Scalar.indexCast v35
  let c0_67 : Index := 0#32
  ![1, v109.toNat, 0]
def k0_mult3 (v1 : BitVec 32) : BitVec 32 :=
  let c1024_i32 : BitVec 32 := 1024#32
  let v22 : BitVec 32 := Scalar.muli v1 c1024_i32
  v22
def k0_cond5 (v3 : BitVec 32) : BitVec 1 :=
  let c3_i32 : BitVec 32 := 3#32
  let v16 : BitVec 1 := Scalar.cmpi .eq v3 c3_i32
  let v17 : BitVec 32 := Scalar.extui v16
  let c0_i32_4 : BitVec 32 := 0#32
  let v18 : BitVec 1 := Scalar.cmpi .ne v17 c0_i32_4
  v18

def k0_off6 (v1 : BitVec 32) : Fin 3 → Nat :=
  let c0_18 : Index := 0#32
  let c1024_i32 : BitVec 32 := 1024#32
  let v22 : BitVec 32 := Scalar.muli v1 c1024_i32
  let v23 : BitVec 32 := v22
  let v44 : Index := Scalar.indexCast v23
  let c0_19 : Index := 0#32
  ![0, v44.toNat, 0]
def k0_off7 (v1 : BitVec 32) : Fin 3 → Nat :=
  let c1_33 : Index := 1#32
  let c1024_i32 : BitVec 32 := 1024#32
  let v22 : BitVec 32 := Scalar.muli v1 c1024_i32
  let v23 : BitVec 32 := v22
  let v68 : Index := Scalar.indexCast v23
  let c0_34 : Index := 0#32
  ![1, v68.toNat, 0]

def k0_chk1 (v1 : BitVec 32) (v3 : BitVec 32) : Prop :=
  (∀ (k0_h3 : k0_cond3 v1 v3 = 1#1), 1024 ∣ (k0_mult1 v3).toNat) ∧
  (∀ (k0_h3 : k0_cond3 v1 v3 = 1#1), ∀ a, (k0_off2 v3) a + S1x1024x256.size a ≤ S2x4096x256.size a) ∧
  (∀ (k0_h3 : k0_cond3 v1 v3 = 1#1), ∀ a, (k0_off3 v3) a + S1x1024x256.size a ≤ S2x4096x256.size a) ∧
  (∀ (k0_h4 : k0_cond4 v1 v3 = 1#1), 1024 ∣ (k0_mult2 v3).toNat) ∧
  (∀ (k0_h4 : k0_cond4 v1 v3 = 1#1), ∀ a, (k0_off4 v3) a + S1x1024x256.size a ≤ S2x4096x256.size a) ∧
  (∀ (k0_h4 : k0_cond4 v1 v3 = 1#1), ∀ a, (k0_off5 v3) a + S1x1024x256.size a ≤ S2x4096x256.size a) ∧
  (∀ (k0_h5 : k0_cond5 v3 = 1#1), 1024 ∣ (k0_mult3 v1).toNat) ∧
  (∀ (k0_h5 : k0_cond5 v3 = 1#1), ∀ a, (k0_off6 v1) a + S1x1024x128.size a ≤ S2x4096x128.size a) ∧
  (∀ (k0_h5 : k0_cond5 v3 = 1#1), ∀ a, (k0_off7 v1) a + S1x1024x128.size a ≤ S2x4096x128.size a)
theorem k0_mult1_dvd : ∀ (v1 : BitVec 32) (v3 : BitVec 32) (k0_hw1 : k0_chk1 v1 v3), ∀ (k0_h3 : k0_cond3 v1 v3 = 1#1), 1024 ∣ (k0_mult1 v3).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v3) a + S1x1024x256.size a ≤ S2x4096x256.size a := fun v1 v3 k0_hw1 k0_h3 => k0_hw1.2.1 k0_h3
theorem k0_off3_inb : ∀ (v1 : BitVec 32) (v3 : BitVec 32) (k0_hw1 : k0_chk1 v1 v3), ∀ (k0_h3 : k0_cond3 v1 v3 = 1#1), ∀ a, (k0_off3 v3) a + S1x1024x256.size a ≤ S2x4096x256.size a := fun v1 v3 k0_hw1 k0_h3 => k0_hw1.2.2.1 k0_h3
theorem k0_mult2_dvd : ∀ (v1 : BitVec 32) (v3 : BitVec 32) (k0_hw1 : k0_chk1 v1 v3), ∀ (k0_h4 : k0_cond4 v1 v3 = 1#1), 1024 ∣ (k0_mult2 v3).toNat := fun v1 v3 k0_hw1 k0_h4 => k0_hw1.2.2.2.1 k0_h4
theorem k0_off4_inb : ∀ (v1 : BitVec 32) (v3 : BitVec 32) (k0_hw1 : k0_chk1 v1 v3), ∀ (k0_h4 : k0_cond4 v1 v3 = 1#1), ∀ a, (k0_off4 v3) a + S1x1024x256.size a ≤ S2x4096x256.size a := fun v1 v3 k0_hw1 k0_h4 => k0_hw1.2.2.2.2.1 k0_h4
theorem k0_off5_inb : ∀ (v1 : BitVec 32) (v3 : BitVec 32) (k0_hw1 : k0_chk1 v1 v3), ∀ (k0_h4 : k0_cond4 v1 v3 = 1#1), ∀ a, (k0_off5 v3) a + S1x1024x256.size a ≤ S2x4096x256.size a := fun v1 v3 k0_hw1 k0_h4 => k0_hw1.2.2.2.2.2.1 k0_h4
theorem k0_mult3_dvd : ∀ (v1 : BitVec 32) (v3 : BitVec 32) (k0_hw1 : k0_chk1 v1 v3), ∀ (k0_h5 : k0_cond5 v3 = 1#1), 1024 ∣ (k0_mult3 v1).toNat := fun v1 v3 k0_hw1 k0_h5 => k0_hw1.2.2.2.2.2.2.1 k0_h5
theorem k0_off6_inb : ∀ (v1 : BitVec 32) (v3 : BitVec 32) (k0_hw1 : k0_chk1 v1 v3), ∀ (k0_h5 : k0_cond5 v3 = 1#1), ∀ a, (k0_off6 v1) a + S1x1024x128.size a ≤ S2x4096x128.size a := fun v1 v3 k0_hw1 k0_h5 => k0_hw1.2.2.2.2.2.2.2.1 k0_h5
theorem k0_off7_inb : ∀ (v1 : BitVec 32) (v3 : BitVec 32) (k0_hw1 : k0_chk1 v1 v3), ∀ (k0_h5 : k0_cond5 v3 = 1#1), ∀ a, (k0_off7 v1) a + S1x1024x128.size a ≤ S2x4096x128.size a := fun v1 v3 k0_hw1 k0_h5 => k0_hw1.2.2.2.2.2.2.2.2 k0_h5

def k0_cond6 (i : grid0.Coords) : BitVec 1 :=
  let arg1 : BitVec 32 := BitVec.ofNat 32 (i 1).val
  let c9_i32 : BitVec 32 := 9#32
  let v19 : BitVec 1 := Scalar.cmpi .eq arg1 c9_i32
  let v20 : BitVec 32 := Scalar.extui v19
  let c0_i32_5 : BitVec 32 := 0#32
  let v21 : BitVec 1 := Scalar.cmpi .ne v20 c0_i32_5
  v21

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnKernelIdeal.lean ====
variable {F : FTy → Type} [FloatOps F] [Named F]
def κ : String → Option EReal := fun
  | "ln2" => some ((Real.log 2 : ℝ) : EReal)
  | "mask" => some ⊥
  | _ => none
-- ==== AttnReferenceIdeal.lean ====
abbrev S4096x1024 : Shape := ⟨2, ![4096, 1024]⟩
abbrev S8x4096 : Shape := ⟨2, ![8, 4096]⟩
abbrev S4096x8x128 : Shape := ⟨3, ![4096, 8, 128]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4096x128 : Shape := ⟨3, ![8, 4096, 128]⟩

abbrev nBuf : Space → Nat
  | .hbm => 139
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S8x4096, .f32⟩
  | 4 => ⟨S4096x1024, .f32⟩
  | 5 => ⟨S4096x1024, .bf16⟩
  | 6 => ⟨S4096x1024, .f32⟩
  | 7 => ⟨S4096x8x128, .f32⟩
  | 8 => ⟨S4096x1024, .bf16⟩
  | 9 => ⟨S4096x1024, .f32⟩
  | 10 => ⟨S4096x8x128, .f32⟩
  | 11 => ⟨S8x4096x4096, .f32⟩
  | 12 => ⟨S_, .f32⟩
  | 13 => ⟨S8x4096x4096, .f32⟩
  | 14 => ⟨S8x4096x4096, .f32⟩
  | 15 => ⟨S8x4096x1, .f32⟩
  | 16 => ⟨S8x1x4096, .f32⟩
  | 17 => ⟨S8x4096x4096, .f32⟩
  | 18 => ⟨S8x4096x4096, .f32⟩
  | 19 => ⟨S8x4096x4096, .f32⟩
  | 20 => ⟨S8x4096x4096, .f32⟩
  | 21 => ⟨S4096, .i32⟩
  | 22 => ⟨S1x4096, .i32⟩
  | 23 => ⟨S4096x1, .i32⟩
  | 24 => ⟨S4096x4096, .i32⟩
  | 25 => ⟨S4096x4096, .i32⟩
  | 26 => ⟨S4096x4096, .i1⟩
  | 27 => ⟨S_, .f32⟩
  | 28 => ⟨S_, .f32⟩
  | 29 => ⟨S8x4096x4096, .i1⟩
  | 30 => ⟨S8x4096x4096, .f32⟩
  | 31 => ⟨S8x4096x4096, .f32⟩
  | 32 => ⟨S_, .f32⟩
  | 33 => ⟨S8x4096x4096, .f32⟩
  | 34 => ⟨S_, .f32⟩
  | 35 => ⟨S8x4096, .f32⟩
  | 36 => ⟨S8x4096x1, .f32⟩
  | 37 => ⟨S8x4096x4096, .f32⟩
  | 38 => ⟨S8x4096x4096, .i1⟩
  | 39 => ⟨S8x4096x4096, .f32⟩
  | 40 => ⟨S_, .f32⟩
  | 41 => ⟨S8x4096, .f32⟩
  | 42 => ⟨S_, .f32⟩
  | 43 => ⟨S8x4096, .f32⟩
  | 44 => ⟨S8x4096, .f32⟩
  | 45 => ⟨S_, .f32⟩
  | 46 => ⟨S8x4096, .f32⟩
  | 47 => ⟨S8x4096, .i1⟩
  | 48 => ⟨S_, .f32⟩
  | 49 => ⟨S8x4096, .f32⟩
  | 50 => ⟨S8x4096, .i1⟩
  | 51 => ⟨S_, .f32⟩
  | 52 => ⟨S8x4096, .f32⟩
  | 53 => ⟨S_, .f32⟩
  | 54 => ⟨S8x4096, .f32⟩
  | 55 => ⟨S_, .f32⟩
  | 56 => ⟨S8x4096, .f32⟩
  | 57 => ⟨S8x4096, .f32⟩
  | 58 => ⟨S8x4096, .f32⟩
  | 59 => ⟨S8x4096x1, .f32⟩
  | 60 => ⟨S8x4096x4096, .f32⟩
  | 61 => ⟨S8x4096x4096, .f32⟩
  | 62 => ⟨S8x4096x4096, .f32⟩
  | 63 => ⟨S_, .f32⟩
  | 64 => ⟨S8x4096, .f32⟩
  | 65 => ⟨S8x4096x1, .f32⟩
  | 66 => ⟨S8x4096x4096, .f32⟩
  | 67 => ⟨S8x4096x4096, .f32⟩
  | 68 => ⟨S8x4096x1, .f32⟩
  | 69 => ⟨S_, .f32⟩
  | 70 => ⟨S8x4096x1, .f32⟩
  | 71 => ⟨S8x4096x1, .f32⟩
  | 72 => ⟨S8x4096x4096, .bf16⟩
  | 73 => ⟨S8x4096x4096, .f32⟩
  | 74 => ⟨S4096x1024, .bf16⟩
  | 75 => ⟨S4096x1024, .f32⟩
  | 76 => ⟨S4096x8x128, .f32⟩
  | 77 => ⟨S8x128x4096, .f32⟩
  | 78 => ⟨S4096x8x128, .f32⟩
  | 79 => ⟨S4096x1024, .f32⟩
  | 80 => ⟨S4096x1024, .bf16⟩
  | 81 => ⟨S4096x1024, .f32⟩
  | 82 => ⟨S4096x8x128, .f32⟩
  | 83 => ⟨S8x128x4096, .f32⟩
  | 84 => ⟨S8x4096x4096, .f32⟩
  | 85 => ⟨S8x128x4096, .f32⟩
  | 86 => ⟨S4096x8x128, .f32⟩
  | 87 => ⟨S4096x1024, .f32⟩
  | 88 => ⟨S4096x1024, .bf16⟩
  | 89 => ⟨S4096x1024, .f32⟩
  | 90 => ⟨S8x4096x4096, .bf16⟩
  | 91 => ⟨S8x4096x4096, .f32⟩
  | 92 => ⟨S8x4096x4096, .f32⟩
  | 93 => ⟨S8x4096x4096, .f32⟩
  | 94 => ⟨S8x4096x4096, .f32⟩
  | 95 => ⟨S_, .f32⟩
  | 96 => ⟨S8x4096, .f32⟩
  | 97 => ⟨S8x4096x1, .f32⟩
  | 98 => ⟨S8x4096x1, .f32⟩
  | 99 => ⟨S8x4096x4096, .f32⟩
  | 100 => ⟨S8x4096x4096, .f32⟩
  | 101 => ⟨S_, .f32⟩
  | 102 => ⟨S8x4096, .f32⟩
  | 103 => ⟨S8x4096x4096, .f32⟩
  | 104 => ⟨S8x4096x4096, .f32⟩
  | 105 => ⟨S8x4096x4096, .f32⟩
  | 106 => ⟨S_, .f32⟩
  | 107 => ⟨S8x4096x4096, .f32⟩
  | 108 => ⟨S8x4096x4096, .f32⟩
  | 109 => ⟨S_, .f32⟩
  | 110 => ⟨S8x4096, .f32⟩
  | 111 => ⟨S8x4096x1, .f32⟩
  | 112 => ⟨S8x4096x4096, .f32⟩
  | 113 => ⟨S_, .f32⟩
  | 114 => ⟨S8x4096, .f32⟩
  | 115 => ⟨S8x1x4096, .f32⟩
  | 116 => ⟨S_, .f32⟩
  | 117 => ⟨S8x4096, .f32⟩
  | 118 => ⟨S_, .f32⟩
  | 119 => ⟨S8x4096, .f32⟩
  | 120 => ⟨S8x4096, .f32⟩
  | 121 => ⟨S_, .f32⟩
  | 122 => ⟨S8x4096x4096, .f32⟩
  | 123 => ⟨S8x4096x4096, .f32⟩
  | 124 => ⟨S8x4096x128, .f32⟩
  | 125 => ⟨S4096x8x128, .f32⟩
  | 126 => ⟨S8x4096x128, .f32⟩
  | 127 => ⟨S4096x8x128, .f32⟩
  | _ => ⟨S4096x1024, .f32⟩

abbrev hbmTy0_1 (i : Nat) : BufTy := match i % 128 with
  | 0 => ⟨S4096x1024, .f32⟩
  | 1 => ⟨S4096x1024, .bf16⟩
  | 2 => ⟨S4096x1024, .f32⟩
  | 3 => ⟨S4096x1024, .f32⟩
  | 4 => ⟨S4096x1024, .bf16⟩
  | 5 => ⟨S4096x1024, .f32⟩
  | 6 => ⟨S4096x1024, .bf16⟩
  | 7 => ⟨S4096x1024, .bf16⟩
  | 8 => ⟨S4096x1024, .bf16⟩
  | 9 => ⟨S8x4096x1, .f32⟩
  | 10 => ⟨S8x4096x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_12 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_call1_cst : Ref sig .tc := ⟨.hbm, 106, rfl⟩
abbrev main_call1_v0 : Ref sig .tc := ⟨.hbm, 107, rfl⟩
abbrev main_v82 : Ref sig .tc := ⟨.hbm, 108, rfl⟩
abbrev main_cst_13 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_14 : Ref sig .tc := ⟨.hbm, 113, rfl⟩
abbrev main_v86 : Ref sig .tc := ⟨.hbm, 114, rfl⟩
abbrev main_v87 : Ref sig .tc := ⟨.hbm, 115, rfl⟩
abbrev main_cst_15 : Ref sig .tc := ⟨.hbm, 116, rfl⟩
abbrev main_v88 : Ref sig .tc := ⟨.hbm, 117, rfl⟩
abbrev main_cst_16 : Ref sig .tc := ⟨.hbm, 118, rfl⟩
abbrev main_v89 : Ref sig .tc := ⟨.hbm, 119, rfl⟩
abbrev main_v90 : Ref sig .tc := ⟨.hbm, 120, rfl⟩
abbrev main_cst_17 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩

abbrev nD : Nat := 1
abbrev τ : Topo := Topo.v7x

variable {F : FTy → Type} [FloatOps F]
-- ==== LruKernel.lean ====
abbrev S4096x1024 : Shape := ⟨2, ![4096, 1024]⟩
abbrev S4x1024 : Shape := ⟨2, ![4, 1024]⟩
abbrev S1x1024 : Shape := ⟨2, ![1, 1024]⟩
abbrev S8x128x128 : Shape := ⟨3, ![8, 128, 128]⟩
abbrev S_ : Shape := ⟨0, ![]⟩
abbrev S4099x1024 : Shape := ⟨2, ![4099, 1024]⟩
abbrev S4096x8x128 : Shape := ⟨3, ![4096, 8, 128]⟩
abbrev S8x128x4096 : Shape := ⟨3, ![8, 128, 4096]⟩
abbrev S2048x1024 : Shape := ⟨2, ![2048, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S2x1024 : Shape := ⟨2, ![2, 1024]⟩
abbrev S0x1024 : Shape := ⟨2, ![0, 1024]⟩
abbrev S3x1024 : Shape := ⟨2, ![3, 1024]⟩
abbrev S7x1024 : Shape := ⟨2, ![7, 1024]⟩
abbrev S15x1024 : Shape := ⟨2, ![15, 1024]⟩
abbrev S31x1024 : Shape := ⟨2, ![31, 1024]⟩
abbrev S63x1024 : Shape := ⟨2, ![63, 1024]⟩
abbrev S127x1024 : Shape := ⟨2, ![127, 1024]⟩
abbrev S255x1024 : Shape := ⟨2, ![255, 1024]⟩
abbrev S511x1024 : Shape := ⟨2, ![511, 1024]⟩
abbrev S1023x1024 : Shape := ⟨2, ![1023, 1024]⟩
abbrev S2047x1024 : Shape := ⟨2, ![2047, 1024]⟩
abbrev S256x128 : Shape := ⟨2, ![256, 128]⟩
abbrev S1x128x128 : Shape := ⟨3, ![1, 128, 128]⟩
abbrev S128x128 : Shape := ⟨2, ![128, 128]⟩
abbrev S32x8x1024 : Shape := ⟨3, ![32, 8, 1024]⟩
abbrev S248x1024 : Shape := ⟨2, ![248, 1024]⟩
abbrev S1024 : Shape := ⟨1, ![1024]⟩

abbrev nBuf : Space → Nat
  | .hbm => 433
  | .vmem => 25
  | .smem => 0
  | _ => 0

abbrev hbmTy0_0 (i : Nat) : BufTy := match i % 128 with
  | 0 => ⟨S4096x1024, .f32⟩
  | 1 => ⟨S4x1024, .f32⟩
  | 2 => ⟨S1x1024, .f32⟩
  | 3 => ⟨S8x128x128, .f32⟩
  | 4 => ⟨S1x1024, .f32⟩
  | 5 => ⟨S8x128x128, .f32⟩
  | 6 => ⟨S1x1024, .f32⟩
  | 7 => ⟨S1x1024, .f32⟩
  | 8 => ⟨S4096x1024, .f32⟩
  | 9 => ⟨S_, .i32⟩
  | 10 => ⟨S_, .f32⟩
  | 11 => ⟨S4099x1024, .f32⟩
  | 12 => ⟨S4096x1024, .f32⟩
  | 13 => ⟨S1x1024, .f32⟩
  | 14 => ⟨S4096x1024, .f32⟩
  | 15 => ⟨S4096x1024, .f32⟩
  | 16 => ⟨S4096x1024, .f32⟩
  | 17 => ⟨S1x1024, .f32⟩
  | 18 => ⟨S4096x1024, .f32⟩
  | 19 => ⟨S4096x1024, .f32⟩
  | 20 => ⟨S4096x1024, .f32⟩
  | 21 => ⟨S4096x1024, .f32⟩
  | 22 => ⟨S1x1024, .f32⟩
  | 23 => ⟨S4096x1024, .f32⟩
  | 24 => ⟨S4096x1024, .f32⟩
  | 25 => ⟨S4096x1024, .f32⟩
  | 26 => ⟨S4096x1024, .f32⟩
  | 27 => ⟨S1x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x8x128, .f32⟩
  | 34 => ⟨S8x128x4096, .f32⟩
  | 35 => ⟨S4096x8x128, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S8x128x4096, .f32⟩
  | 48 => ⟨S4096x8x128, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S1x1024, .f32⟩
  | 69 => ⟨S1x1024, .i1⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S1x1024, .f32⟩
  | 77 => ⟨S1x1024, .f32⟩
  | 78 => ⟨S4096x1024, .f32⟩
  | 79 => ⟨S4096x1024, .f32⟩
  | 80 => ⟨S_, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S2048x1024, .f32⟩
  | 92 => ⟨S2048x1024, .f32⟩
  | 93 => ⟨S2048x1024, .f32⟩
  | 94 => ⟨S2048x1024, .f32⟩
  | 95 => ⟨S2048x1024, .f32⟩
  | 96 => ⟨S2048x1024, .f32⟩
  | 97 => ⟨S2048x1024, .f32⟩
  | 98 => ⟨S1024x1024, .f32⟩
  | 99 => ⟨S1024x1024, .f32⟩
  | 100 => ⟨S1024x1024, .f32⟩
  | 101 => ⟨S1024x1024, .f32⟩
  | 102 => ⟨S1024x1024, .f32⟩
  | 103 => ⟨S1024x1024, .f32⟩
  | 104 => ⟨S1024x1024, .f32⟩
  | 105 => ⟨S512x1024, .f32⟩
  | 106 => ⟨S512x1024, .f32⟩
  | 107 => ⟨S512x1024, .f32⟩
  | 108 => ⟨S512x1024, .f32⟩
  | 109 => ⟨S512x1024, .f32⟩
  | 110 => ⟨S512x1024, .f32⟩
  | 111 => ⟨S512x1024, .f32⟩
  | 112 => ⟨S256x1024, .f32⟩
  | 113 => ⟨S256x1024, .f32⟩
  | 114 => ⟨S256x1024, .f32⟩
  | 115 => ⟨S256x1024, .f32⟩
  | 116 => ⟨S256x1024, .f32⟩
  | 117 => ⟨S256x1024, .f32⟩
  | 118 => ⟨S256x1024, .f32⟩
  | 119 => ⟨S128x1024, .f32⟩
  | 120 => ⟨S128x1024, .f32⟩
  | 121 => ⟨S128x1024, .f32⟩
  | 122 => ⟨S128x1024, .f32⟩
  | 123 => ⟨S128x1024, .f32⟩
  | 124 => ⟨S128x1024, .f32⟩
  | 125 => ⟨S128x1024, .f32⟩
  | 126 => ⟨S64x1024, .f32⟩
  | 127 => ⟨S64x1024, .f32⟩
  | _ => ⟨S4096x1024, .f32⟩

abbrev hbmTy0_1 (i : Nat) : BufTy := match i % 128 with
  | 0 => ⟨S64x1024, .f32⟩
  | 1 => ⟨S64x1024, .f32⟩
  | 2 => ⟨S64x1024, .f32⟩
  | 3 => ⟨S64x1024, .f32⟩
  | 4 => ⟨S64x1024, .f32⟩
  | 5 => ⟨S32x1024, .f32⟩
  | 6 => ⟨S32x1024, .f32⟩
  | 7 => ⟨S32x1024, .f32⟩
  | 8 => ⟨S32x1024, .f32⟩
  | 9 => ⟨S32x1024, .f32⟩
  | 10 => ⟨S32x1024, .f32⟩
  | 11 => ⟨S32x1024, .f32⟩
  | 12 => ⟨S16x1024, .f32⟩
  | 13 => ⟨S16x1024, .f32⟩
  | 14 => ⟨S16x1024, .f32⟩
  | 15 => ⟨S16x1024, .f32⟩
  | 16 => ⟨S16x1024, .f32⟩
  | 17 => ⟨S16x1024, .f32⟩
  | 18 => ⟨S16x1024, .f32⟩
  | 19 => ⟨S8x1024, .f32⟩
  | 20 => ⟨S8x1024, .f32⟩
  | 21 => ⟨S8x1024, .f32⟩
  | 22 => ⟨S8x1024, .f32⟩
  | 23 => ⟨S8x1024, .f32⟩
  | 24 => ⟨S8x1024, .f32⟩
  | 25 => ⟨S8x1024, .f32⟩
  | 26 => ⟨S4x1024, .f32⟩
  | 27 => ⟨S4x1024, .f32⟩
  | 28 => ⟨S4x1024, .f32⟩
  | 29 => ⟨S4x1024, .f32⟩
  | 30 => ⟨S4x1024, .f32⟩
  | 31 => ⟨S4x1024, .f32⟩
  | 32 => ⟨S4x1024, .f32⟩
  | 33 => ⟨S2x1024, .f32⟩
  | 34 => ⟨S2x1024, .f32⟩
  | 35 => ⟨S2x1024, .f32⟩
  | 36 => ⟨S2x1024, .f32⟩
  | 37 => ⟨S2x1024, .f32⟩
  | 38 => ⟨S2x1024, .f32⟩
  | 39 => ⟨S2x1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1x1024, .f32⟩
  | 47 => ⟨S0x1024, .f32⟩
  | 48 => ⟨S0x1024, .f32⟩
  | 49 => ⟨S0x1024, .f32⟩
  | 50 => ⟨S0x1024, .f32⟩
  | 51 => ⟨S0x1024, .f32⟩
  | 52 => ⟨S0x1024, .f32⟩
  | 53 => ⟨S0x1024, .f32⟩
  | 54 => ⟨S1x1024, .f32⟩
  | 55 => ⟨S1x1024, .f32⟩
  | 56 => ⟨S1x1024, .f32⟩
  | 57 => ⟨S1x1024, .f32⟩
  | 58 => ⟨S_, .f32⟩
  | 59 => ⟨S2x1024, .f32⟩
  | 60 => ⟨S_, .f32⟩
  | 61 => ⟨S2x1024, .f32⟩
  | 62 => ⟨S2x1024, .f32⟩
  | 63 => ⟨S_, .f32⟩
  | 64 => ⟨S2x1024, .f32⟩
  | 65 => ⟨S_, .f32⟩
  | 66 => ⟨S2x1024, .f32⟩
  | 67 => ⟨S2x1024, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S2x1024, .f32⟩
  | 77 => ⟨S1x1024, .f32⟩
  | 78 => ⟨S2x1024, .f32⟩
  | 79 => ⟨S_, .f32⟩
  | 80 => ⟨S4x1024, .f32⟩
  | 81 => ⟨S_, .f32⟩
  | 82 => ⟨S4x1024, .f32⟩
  | 83 => ⟨S4x1024, .f32⟩
  | 84 => ⟨S_, .f32⟩
  | 85 => ⟨S4x1024, .f32⟩
  | 86 => ⟨S_, .f32⟩
  | 87 => ⟨S4x1024, .f32⟩
  | 88 => ⟨S4x1024, .f32⟩
  | 89 => ⟨S3x1024, .f32⟩
  | 90 => ⟨S3x1024, .f32⟩
  | 91 => ⟨S3x1024, .f32⟩
  | 92 => ⟨S3x1024, .f32⟩
  | 93 => ⟨S3x1024, .f32⟩
  | 94 => ⟨S3x1024, .f32⟩
  | 95 => ⟨S3x1024, .f32⟩
  | 96 => ⟨S1x1024, .f32⟩
  | 97 => ⟨S4x1024, .f32⟩
  | 98 => ⟨S1x1024, .f32⟩
  | 99 => ⟨S4x1024, .f32⟩
  | 100 => ⟨S_, .f32⟩
  | 101 => ⟨S8x1024, .f32⟩
  | 102 => ⟨S_, .f32⟩
  | 103 => ⟨S8x1024, .f32⟩
  | 104 => ⟨S8x1024, .f32⟩
  | 105 => ⟨S_, .f32⟩
  | 106 => ⟨S8x1024, .f32⟩
  | 107 => ⟨S_, .f32⟩
  | 108 => ⟨S8x1024, .f32⟩
  | 109 => ⟨S8x1024, .f32⟩
  | 110 => ⟨S7x1024, .f32⟩
  | 111 => ⟨S7x1024, .f32⟩
  | 112 => ⟨S7x1024, .f32⟩
  | 113 => ⟨S7x1024, .f32⟩
  | 114 => ⟨S7x1024, .f32⟩
  | 115 => ⟨S7x1024, .f32⟩
  | 116 => ⟨S7x1024, .f32⟩
  | 117 => ⟨S1x1024, .f32⟩
  | 118 => ⟨S8x1024, .f32⟩
  | 119 => ⟨S1x1024, .f32⟩
  | 120 => ⟨S8x1024, .f32⟩
  | 121 => ⟨S_, .f32⟩
  | 122 => ⟨S16x1024, .f32⟩
  | 123 => ⟨S_, .f32⟩
  | 124 => ⟨S16x1024, .f32⟩
  | 125 => ⟨S16x1024, .f32⟩
  | 126 => ⟨S_, .f32⟩
  | 127 => ⟨S16x1024, .f32⟩
  | _ => ⟨S4096x1024, .f32⟩

abbrev hbmTy0_2 (i : Nat) : BufTy := match i % 128 with
  | 0 => ⟨S_, .f32⟩
  | 1 => ⟨S16x1024, .f32⟩
  | 2 => ⟨S16x1024, .f32⟩
  | 3 => ⟨S15x1024, .f32⟩
  | 4 => ⟨S15x1024, .f32⟩
  | 5 => ⟨S15x1024, .f32⟩
  | 6 => ⟨S15x1024, .f32⟩
  | 7 => ⟨S15x1024, .f32⟩
  | 8 => ⟨S15x1024, .f32⟩
  | 9 => ⟨S15x1024, .f32⟩
  | 10 => ⟨S1x1024, .f32⟩
  | 11 => ⟨S16x1024, .f32⟩
  | 12 => ⟨S1x1024, .f32⟩
  | 13 => ⟨S16x1024, .f32⟩
  | 14 => ⟨S_, .f32⟩
  | 15 => ⟨S32x1024, .f32⟩
  | 16 => ⟨S_, .f32⟩
  | 17 => ⟨S32x1024, .f32⟩
  | 18 => ⟨S32x1024, .f32⟩
  | 19 => ⟨S_, .f32⟩
  | 20 => ⟨S32x1024, .f32⟩
  | 21 => ⟨S_, .f32⟩
  | 22 => ⟨S32x1024, .f32⟩
  | 23 => ⟨S32x1024, .f32⟩
  | 24 => ⟨S31x1024, .f32⟩
  | 25 => ⟨S31x1024, .f32⟩
  | 26 => ⟨S31x1024, .f32⟩
  | 27 => ⟨S31x1024, .f32⟩
  | 28 => ⟨S31x1024, .f32⟩
  | 29 => ⟨S31x1024, .f32⟩
  | 30 => ⟨S31x1024, .f32⟩
  | 31 => ⟨S1x1024, .f32⟩
  | 32 => ⟨S32x1024, .f32⟩
  | 33 => ⟨S1x1024, .f32⟩
  | 34 => ⟨S32x1024, .f32⟩
  | 35 => ⟨S_, .f32⟩
  | 36 => ⟨S64x1024, .f32⟩
  | 37 => ⟨S_, .f32⟩
  | 38 => ⟨S64x1024, .f32⟩
  | 39 => ⟨S64x1024, .f32⟩
  | 40 => ⟨S_, .f32⟩
  | 41 => ⟨S64x1024, .f32⟩
  | 42 => ⟨S_, .f32⟩
  | 43 => ⟨S64x1024, .f32⟩
  | 44 => ⟨S64x1024, .f32⟩
  | 45 => ⟨S63x1024, .f32⟩
  | 46 => ⟨S63x1024, .f32⟩
  | 47 => ⟨S63x1024, .f32⟩
  | 48 => ⟨S63x1024, .f32⟩
  | 49 => ⟨S63x1024, .f32⟩
  | 50 => ⟨S63x1024, .f32⟩
  | 51 => ⟨S63x1024, .f32⟩
  | 52 => ⟨S1x1024, .f32⟩
  | 53 => ⟨S64x1024, .f32⟩
  | 54 => ⟨S1x1024, .f32⟩
  | 55 => ⟨S64x1024, .f32⟩
  | 56 => ⟨S_, .f32⟩
  | 57 => ⟨S128x1024, .f32⟩
  | 58 => ⟨S_, .f32⟩
  | 59 => ⟨S128x1024, .f32⟩
  | 60 => ⟨S128x1024, .f32⟩
  | 61 => ⟨S_, .f32⟩
  | 62 => ⟨S128x1024, .f32⟩
  | 63 => ⟨S_, .f32⟩
  | 64 => ⟨S128x1024, .f32⟩
  | 65 => ⟨S128x1024, .f32⟩
  | 66 => ⟨S127x1024, .f32⟩
  | 67 => ⟨S127x1024, .f32⟩
  | 68 => ⟨S127x1024, .f32⟩
  | 69 => ⟨S127x1024, .f32⟩
  | 70 => ⟨S127x1024, .f32⟩
  | 71 => ⟨S127x1024, .f32⟩
  | 72 => ⟨S127x1024, .f32⟩
  | 73 => ⟨S1x1024, .f32⟩
  | 74 => ⟨S128x1024, .f32⟩
  | 75 => ⟨S1x1024, .f32⟩
  | 76 => ⟨S128x1024, .f32⟩
  | 77 => ⟨S_, .f32⟩
  | 78 => ⟨S256x1024, .f32⟩
  | 79 => ⟨S_, .f32⟩
  | 80 => ⟨S256x1024, .f32⟩
  | 81 => ⟨S256x1024, .f32⟩
  | 82 => ⟨S_, .f32⟩
  | 83 => ⟨S256x1024, .f32⟩
  | 84 => ⟨S_, .f32⟩
  | 85 => ⟨S256x1024, .f32⟩
  | 86 => ⟨S256x1024, .f32⟩
  | 87 => ⟨S255x1024, .f32⟩
  | 88 => ⟨S255x1024, .f32⟩
  | 89 => ⟨S255x1024, .f32⟩
  | 90 => ⟨S255x1024, .f32⟩
  | 91 => ⟨S255x1024, .f32⟩
  | 92 => ⟨S255x1024, .f32⟩
  | 93 => ⟨S255x1024, .f32⟩
  | 94 => ⟨S1x1024, .f32⟩
  | 95 => ⟨S256x1024, .f32⟩
  | 96 => ⟨S1x1024, .f32⟩
  | 97 => ⟨S256x1024, .f32⟩
  | 98 => ⟨S_, .f32⟩
  | 99 => ⟨S512x1024, .f32⟩
  | 100 => ⟨S_, .f32⟩
  | 101 => ⟨S512x1024, .f32⟩
  | 102 => ⟨S512x1024, .f32⟩
  | 103 => ⟨S_, .f32⟩
  | 104 => ⟨S512x1024, .f32⟩
  | 105 => ⟨S_, .f32⟩
  | 106 => ⟨S512x1024, .f32⟩
  | 107 => ⟨S512x1024, .f32⟩
  | 108 => ⟨S511x1024, .f32⟩
  | 109 => ⟨S511x1024, .f32⟩
  | 110 => ⟨S511x1024, .f32⟩
  | 111 => ⟨S511x1024, .f32⟩
  | 112 => ⟨S511x1024, .f32⟩
  | 113 => ⟨S511x1024, .f32⟩
  | 114 => ⟨S511x1024, .f32⟩
  | 115 => ⟨S1x1024, .f32⟩
  | 116 => ⟨S512x1024, .f32⟩
  | 117 => ⟨S1x1024, .f32⟩
  | 118 => ⟨S512x1024, .f32⟩
  | 119 => ⟨S_, .f32⟩
  | 120 => ⟨S1024x1024, .f32⟩
  | 121 => ⟨S_, .f32⟩
  | 122 => ⟨S1024x1024, .f32⟩
  | 123 => ⟨S1024x1024, .f32⟩
  | 124 => ⟨S_, .f32⟩
  | 125 => ⟨S1024x1024, .f32⟩
  | 126 => ⟨S_, .f32⟩
  | 127 => ⟨S1024x1024, .f32⟩
  | _ => ⟨S4096x1024, .f32⟩

abbrev hbmTy0_3 (i : Nat) : BufTy := match i % 128 with
  | 0 => ⟨S1024x1024, .f32⟩
  | 1 => ⟨S1023x1024, .f32⟩
  | 2 => ⟨S1023x1024, .f32⟩
  | 3 => ⟨S1023x1024, .f32⟩
  | 4 => ⟨S1023x1024, .f32⟩
  | 5 => ⟨S1023x1024, .f32⟩
  | 6 => ⟨S1023x1024, .f32⟩
  | 7 => ⟨S1023x1024, .f32⟩
  | 8 => ⟨S1x1024, .f32⟩
  | 9 => ⟨S1024x1024, .f32⟩
  | 10 => ⟨S1x1024, .f32⟩
  | 11 => ⟨S1024x1024, .f32⟩
  | 12 => ⟨S_, .f32⟩
  | 13 => ⟨S2048x1024, .f32⟩
  | 14 => ⟨S_, .f32⟩
  | 15 => ⟨S2048x1024, .f32⟩
  | 16 => ⟨S2048x1024, .f32⟩
  | 17 => ⟨S_, .f32⟩
  | 18 => ⟨S2048x1024, .f32⟩
  | 19 => ⟨S_, .f32⟩
  | 20 => ⟨S2048x1024, .f32⟩
  | 21 => ⟨S2048x1024, .f32⟩
  | 22 => ⟨S2047x1024, .f32⟩
  | 23 => ⟨S2047x1024, .f32⟩
  | 24 => ⟨S2047x1024, .f32⟩
  | 25 => ⟨S2047x1024, .f32⟩
  | 26 => ⟨S2047x1024, .f32⟩
  | 27 => ⟨S2047x1024, .f32⟩
  | 28 => ⟨S2047x1024, .f32⟩
  | 29 => ⟨S1x1024, .f32⟩
  | 30 => ⟨S2048x1024, .f32⟩
  | 31 => ⟨S1x1024, .f32⟩
  | 32 => ⟨S2048x1024, .f32⟩
  | 33 => ⟨S_, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096x1024, .f32⟩
  | 40 => ⟨S_, .f32⟩
  | 41 => ⟨S4096x1024, .f32⟩
  | 42 => ⟨S4096x1024, .f32⟩
  | 43 => ⟨S8x128x128, .bf16⟩
  | 44 => ⟨S8x128x128, .bf16⟩
  | 45 => ⟨S4096x1024, .bf16⟩
  | 46 => ⟨S8x128x128, .f32⟩
  | 47 => ⟨S8x128x128, .f32⟩
  | 48 => ⟨S8x1024, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S4x1024, .f32⟩
  | .local _ .vmem, ⟨11, _⟩ => ⟨S8x128x128, .bf16⟩
  | .local _ .vmem, ⟨12, _⟩ => ⟨S1x1024, .f32⟩
  | .local _ .vmem, ⟨13, _⟩ => ⟨S8x128x128, .bf16⟩
  | .local _ .vmem, ⟨14, _⟩ => ⟨S1x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S8x128x128, .f32⟩
  | .local _ .vmem, ⟨19, _⟩ => ⟨S8x128x128, .f32⟩
  | .local _ .vmem, ⟨20, _⟩ => ⟨S8x1024, .f32⟩
  | .local _ .vmem, ⟨21, _⟩ => ⟨S1x1024, .f32⟩
  | .local _ .vmem, ⟨22, _⟩ => ⟨S8x1024, .f32⟩
  | .local _ .vmem, ⟨23, _⟩ => ⟨S8x1024, .f32⟩
  | .local _ .vmem, ⟨24, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_cst_0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_1 : Ref sig .tc := ⟨.hbm, 54, rfl⟩
abbrev main_v41 : Ref sig .tc := ⟨.hbm, 55, rfl⟩
abbrev main_v42 : Ref sig .tc := ⟨.hbm, 56, rfl⟩
abbrev main_cst_2 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_4 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_5 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_6 : Ref sig .tc := ⟨.hbm, 186, rfl⟩
abbrev main_v155 : Ref sig .tc := ⟨.hbm, 187, rfl⟩
abbrev main_cst_7 : Ref sig .tc := ⟨.hbm, 188, rfl⟩
abbrev main_v156 : Ref sig .tc := ⟨.hbm, 189, rfl⟩
abbrev main_v157 : Ref sig .tc := ⟨.hbm, 190, rfl⟩
abbrev main_cst_8 : Ref sig .tc := ⟨.hbm, 191, rfl⟩
abbrev main_v158 : Ref sig .tc := ⟨.hbm, 192, rfl⟩
abbrev main_cst_9 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_cst_10 : Ref sig .tc := ⟨.hbm, 207, rfl⟩
abbrev main_v172 : Ref sig .tc := ⟨.hbm, 208, rfl⟩
abbrev main_cst_11 : Ref sig .tc := ⟨.hbm, 209, rfl⟩
abbrev main_v173 : Ref sig .tc := ⟨.hbm, 210, rfl⟩
abbrev main_v174 : Ref sig .tc := ⟨.hbm, 211, rfl⟩
abbrev main_cst_12 : Ref sig .tc := ⟨.hbm, 212, rfl⟩
abbrev main_v175 : Ref sig .tc := ⟨.hbm, 213, rfl⟩
abbrev main_cst_13 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_cst_14 : Ref sig .tc := ⟨.hbm, 228, rfl⟩
abbrev main_v189 : Ref sig .tc := ⟨.hbm, 229, rfl⟩
abbrev main_cst_15 : Ref sig .tc := ⟨.hbm, 230, rfl⟩
abbrev main_v190 : Ref sig .tc := ⟨.hbm, 231, rfl⟩
abbrev main_v191 : Ref sig .tc := ⟨.hbm, 232, rfl⟩
abbrev main_cst_16 : Ref sig .tc := ⟨.hbm, 233, rfl⟩
abbrev main_v192 : Ref sig .tc := ⟨.hbm, 234, rfl⟩
abbrev main_cst_17 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_cst_18 : Ref sig .tc := ⟨.hbm, 249, rfl⟩
abbrev main_v206 : Ref sig .tc := ⟨.hbm, 250, rfl⟩
abbrev main_cst_19 : Ref sig .tc := ⟨.hbm, 251, rfl⟩
abbrev main_v207 : Ref sig .tc := ⟨.hbm, 252, rfl⟩
abbrev main_v208 : Ref sig .tc := ⟨.hbm, 253, rfl⟩
abbrev main_cst_20 : Ref sig .tc := ⟨.hbm, 254, rfl⟩
abbrev main_v209 : Ref sig .tc := ⟨.hbm, 255, rfl⟩
abbrev main_cst_21 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_cst_22 : Ref sig .tc := ⟨.hbm, 270, rfl⟩
abbrev main_v223 : Ref sig .tc := ⟨.hbm, 271, rfl⟩
abbrev main_cst_23 : Ref sig .tc := ⟨.hbm, 272, rfl⟩
abbrev main_v224 : Ref sig .tc := ⟨.hbm, 273, rfl⟩
abbrev main_v225 : Ref sig .tc := ⟨.hbm, 274, rfl⟩
abbrev main_cst_24 : Ref sig .tc := ⟨.hbm, 275, rfl⟩
abbrev main_v226 : Ref sig .tc := ⟨.hbm, 276, rfl⟩
abbrev main_cst_25 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_cst_26 : Ref sig .tc := ⟨.hbm, 291, rfl⟩
abbrev main_v240 : Ref sig .tc := ⟨.hbm, 292, rfl⟩
abbrev main_cst_27 : Ref sig .tc := ⟨.hbm, 293, rfl⟩
abbrev main_v241 : Ref sig .tc := ⟨.hbm, 294, rfl⟩
abbrev main_v242 : Ref sig .tc := ⟨.hbm, 295, rfl⟩
abbrev main_cst_28 : Ref sig .tc := ⟨.hbm, 296, rfl⟩
abbrev main_v243 : Ref sig .tc := ⟨.hbm, 297, rfl⟩
abbrev main_cst_29 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_cst_30 : Ref sig .tc := ⟨.hbm, 312, rfl⟩
abbrev main_v257 : Ref sig .tc := ⟨.hbm, 313, rfl⟩
abbrev main_cst_31 : Ref sig .tc := ⟨.hbm, 314, rfl⟩
abbrev main_v258 : Ref sig .tc := ⟨.hbm, 315, rfl⟩
abbrev main_v259 : Ref sig .tc := ⟨.hbm, 316, rfl⟩
abbrev main_cst_32 : Ref sig .tc := ⟨.hbm, 317, rfl⟩
abbrev main_v260 : Ref sig .tc := ⟨.hbm, 318, rfl⟩
abbrev main_cst_33 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_cst_34 : Ref sig .tc := ⟨.hbm, 333, rfl⟩
abbrev main_v274 : Ref sig .tc := ⟨.hbm, 334, rfl⟩
abbrev main_cst_35 : Ref sig .tc := ⟨.hbm, 335, rfl⟩
abbrev main_v275 : Ref sig .tc := ⟨.hbm, 336, rfl⟩
abbrev main_v276 : Ref sig .tc := ⟨.hbm, 337, rfl⟩
abbrev main_cst_36 : Ref sig .tc := ⟨.hbm, 338, rfl⟩
abbrev main_v277 : Ref sig .tc := ⟨.hbm, 339, rfl⟩
abbrev main_cst_37 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_cst_38 : Ref sig .tc := ⟨.hbm, 354, rfl⟩
abbrev main_v291 : Ref sig .tc := ⟨.hbm, 355, rfl⟩
abbrev main_cst_39 : Ref sig .tc := ⟨.hbm, 356, rfl⟩
abbrev main_v292 : Ref sig .tc := ⟨.hbm, 357, rfl⟩
abbrev main_v293 : Ref sig .tc := ⟨.hbm, 358, rfl⟩
abbrev main_cst_40 : Ref sig .tc := ⟨.hbm, 359, rfl⟩
abbrev main_v294 : Ref sig .tc := ⟨.hbm, 360, rfl⟩
abbrev main_cst_41 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_v298 : Ref sig .tc := ⟨.hbm, 365, rfl⟩
abbrev main_v299 : Ref sig .tc := ⟨.hbm, 366, rfl⟩
abbrev main_v300 : Ref sig .tc := ⟨.hbm, 367, rfl⟩
abbrev main_v301 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_cst_42 : Ref sig .tc := ⟨.hbm, 375, rfl⟩
abbrev main_v308 : Ref sig .tc := ⟨.hbm, 376, rfl⟩
abbrev main_cst_43 : Ref sig .tc := ⟨.hbm, 377, rfl⟩
abbrev main_v309 : Ref sig .tc := ⟨.hbm, 378, rfl⟩
abbrev main_v310 : Ref sig .tc := ⟨.hbm, 379, rfl⟩
abbrev main_cst_44 : Ref sig .tc := ⟨.hbm, 380, rfl⟩
abbrev main_v311 : Ref sig .tc := ⟨.hbm, 381, rfl⟩
abbrev main_cst_45 : Ref sig .tc := ⟨.hbm, 382, rfl⟩
abbrev main_v312 : Ref sig .tc := ⟨.hbm, 383, rfl⟩
abbrev main_v313 : Ref sig .tc := ⟨.hbm, 384, rfl⟩
abbrev main_v314 : Ref sig .tc := ⟨.hbm, 385, rfl⟩
abbrev main_v315 : Ref sig .tc := ⟨.hbm, 386, rfl⟩
abbrev main_v316 : Ref sig .tc := ⟨.hbm, 387, rfl⟩
abbrev main_v317 : Ref sig .tc := ⟨.hbm, 388, rfl⟩
abbrev main_v318 : Ref sig .tc := ⟨.hbm, 389, rfl⟩
abbrev main_v319 : Ref sig .tc := ⟨.hbm, 390, rfl⟩
abbrev main_v320 : Ref sig .tc := ⟨.hbm, 391, rfl⟩
abbrev main_v321 : Ref sig .tc := ⟨.hbm, 392, rfl⟩
abbrev main_v322 : Ref sig .tc := ⟨.hbm, 393, rfl⟩
abbrev main_v323 : Ref sig .tc := ⟨.hbm, 394, rfl⟩
abbrev main_v324 : Ref sig .tc := ⟨.hbm, 395, rfl⟩
abbrev main_cst_46 : Ref sig .tc := ⟨.hbm, 396, rfl⟩
abbrev main_v325 : Ref sig .tc := ⟨.hbm, 397, rfl⟩
abbrev main_cst_47 : Ref sig .tc := ⟨.hbm, 398, rfl⟩
abbrev main_v326 : Ref sig .tc := ⟨.hbm, 399, rfl⟩
abbrev main_v327 : Ref sig .tc := ⟨.hbm, 400, rfl⟩
abbrev main_cst_48 : Ref sig .tc := ⟨.hbm, 401, rfl⟩
abbrev main_v328 : Ref sig .tc := ⟨.hbm, 402, rfl⟩
abbrev main_cst_49 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_cst_50 : Ref sig .tc := ⟨.hbm, 417, rfl⟩
abbrev main_v342 : Ref sig .tc := ⟨.hbm, 418, rfl⟩
abbrev main_cst_51 : Ref sig .tc := ⟨.hbm, 419, rfl⟩
abbrev main_v343 : Ref sig .tc := ⟨.hbm, 420, rfl⟩
abbrev main_v344 : Ref sig .tc := ⟨.hbm, 421, rfl⟩
abbrev main_cst_52 : Ref sig .tc := ⟨.hbm, 422, rfl⟩
abbrev main_v345 : Ref sig .tc := ⟨.hbm, 423, rfl⟩
abbrev main_cst_53 : Ref sig .tc := ⟨.hbm, 424, rfl⟩
abbrev main_v346 : Ref sig .tc := ⟨.hbm, 425, rfl⟩
abbrev main_v347 : Ref sig .tc := ⟨.hbm, 426, rfl⟩
abbrev main_v348 : Ref sig .tc := ⟨.hbm, 427, rfl⟩
abbrev main_v349 : Ref sig .tc := ⟨.hbm, 428, rfl⟩
abbrev main_v350_0 : Ref sig .tc := ⟨.hbm, 429, rfl⟩
abbrev main_v350_1 : Ref sig .tc := ⟨.hbm, 430, rfl⟩
abbrev main_v350_2 : Ref sig .tc := ⟨.hbm, 431, rfl⟩
abbrev main_v350_3 : Ref sig .tc := ⟨.hbm, 432, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== InputKernel.lean ====
abbrev S4096x1024 : Shape := ⟨2, ![4096, 1024]⟩
abbrev S1x1024 : Shape := ⟨2, ![1, 1024]⟩
abbrev S1024x6152 : Shape := ⟨2, ![1024, 6152]⟩
abbrev S4096x8 : Shape := ⟨2, ![4096, 8]⟩
abbrev S6152x1024 : Shape := ⟨2, ![6152, 1024]⟩
abbrev S8x1024 : Shape := ⟨2, ![8, 1024]⟩
abbrev S_ : Shape := ⟨0, ![]⟩
abbrev S128x1024 : Shape := ⟨2, ![128, 1024]⟩
abbrev S4096x128 : Shape := ⟨2, ![4096, 128]⟩
abbrev S3072x1024 : Shape := ⟨2, ![3072, 1024]⟩
abbrev S256x1024 : Shape := ⟨2, ![256, 1024]⟩
abbrev S256x128 : Shape := ⟨2, ![256, 128]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 31
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6152, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x8, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S6152x1024, .f32⟩
  | .hbm, ⟨12, _⟩ => ⟨S6152x1024, .bf16⟩
  | .hbm, ⟨13, _⟩ => ⟨S8x1024, .bf16⟩
  | .hbm, ⟨14, _⟩ => ⟨S_, .i32⟩
  | .hbm, ⟨15, _⟩ => ⟨S_, .bf16⟩
  | .hbm, ⟨16, _⟩ => ⟨S128x1024, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S_, .i32⟩
  | .hbm, ⟨24, _⟩ => ⟨S_, .f32⟩
  | .hbm, ⟨25, _⟩ => ⟨S4096x128, .f32⟩
  | .hbm, ⟨26, _⟩ => ⟨S4096x128, .bf16⟩
  | .hbm, ⟨27, _⟩ => ⟨S3072x1024, .bf16⟩
  | .hbm, ⟨28, _⟩ => ⟨S3072x1024, .bf16⟩
  | .hbm, ⟨29, _⟩ => ⟨S4096x1024, .f32⟩
  | .hbm, ⟨30, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x128, .bf16⟩
  | .local _ .vmem, ⟨13, _⟩ => ⟨S256x128, .bf16⟩
  | .local _ .vmem, ⟨14, _⟩ => ⟨S3072x1024, .bf16⟩
  | .local _ .vmem, ⟨15, _⟩ => ⟨S128x1024, .bf16⟩
  | .local _ .vmem, ⟨16, _⟩ => ⟨S3072x1024, .bf16⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3072x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== InputReferenceIdeal.lean ====
abbrev S4096x1024 : Shape := ⟨2, ![4096, 1024]⟩
abbrev S1x1024 : Shape := ⟨2, ![1, 1024]⟩
abbrev S1024x6152 : Shape := ⟨2, ![1024, 6152]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S4096x6152 : Shape := ⟨2, ![4096, 6152]⟩
abbrev S1024 : Shape := ⟨1, ![1024]⟩
abbrev S8x1024 : Shape := ⟨2, ![8, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6152, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x8, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x6152, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x8, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x6152, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .i32⟩
  | .hbm, ⟨65, _⟩ => ⟨S_, .f32⟩
  | .hbm, ⟨66, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c : Ref sig .tc := ⟨.hbm, 64, rfl⟩
abbrev main_call0_v0 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== TailKernel.lean ====
abbrev S4096x2048 : Shape := ⟨2, ![4096, 2048]⟩
abbrev S4096x1024 : Shape := ⟨2, ![4096, 1024]⟩
abbrev S4096x256 : Shape := ⟨2, ![4096, 256]⟩
abbrev S2048x1024 : Shape := ⟨2, ![2048, 1024]⟩
abbrev S1x1024 : Shape := ⟨2, ![1, 1024]⟩
abbrev S256x1024 : Shape := ⟨2, ![256, 1024]⟩
abbrev S1024x1024 : Shape := ⟨2, ![1024, 1024]⟩
abbrev S8x1024 : Shape := ⟨2, ![8, 1024]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S1024 : Shape := ⟨1, ![1024]⟩

abbrev nBuf : Space → Nat
  | .hbm => 22
  | .vmem => 29
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x256, .f32⟩
  | .hbm, ⟨3, _⟩ => ⟨S4096x1024, .f32⟩
  | .hbm, ⟨4, _⟩ => ⟨S2048x1024, .f32⟩
  | .hbm, ⟨5, _⟩ => ⟨S1x1024, .f32⟩
  | .hbm, ⟨6, _⟩ => ⟨S256x1024, .f32⟩
  | .hbm, ⟨7, _⟩ => ⟨S1x1024, .f32⟩
  | .hbm, ⟨8, _⟩ => ⟨S1024x1024, .f32⟩
  | .hbm, ⟨9, _⟩ => ⟨S1x1024, .f32⟩
  | .hbm, ⟨10, _⟩ => ⟨S4096x2048, .bf16⟩
  | .hbm, ⟨11, _⟩ => ⟨S2048x1024, .bf16⟩
  | .hbm, ⟨12, _⟩ => ⟨S256x1024, .bf16⟩
  | .hbm, ⟨13, _⟩ => ⟨S1024x1024, .bf16⟩
  | .hbm, ⟨14, _⟩ => ⟨S4096x1024, .f32⟩
  | .hbm, ⟨15, _⟩ => ⟨S4096x2048, .f32⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x256, .bf16⟩
  | .hbm, ⟨20, _⟩ => ⟨S4096x1024, .bf16⟩
  | .hbm, ⟨21, _⟩ => ⟨S8x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S256x1024, .f32⟩
  | .local _ .vmem, ⟨7, _⟩ => ⟨S256x1024, .f32⟩
  | .local _ .vmem, ⟨8, _⟩ => ⟨S2048x1024, .bf16⟩
  | .local _ .vmem, ⟨9, _⟩ => ⟨S1x1024, .f32⟩
  | .local _ .vmem, ⟨10, _⟩ => ⟨S256x1024, .bf16⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x2048, .f32⟩
  | .local _ .vmem, ⟨17, _⟩ => ⟨S256x2048, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x256, .bf16⟩
  | .local _ .vmem, ⟨25, _⟩ => ⟨S256x256, .bf16⟩
  | .local _ .vmem, ⟨26, _⟩ => ⟨S256x1024, .bf16⟩
  | .local _ .vmem, ⟨27, _⟩ => ⟨S256x1024, .bf16⟩
  | .local _ .vmem, ⟨28, _⟩ => ⟨S8x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== TailReferenceIdeal.lean ====
abbrev S4096x2048 : Shape := ⟨2, ![4096, 2048]⟩
abbrev S4096x1024 : Shape := ⟨2, ![4096, 1024]⟩
abbrev S4096x256 : Shape := ⟨2, ![4096, 256]⟩
abbrev S2048x1024 : Shape := ⟨2, ![2048, 1024]⟩
abbrev S1x1024 : Shape := ⟨2, ![1, 1024]⟩
abbrev S256x1024 : Shape := ⟨2, ![256, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 163
  | .vmem => 0
  | .smem => 0
  | _ => 0

abbrev hbmTy0_0 (i : Nat) : BufTy := match i % 128 with
  | 0 => ⟨S4096x2048, .f32⟩
  | 1 => ⟨S4096x1024, .f32⟩
  | 2 => ⟨S4096x256, .f32⟩
  | 3 => ⟨S4096x1024, .f32⟩
  | 4 => ⟨S2048x1024, .f32⟩
  | 5 => ⟨S1x1024, .f32⟩
  | 6 => ⟨S256x1024, .f32⟩
  | 7 => ⟨S1x1024, .f32⟩
  | 8 => ⟨S1024x1024, .f32⟩
  | 9 => ⟨S1x1024, .f32⟩
  | 10 => ⟨S4096x1024, .f32⟩
  | 11 => ⟨S4096x1024, .f32⟩
  | 12 => ⟨S4096x1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S4096x1024, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S_, .f32⟩
  | 74 => ⟨S4096, .f32⟩
  | 75 => ⟨S_, .f32⟩
  | 76 => ⟨S4096, .f32⟩
  | 77 => ⟨S4096, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S4096, .f32⟩
  | 86 => ⟨S_, .f32⟩
  | 87 => ⟨S4096, .f32⟩
  | 88 => ⟨S4096, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S_, .f32⟩
  | 95 => ⟨S1024, .f32⟩
  | 96 => ⟨S1x1024, .f32⟩
  | 97 => ⟨S4096x1024, .f32⟩
  | 98 => ⟨S4096x1024, .f32⟩
  | 99 => ⟨S4096x1024, .f32⟩
  | 100 => ⟨S_, .f32⟩
  | 101 => ⟨S4096, .f32⟩
  | 102 => ⟨S4096x1, .f32⟩
  | 103 => ⟨S4096x1024, .f32⟩
  | 104 => ⟨S4096x1024, .f32⟩
  | 105 => ⟨S4096x1, .f32⟩
  | 106 => ⟨S_, .f32⟩
  | 107 => ⟨S4096x1, .f32⟩
  | 108 => ⟨S4096x1, .f32⟩
  | 109 => ⟨S_, .f32⟩
  | 110 => ⟨S4096, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S_, .f32⟩
  | 121 => ⟨S1024, .f32⟩
  | 122 => ⟨S1x1024, .f32⟩
  | 123 => ⟨S4096x1024, .f32⟩
  | 124 => ⟨S4096x1024, .f32⟩
  | 125 => ⟨S4096x1024, .f32⟩
  | 126 => ⟨S_, .f32⟩
  | 127 => ⟨S4096, .f32⟩
  | _ => ⟨S4096x2048, .f32⟩

abbrev hbmTy0_1 (i : Nat) : BufTy := match i % 128 with
  | 0 => ⟨S4096x1, .f32⟩
  | 1 => ⟨S4096x1024, .f32⟩
  | 2 => ⟨S4096x1024, .f32⟩
  | 3 => ⟨S4096x1, .f32⟩
  | 4 => ⟨S_, .f32⟩
  | 5 => ⟨S4096x1, .f32⟩
  | 6 => ⟨S4096x1, .f32⟩
  | 7 => ⟨S_, .f32⟩
  | 8 => ⟨S4096, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S_, .f32⟩
  | 15 => ⟨S1024, .f32⟩
  | 16 => ⟨S1x1024, .f32⟩
  | 17 => ⟨S_, .f32⟩
  | 18 => ⟨S1024, .f32⟩
  | 19 => ⟨S1x1024, .f32⟩
  | 20 => ⟨S_, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S_, .f32⟩
  | 27 => ⟨S4x1024, .f32⟩
  | 28 => ⟨S8x1024, .f32⟩
  | 29 => ⟨S4096x2048, .f32⟩
  | 30 => ⟨S4096x1024, .bf16⟩
  | 31 => ⟨S4096x1024, .bf16⟩
  | 32 => ⟨S4096x1024, .bf16⟩
  | 33 => ⟨S4096x256, .bf16⟩
  | 34 => ⟨S4096x1024, .bf16⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_cst_15 : Ref sig .tc := ⟨.hbm, 82, rfl⟩
abbrev main_cst_16 : Ref sig .tc := ⟨.hbm, 83, rfl⟩
abbrev main_v56 : Ref sig .tc := ⟨.hbm, 84, rfl⟩
abbrev main_v57 : Ref sig .tc := ⟨.hbm, 85, rfl⟩
abbrev main_cst_17 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_18 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_19 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_20 : Ref sig .tc := ⟨.hbm, 106, rfl⟩
abbrev main_v75 : Ref sig .tc := ⟨.hbm, 107, rfl⟩
abbrev main_v76 : Ref sig .tc := ⟨.hbm, 108, rfl⟩
abbrev main_cst_21 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_22 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_23 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_24 : Ref sig .tc := ⟨.hbm, 132, rfl⟩
abbrev main_v97 : Ref sig .tc := ⟨.hbm, 133, rfl⟩
abbrev main_v98 : Ref sig .tc := ⟨.hbm, 134, rfl⟩
abbrev main_cst_25 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_26 : Ref sig .tc := ⟨.hbm, 142, rfl⟩
abbrev main_v105 : Ref sig .tc := ⟨.hbm, 143, rfl⟩
abbrev main_v106 : Ref sig .tc := ⟨.hbm, 144, rfl⟩
abbrev main_cst_27 : Ref sig .tc := ⟨.hbm, 145, rfl⟩
abbrev main_v107 : Ref sig .tc := ⟨.hbm, 146, rfl⟩
abbrev main_v108 : Ref sig .tc := ⟨.hbm, 147, rfl⟩
abbrev main_cst_28 : Ref sig .tc := ⟨.hbm, 148, rfl⟩
abbrev main_v109 : Ref sig .tc := ⟨.hbm, 149, rfl⟩
abbrev main_v110 : Ref sig .tc := ⟨.hbm, 150, rfl⟩
abbrev main_cst_29 : Ref sig .tc := ⟨.hbm, 151, rfl⟩
abbrev main_v111 : Ref sig .tc := ⟨.hbm, 152, rfl⟩
abbrev main_v112 : Ref sig .tc := ⟨.hbm, 153, rfl⟩
abbrev main_cst_30 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩

abbrev nD : Nat := 1
abbrev τ : Topo := Topo.v7x

variable {F : FTy → Type} [FloatOps F]
-- ==== BranchKernel.lean ====
abbrev S4096x2048 : Shape := ⟨2, ![4096, 2048]⟩
abbrev S4096x1024 : Shape := ⟨2, ![4096, 1024]⟩
abbrev S1x1024 : Shape := ⟨2, ![1, 1024]⟩
abbrev S4096x256 : Shape := ⟨2, ![4096, 256]⟩
abbrev S8x1024 : Shape := ⟨2, ![8, 1024]⟩
abbrev S2048x1024 : Shape := ⟨2, ![2048, 1024]⟩
abbrev S1024x1024 : Shape := ⟨2, ![1024, 1024]⟩
abbrev S256x1024 : Shape := ⟨2, ![256, 1024]⟩
abbrev S256x2048 : Shape := ⟨2, ![256, 2048]⟩
abbrev S4096x128 : Shape := ⟨2, ![4096, 128]⟩
abbrev S2048x128 : Shape := ⟨2, ![2048, 128]⟩
abbrev S512x128 : Shape := ⟨2, ![512, 128]⟩
abbrev S128x1024 : Shape := ⟨2, ![128, 1024]⟩
abbrev S256 : Shape := ⟨1, ![256]⟩
abbrev S256x1 : Shape := ⟨2, ![256, 1]⟩
abbrev S1024 : Shape := ⟨1, ![1024]⟩
abbrev S256x128 : Shape := ⟨2, ![256, 128]⟩
abbrev S512x1024 : Shape := ⟨2, ![512, 1024]⟩

abbrev nBuf : Space → Nat
  | .hbm => 27
  | .vmem => 36
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x256, .f32⟩
  | .hbm, ⟨12, _⟩ => ⟨S4096x1024, .f32⟩
  | .hbm, ⟨13, _⟩ => ⟨S4096x2048, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x256, .bf16⟩
  | .hbm, ⟨18, _⟩ => ⟨S4096x1024, .bf16⟩
  | .hbm, ⟨19, _⟩ => ⟨S4096x2048, .bf16⟩
  | .hbm, ⟨20, _⟩ => ⟨S4096x1024, .bf16⟩
  | .hbm, ⟨21, _⟩ => ⟨S4096x1024, .bf16⟩
  | .hbm, ⟨22, _⟩ => ⟨S4096x1024, .f32⟩
  | .hbm, ⟨23, _⟩ => ⟨S8x1024, .f32⟩
  | .hbm, ⟨24, _⟩ => ⟨S2048x1024, .f32⟩
  | .hbm, ⟨25, _⟩ => ⟨S1024x1024, .f32⟩
  | .hbm, ⟨26, _⟩ => ⟨S256x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S4096x128, .bf16⟩
  | .local _ .vmem, ⟨13, _⟩ => ⟨S4096x128, .bf16⟩
  | .local _ .vmem, ⟨14, _⟩ => ⟨S4096x1024, .bf16⟩
  | .local _ .vmem, ⟨15, _⟩ => ⟨S2048x128, .bf16⟩
  | .local _ .vmem, ⟨16, _⟩ => ⟨S2048x128, .bf16⟩
  | .local _ .vmem, ⟨17, _⟩ => ⟨S4096x1024, .bf16⟩
  | .local _ .vmem, ⟨18, _⟩ => ⟨S512x128, .bf16⟩
  | .local _ .vmem, ⟨19, _⟩ => ⟨S512x128, .bf16⟩
  | .local _ .vmem, ⟨20, _⟩ => ⟨S4096x1024, .bf16⟩
  | .local _ .vmem, ⟨21, _⟩ => ⟨S256x2048, .bf16⟩
  | .local _ .vmem, ⟨22, _⟩ => ⟨S256x2048, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .f32⟩
  | .local _ .vmem, ⟨28, _⟩ => ⟨S256x1024, .f32⟩
  | .local _ .vmem, ⟨29, _⟩ => ⟨S8x1024, .f32⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v6_3 : Ref sig .tc := ⟨.hbm, 22, rfl⟩
abbrev main_v6_4 : Ref sig .tc := ⟨.hbm, 23, rfl⟩
abbrev main_v6_5 : Ref sig .tc := ⟨.hbm, 24, rfl⟩
abbrev main_v6_6 : Ref sig .tc := ⟨.hbm, 25, rfl⟩
abbrev main_v6_7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c2_i32_90 : BitVec 32 := 2#32
  let c0_i32_91 : BitVec 32 := 0#32
  let v328 : BitVec 1 := Scalar.cmpi .eq c2_i32_90 c0_i32_91
  let c1_i32_92 : BitVec 32 := 1#32
  let v329 : BitVec 32 := Scalar.select v328 c1_i32_92 c2_i32_90
  let v330 : BitVec 32 := Scalar.remsi arg0 v329
  let c0_i32_94 : BitVec 32 := 0#32
  let v332 : BitVec 1 := Scalar.cmpi .slt v330 c0_i32_94
  let c0_i32_95 : BitVec 32 := 0#32
  let v333 : BitVec 1 := Scalar.cmpi .slt v329 c0_i32_95
  let v334 : BitVec 1 := Scalar.xori v332 v333
  let c0_i32_93 : BitVec 32 := 0#32
  let v331 : BitVec 1 := Scalar.cmpi .ne v330 c0_i32_93
  let v335 : BitVec 1 := Scalar.andi v334 v331
  let v336 : BitVec 32 := Scalar.addi v330 v329
  let v337 : BitVec 32 := Scalar.select v335 v336 v330
  let c2048_i32 : BitVec 32 := 2048#32
  let v340 : BitVec 32 := Scalar.muli v337 c2048_i32
  v340
def k0_off1 (i : grid0.Coords) : Fin 2 → Nat :=
  let arg0 : BitVec 32 := BitVec.ofNat 32 (i 0).val
  let c2_i32_90 : BitVec 32 := 2#32
  let c0_i32_91 : BitVec 32 := 0#32
  let v328 : BitVec 1 := Scalar.cmpi .eq c2_i32_90 c0_i32_91
  let c1_i32_92 : BitVec 32 := 1#32
  let v329 : BitVec 32 := Scalar.select v328 c1_i32_92 c2_i32_90
  let v330 : BitVec 32 := Scalar.remsi arg0 v329
  let c0_i32_94 : BitVec 32 := 0#32
  let v332 : BitVec 1 := Scalar.cmpi .slt v330 c0_i32_94
  let c0_i32_95 : BitVec 32 := 0#32
  let v333 : BitVec 1 := Scalar.cmpi .slt v329 c0_i32_95
  let v334 : BitVec 1 := Scalar.xori v332 v333
  let c0_i32_93 : BitVec 32 := 0#32
  let v331 : BitVec 1 := Scalar.cmpi .ne v330 c0_i32_93
  let v335 : BitVec 1 := Scalar.andi v334 v331
  let v336 : BitVec 32 := Scalar.addi v330 v329
  let v337 : BitVec 32 := Scalar.select v335 v336 v330
  let c2048_i32 : BitVec 32 := 2048#32
  let v340 : BitVec 32 := Scalar.muli v337 c2048_i32
  let v341 : BitVec 32 := v340
  let v342 : Index := Scalar.indexCast v341
  let c0_98 : Index := 0#32
  ![v342.toNat, 0]
def k0_mult2 (i : grid0.Coords) : BitVec 32 :=
  let arg0 : BitVec 32 := BitVec.ofNat 32 (i 0).val
  let c8_i32 : BitVec 32 := 8#32
  let c0_i32_106 : BitVec 32 := 0#32
  let v354 : BitVec 1 := Scalar.cmpi .eq c8_i32 c0_i32_106
  let c1_i32_107 : BitVec 32 := 1#32
  let v355 : BitVec 32 := Scalar.select v354 c1_i32_107 c8_i32
  let v356 : BitVec 32 := Scalar.remsi arg0 v355
  let c0_i32_109 : BitVec 32 := 0#32
  let v358 : BitVec 1 := Scalar.cmpi .slt v356 c0_i32_109
  let c0_i32_110 : BitVec 32 := 0#32
  let v359 : BitVec 1 := Scalar.cmpi .slt v355 c0_i32_110
  let v360 : BitVec 1 := Scalar.xori v358 v359
  let c0_i32_108 : BitVec 32 := 0#32
  let v357 : BitVec 1 := Scalar.cmpi .ne v356 c0_i32_108
  let v361 : BitVec 1 := Scalar.andi v360 v357
  let v362 : BitVec 32 := Scalar.addi v356 v355
  let v363 : BitVec 32 := Scalar.select v361 v362 v356
  let c512_i32 : BitVec 32 := 512#32
  let v366 : BitVec 32 := Scalar.muli v363 c512_i32
  v366
def k0_off2 (i : grid0.Coords) : Fin 2 → Nat :=
  let arg0 : BitVec 32 := BitVec.ofNat 32 (i 0).val
  let c8_i32 : BitVec 32 := 8#32
  let c0_i32_106 : BitVec 32 := 0#32
  let v354 : BitVec 1 := Scalar.cmpi .eq c8_i32 c0_i32_106
  let c1_i32_107 : BitVec 32 := 1#32
  let v355 : BitVec 32 := Scalar.select v354 c1_i32_107 c8_i32
  let v356 : BitVec 32 := Scalar.remsi arg0 v355
  let c0_i32_109 : BitVec 32 := 0#32
  let v358 : BitVec 1 := Scalar.cmpi .slt v356 c0_i32_109
  let c0_i32_110 : BitVec 32 := 0#32
  let v359 : BitVec 1 := Scalar.cmpi .slt v355 c0_i32_110
  let v360 : BitVec 1 := Scalar.xori v358 v359
  let c0_i32_108 : BitVec 32 := 0#32
  let v357 : BitVec 1 := Scalar.cmpi .ne v356 c0_i32_108
  let v361 : BitVec 1 := Scalar.andi v360 v357
  let v362 : BitVec 32 := Scalar.addi v356 v355
  let v363 : BitVec 32 := Scalar.select v361 v362 v356
  let c512_i32 : BitVec 32 := 512#32
  let v366 : BitVec 32 := Scalar.muli v363 c512_i32
  let v367 : BitVec 32 := v366
  let v368 : Index := Scalar.indexCast v367
  let c0_113 : Index := 0#32
  ![v368.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_20 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Proof.FgateMath.lean ====
module

public import Idealize.ShloMosaic.Lib.Pipeline.ValueKit

@[expose] public section

set_option maxRecDepth 16384

noncomputable section

/-! The mathematics of the forget gate's backward pass over the extended reals: the derivative of the log-sigmoid in
the kernel's and in the reference's spelling, sums over the rows from one row on, and a running sum read at an index. -/

namespace Cert.Fgate

open Idealize.ShloMosaic

/-- `sigmoid (-x) = (tanh (y / 2) + 1) / 2` at `y = -x`, in the kernel's spelling. -/
def gate (y : EReal) : EReal := ((1 / 2 : ℝ) : EReal) * Ideal.tanh (((1 / 2 : ℝ) : EReal) * y) + ((1 / 2 : ℝ) : EReal)

/-- `log (exp y + exp 0)` as the reference's log-sum of two computes it. -/
def softplus (y : EReal) : EReal := max y 0 + Ideal.log1p (Ideal.exp (-(max y (-y))))

/-- The reference's derivative of the log-sum of `y` and 0 in `y`, an infinite argument replaced by 0. -/
def gateRef (y : EReal) : EReal :=
  Ideal.exp ((if y = ⊤ then 0 else y) - (if softplus y = ⊤ then 0 else softplus y))

theorem half_f32 : Ideal.ofBits .f32 0x3F000000#32 = ((1 / 2 : ℝ) : EReal) := by
  simp [Ideal.ofBits, Ideal.ieee, -EReal.coe_mul]; norm_num

theorem top_f32 : Ideal.ofBits .f32 0x7F800000#32 = ⊤ := by
  simp [Ideal.ofBits, Ideal.ieee]

theorem softplus_real (r : ℝ) : softplus (r : EReal) = ((Real.log (1 + Real.exp r) : ℝ) : EReal) := by
  unfold softplus Ideal.log1p
  have hmax : ∀ a b : ℝ, max (a : EReal) (b : EReal) = ((max a b : ℝ) : EReal) := fun a b =>
    (EReal.coe_strictMono.monotone.map_max (a := a) (b := b)).symm
  rw [← EReal.coe_neg, hmax, ← EReal.coe_neg]
  change max (r : EReal) ((0 : ℝ) : EReal) + Ideal.log (((1 : ℝ) : EReal) + ((Real.exp (-(max r (-r))) : ℝ) : EReal)) = _
  rw [hmax, ← EReal.coe_add]
  have hp : ¬ (1 + Real.exp (-(max r (-r))) ≤ 0) := by
    have := Real.exp_pos (-(max r (-r))); linarith
  change ((max r 0 : ℝ) : EReal) + (if 1 + Real.exp (-(max r (-r))) ≤ 0 then (⊥ : EReal) else ((Real.log (1 + Real.exp (-(max r (-r)))) : ℝ) : EReal)) = _
  rw [if_neg hp, ← EReal.coe_add]
  congr 1
  rcases le_total 0 r with h | h
  · rw [max_eq_left h, max_eq_left (by linarith)]
    have e : (1 + Real.exp r) = Real.exp r * (1 + Real.exp (-r)) := by
      rw [mul_add, ← Real.exp_add]; simp [add_comm]
    rw [e, Real.log_mul (Real.exp_ne_zero _) (by positivity), Real.log_exp]
  · rw [max_eq_right h, max_eq_right (by linarith), neg_neg, zero_add]

/-- The two spellings of the gate's derivative agree at every extended real. -/
theorem gateRef_eq (y : EReal) : gateRef y = gate y := by
  induction y using EReal.rec with
  | bot =>
    have h0 : softplus ⊥ = 0 := by
      unfold softplus Ideal.log1p
      have e1 : max (⊥ : EReal) (-⊥) = ⊤ := by simp
      rw [e1, EReal.neg_top]
      change max (⊥ : EReal) 0 + Ideal.log (1 + 0) = 0
      rw [add_zero]
      change max (⊥ : EReal) 0 + (if (1 : ℝ) ≤ 0 then (⊥ : EReal) else ((Real.log 1 : ℝ) : EReal)) = 0
      rw [if_neg (by norm_num), Real.log_one]; simp
    unfold gateRef gate
    rw [h0, if_neg (by simp), if_neg (by simp), EReal.coe_mul_bot_of_pos (by norm_num)]
    simp only [sub_zero]
    change (0 : EReal) = ((1 / 2 : ℝ) : EReal) * ((-1 : ℝ) : EReal) + ((1 / 2 : ℝ) : EReal)
    rw [← EReal.coe_mul, ← EReal.coe_add]; norm_num
  | top =>
    have h0 : softplus ⊤ = ⊤ := by
      unfold softplus Ideal.log1p
      have e1 : max (⊤ : EReal) (-⊤) = ⊤ := by simp
      rw [e1, EReal.neg_top]
      change max (⊤ : EReal) 0 + Ideal.log (1 + 0) = ⊤
      rw [add_zero]
      change max (⊤ : EReal) 0 + (if (1 : ℝ) ≤ 0 then (⊥ : EReal) else ((Real.log 1 : ℝ) : EReal)) = ⊤
      rw [if_neg (by norm_num), Real.log_one]; simp
    unfold gateRef gate
    rw [h0, if_pos rfl, EReal.coe_mul_top_of_pos (by norm_num)]
    simp only [sub_zero]
    change ((Real.exp 0 : ℝ) : EReal) = ((1 / 2 : ℝ) : EReal) * ((1 : ℝ) : EReal) + ((1 / 2 : ℝ) : EReal)
    rw [← EReal.coe_mul, ← EReal.coe_add, Real.exp_zero]; norm_num
  | coe r =>
    unfold gateRef gate
    rw [softplus_real, if_neg (EReal.coe_ne_top r), if_neg (EReal.coe_ne_top _), ← EReal.coe_sub, ← EReal.coe_mul]
    change ((Real.exp (r - Real.log (1 + Real.exp r)) : ℝ) : EReal) = ((1 / 2 : ℝ) : EReal) * ((Real.tanh (1 / 2 * r) : ℝ) : EReal) + ((1 / 2 : ℝ) : EReal)
    rw [← EReal.coe_mul, ← EReal.coe_add]
    congr 1
    have e1 : Real.exp r = Real.exp (1 / 2 * r) * Real.exp (1 / 2 * r) := by rw [← Real.exp_add]; ring_nf
    have hp := Real.exp_pos (1 / 2 * r)
    rw [Real.exp_sub, Real.exp_log (by positivity), Real.tanh_eq_sinh_div_cosh, Real.sinh_eq, Real.cosh_eq, Real.exp_neg, e1]
    field_simp
    ring

/-! ## Sums over the rows from one row on -/

/-- The rows' values as a function of a natural number, 0 past the last. -/
def ext {n : ℕ} (f : Fin n → EReal) (k : ℕ) : EReal := if h : k < n then f ⟨k, h⟩ else 0

/-- The sum of the rows from row `t` on. -/
def suf {n : ℕ} (f : Fin n → EReal) (t : ℕ) : EReal := ∑ k ∈ Finset.Ico t n, ext f k

theorem suf_last {n : ℕ} (f : Fin n → EReal) : suf f n = 0 := by simp [suf]

theorem suf_zero {n : ℕ} (f : Fin n → EReal) : suf f 0 = ∑ k, f k := by
  rw [suf, ← Finset.range_eq_Ico, Finset.sum_range]
  exact Finset.sum_congr rfl fun k _ => dif_pos k.isLt

/-- A tile's rows from its row `r` on, then the rows of the later tiles. -/
theorem suf_tile {n : ℕ} (f : Fin n → EReal) (b w r : ℕ) (hr : r < w) (hn : b + w ≤ n) :
    suf f (b + r) = (∑ k : Fin w, if r ≤ k.val then ext f (b + k.val) else 0) + suf f (b + w) := by
  rw [suf, ← Finset.sum_Ico_consecutive _ (show b + r ≤ b + w by omega) hn, suf]
  congr 1
  rw [← Finset.sum_range (fun k => if r ≤ k then ext f (b + k) else 0), ← Finset.sum_filter]
  have e : (Finset.range w).filter (fun k => r ≤ k) = Finset.Ico r w := by ext k; simp; omega
  rw [e, Finset.sum_Ico_add (fun k => ext f k) r w b, Nat.add_comm r b, Nat.add_comm w b]

/-- The sum from row `t` on as a sum over the distance from `t`. -/
theorem suf_shift {n : ℕ} (f : Fin n → EReal) (t : ℕ) (ht : t < n) :
    (∑ k : Fin n, if h : t + k.val < n then f ⟨t + k.val, h⟩ else 0) = suf f t := by
  rw [suf, Finset.sum_Ico_eq_sum_range, ← Finset.sum_range (fun k => if h : t + k < n then f ⟨t + k, h⟩ else 0)]
  symm
  refine Finset.sum_subset (by intro k; simp; omega) fun k h1 h2 => ?_
  simp only [Finset.mem_range] at h1 h2
  exact dif_neg (by omega)

theorem foldl_add (n : ℕ) (g : Fin n → EReal) (v : EReal) : ∀ L : List (Fin n),
    L.foldl (fun r k => r + g k) v = v + (L.map g).sum
  | [] => by simp
  | a :: L => by rw [List.foldl_cons, foldl_add n g (v + g a) L]; simp [add_assoc]

/-- The reversed running sum, read at row `t` of column `h`. -/
theorem reduceWindow_rev {N M P : ℕ} (x : (⟨2, ![N, M]⟩ : Shape).Idx → EReal) (t : Fin N) (h : Fin M)
    (hw : (⟨2, ![N, M]⟩ : Shape).ReduceWindows ![N, 1] ![1, 1] ![0, 0] ![P, 0] ⟨2, ![N, M]⟩) :
    Ideal.hostReduceWindowAdd (s := ⟨2, ![N, M]⟩) (t := ⟨2, ![N, M]⟩) ![N, 1] ![1, 1] ![0, 0] ![P, 0] hw x 0 (ix2 t h)
      = suf (fun k => x (ix2 k h)) t.val := by
  unfold Ideal.hostReduceWindowAdd Host.reduceWindow
  dsimp only
  rw [foldl_add, zero_add, ← Fin.sum_univ_def]
  rw [← Equiv.sum_comp (⟨2, ![N, 1]⟩ : Shape).rowMajor]
  simp only [Equiv.symm_apply_apply]
  rw [sum_idx2, ← suf_shift _ _ t.isLt]
  refine Finset.sum_congr rfl fun a _ => ?_
  rw [Fin.sum_univ_one]
  by_cases hlt : t.val + a.val < N
  · rw [dif_pos hlt, dif_pos]
    · refine congrArg x (funext fun q => Fin.ext ?_)
      match q with
      | ⟨0, _⟩ => show t.val * 1 + a.val - 0 = t.val + a.val; omega
      | ⟨1, _⟩ => show h.val * 1 + 0 - 0 = h.val; omega
    · intro q
      match q with
      | ⟨0, _⟩ => exact ⟨Nat.zero_le _, by show t.val * 1 + a.val - 0 < N; omega⟩
      | ⟨1, _⟩ => exact ⟨Nat.zero_le _, by show h.val * 1 + 0 - 0 < M; have := h.isLt; omega⟩
  · rw [dif_neg hlt, dif_neg]
    intro hin
    have := (hin 0).2
    change t.val * 1 + a.val - 0 < N at this
    omega

end Cert.Fgate

end
-- ==== Proof.Words.lean ====
module

public import Idealize.ShloMosaic.Lib.Pipeline.ValueKit
public import Idealize.ShloMosaic.Lib.WordArith

@[expose] public section

noncomputable section

/-! Index words: what a comparison of two small row or column numbers selects. -/

namespace Cert.Words

open Idealize.ShloMosaic

theorem ofBool_one (b : Bool) : (BitVec.ofBool b = 1) ↔ b = true := WordArith.ofBool_eq_numeral_one_iff b

theorem cmp_eq (a b : ℕ) (ha : a < 2 ^ 31) (hb : b < 2 ^ 31) :
    IntOp.cmpi .eq (BitVec.ofNat 32 a) (BitVec.ofNat 32 b) = BitVec.ofBool (decide (a = b)) := by
  unfold IntOp.cmpi
  congr 1
  rw [Bool.eq_iff_iff, beq_iff_eq, decide_eq_true_iff]
  constructor
  · intro h
    have := congrArg BitVec.toNat h
    rwa [WordArith.toNat_ofNat_of_lt _ (by omega), WordArith.toNat_ofNat_of_lt _ (by omega)] at this
  · exact fun h => by rw [h]

theorem cmp_sge (a b : ℕ) (ha : a < 2 ^ 31) (hb : b < 2 ^ 31) :
    IntOp.cmpi .sge (BitVec.ofNat 32 a) (BitVec.ofNat 32 b) = BitVec.ofBool (decide (b ≤ a)) := by
  unfold IntOp.cmpi
  congr 1
  rw [Bool.eq_iff_iff, BitVec.sle_iff_toInt_le, decide_eq_true_iff,
    WordArith.toInt_ofNat_small _ ha, WordArith.toInt_ofNat_small _ hb]
  exact Int.ofNat_le

theorem cmp_slt (a b : ℕ) (ha : a < 2 ^ 31) (hb : b < 2 ^ 31) :
    IntOp.cmpi .slt (BitVec.ofNat 32 a) (BitVec.ofNat 32 b) = BitVec.ofBool (decide (a < b)) := by
  unfold IntOp.cmpi
  congr 1
  rw [Bool.eq_iff_iff, BitVec.slt_iff_toInt_lt, decide_eq_true_iff,
    WordArith.toInt_ofNat_small _ ha, WordArith.toInt_ofNat_small _ hb]
  exact Int.ofNat_lt

theorem sel {α : Type} (p : Prop) [Decidable p] (x y : α) :
    Scalar.select (BitVec.ofBool (decide p)) x y = if p then x else y := by
  unfold Scalar.select
  by_cases h : p <;> simp [h]

/-- A comparison's bit as a float: 1 where it holds, 0 where not. -/
theorem bit (p : Prop) [Decidable p] :
    (FloatOps.sitofp .f32 (BitVec.setWidth 32 (BitVec.ofBool (decide p))) : Ideal .f32) = if p then (1 : EReal) else 0 := by
  by_cases h : p
  · simp only [h, decide_true, if_true]
    change (((BitVec.setWidth 32 (BitVec.ofBool true)).toInt : ℝ) : EReal) = 1
    rw [show (BitVec.setWidth 32 (BitVec.ofBool true)).toInt = 1 by decide]; simp
  · simp only [h, decide_false, if_false]
    change (((BitVec.setWidth 32 (BitVec.ofBool false)).toInt : ℝ) : EReal) = 0
    rw [show (BitVec.setWidth 32 (BitVec.ofBool false)).toInt = 0 by decide]; simp

end Cert.Words

end
-- ==== Proof.Stores.lean ====
module

public import Idealize.ShloMosaic.Lib.Pipeline.ValueKit
public import Idealize.ShloMosaic.Lib.Pipeline.ReadBack
public import Idealize.ShloMosaic.Lib.WritesUnit

@[expose] public section

noncomputable section

/-! What a list of stores through unit rectangles holds at an index: the newest store's payload inside its rectangle, the earlier
stores' contents outside it. -/

namespace Cert.Stores

open Idealize.ShloMosaic

variable {Val : EltTy → Type} {S : Shape} {e : EltTy} [∀ e, Nonempty (Val e)]

theorem canon_in {off size : Fin S.rank → ℕ} (inb : ∀ a, off a + size a ≤ S.size a) (w : (Rect.unit off size inb).shape.Idx → Val e)
    (L : List (View.Piece Val S e)) (y : S.Idx) (x : (Rect.unit off size inb).shape.Idx) (h : ∀ a, (y a).val = off a + (x a).val) :
    View.canon ((⟨Rect.unit off size inb, w⟩ : View.Piece Val S e) :: L) y = w x := by
  have hy : (Rect.unit off size inb).emb x = y := funext fun a => Fin.ext (by
    show off a + 1 * (x a).val = (y a).val
    rw [h a, Nat.one_mul])
  rw [← hy]
  exact View.canon_cons_emb _ w L x

theorem canon_out {off size : Fin S.rank → ℕ} (inb : ∀ a, off a + size a ≤ S.size a) (w : (Rect.unit off size inb).shape.Idx → Val e)
    (L : List (View.Piece Val S e)) (y : S.Idx) (a : Fin S.rank) (h : (y a).val < off a ∨ off a + size a ≤ (y a).val) :
    View.canon ((⟨Rect.unit off size inb, w⟩ : View.Piece Val S e) :: L) y = View.canon L y := by
  refine View.canon_cons_of_not_mem _ L ?_
  rw [Rect.mem_set_unit]
  intro hall
  have := hall a
  omega

/-- A load through a unit rectangle of what a list of stores left, at an index of the load. -/
theorem readCov_at {sig : RefSig} {κ : Kind} {sp : Space} (v : View sig κ sp S e) (L : List (View.Piece Val S e))
    {off size : Fin S.rank → ℕ} (inb : ∀ a, off a + size a ≤ S.size a) (x : (Rect.unit off size inb).shape.Idx) (y : S.Idx)
    (h : ∀ a, (y a).val = off a + (x a).val) :
    v.readCov L (Rect.unit off size inb).toLoadRect x = View.canon L y := by
  rw [View.readCov_eq_canon']
  exact congrArg (View.canon L) (funext fun a => Fin.ext ((Rect.idx_unit_val off size inb x a).trans (h a).symm))

end Cert.Stores

end
-- ==== Proof.FgateKernel.lean ====
module

public import proofs.«01_k».proof.Proof.Gen.KernelIdeal.Value
public import proofs.«01_k».proof.Proof.FgateMath
public import proofs.«01_k».proof.Proof.Words
public import proofs.«01_k».proof.Proof.Stores

@[expose] public section

set_option maxRecDepth 16384

noncomputable section

namespace Cert.Fgate.Kernel

open Cert.KernelIdeal Cert.KernelIdeal.Gen Idealize.ShloMosaic Idealize.ShloMosaic.TcCoe Idealize.SL.Sem
open Idealize.ShloMosaic.Pipeline (Dat)

/-- Lane `l < 8` of the tile's row holds head `l`'s value, a lane past the heads 0. -/
theorem lanes (g : ℕ → EReal) (l : Fin 128) :
    (if l.val = 0 then g 0 else 0) + (if l.val = 1 then g 1 else 0) + (if l.val = 2 then g 2 else 0) + (if l.val = 3 then g 3 else 0)
      + (if l.val = 4 then g 4 else 0) + (if l.val = 5 then g 5 else 0) + (if l.val = 6 then g 6 else 0) + (if l.val = 7 then g 7 else 0)
      = if l.val < 8 then g l.val else 0 := by
  obtain ⟨l, hl⟩ := l
  by_cases h : l < 8
  · interval_cases l <;> simp
  · have e : ∀ k < 8, l ≠ k := fun k hk he => h (he ▸ hk)
    simp [h, e]

/-- The triangular product of a tile: row `r` of lane `l` sums the tile's rows from `r` on of head `l`. -/
theorem pay8 (x0 x1 x2 x3 x4 x5 x6 x7 : Vec Ideal S1x256x128 .f32) (r : Fin 256) (l : Fin 128) (g : Fin 256 → ℕ → EReal)
    (h0 : ∀ x, x0 (ix3 0 x l) = g x 0) (h1 : ∀ x, x1 (ix3 0 x l) = g x 1) (h2 : ∀ x, x2 (ix3 0 x l) = g x 2)
    (h3 : ∀ x, x3 (ix3 0 x l) = g x 3) (h4 : ∀ x, x4 (ix3 0 x l) = g x 4) (h5 : ∀ x, x5 (ix3 0 x l) = g x 5)
    (h6 : ∀ x, x6 (ix3 0 x l) = g x 6) (h7 : ∀ x, x7 (ix3 0 x l) = g x 7) :
    k0_pay8 (iota Kind.tc S256x128 32 [1] iota_S256x128_d1_w32) (k0_pay4 x0 x1 x2) k0_pay5 (k0_pay6 x3) k0_pay7 x4 x5 x6 x7 (ix2 r l)
      = ∑ x : Fin 256, if r.val ≤ x.val then (if l.val < 8 then g x l.val else 0) else 0 := by
  pointwise [k0_pay8, k0_pay4, k0_pay5, k0_pay6, k0_pay7]
  refine Finset.sum_congr rfl fun x _ => ?_
  rw [Words.cmp_sge _ _ (by omega) (by omega), Words.bit]
  have hc : ∀ k : ℕ, k < 8 → ∀ a b : EReal, Scalar.select (IntOp.cmpi .eq (BitVec.ofNat 32 l.val) (BitVec.ofNat 32 k)) a b = if l.val = k then a else b :=
    fun k hk a b => by rw [Words.cmp_eq _ _ (by omega) (by omega), Words.sel]
  rw [hc 0 (by omega), hc 1 (by omega), hc 2 (by omega), hc 3 (by omega), hc 4 (by omega), hc 5 (by omega), hc 6 (by omega), hc 7 (by omega),
    h0, h1, h2, h3, h4, h5, h6, h7, lanes (g x) l]
  by_cases h : r.val ≤ x.val
  · rw [if_pos h, if_pos h, one_mul]
  · rw [if_neg h, if_neg h, zero_mul]

variable (m : (ℓ : Loc nD τ sig) → Buf (Elt Ideal) ℓ) (c : Dev nD)

theorem idx : ∀ t : Fin cfg0.N, win0_0.index t = ![0, 15 - t.val, 0] ∧ win0_1.index t = ![15 - t.val, 0]
    ∧ win0_2.index t = ![15 - t.val, 0] ∧ win0_3.index t = ![0, 0] :=
  (by decide +kernel : ∀ t : Fin grid0.N, _)

/-- The three arguments, at their shapes. -/
def argF : FVec Ideal S4096x8 .f32 := m ((c : Thread nD τ).loc main_arg0)
def argB : FVec Ideal S1x8 .f32 := m ((c : Thread nD τ).loc main_arg1)
def argC : FVec Ideal S4096x8 .f32 := m ((c : Thread nD τ).loc main_arg2)

/-- The cotangent of the running sum, row by row, at lane `l` (0 past the heads). -/
def dcol (l : Fin 128) : Fin 4096 → EReal := fun t => if h : l.val < 8 then argC m c (ix2 t ⟨l.val, h⟩) else 0

/-- The forget logit with its bias at row `t` and lane `l` (0 past the heads). -/
def logit (t : Fin 4096) (l : Fin 128) : EReal :=
  if h : l.val < 8 then argF m c (ix2 t ⟨l.val, h⟩) + argB m c (ix2 0 ⟨l.val, h⟩) else 0

/-- The gradient of the forget logit at row `t` and lane `l`. -/
def grad (l : Fin 128) : Fin 4096 → EReal := fun t => if l.val < 8 then suf (dcol m c l) t.val * gate (0 - logit m c t l) else 0

/-- Row `x` of the tile that point `t` works on. -/
def row (t : Fin cfg0.N) (x : Fin 256) : Fin 4096 := ⟨(15 - t.val) * 256 + x.val, by omega⟩

theorem V_main_v5 (hd : Fin 8) (t : Fin 4096) (l : Fin 128) :
    (V m c main_v5 : FVec Ideal S8x4096x128 .f32) (ix3 hd t l) = argC m c (ix2 t hd) := by
  unfold V
  simp only [hostOps0, hostOps0_1, hostOps0_2, List.flatten_cons, List.flatten_nil, List.append_nil, List.cons_append, List.nil_append]
  after_results
  pointwise [argC]

theorem V_main_v2 (t : Fin 4096) (l : Fin 128) :
    (V m c main_v2 : FVec Ideal S4096x128 .f32) (ix2 t l) = logit m c t l := by
  unfold V
  simp only [hostOps0, hostOps0_1, hostOps0_2, List.flatten_cons, List.flatten_nil, List.append_nil, List.cons_append, List.nil_append]
  after_results
  change (pad S4096x128 ![0, 0] ![0, 120] ![0, 0] (addf (argF m c) (broadcastInDim S4096x8 ![0, 1] bcast_S1x8_S4096x8_0_1 (argB m c)))
    (sitofp .f32 (constantI S_ 32 0#32)) pads_S4096x8_S4096x128_000_01200 h_S_ : FVec Ideal S4096x128 .f32) (ix2 t l) = logit m c t l
  pointwise [logit]
  rw [show (FloatOps.sitofp FTy.f32 0#32 : Ideal .f32) = (0 : EReal) from by
    change (((0#32 : BitVec 32).toInt : ℝ) : EReal) = 0; simp]

theorem iblk0 (t : Fin cfg0.N) (hd : Fin 8) (x : Fin 256) (l : Fin 128) :
    (iblk m c 0 t : FVec Ideal S8x256x128 .f32) (ix3 hd x l) = argC m c (ix2 (row t x) hd) := by
  refine Eq.trans ?_ (V_main_v5 m c hd (row t x) l)
  blk_ext [iblk, idx t, row]

theorem iblk1 (t : Fin cfg0.N) (x : Fin 256) (l : Fin 128) :
    (iblk m c 1 t : FVec Ideal S256x128 .f32) (ix2 x l) = logit m c (row t x) l := by
  refine Eq.trans ?_ (V_main_v2 m c (row t x) l)
  blk_ext [iblk, idx t, row]

theorem pay9 (x0 x1 x2 x3 x4 x5 x6 x7 : Vec Ideal S1x256x128 .f32) (v : Vec Ideal S1x128 .f32) (t : Fin cfg0.N) (r : Fin 256) (l : Fin 128)
    (hv : v (ix2 0 l) = suf (dcol m c l) ((15 - t.val) * 256 + 256))
    (h0 : ∀ x, x0 (ix3 0 x l) = argC m c (ix2 (row t x) 0)) (h1 : ∀ x, x1 (ix3 0 x l) = argC m c (ix2 (row t x) 1))
    (h2 : ∀ x, x2 (ix3 0 x l) = argC m c (ix2 (row t x) 2)) (h3 : ∀ x, x3 (ix3 0 x l) = argC m c (ix2 (row t x) 3))
    (h4 : ∀ x, x4 (ix3 0 x l) = argC m c (ix2 (row t x) 4)) (h5 : ∀ x, x5 (ix3 0 x l) = argC m c (ix2 (row t x) 5))
    (h6 : ∀ x, x6 (ix3 0 x l) = argC m c (ix2 (row t x) 6)) (h7 : ∀ x, x7 (ix3 0 x l) = argC m c (ix2 (row t x) 7)) :
    k0_pay9 (k0_pay8 (iota Kind.tc S256x128 32 [1] iota_S256x128_d1_w32) (k0_pay4 x0 x1 x2) k0_pay5 (k0_pay6 x3) k0_pay7 x4 x5 x6 x7) v (ix2 r l)
      = suf (dcol m c l) ((15 - t.val) * 256 + r.val) := by
  pointwise [k0_pay9]
  rw [pay8 x0 x1 x2 x3 x4 x5 x6 x7 r l (fun x k => if h : k < 8 then argC m c (ix2 (row t x) ⟨k, h⟩) else 0) h0 h1 h2 h3 h4 h5 h6 h7, hv,
    suf_tile (dcol m c l) ((15 - t.val) * 256) 256 r.val r.isLt (by omega)]
  congr 1
  refine Finset.sum_congr rfl fun x _ => ?_
  have e : ext (dcol m c l) ((15 - t.val) * 256 + x.val) = dcol m c l (row t x) := dif_pos _
  rw [e]
  unfold dcol
  by_cases hl : l.val < 8 <;> simp [hl]

theorem pay12 (y0 : Vec Ideal S256x128 .f32) (p : Vec Ideal S256x128 .f32) (v : Vec Ideal S1x128 .f32) (t : Fin cfg0.N) (x : Fin 256) (l : Fin 128)
    (hy : y0 (ix2 x l) = logit m c (row t x) l) (h : k0_pay9 p v (ix2 x l) = suf (dcol m c l) ((15 - t.val) * 256 + x.val)) :
    k0_pay12 y0 (iota Kind.tc S256x128 32 [1] iota_S256x128_d1_w32) p v (ix2 x l) = grad m c l (row t x) := by
  pointwise [k0_pay12]
  rw [Words.cmp_slt _ _ (by omega) (by omega), Words.sel, h, hy, half_f32]
  rfl

theorem truncated (y0 p : Vec Ideal S256x128 .f32) (v : Vec Ideal S1x128 .f32) (q : IVec S256x128 32) (x : Fin 256) (l : Fin 128) :
    k0_pay13 (k0_pay3 y0) q p v (ix2 x l) = k0_pay12 y0 q p v (ix2 x l) := by
  have e : k0_pay3 y0 = y0 := by funext j; idx_vars j; pointwise [k0_pay3]
  rw [e]
  pointwise [k0_pay13]

/-- The tile's 8 head loads. -/
theorem ldt (X : Vec Ideal S8x256x128 .f32) (k : Fin 8) (h) (x : Fin 256) (l : Fin 128) :
    View.ld X (Rect.unit ![k.val, 0, 0] ![1, 256, 128] h : Rect S8x256x128) (ix3 0 x l) = X (ix3 k x l) := by
  refine View.ld_unit_apply_of _ _ _ _ _ _ fun a => ?_
  match a with
  | ⟨0, _⟩ => show k.val = k.val + 0; rfl
  | ⟨1, _⟩ => show x.val = 0 + x.val; omega
  | ⟨2, _⟩ => show l.val = 0 + l.val; omega

/-- The tile's triangular product over the 8 head loads of point `t`. -/
abbrev prod (t : Fin cfg0.N) : FVec Ideal S256x128 .f32 :=
  k0_pay8 (iota Kind.tc S256x128 32 [1] iota_S256x128_d1_w32)
    (k0_pay4 (View.ld (iblk m c 0 t) (Rect.unit ![0, 0, 0] ![1, 256, 128] inb_S8x256x128_S1x256x128_0_0_0))
      (View.ld (iblk m c 0 t) (Rect.unit ![1, 0, 0] ![1, 256, 128] inb_S8x256x128_S1x256x128_1_0_0))
      (View.ld (iblk m c 0 t) (Rect.unit ![2, 0, 0] ![1, 256, 128] inb_S8x256x128_S1x256x128_2_0_0)))
    k0_pay5 (k0_pay6 (View.ld (iblk m c 0 t) (Rect.unit ![3, 0, 0] ![1, 256, 128] inb_S8x256x128_S1x256x128_3_0_0)))
    k0_pay7 (View.ld (iblk m c 0 t) (Rect.unit ![4, 0, 0] ![1, 256, 128] inb_S8x256x128_S1x256x128_4_0_0))
    (View.ld (iblk m c 0 t) (Rect.unit ![5, 0, 0] ![1, 256, 128] inb_S8x256x128_S1x256x128_5_0_0))
    (View.ld (iblk m c 0 t) (Rect.unit ![6, 0, 0] ![1, 256, 128] inb_S8x256x128_S1x256x128_6_0_0))
    (View.ld (iblk m c 0 t) (Rect.unit ![7, 0, 0] ![1, 256, 128] inb_S8x256x128_S1x256x128_7_0_0))

/-- Row `r` of the tile's running sums, over the carry of the later tiles. -/
theorem dls (t : Fin cfg0.N) (v : Vec Ideal S1x128 .f32) (r : Fin 256) (l : Fin 128)
    (hv : v (ix2 0 l) = suf (dcol m c l) ((15 - t.val) * 256 + 256)) :
    k0_pay9 (prod m c t) v (ix2 r l) = suf (dcol m c l) ((15 - t.val) * 256 + r.val) :=
  pay9 m c _ _ _ _ _ _ _ _ v t r l hv
    (fun x => (ldt _ 0 _ x l).trans (iblk0 m c t 0 x l)) (fun x => (ldt _ 1 _ x l).trans (iblk0 m c t 1 x l))
    (fun x => (ldt _ 2 _ x l).trans (iblk0 m c t 2 x l)) (fun x => (ldt _ 3 _ x l).trans (iblk0 m c t 3 x l))
    (fun x => (ldt _ 4 _ x l).trans (iblk0 m c t 4 x l)) (fun x => (ldt _ 5 _ x l).trans (iblk0 m c t 5 x l))
    (fun x => (ldt _ 6 _ x l).trans (iblk0 m c t 6 x l)) (fun x => (ldt _ 7 _ x l).trans (iblk0 m c t 7 x l))

theorem gradAt (t : Fin cfg0.N) (v : Vec Ideal S1x128 .f32) (x : Fin 256) (l : Fin 128)
    (hv : v (ix2 0 l) = suf (dcol m c l) ((15 - t.val) * 256 + 256)) :
    k0_pay12 (iblk m c 1 t) (iota Kind.tc S256x128 32 [1] iota_S256x128_d1_w32) (prod m c t) v (ix2 x l) = grad m c l (row t x) :=
  pay12 m c _ _ v t x l (iblk1 m c t x l) (dls m c t v x l hv)

theorem gradOut (t : Fin cfg0.N) (v : Vec Ideal S1x128 .f32) (x : Fin 256) (l : Fin 128)
    (hv : v (ix2 0 l) = suf (dcol m c l) ((15 - t.val) * 256 + 256)) :
    k0_pay13 (k0_pay3 (iblk m c 1 t)) (iota Kind.tc S256x128 32 [1] iota_S256x128_d1_w32) (prod m c t) v (ix2 x l) = grad m c l (row t x) :=
  (truncated _ _ _ _ _ _).trans (gradAt m c t v x l hv)

theorem pay11 (v : Vec Ideal S1x128 .f32) (l : Fin 128) : k0_pay11 v (ix2 0 l) = v (ix2 0 l) := by
  pointwise [k0_pay11]

theorem carryOut (t : Fin cfg0.N) (v : Vec Ideal S1x128 .f32) (l : Fin 128) (h1 h2)
    (hv : v (ix2 0 l) = suf (dcol m c l) ((15 - t.val) * 256 + 256)) :
    k0_pay11 (F := Ideal) ((View.whole cc0_scratch1).readCov [⟨Rect.unit ![0, 0] ![8, 128] h1, k0_pay10 (prod m c t) v⟩]
      (Rect.unit ![0, 0] ![1, 128] h2 : Rect S8x128).toLoadRect) (ix2 0 l) = suf (dcol m c l) ((15 - t.val) * 256) := by
  refine (pay11 _ l).trans ?_
  refine (Stores.readCov_at _ _ _ _ (ix2 0 l) (fun a => by match a with | ⟨0, _⟩ => rfl | ⟨1, _⟩ => exact (Nat.zero_add _).symm)).trans ?_
  refine (Stores.canon_in _ _ _ _ (ix2 0 l) (fun a => by match a with | ⟨0, _⟩ => rfl | ⟨1, _⟩ => exact (Nat.zero_add _).symm)).trans ?_
  refine Eq.trans ?_ (dls m c t v 0 l hv)
  pointwise [k0_pay10]

theorem accOut (t : Fin cfg0.N) (v w : Vec Ideal S1x128 .f32) (l : Fin 128)
    (hv : v (ix2 0 l) = suf (dcol m c l) ((15 - t.val) * 256 + 256)) (hw : w (ix2 0 l) = suf (grad m c l) ((15 - t.val) * 256 + 256)) :
    k0_pay14 (k0_pay3 (iblk m c 1 t)) (iota Kind.tc S256x128 32 [1] iota_S256x128_d1_w32) (prod m c t) v w (ix2 0 l)
      = suf (grad m c l) ((15 - t.val) * 256) := by
  have e : k0_pay3 (iblk m c 1 t) = iblk m c 1 t := by funext j; idx_vars j; pointwise [k0_pay3]
  rw [e]
  pointwise [k0_pay14]
  have e2 := suf_tile (grad m c l) ((15 - t.val) * 256) 256 0 (by omega) (by omega)
  rw [Nat.add_zero] at e2
  rw [hw, e2, add_comm]
  congr 1
  refine Finset.sum_congr rfl fun x _ => ?_
  rw [if_pos (Nat.zero_le _), gradAt m c t v x l hv]
  have e3 : ext (grad m c l) ((15 - t.val) * 256 + x.val) = grad m c l (row t x) := dif_pos (show (15 - t.val) * 256 + x.val < 4096 by omega)
  exact e3.symm

/-- What the run leaves after point `n`: the carry is the running sum from the tile's first row, row 0 of the second result the sum of the
    gradients so far, the block of the first result the gradients of the tile's rows. -/
theorem inv : ∀ (n : ℕ) (hn : n < cfg0.N) (l : Fin 128),
    (outsAt0 m c n hn).2.2 (ix2 0 l) = suf (dcol m c l) ((15 - n) * 256)
    ∧ (∀ i : Fin 8, (outsAt0 m c n hn).2.1 (ix2 i l) = if i.val = 0 then suf (grad m c l) ((15 - n) * 256) else 0)
    ∧ ∀ x : Fin 256, (outsAt0 m c n hn).1 (ix2 x l) = grad m c l (row ⟨n, hn⟩ x) := by
  intro n
  induction n with
  | zero =>
    intro hn l
    have hz : (k0_pay1 (F := Ideal)) (ix2 0 l) = suf (dcol m c l) ((15 - 0) * 256 + 256) := by
      rw [show (15 - 0) * 256 + 256 = 4096 from rfl, suf_last]; pointwise [k0_pay1]
    rw [outsAt0_A m c ⟨0, hn⟩ rfl]
    refine ⟨?_, ?_, ?_⟩
    · frame_out
      exact carryOut m c ⟨0, hn⟩ _ l _ _ hz
    · intro i
      frame_out
      by_cases hi : i.val = 0
      · refine (Stores.canon_in _ _ _ _ (ix2 0 l) ?_).trans ?_
        · intro a
          match a with
          | ⟨0, _⟩ => exact hi
          | ⟨1, _⟩ => exact (Nat.zero_add _).symm
        rw [if_pos hi]
        refine accOut m c ⟨0, hn⟩ _ _ l hz ?_
        refine (Stores.readCov_at _ _ _ _ (ix2 0 l) (fun a => by match a with | ⟨0, _⟩ => rfl | ⟨1, _⟩ => exact (Nat.zero_add _).symm)).trans ?_
        refine (Stores.canon_in _ _ _ _ (ix2 0 l) (fun a => by match a with | ⟨0, _⟩ => rfl | ⟨1, _⟩ => exact (Nat.zero_add _).symm)).trans ?_
        refine Eq.trans ?_ (suf_last _).symm
        pointwise [k0_pay2]
      · refine (Stores.canon_out _ _ _ _ (0 : Fin 2) (Or.inr (by show 0 + 1 ≤ i.val; omega))).trans ?_
        refine (Stores.canon_in _ _ _ _ (ix2 i l) (fun a => by match a with | ⟨0, _⟩ => exact (Nat.zero_add _).symm | ⟨1, _⟩ => exact (Nat.zero_add _).symm)).trans ?_
        rw [if_neg hi]
        pointwise [k0_pay2]
    · intro x
      frame_out
      exact gradOut m c ⟨0, hn⟩ _ x l hz
  | succ n ih =>
    intro hn l
    have hN := lt_of_lt_of_eq hn (show cfg0.N = 16 from N_0)
    obtain ⟨ih1, ih2, ih3⟩ := ih (Nat.lt_of_succ_lt hn) l
    have he : (15 - (n + 1)) * 256 + 256 = (15 - n) * 256 := by omega
    rw [← he] at ih1 ih2
    rw [outsAt0_B m c ⟨n + 1, hn⟩ (by show ¬ (n + 1) % 16 = 0; omega)]
    refine ⟨?_, ?_, ?_⟩
    · frame_out
      refine carryOut m c ⟨n + 1, hn⟩ _ l _ _ ?_
      rw [read_unread_whole]
      exact ih1
    · intro i
      frame_out
      by_cases hi : i.val = 0
      · refine (Idealize.ShloMosaic.View.read_writes_cons_unit_of_mem _ _ _ _ _ _ (ix2 0 l) rfl ?_).trans ?_
        · intro a
          match a with
          | ⟨0, _⟩ => exact hi
          | ⟨1, _⟩ => show l.val = 0 + l.val; omega
        rw [if_pos hi]
        refine accOut m c ⟨n + 1, hn⟩ _ _ l ?_ ?_
        · rw [read_unread_whole]; exact ih1
        · refine (View.ld_unit_apply_of _ _ _ _ _ (ix2 0 l) (fun a => by match a with | ⟨0, _⟩ => rfl | ⟨1, _⟩ => exact (Nat.zero_add _).symm)).trans ?_
          exact (ih2 0).trans (if_pos rfl)
      · refine (Idealize.ShloMosaic.View.read_writes_cons_unit_of_not_mem _ _ _ _ _ _ rfl (0 : Fin 2) (Or.inr ?_)).trans ?_
        · show 0 + 1 ≤ i.val; omega
        rw [View.writes_nil, Memref.IsWhole.read_unread, if_neg hi]
        exact (ih2 i).trans (if_neg hi)
    · intro x
      frame_out
      refine gradOut m c ⟨n + 1, hn⟩ _ x l ?_
      rw [read_unread_whole]
      exact ih1

/-- The two results of the kernel. -/
def out2 : FVec Ideal S4096x128 .bf16 := fun i => grad m c (i 1) (i 0)
def out3 : FVec Ideal S8x128 .f32 := fun i => if (i 0).val = 0 then suf (grad m c (i 1)) 0 else 0

theorem final2 : (dats m 0 c).arrAt 2 cfg0.N = out2 m c := by
  refine (dats m 0 c).arrAt_eq_of_covers 2 _ (by decide +kernel) fun t hf y => ?_
  idx_vars y
  blk_simp; rw [after0_2]
  have e : (win0_2.blk t).view.emb (ix2 y0 y1) = ix2 (row t y0) y1 := by blk_ext [idx t, row]
  rw [e]
  exact (inv m c t.val t.isLt y1).2.2 y0

theorem final3 : (dats m 0 c).arrAt 3 cfg0.N = out3 m c := by
  refine (dats m 0 c).arrAt_eq_of_covers 3 _ (by decide +kernel) fun t hf y => ?_
  idx_vars y
  blk_simp; rw [after0_3]
  have e : (win0_3.blk t).view.emb (ix2 y0 y1) = ix2 y0 y1 := by blk_ext [idx t]
  rw [e]
  have h15 : (15 - t.val) * 256 = 0 := by
    have h1 := (flush0_3 t).mp hf
    have h2 := lt_of_lt_of_eq t.isLt (show cfg0.N = 16 from N_0)
    omega
  refine ((inv m c t.val t.isLt y1).2.1 y0).trans ?_
  rw [h15]
  rfl

end Cert.Fgate.Kernel

end
-- ==== Proof.FgateRef.lean ====
module

public import proofs.«01_k».proof.Proof.Gen.ReferenceIdeal.Run
public import proofs.«01_k».proof.Proof.FgateMath

@[expose] public section

set_option maxRecDepth 16384

noncomputable section

/-! What the reference's two results are, as functions of its three arguments. -/

namespace Cert.Fgate.Ref

open Cert.ReferenceIdeal Idealize.ShloMosaic Idealize.ShloMosaic.TcCoe Idealize.SL.Sem

/-- The gradient of the forget logit at lane `l`, row by row: the running sum of the cotangent from the row on, times the gate. -/
def grad (A : FVec Ideal S4096x8 .f32) (B : FVec Ideal S1x8 .f32) (C : FVec Ideal S4096x8 .f32) (l : Fin 8) : Fin 4096 → EReal :=
  fun t => suf (fun k => C (ix2 k l)) t.val * gate (-(A (ix2 t l) + B (ix2 0 l)))

def out9 (A : FVec Ideal S4096x8 .f32) (B : FVec Ideal S1x8 .f32) (C : FVec Ideal S4096x8 .f32) : FVec Ideal S4096x128 .bf16 :=
  fun i => if h : (i 1).val < 8 then grad A B C ⟨(i 1).val, h⟩ (i 0) else 0

def out10 (A : FVec Ideal S4096x8 .f32) (B : FVec Ideal S1x8 .f32) (C : FVec Ideal S4096x8 .f32) : FVec Ideal S8x128 .f32 :=
  fun i => if h : (i 0).val < 1 ∧ (i 1).val < 8 then ∑ t, grad A B C ⟨(i 1).val, h.2⟩ t else 0

theorem out9_at (A : FVec Ideal S4096x8 .f32) (B : FVec Ideal S1x8 .f32) (C : FVec Ideal S4096x8 .f32) (i0 : Fin 4096) (i1 : Fin 128) :
    out9 A B C (ix2 i0 i1) = if h : i1.val < 8 then suf (fun k => C (ix2 k ⟨i1.val, h⟩)) i0.val
      * gate (-(A (ix2 i0 ⟨i1.val, h⟩) + B (ix2 0 ⟨i1.val, h⟩))) else 0 := rfl

theorem out10_at (A : FVec Ideal S4096x8 .f32) (B : FVec Ideal S1x8 .f32) (C : FVec Ideal S4096x8 .f32) (i0 : Fin 8) (i1 : Fin 128) :
    out10 A B C (ix2 i0 i1) = if h : i0.val < 1 ∧ i1.val < 8 then ∑ x : Fin 4096, suf (fun k => C (ix2 k ⟨i1.val, h.2⟩)) x.val
      * gate (-(A (ix2 x ⟨i1.val, h.2⟩) + B (ix2 0 ⟨i1.val, h.2⟩))) else 0 := rfl

theorem leaf (S y : EReal) :
    -(-S * Ideal.exp ((if y = Ideal.ofBits FTy.f32 2139095040#32 then 0 else y)
      - if (if y ≠ y then y else max y 0 + Ideal.log1p (Ideal.exp (-FloatOps.absf (F := Ideal) (φ := FTy.f32) y))) = Ideal.ofBits FTy.f32 2139095040#32 then 0
        else if y ≠ y then y else max y 0 + Ideal.log1p (Ideal.exp (-FloatOps.absf (F := Ideal) (φ := FTy.f32) y))))
      = S * gate y := by
  rw [top_f32, ← gateRef_eq]
  simp only [ne_eq, not_true_eq_false, if_false]
  rw [EReal.neg_mul, neg_neg]
  rfl

theorem sum_from (C : FVec Ideal S4096x8 .f32) (x : Fin 4096) (l : Fin 8) :
    Host.reduceWindowAdd ![4096, 1] ![1, 1] ![0, 0] ![4095, 0] C (broadcastInDim S_ ![] Gen.bcast_S_S_ (constant S_ FTy.f32 0#32))
      Gen.reduceWindows_S4096x8_S4096x8_w4096s1p0_4095_w1s1p0_0 Gen.h_S_ (ix2 x l) = suf (fun k => C (ix2 k l)) x.val := by
  refine Eq.trans ?_ (reduceWindow_rev C x l Gen.reduceWindows_S4096x8_S4096x8_w4096s1p0_4095_w1s1p0_0)
  have hz : (broadcastInDim S_ ![] Gen.bcast_S_S_ (constant S_ FTy.f32 0#32) : FVec Ideal S_ .f32) = fun _ => (0 : EReal) := by
    funext j; pointwise
  rw [hz]
  unfold Host.reduceWindowAdd
  rfl

theorem zero_word : (FloatOps.sitofp FTy.f32 0#32 : Ideal .f32) = (0 : EReal) := by
  change (((0#32 : BitVec 32).toInt : ℝ) : EReal) = 0
  simp

theorem ty0 (c : Dev nD) : ((c.tc : Thread nD τ).loc main_arg0).ty = ⟨S4096x8, .f32⟩ := rfl
theorem ty1 (c : Dev nD) : ((c.tc : Thread nD τ).loc main_arg1).ty = ⟨S1x8, .f32⟩ := rfl
theorem ty2 (c : Dev nD) : ((c.tc : Thread nD τ).loc main_arg2).ty = ⟨S4096x8, .f32⟩ := rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = out9 (m ((c.tc : Thread nD τ).loc main_arg0)) (m ((c.tc : Thread nD τ).loc main_arg1)) (m ((c.tc : Thread nD τ).loc main_arg2))
      ∧ r.2.mem ((c.tc : Thread nD τ).loc main_v10) = out10 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2⟩) (Value.run m ρ)
  · generalize m ((c.tc : Thread nD τ).loc main_arg0) = A
    generalize m ((c.tc : Thread nD τ).loc main_arg1) = B
    generalize m ((c.tc : Thread nD τ).loc main_arg2) = C
    funext i
    idx_vars i
    clear h
    dsimp only [ty0, ty1, ty2]
    revert A B C
    show ∀ (A : FVec Ideal S4096x8 .f32) (B : FVec Ideal S1x8 .f32) (C : FVec Ideal S4096x8 .f32), _
    intro A B C
    pointwise
    simp only [zero_word, leaf]
    refine Eq.trans ?_ (out9_at A B C i0 i1).symm
    by_cases hl : i1.val < 8
    · rw [dif_pos hl, dif_pos hl, ← sum_from C i0 ⟨i1.val, hl⟩]
    · rw [dif_neg hl, dif_neg hl]
  · generalize m ((c.tc : Thread nD τ).loc main_arg0) = A
    generalize m ((c.tc : Thread nD τ).loc main_arg1) = B
    generalize m ((c.tc : Thread nD τ).loc main_arg2) = C
    funext i
    idx_vars i
    clear h
    dsimp only [ty0, ty1, ty2]
    revert A B C
    show ∀ (A : FVec Ideal S4096x8 .f32) (B : FVec Ideal S1x8 .f32) (C : FVec Ideal S4096x8 .f32), _
    intro A B C
    pointwise
    simp only [zero_word, leaf]
    refine Eq.trans ?_ (out10_at A B C i0 i1).symm
    by_cases h : i0.val < 1 ∧ i1.val < 8
    · rw [dif_pos h, dif_pos h]
      refine Finset.sum_congr rfl fun x _ => ?_
      rw [← sum_from C x ⟨i1.val, h.2⟩]
    · rw [dif_neg h, dif_neg h]

end Cert.Fgate.Ref

end
-- ==== Proof.FgateEq.lean ====
module

public import proofs.«01_k».proof.Proof.FgateKernel
public import proofs.«01_k».proof.Proof.FgateRef

@[expose] public section

set_option maxRecDepth 16384

noncomputable section

/-! The kernel's two results are the reference's, at the same three arguments. -/

namespace Cert.Fgate

open Idealize.ShloMosaic Idealize.ShloMosaic.TcCoe Idealize.SL.Sem

variable (m : (ℓ : Loc Cert.KernelIdeal.nD Cert.KernelIdeal.τ Cert.KernelIdeal.sig) → Buf (Elt Ideal) ℓ) (c : Dev Cert.KernelIdeal.nD)

theorem grad_lt (l : Fin 128) (h : l.val < 8) (t : Fin 4096) :
    Kernel.grad m c l t = Ref.grad (Kernel.argF m c) (Kernel.argB m c) (Kernel.argC m c) ⟨l.val, h⟩ t := by
  have hd : Kernel.dcol m c l = fun k => Kernel.argC m c (ix2 k ⟨l.val, h⟩) := by
    funext k; unfold Kernel.dcol; rw [dif_pos h]
  have hl : Kernel.logit m c t l = Kernel.argF m c (ix2 t ⟨l.val, h⟩) + Kernel.argB m c (ix2 0 ⟨l.val, h⟩) := by
    unfold Kernel.logit; rw [dif_pos h]
  unfold Kernel.grad Ref.grad
  rw [if_pos h, hd, hl, zero_sub]

theorem grad_ge (l : Fin 128) (h : ¬ l.val < 8) (t : Fin 4096) : Kernel.grad m c l t = 0 := by
  unfold Kernel.grad; rw [if_neg h]

theorem out2_eq : Kernel.out2 m c = Ref.out9 (Kernel.argF m c) (Kernel.argB m c) (Kernel.argC m c) := by
  funext i
  unfold Kernel.out2 Ref.out9
  by_cases h : (i 1).val < 8
  · rw [dif_pos h]; exact grad_lt m c (i 1) h (i 0)
  · rw [dif_neg h]; exact grad_ge m c (i 1) h (i 0)

theorem out3_eq : Kernel.out3 m c = Ref.out10 (Kernel.argF m c) (Kernel.argB m c) (Kernel.argC m c) := by
  funext i
  unfold Kernel.out3 Ref.out10
  by_cases h0 : (i 0).val = 0
  · rw [if_pos h0, suf_zero]
    by_cases h : (i 1).val < 8
    · rw [dif_pos ⟨by omega, h⟩]; exact Finset.sum_congr rfl fun t _ => grad_lt m c (i 1) h t
    · rw [dif_neg (fun q => h q.2)]; exact Finset.sum_eq_zero fun t _ => grad_ge m c (i 1) h t
  · rw [if_neg h0, dif_neg (fun q => h0 (by omega))]

end Cert.Fgate

end
-- ==== Proof.AttnTables.lean ====
module

public import proofs.«01_k».proof.Proof.Gen.AttnKernelIdeal
public import proofs.«01_k».proof.Proof.Gen.AttnKernelIdeal.Launch
public import proofs.«01_k».proof.Proof.Gen.AttnKernelIdeal.Skeleton
public import Idealize.ShloMosaic.Lib.Pipeline.Kit
public import Idealize.ShloMosaic.Lib.Pipeline.FrameBody
public import Idealize.ShloMosaic.Lib.Affine
public import Idealize.ShloMosaic.Lib.Exec
public import Idealize.ShloMosaic.Lib.Tactic

@[expose] public section

set_option maxRecDepth 16384

noncomputable section

namespace Cert.Attn

open Cert.AttnKernelIdeal Cert.AttnKernelIdeal.Gen Idealize.ShloMosaic Idealize.ShloMosaic.TcCoe

/-! # The two tables: which key tile and which query tile a step takes

The ten steps of a head group walk the lower triangle of the four tiles by key tile: (0,0) (0,1) (0,2) (0,3) (1,1) … (3,3). -/

/-- Step `j`'s key tile and its query tile. -/
def ki : Fin 10 → ℕ := ![0, 0, 0, 0, 1, 1, 1, 2, 2, 3]
def qi : Fin 10 → ℕ := ![0, 1, 2, 3, 1, 2, 3, 2, 3, 3]

variable (F : FTy → Type) [FloatOps F] [Named F]

/-- The tables' contents. -/
def tabK : S10.Idx → Elt F .i32 := fun x => lit0 (S10.rowMajor x)
def tabQ : S10.Idx → Elt F .i32 := fun x => lit1 (S10.rowMajor x)

/-- Both, as the launch reads them. -/
def tabs : pre0.Contents (Elt F) := fun
  | ⟨0, _⟩ => tabK F
  | ⟨1, _⟩ => tabQ F
  | ⟨_ + 2, h⟩ => absurd h (Nat.not_lt.2 (Nat.le_add_left _ _))

/-- The tables in scalar memory, and the words step `i` reads of them. -/
abbrev memK : Memref sig .tc .smem S10 .i32 := Memref.whole main_c
abbrev memQ : Memref sig .tc .smem S10 .i32 := Memref.whole main_c_0
abbrev wordK (i : grid0.Coords) : BitVec 32 :=
  View.readAt (Elt F) memK.view (Rect.unit (s := S10) (k0_off1 i) S1.size (k0_off1_inb i)).toLoadRect (tabK F) (Shape.Idx.first (numel1_S1.symm ▸ Nat.one_pos))
abbrev wordQ (i : grid0.Coords) : BitVec 32 :=
  View.readAt (Elt F) memQ.view (Rect.unit (s := S10) (k0_off1 i) S1.size (k0_off1_inb i)).toLoadRect (tabQ F) (Shape.Idx.first (numel1_S1.symm ▸ Nat.one_pos))

/-- The two words without the float formats, which they do not depend on. -/
def kW (i : grid0.Coords) : BitVec 32 := lit0 ⟨(i 1).val, (i 1).isLt⟩
def qW (i : grid0.Coords) : BitVec 32 := lit1 ⟨(i 1).val, (i 1).isLt⟩

theorem at_off (i : grid0.Coords) : S10.rowMajor ((Rect.unit (s := S10) (k0_off1 i) S1.size (k0_off1_inb i)).toLoadRect.idx (Shape.Idx.first (numel1_S1.symm ▸ Nat.one_pos))) = ⟨(i 1).val, (i 1).isLt⟩ := by
  revert i; decide +kernel

theorem wordK_eq (i : grid0.Coords) : wordK F i = kW i := by
  exact congrArg lit0 (at_off i)

theorem wordQ_eq (i : grid0.Coords) : wordQ F i = qW i := by
  exact congrArg lit1 (at_off i)

/-! ## Every block lies inside its array -/

theorem idx0 (i : grid0.Coords) : cc0_transform_0 k0_off1_inb numel1_S1 (tabs F) i = ![(qW i).toNat, (i 0).val] := by
  have h : ∀ i : grid0.Coords, (BitVec.ofNat 32 (i 0).val).toNat = (i 0).val := by decide +kernel
  show ![(wordQ F i).toNat, _] = _
  rw [wordQ_eq, h]

theorem idx2 (i : grid0.Coords) : cc0_transform_2 k0_off1_inb numel1_S1 (tabs F) i = ![(kW i).toNat, (i 0).val] := by
  have h : ∀ i : grid0.Coords, (BitVec.ofNat 32 (i 0).val).toNat = (i 0).val := by decide +kernel
  show ![(wordK F i).toNat, _] = _
  rw [wordK_eq, h]

theorem ok_tabs : ok0 (tabs F) := by
  have q512 : ∀ i : grid0.Coords, ∀ a, (![(qW i).toNat, (i 0).val] a + 1) * S1024x512.size a ≤ S4096x2048.size a := by decide +kernel
  have q256 : ∀ i : grid0.Coords, ∀ a, (![(qW i).toNat, (i 0).val] a + 1) * S1024x256.size a ≤ S4096x1024.size a := by decide +kernel
  have k512 : ∀ i : grid0.Coords, ∀ a, (![(kW i).toNat, (i 0).val] a + 1) * S1024x512.size a ≤ S4096x2048.size a := by decide +kernel
  have k256 : ∀ i : grid0.Coords, ∀ a, (![(kW i).toNat, (i 0).val] a + 1) * S1024x256.size a ≤ S4096x1024.size a := by decide +kernel
  refine ⟨fun i => ⟨fun a => ?_, .inr (Affine.block_words_dvd (s := S4096x2048) (p := EltTy.packing .bf16) (by decide) (by decide))⟩,
    fun i => ⟨fun a => ?_, .inr (Affine.block_words_dvd (s := S4096x1024) (p := EltTy.packing .bf16) (by decide) (by decide))⟩,
    fun i => ⟨fun a => ?_, .inr (Affine.block_words_dvd (s := S4096x2048) (p := EltTy.packing .bf16) (by decide) (by decide))⟩,
    fun i => ⟨fun a => ?_, .inr (Affine.block_words_dvd (s := S4096x2048) (p := EltTy.packing .bf16) (by decide) (by decide))⟩,
    fun i => ⟨fun a => ?_, .inr (Affine.block_words_dvd (s := S4096x2048) (p := EltTy.packing .bf16) (by decide) (by decide))⟩,
    fun i => ⟨fun a => ?_, .inr (Affine.block_words_dvd (s := S4096x1024) (p := EltTy.packing .bf16) (by decide) (by decide))⟩,
    fun i => ⟨fun a => ?_, .inr (Affine.block_words_dvd (s := S4096x1024) (p := EltTy.packing .bf16) (by decide) (by decide))⟩⟩
  · exact (congrArg (fun f : Fin 2 → ℕ => (f a + 1) * S1024x512.size a ≤ S4096x2048.size a) (idx0 F i)).mpr (q512 i a)
  · exact (congrArg (fun f : Fin 2 → ℕ => (f a + 1) * S1024x256.size a ≤ S4096x1024.size a) (idx0 F i)).mpr (q256 i a)
  · exact (congrArg (fun f : Fin 2 → ℕ => (f a + 1) * S1024x512.size a ≤ S4096x2048.size a) (idx2 F i)).mpr (k512 i a)
  · exact (congrArg (fun f : Fin 2 → ℕ => (f a + 1) * S1024x512.size a ≤ S4096x2048.size a) (idx2 F i)).mpr (k512 i a)
  · exact (congrArg (fun f : Fin 2 → ℕ => (f a + 1) * S1024x512.size a ≤ S4096x2048.size a) (idx0 F i)).mpr (q512 i a)
  · exact (congrArg (fun f : Fin 2 → ℕ => (f a + 1) * S1024x256.size a ≤ S4096x1024.size a) (idx2 F i)).mpr (k256 i a)
  · exact (congrArg (fun f : Fin 2 → ℕ => (f a + 1) * S1024x256.size a ≤ S4096x1024.size a) (idx2 F i)).mpr (k256 i a)

/-- The launch at these tables. -/
def adm : (pcfg0 (F := F)).Adm := ⟨tabs F, ok_tabs F⟩
abbrev cfgA : Pipeline.Cfg sig Λ₀ := cfg0 (F := F) (adm F)

/-! ## What a step decides of its two words -/

theorem chk (i : grid0.Coords) : k0_chk1 (wordK F i) (wordQ F i) := by
  rw [wordK_eq, wordQ_eq]; revert i; decide +kernel

/-- Step `i` starts a head group (and clears the query gradient). -/
abbrev First (i : grid0.Coords) : Prop := (Scalar.cmpi .ne (Scalar.extui (Scalar.cmpi .eq (BitVec.ofNat 32 (i 1).val) 0#32)) 0#32) = 1#1
/-- It meets a new key tile (and clears that tile's gradients). -/
abbrev Fresh (i : grid0.Coords) : Prop := (Scalar.cmpi .ne (Scalar.extui (Scalar.cmpi .eq (wordQ F i) (wordK F i))) 0#32) = 1#1

theorem first_iff : ∀ i : grid0.Coords, First i ↔ (i 1).val = 0 := by decide +kernel
theorem fresh_iff (i : grid0.Coords) : Fresh F i ↔ ki (i 1) = qi (i 1) := by
  unfold Fresh; rw [wordK_eq, wordQ_eq]; revert i; decide +kernel
theorem off_iff (i : grid0.Coords) : k0_cond3 (wordK F i) (wordQ F i) = 1#1 ↔ ki (i 1) ≠ qi (i 1) := by
  rw [wordK_eq, wordQ_eq]; revert i; decide +kernel
theorem diag_iff (i : grid0.Coords) : k0_cond4 (wordK F i) (wordQ F i) = 1#1 ↔ ki (i 1) = qi (i 1) := by
  rw [wordK_eq, wordQ_eq]; revert i; decide +kernel
theorem flush_iff (i : grid0.Coords) : k0_cond5 (wordQ F i) = 1#1 ↔ qi (i 1) = 3 := by
  rw [wordQ_eq]; revert i; decide +kernel
theorem last_iff : ∀ i : grid0.Coords, k0_cond6 i = 1#1 ↔ (i 1).val = 9 := by decide +kernel

/-- The rows of the query gradient a step reads and writes, and those of the gate gradient it flushes. -/
theorem off2_eq (i : grid0.Coords) : k0_off2 (wordQ F i) = ![0, 1024 * qi (i 1), 0] := by
  rw [wordQ_eq]; revert i; decide +kernel
theorem off3_eq (i : grid0.Coords) : k0_off3 (wordQ F i) = ![1, 1024 * qi (i 1), 0] := by
  rw [wordQ_eq]; revert i; decide +kernel
theorem off4_eq (i : grid0.Coords) : k0_off4 (wordQ F i) = ![0, 1024 * qi (i 1), 0] := by
  rw [wordQ_eq]; revert i; decide +kernel
theorem off5_eq (i : grid0.Coords) : k0_off5 (wordQ F i) = ![1, 1024 * qi (i 1), 0] := by
  rw [wordQ_eq]; revert i; decide +kernel
theorem off6_eq (i : grid0.Coords) : k0_off6 (wordK F i) = ![0, 1024 * ki (i 1), 0] := by
  rw [wordK_eq]; revert i; decide +kernel
theorem off7_eq (i : grid0.Coords) : k0_off7 (wordK F i) = ![1, 1024 * ki (i 1), 0] := by
  rw [wordK_eq]; revert i; decide +kernel

end Cert.Attn
-- ==== Proof.AttnRun.lean ====
module

public import proofs.«01_k».proof.Proof.AttnTables

@[expose] public section

set_option maxRecDepth 16384
set_option Elab.async false

noncomputable section

namespace Cert.Attn

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! # One step of the kernel, run path by path

A step takes one of five paths. Each run below says what the step leaves in the four output buffers and in the three scratch
buffers, whatever they held, together with the proof that the body runs there. -/

variable {F : FTy → Type} [FloatOps F] [Named F]

/-- The logic's algebra at this machine. -/
abbrev Alg (F : FTy → Type) : Type := MT nD τ sig Unit (Elt F) ℕ (UR sig nD τ) ℕ

/-- The scratch buffers: the query gradient, the key gradient and the value gradient of the two heads at hand. -/
abbrev accQ : Memref sig .tc .vmem S2x4096x256 .f32 := Memref.whole cc0_scratch0
abbrev accK : Memref sig .tc .vmem S2x1024x256 .f32 := Memref.whole cc0_scratch1
abbrev accV : Memref sig .tc .vmem S2x1024x128 .f32 := Memref.whole cc0_scratch2

variable (c : Dev nD) (i : grid0.Coords)
  (arg4 : Memref sig .tc .vmem S1024x512 .bf16) (harg4 : arg4.IsWhole) (arg5 : Memref sig .tc .vmem S1024x256 .bf16) (harg5 : arg5.IsWhole)
  (arg6 : Memref sig .tc .vmem S1024x512 .bf16) (harg6 : arg6.IsWhole) (arg7 : Memref sig .tc .vmem S1024x512 .bf16) (harg7 : arg7.IsWhole)
  (arg8 : Memref sig .tc .vmem S1024x512 .bf16) (harg8 : arg8.IsWhole) (arg9 : Memref sig .tc .vmem S4096x256 .bf16) (harg9 : arg9.IsWhole)
  (arg10 : Memref sig .tc .vmem S1024x256 .bf16) (harg10 : arg10.IsWhole) (arg11 : Memref sig .tc .vmem S1024x256 .bf16) (harg11 : arg11.IsWhole)
  (arg12 : Memref sig .tc .vmem S2x4096x128 .f32) (harg12 : arg12.IsWhole)
  (x0 : S1024x512.Idx → Elt F .bf16) (x1 : S1024x256.Idx → Elt F .bf16) (x2 x3 x4 : S1024x512.Idx → Elt F .bf16)

/-- The step's buffers: the inputs at `x0 … x4`, the tables, the outputs at `y`, the scratch at `a`. -/
def held (y5 : S4096x256.Idx → Elt F .bf16) (y6 y7 : S1024x256.Idx → Elt F .bf16) (y8 : S2x4096x128.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2)) : sProp (Alg F) :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (memK.view.loc (c : Thread nD τ) ↦{fullShare.right} tabK F)
    ∗ (memQ.view.loc (c : Thread nD τ) ↦{fullShare.right} tabQ F)
    ∗ owns (c : Thread nD τ) arg9 fullShare y5
    ∗ owns (c : Thread nD τ) arg10 fullShare y6
    ∗ owns (c : Thread nD τ) arg11 fullShare y7
    ∗ owns (c : Thread nD τ) arg12 fullShare y8
    ∗ (accQ.view.loc (c : Thread nD τ) ↦{fullShare} a0)
    ∗ (accK.view.loc (c : Thread nD τ) ↦{fullShare} a1)
    ∗ (accV.view.loc (c : Thread nD τ) ↦{fullShare} a2))

/-- The body runs from the outputs at `y` and the scratch at `a` to `z` and `b`. -/
def Ran (y5 : S4096x256.Idx → Elt F .bf16) (y6 y7 : S1024x256.Idx → Elt F .bf16) (y8 : S2x4096x128.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2))
    (z5 : S4096x256.Idx → Elt F .bf16) (z6 z7 : S1024x256.Idx → Elt F .bf16) (z8 : S2x4096x128.Idx → Elt F .f32)
    (b0 : Buf (Elt F) ((c : Thread nD τ).loc cc0_scratch0)) (b1 : Buf (Elt F) ((c : Thread nD τ).loc cc0_scratch1)) (b2 : Buf (Elt F) ((c : Thread nD τ).loc cc0_scratch2)) : Prop :=
  ∀ K : PUnit → sProp (Alg F),
    iprop(held c arg4 arg5 arg6 arg7 arg8 arg9 arg10 arg11 arg12 x0 x1 x2 x3 x4 y5 y6 y7 y8 a0 a1 a2
        ∗ (held c arg4 arg5 arg6 arg7 arg8 arg9 arg10 arg11 arg12 x0 x1 x2 x3 x4 z5 z6 z7 z8 b0 b1 b2 -∗ K ⟨⟩))
      ⊢ wp frame (wpE (defs₀ (F := F)) Variants.none c none) Set.univ
          (cc0_attn_bwd i memK (Memref.isWhole_whole _) memQ (Memref.isWhole_whole _) arg4 harg4 arg5 harg5 arg6 harg6 arg7 harg7 arg8 harg8 arg9 harg9 arg10 harg10 arg11 harg11 arg12 harg12 accQ (Memref.isWhole_whole _) accK (Memref.isWhole_whole _) accV (Memref.isWhole_whole _)) K

set_option backward.proofsInPublic true in
set_option maxHeartbeats 8000000 in
/-- Path A: the head group's first step: everything cleared, the diagonal tile. -/
def runA (y5 : S4096x256.Idx → Elt F .bf16) (y6 y7 : S1024x256.Idx → Elt F .bf16) (y8 : S2x4096x128.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2)) (h1 : First i) (h2 : Fresh F i) (n3 : ¬(k0_cond3 (wordK F i) (wordQ F i) = 1#1)) (h4 : k0_cond4 (wordK F i) (wordQ F i) = 1#1) (n5 : ¬(k0_cond5 (wordQ F i) = 1#1)) (n6 : ¬(k0_cond6 i = 1#1)) :
    Σ' (z5 : S4096x256.Idx → Elt F .bf16) (z6 z7 : S1024x256.Idx → Elt F .bf16) (z8 : S2x4096x128.Idx → Elt F .f32)
      (b0 : Buf (Elt F) ((c : Thread nD τ).loc cc0_scratch0)) (b1 : Buf (Elt F) ((c : Thread nD τ).loc cc0_scratch1)),
    { b2 : Buf (Elt F) ((c : Thread nD τ).loc cc0_scratch2) // Ran c i arg4 harg4 arg5 harg5 arg6 harg6 arg7 harg7 arg8 harg8 arg9 harg9 arg10 harg10 arg11 harg11 arg12 harg12 x0 x1 x2 x3 x4 y5 y6 y7 y8 a0 a1 a2 z5 z6 z7 z8 b0 b1 b2 } :=
  ⟨_, _, _, _, _, _, _, fun K => by
    unfold held owns
    rw [cc0_attn_bwd_eq_skeleton]; unfold cc0_attn_bwd_skel
    iintro ⟨⟨H0, H1, H2, H3, H4, HT0, HT1, ⟨%f5, %hf5, HO5⟩, ⟨%f6, %hf6, HO6⟩, ⟨%f7, %hf7, HO7⟩, ⟨%f8, %hf8, HO8⟩, HS0, HS1, HS2⟩, Hk⟩
    obtain rfl := harg9.eq_unread hf5; obtain rfl := harg10.eq_unread hf6; obtain rfl := harg11.eq_unread hf7; obtain rfl := harg12.eq_unread hf8
    have hS0 : accQ.IsWhole := Memref.isWhole_whole _
    have hS1 : accK.IsWhole := Memref.isWhole_whole _
    have hS2 : accV.IsWhole := Memref.isWhole_whole _
    have hT0 : memK.IsWhole := Memref.isWhole_whole _
    have hT1 : memQ.IsWhole := Memref.isWhole_whole _
    sl_exec! (disch := first | (guard_target = k0_chk1 _ _; exact chk F i) | (guard_target = (Scalar.cmpi _ _ _ = _); exact h1) | (guard_target = (Scalar.cmpi _ _ _ = _); exact h2) | (guard_target = ¬(k0_cond3 _ _ = _); exact n3) | (guard_target = k0_cond4 _ _ = _; exact h4) | (guard_target = ¬(k0_cond5 _ = _); exact n5) | (guard_target = ¬(k0_cond6 _ = _); exact n6))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; swap
      · iexact HO5
      · ipureintro; rfl
    isplitl [HO6]
    · iexists _; isplitr; swap
      · iexact HO6
      · ipureintro; rfl
    isplitl [HO7]
    · iexists _; isplitr; swap
      · iexact HO7
      · ipureintro; rfl
    isplitl [HO8]
    · iexists _; isplitr; swap
      · iexact HO8
      · ipureintro; rfl
    isplitl [HS0]; · iexact HS0
    isplitl [HS1]; · iexact HS1
    iexact HS2⟩

set_option backward.proofsInPublic true in
set_option maxHeartbeats 8000000 in
/-- Path B: a step below the diagonal that flushes nothing. -/
def runB (y5 : S4096x256.Idx → Elt F .bf16) (y6 y7 : S1024x256.Idx → Elt F .bf16) (y8 : S2x4096x128.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2)) (n1 : ¬(First i)) (n2 : ¬(Fresh F i)) (h3 : k0_cond3 (wordK F i) (wordQ F i) = 1#1) (n4 : ¬(k0_cond4 (wordK F i) (wordQ F i) = 1#1)) (n5 : ¬(k0_cond5 (wordQ F i) = 1#1)) (n6 : ¬(k0_cond6 i = 1#1)) :
    Σ' (z5 : S4096x256.Idx → Elt F .bf16) (z6 z7 : S1024x256.Idx → Elt F .bf16) (z8 : S2x4096x128.Idx → Elt F .f32)
      (b0 : Buf (Elt F) ((c : Thread nD τ).loc cc0_scratch0)) (b1 : Buf (Elt F) ((c : Thread nD τ).loc cc0_scratch1)),
    { b2 : Buf (Elt F) ((c : Thread nD τ).loc cc0_scratch2) // Ran c i arg4 harg4 arg5 harg5 arg6 harg6 arg7 harg7 arg8 harg8 arg9 harg9 arg10 harg10 arg11 harg11 arg12 harg12 x0 x1 x2 x3 x4 y5 y6 y7 y8 a0 a1 a2 z5 z6 z7 z8 b0 b1 b2 } :=
  ⟨_, _, _, _, _, _, _, fun K => by
    unfold held owns
    rw [cc0_attn_bwd_eq_skeleton]; unfold cc0_attn_bwd_skel
    iintro ⟨⟨H0, H1, H2, H3, H4, HT0, HT1, ⟨%f5, %hf5, HO5⟩, ⟨%f6, %hf6, HO6⟩, ⟨%f7, %hf7, HO7⟩, ⟨%f8, %hf8, HO8⟩, HS0, HS1, HS2⟩, Hk⟩
    obtain rfl := harg9.eq_unread hf5; obtain rfl := harg10.eq_unread hf6; obtain rfl := harg11.eq_unread hf7; obtain rfl := harg12.eq_unread hf8
    have hS0 : accQ.IsWhole := Memref.isWhole_whole _
    have hS1 : accK.IsWhole := Memref.isWhole_whole _
    have hS2 : accV.IsWhole := Memref.isWhole_whole _
    have hT0 : memK.IsWhole := Memref.isWhole_whole _
    have hT1 : memQ.IsWhole := Memref.isWhole_whole _
    sl_exec! (disch := first | (guard_target = k0_chk1 _ _; exact chk F i) | (guard_target = ¬(Scalar.cmpi _ _ _ = _); exact n1) | (guard_target = ¬(Scalar.cmpi _ _ _ = _); exact n2) | (guard_target = k0_cond3 _ _ = _; exact h3) | (guard_target = ¬(k0_cond4 _ _ = _); exact n4) | (guard_target = ¬(k0_cond5 _ = _); exact n5) | (guard_target = ¬(k0_cond6 _ = _); exact n6))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; swap
      · iexact HO5
      · ipureintro; rfl
    isplitl [HO6]
    · iexists _; isplitr; swap
      · iexact HO6
      · ipureintro; rfl
    isplitl [HO7]
    · iexists _; isplitr; swap
      · iexact HO7
      · ipureintro; rfl
    isplitl [HO8]
    · iexists _; isplitr; swap
      · iexact HO8
      · ipureintro; rfl
    isplitl [HS0]; · iexact HS0
    isplitl [HS1]; · iexact HS1
    iexact HS2⟩

set_option backward.proofsInPublic true in
set_option maxHeartbeats 8000000 in
/-- Path C: a step below the diagonal that flushes its key tile. -/
def runC (y5 : S4096x256.Idx → Elt F .bf16) (y6 y7 : S1024x256.Idx → Elt F .bf16) (y8 : S2x4096x128.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2)) (n1 : ¬(First i)) (n2 : ¬(Fresh F i)) (h3 : k0_cond3 (wordK F i) (wordQ F i) = 1#1) (n4 : ¬(k0_cond4 (wordK F i) (wordQ F i) = 1#1)) (h5 : k0_cond5 (wordQ F i) = 1#1) (n6 : ¬(k0_cond6 i = 1#1)) :
    Σ' (z5 : S4096x256.Idx → Elt F .bf16) (z6 z7 : S1024x256.Idx → Elt F .bf16) (z8 : S2x4096x128.Idx → Elt F .f32)
      (b0 : Buf (Elt F) ((c : Thread nD τ).loc cc0_scratch0)) (b1 : Buf (Elt F) ((c : Thread nD τ).loc cc0_scratch1)),
    { b2 : Buf (Elt F) ((c : Thread nD τ).loc cc0_scratch2) // Ran c i arg4 harg4 arg5 harg5 arg6 harg6 arg7 harg7 arg8 harg8 arg9 harg9 arg10 harg10 arg11 harg11 arg12 harg12 x0 x1 x2 x3 x4 y5 y6 y7 y8 a0 a1 a2 z5 z6 z7 z8 b0 b1 b2 } :=
  ⟨_, _, _, _, _, _, _, fun K => by
    unfold held owns
    rw [cc0_attn_bwd_eq_skeleton]; unfold cc0_attn_bwd_skel
    iintro ⟨⟨H0, H1, H2, H3, H4, HT0, HT1, ⟨%f5, %hf5, HO5⟩, ⟨%f6, %hf6, HO6⟩, ⟨%f7, %hf7, HO7⟩, ⟨%f8, %hf8, HO8⟩, HS0, HS1, HS2⟩, Hk⟩
    obtain rfl := harg9.eq_unread hf5; obtain rfl := harg10.eq_unread hf6; obtain rfl := harg11.eq_unread hf7; obtain rfl := harg12.eq_unread hf8
    have hS0 : accQ.IsWhole := Memref.isWhole_whole _
    have hS1 : accK.IsWhole := Memref.isWhole_whole _
    have hS2 : accV.IsWhole := Memref.isWhole_whole _
    have hT0 : memK.IsWhole := Memref.isWhole_whole _
    have hT1 : memQ.IsWhole := Memref.isWhole_whole _
    sl_exec! (disch := first | (guard_target = k0_chk1 _ _; exact chk F i) | (guard_target = ¬(Scalar.cmpi _ _ _ = _); exact n1) | (guard_target = ¬(Scalar.cmpi _ _ _ = _); exact n2) | (guard_target = k0_cond3 _ _ = _; exact h3) | (guard_target = ¬(k0_cond4 _ _ = _); exact n4) | (guard_target = k0_cond5 _ = _; exact h5) | (guard_target = ¬(k0_cond6 _ = _); exact n6))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; swap
      · iexact HO5
      · ipureintro; rfl
    isplitl [HO6]
    · iexists _; isplitr; swap
      · iexact HO6
      · ipureintro; rfl
    isplitl [HO7]
    · iexists _; isplitr; swap
      · iexact HO7
      · ipureintro; rfl
    isplitl [HO8]
    · iexists _; isplitr; swap
      · iexact HO8
      · ipureintro; rfl
    isplitl [HS0]; · iexact HS0
    isplitl [HS1]; · iexact HS1
    iexact HS2⟩

set_option backward.proofsInPublic true in
set_option maxHeartbeats 8000000 in
/-- Path D: a diagonal step that clears its key tile and flushes nothing. -/
def runD (y5 : S4096x256.Idx → Elt F .bf16) (y6 y7 : S1024x256.Idx → Elt F .bf16) (y8 : S2x4096x128.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2)) (n1 : ¬(First i)) (h2 : Fresh F i) (n3 : ¬(k0_cond3 (wordK F i) (wordQ F i) = 1#1)) (h4 : k0_cond4 (wordK F i) (wordQ F i) = 1#1) (n5 : ¬(k0_cond5 (wordQ F i) = 1#1)) (n6 : ¬(k0_cond6 i = 1#1)) :
    Σ' (z5 : S4096x256.Idx → Elt F .bf16) (z6 z7 : S1024x256.Idx → Elt F .bf16) (z8 : S2x4096x128.Idx → Elt F .f32)
      (b0 : Buf (Elt F) ((c : Thread nD τ).loc cc0_scratch0)) (b1 : Buf (Elt F) ((c : Thread nD τ).loc cc0_scratch1)),
    { b2 : Buf (Elt F) ((c : Thread nD τ).loc cc0_scratch2) // Ran c i arg4 harg4 arg5 harg5 arg6 harg6 arg7 harg7 arg8 harg8 arg9 harg9 arg10 harg10 arg11 harg11 arg12 harg12 x0 x1 x2 x3 x4 y5 y6 y7 y8 a0 a1 a2 z5 z6 z7 z8 b0 b1 b2 } :=
  ⟨_, _, _, _, _, _, _, fun K => by
    unfold held owns
    rw [cc0_attn_bwd_eq_skeleton]; unfold cc0_attn_bwd_skel
    iintro ⟨⟨H0, H1, H2, H3, H4, HT0, HT1, ⟨%f5, %hf5, HO5⟩, ⟨%f6, %hf6, HO6⟩, ⟨%f7, %hf7, HO7⟩, ⟨%f8, %hf8, HO8⟩, HS0, HS1, HS2⟩, Hk⟩
    obtain rfl := harg9.eq_unread hf5; obtain rfl := harg10.eq_unread hf6; obtain rfl := harg11.eq_unread hf7; obtain rfl := harg12.eq_unread hf8
    have hS0 : accQ.IsWhole := Memref.isWhole_whole _
    have hS1 : accK.IsWhole := Memref.isWhole_whole _
    have hS2 : accV.IsWhole := Memref.isWhole_whole _
    have hT0 : memK.IsWhole := Memref.isWhole_whole _
    have hT1 : memQ.IsWhole := Memref.isWhole_whole _
    sl_exec! (disch := first | (guard_target = k0_chk1 _ _; exact chk F i) | (guard_target = ¬(Scalar.cmpi _ _ _ = _); exact n1) | (guard_target = (Scalar.cmpi _ _ _ = _); exact h2) | (guard_target = ¬(k0_cond3 _ _ = _); exact n3) | (guard_target = k0_cond4 _ _ = _; exact h4) | (guard_target = ¬(k0_cond5 _ = _); exact n5) | (guard_target = ¬(k0_cond6 _ = _); exact n6))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; swap
      · iexact HO5
      · ipureintro; rfl
    isplitl [HO6]
    · iexists _; isplitr; swap
      · iexact HO6
      · ipureintro; rfl
    isplitl [HO7]
    · iexists _; isplitr; swap
      · iexact HO7
      · ipureintro; rfl
    isplitl [HO8]
    · iexists _; isplitr; swap
      · iexact HO8
      · ipureintro; rfl
    isplitl [HS0]; · iexact HS0
    isplitl [HS1]; · iexact HS1
    iexact HS2⟩

set_option backward.proofsInPublic true in
set_option maxHeartbeats 8000000 in
/-- Path E: the last step: the diagonal tile, its key tile and the query gradient flushed. -/
def runE (y5 : S4096x256.Idx → Elt F .bf16) (y6 y7 : S1024x256.Idx → Elt F .bf16) (y8 : S2x4096x128.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2)) (n1 : ¬(First i)) (h2 : Fresh F i) (n3 : ¬(k0_cond3 (wordK F i) (wordQ F i) = 1#1)) (h4 : k0_cond4 (wordK F i) (wordQ F i) = 1#1) (h5 : k0_cond5 (wordQ F i) = 1#1) (h6 : k0_cond6 i = 1#1) :
    Σ' (z5 : S4096x256.Idx → Elt F .bf16) (z6 z7 : S1024x256.Idx → Elt F .bf16) (z8 : S2x4096x128.Idx → Elt F .f32)
      (b0 : Buf (Elt F) ((c : Thread nD τ).loc cc0_scratch0)) (b1 : Buf (Elt F) ((c : Thread nD τ).loc cc0_scratch1)),
    { b2 : Buf (Elt F) ((c : Thread nD τ).loc cc0_scratch2) // Ran c i arg4 harg4 arg5 harg5 arg6 harg6 arg7 harg7 arg8 harg8 arg9 harg9 arg10 harg10 arg11 harg11 arg12 harg12 x0 x1 x2 x3 x4 y5 y6 y7 y8 a0 a1 a2 z5 z6 z7 z8 b0 b1 b2 } :=
  ⟨_, _, _, _, _, _, _, fun K => by
    unfold held owns
    rw [cc0_attn_bwd_eq_skeleton]; unfold cc0_attn_bwd_skel
    iintro ⟨⟨H0, H1, H2, H3, H4, HT0, HT1, ⟨%f5, %hf5, HO5⟩, ⟨%f6, %hf6, HO6⟩, ⟨%f7, %hf7, HO7⟩, ⟨%f8, %hf8, HO8⟩, HS0, HS1, HS2⟩, Hk⟩
    obtain rfl := harg9.eq_unread hf5; obtain rfl := harg10.eq_unread hf6; obtain rfl := harg11.eq_unread hf7; obtain rfl := harg12.eq_unread hf8
    have hS0 : accQ.IsWhole := Memref.isWhole_whole _
    have hS1 : accK.IsWhole := Memref.isWhole_whole _
    have hS2 : accV.IsWhole := Memref.isWhole_whole _
    have hT0 : memK.IsWhole := Memref.isWhole_whole _
    have hT1 : memQ.IsWhole := Memref.isWhole_whole _
    sl_exec! (disch := first | (guard_target = k0_chk1 _ _; exact chk F i) | (guard_target = ¬(Scalar.cmpi _ _ _ = _); exact n1) | (guard_target = (Scalar.cmpi _ _ _ = _); exact h2) | (guard_target = ¬(k0_cond3 _ _ = _); exact n3) | (guard_target = k0_cond4 _ _ = _; exact h4) | (guard_target = k0_cond5 _ = _; exact h5) | (guard_target = k0_cond6 _ = _; exact h6))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; swap
      · iexact HO5
      · ipureintro; rfl
    isplitl [HO6]
    · iexists _; isplitr; swap
      · iexact HO6
      · ipureintro; rfl
    isplitl [HO7]
    · iexists _; isplitr; swap
      · iexact HO7
      · ipureintro; rfl
    isplitl [HO8]
    · iexists _; isplitr; swap
      · iexact HO8
      · ipureintro; rfl
    isplitl [HS0]; · iexact HS0
    isplitl [HS1]; · iexact HS1
    iexact HS2⟩

end Cert.Attn
-- ==== Proof.AttnHost.lean ====
module

public import proofs.«01_k».proof.Proof.AttnRun
public import Idealize.ShloMosaic.Lib.Pipeline.ArrRel
public import Idealize.ShloMosaic.Lib.Pipeline.TableIdle

@[expose] public section

set_option maxRecDepth 16384

noncomputable section

namespace Cert.Attn

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Window)
open Facts₀

/-! # The host's operations

What the host leaves the region, and the region's run: every step takes one of the five paths, and whatever is claimed of
the scratch and of the outputs step by step (`Kept`) holds at the end. The frame claims nothing. -/

variable {F : FTy → Type} [FloatOps F] [Named F]
variable (m : (ℓ : Loc nD τ sig) → Buf (Elt F) ℓ) (ρ : Dev nD → PrngReg)

/-- The host's operations before the region. -/
abbrev hostAll : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]

/-- What the region finds in a buffer. -/
abbrev V (c : Dev nD) (b : Ref sig .tc) : Buf (Elt F) ((c : Thread nD τ).loc b) :=
  StableHlo.after (List.flatten hostAll) (fun b => m (c, b)) b

theorem host_sub : (hostAll (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub⟩

theorem host_fresh : (hostAll (F := F)).Forall fun ops => ops.Forall fun op => op.fresh = ∅ := by
  simp only [hostAll, List.Forall]; repeat' constructor

/-- No operation writes an argument. -/
theorem V_arg (c : Dev nD) (r : Ref sig .tc) (hr : r ∈ [main_arg0, main_arg1, main_arg2, main_arg3, main_arg4]) :
    V m c r = m ((c : Thread nD τ).loc r) :=
  StableHlo.after_of_forall_not_mem (b := Proc.devRef .tc r) _ _ (List.forall_iff_forall_mem.mp (by
    simp only [List.mem_cons, List.not_mem_nil, or_false] at hr
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rcases hr with rfl | rfl | rfl | rfl | rfl <;> decide)))

/-- The region finds the tables. -/
theorem V_tab (c : Dev nD) (k : Fin 2) : V m c (pre0.ref k) = tabs F k := by
  fin_cases k
  · show V m c main_c = tabK F
    unfold V
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
    after_results
    rfl
  · show V m c main_c_0 = tabQ F
    unfold V
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
    after_results
    rfl

end Cert.Attn
-- ==== Proof.AttnFrame.lean ====
module

public import proofs.«01_k».proof.Proof.AttnRun
public import proofs.«01_k».proof.Proof.AttnHost
public import Idealize.ShloMosaic.Lib.Pipeline.ArrRel
public import Idealize.ShloMosaic.Lib.Pipeline.TableIdle

@[expose] public section

set_option maxRecDepth 16384

noncomputable section

namespace Cert.Attn

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Window)

/-! # The launch

The region's run: every step takes one of the five paths, and whatever is claimed of the scratch and of the outputs step by
step (`Kept`) holds at the end. The frame claims nothing. -/

variable {F : FTy → Type} [FloatOps F] [Named F]
variable (m : (ℓ : Loc nD τ sig) → Buf (Elt F) ℓ) (ρ : Dev nD → PrngReg)

/-- The staging buffers at a step. -/
abbrev ms (t : Fin (cfgA F).N) (w : Fin 9) := (spec0 w).stage ((cfgA F).slots t w)

/-- What is claimed: of the scratch before step `n`, of each output's buffer after step `n`. -/
structure Kept (F : FTy → Type) (c : Dev nD) where
  acc : ℕ → Buf (Elt F) ((c : Thread nD τ).loc cc0_scratch0) → Buf (Elt F) ((c : Thread nD τ).loc cc0_scratch1) → Buf (Elt F) ((c : Thread nD τ).loc cc0_scratch2) → Prop
  o5 : ℕ → (S4096x256.Idx → Elt F .bf16) → Prop
  o6 : ℕ → (S1024x256.Idx → Elt F .bf16) → Prop
  o7 : ℕ → (S1024x256.Idx → Elt F .bf16) → Prop
  o8 : ℕ → (S2x4096x128.Idx → Elt F .f32) → Prop

/-- Nothing claimed. -/
def nothing (c : Dev nD) : Kept F c := ⟨fun _ _ _ _ => True, fun _ _ => True, fun _ _ => True, fun _ _ => True, fun _ _ => True⟩

/-- The contents a step's input buffer holds: the block fetched. -/
def inp (c : Dev nD) (w : Fin 9) (t : Fin (cfgA F).N) : ((cfgA F).win w).block.Idx → Elt F ((cfgA F).win w).elt :=
  ((cfgA F).win w).fill ((cfgA F).grid.coords t) (fun _ => Classical.arbitrary _) (((cfgA F).win w).blk t |>.view.read (Elt F) (V m c (Pipeline.arrRef spec0 w)))

/-- The body's run at a step. -/
abbrev RanAt (c : Dev nD) (t : Fin (cfgA F).N)
    (y5 : S4096x256.Idx → Elt F .bf16) (y6 y7 : S1024x256.Idx → Elt F .bf16) (y8 : S2x4096x128.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2))
    (z5 : S4096x256.Idx → Elt F .bf16) (z6 z7 : S1024x256.Idx → Elt F .bf16) (z8 : S2x4096x128.Idx → Elt F .f32)
    (b0 : Buf (Elt F) ((c : Thread nD τ).loc cc0_scratch0)) (b1 : Buf (Elt F) ((c : Thread nD τ).loc cc0_scratch1)) (b2 : Buf (Elt F) ((c : Thread nD τ).loc cc0_scratch2)) : Prop :=
  Ran c (grid0.coords t) (ms t 0) (hstage0_0 _) (ms t 1) (hstage0_1 _) (ms t 2) (hstage0_2 _) (ms t 3) (hstage0_3 _) (ms t 4) (hstage0_4 _)
    (ms t 5) (hstage0_5 _) (ms t 6) (hstage0_6 _) (ms t 7) (hstage0_7 _) (ms t 8) (hstage0_8 _)
    (inp m c 0 t) (inp m c 1 t) (inp m c 2 t) (inp m c 3 t) (inp m c 4 t) y5 y6 y7 y8 a0 a1 a2 z5 z6 z7 z8 b0 b1 b2

/-- Each step keeps the claim. -/
def Steps (c : Dev nD) (K : Kept F c) : Prop :=
  ∀ (t : Fin (cfgA F).N) y5 y6 y7 y8 a0 a1 a2, K.acc t.val a0 a1 a2 → (t.val % 10 ≠ 0 → K.o8 (t.val - 1) y8) →
    ∃ z5 z6 z7 z8 b0 b1 b2, RanAt m c t y5 y6 y7 y8 a0 a1 a2 z5 z6 z7 z8 b0 b1 b2
      ∧ K.acc (t.val + 1) b0 b1 b2 ∧ K.o5 t.val z5 ∧ K.o6 t.val z6 ∧ K.o7 t.val z7 ∧ K.o8 t.val z8

/-- The scratch at some contents of which the claim holds, the tables, the generator's register. -/
def Phi (c : Dev nD) (K : Kept F c) (t : Fin ((cfgA F).N + 1)) : sProp (Alg F) :=
  iprop((∃ a0 a1 a2, ⌜K.acc t.val a0 a1 a2⌝ ∗ (accQ.view.loc (c : Thread nD τ) ↦{fullShare} a0)
      ∗ (accK.view.loc (c : Thread nD τ) ↦{fullShare} a1) ∗ (accV.view.loc (c : Thread nD τ) ↦{fullShare} a2))
    ∗ (memK.view.loc (c : Thread nD τ) ↦{fullShare.right} tabK F) ∗ (memQ.view.loc (c : Thread nD τ) ↦{fullShare.right} tabQ F)
    ∗ ∃ r, prngReg c r)

/-- What the body may leave in a window's buffer. -/
def left (c : Dev nD) (K : Kept F c) : (w : Fin 9) → ℕ → (Y X : (spec0 w).block.Idx → Elt F (spec0 w).elt) → Prop := fun
  | 0 => fun _ Y X => X = Y
  | 1 => fun _ Y X => X = Y
  | 2 => fun _ Y X => X = Y
  | 3 => fun _ Y X => X = Y
  | 4 => fun _ Y X => X = Y
  | 5 => fun n _ X => K.o5 n X
  | 6 => fun n _ X => K.o6 n X
  | 7 => fun n _ X => K.o7 n X
  | 8 => fun n _ X => K.o8 n X
  | ⟨_ + 9, h⟩ => absurd h (Nat.not_lt.2 (Nat.le_add_left _ _))

def rdat (c : Dev nD) (K : Kept F c) : RDat τ (Elt F) Unit ℕ (UR sig nD τ) ℕ (cfgA F) c where
  A w := V m c (Pipeline.arrRef spec0 w)
  after w t := left c K w t.val
  Φ := Phi c K
  q _ := fullShare
  owed _ := 0

theorem found (c : Dev nD) (K : Kept F c) (w : Fin 9) (hw : w.val < 5) (t : Fin (cfgA F).N) (Y) (h : (rdat m c K).Finds w t Y) : Y = inp m c w t := by
  obtain ⟨d, hd⟩ := (rdat m c K).finds_in_eq_fetched w (by revert hw; fin_cases w <;> first | (intro; rfl) | (intro h; exact absurd h (by decide)))
    (by intro t t' _; revert hw; fin_cases w <;> first | (intro; rfl) | (intro h; exact absurd h (by decide)))
    (by intro t Y X h; revert hw; fin_cases w <;> first | (intro; exact h) | (intro h; exact absurd h (by decide))) t Y h
  rw [hd]
  exact Pipeline.fill_of_clip_none (cfg := cfgA F) w _ (by intro a; revert hw; fin_cases w <;> first | (intro; rfl) | (intro h; exact absurd h (by decide))) _ _ _

theorem keep8 : ∀ n : ℕ, ∀ h : n + 1 < grid0.N, (n + 1) % 10 ≠ 0 → cc0_transform_8 (grid0.coords ⟨n + 1, h⟩) = cc0_transform_8 (grid0.coords ⟨n, by omega⟩) := by
  have h : ∀ t : Fin 40, ∀ h : t.val + 1 < grid0.N, (t.val + 1) % 10 ≠ 0 → cc0_transform_8 (grid0.coords ⟨t.val + 1, h⟩) = cc0_transform_8 (grid0.coords ⟨t.val, by omega⟩) := by decide +kernel
  exact fun n hn => h ⟨n, by have := N_0; omega⟩ hn

/-- The gate gradient's buffer holds what the step before left, within a head group. -/
theorem found8 (c : Dev nD) (K : Kept F c) (t : Fin (cfgA F).N) (Y) (h : (rdat m c K).Finds 8 t Y) (ht : t.val % 10 ≠ 0) : K.o8 (t.val - 1) Y := by
  rcases ((rdat m c K).finds_of_pos (w := 8) rfl (by intro h0; rw [h0] at ht; exact ht rfl) Y).mp h with h | ⟨_, _, h⟩
  · exfalso
    have h0 : t.val ≠ 0 := by intro h0; rw [h0] at ht; exact ht rfl
    obtain ⟨n, hn⟩ := Nat.exists_eq_succ_of_ne_zero h0
    have hn1 : n + 1 < grid0.N := by have := t.isLt; change t.val < grid0.N at this; omega
    have e := keep8 n hn1 (by rw [← Nat.succ_eq_add_one, ← hn]; exact ht)
    rw [Window.flush_eq_flushOf] at h
    unfold Window.flushOf at h
    rw [Bool.and_eq_true, Bool.or_eq_true, decide_eq_true_eq, decide_eq_true_eq] at h
    rcases h.2 with h | ⟨hlt, h⟩
    · have := t.isLt; change t.val - 1 + 1 = grid0.N at h; change t.val < grid0.N at this; omega
    · apply h
      have e1 : (⟨t.val - 1 + 1, hlt⟩ : Fin grid0.N) = ⟨n + 1, hn1⟩ := Fin.ext (by show t.val - 1 + 1 = n + 1; omega)
      have e2 : (⟨t.val - 1, Nat.lt_of_le_of_lt (Nat.sub_le _ _) t.isLt⟩ : Fin grid0.N) = ⟨n, by omega⟩ := Fin.ext (by show t.val - 1 = n; omega)
      show cc0_transform_8 (grid0.coords ⟨t.val - 1 + 1, hlt⟩) = cc0_transform_8 (grid0.coords ⟨t.val - 1, _⟩)
      rw [e1, e2, e]
  · exact h

set_option maxHeartbeats 4000000 in
theorem body (c : Dev nD) (K : Kept F c) (hK : Steps m c K) : (rdat m c K).BodyObligation (defs₀ (F := F)) Variants.none () Set.univ := by
  intro t Y hY
  rw [bigSep_W0, bigSep_W0]
  have e0 := found m c K 0 (by decide) t _ (hY 0)
  have e1 := found m c K 1 (by decide) t _ (hY 1)
  have e2 := found m c K 2 (by decide) t _ (hY 2)
  have e3 := found m c K 3 (by decide) t _ (hY 3)
  have e4 := found m c K 4 (by decide) t _ (hY 4)
  have e8 := found8 m c K t _ (hY 8)
  rewrite [show (rdat m c K).Φ t.castSucc = Phi c K t.castSucc from rfl, show (rdat m c K).Φ t.succ = Phi c K t.succ from rfl,
    show (rdat m c K).owesAt () t.succ = (rdat m c K).owesAt () t.castSucc from rfl, e0, e1, e2, e3, e4]
  unfold Phi
  iintro ⟨⟨⟨%a0, %a1, %a2, %ha, HS0, HS1, HS2⟩, HT0, HT1, Hp⟩, Ho, H0, H1, H2, H3, H4, H5, H6, H7, H8⟩
  obtain ⟨z5, z6, z7, z8, b0, b1, b2, hr, hb, h5, h6, h7, h8⟩ := hK t (Y 5) (Y 6) (Y 7) (Y 8) a0 a1 a2 ha e8
  iapply hr _
  unfold held
  isplitl [H0 H1 H2 H3 H4 HT0 HT1 H5 H6 H7 H8 HS0 HS1 HS2]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexact H5
    isplitl [H6]; · iexact H6
    isplitl [H7]; · iexact H7
    isplitl [H8]; · iexact H8
    isplitl [HS0]; · iexact HS0
    isplitl [HS1]; · iexact HS1
    iexact HS2
  iintro ⟨H0, H1, H2, H3, H4, HT0, HT1, H5, H6, H7, H8, HS0, HS1, HS2⟩
  isplitl [HS0 HS1 HS2 HT0 HT1 Hp]
  · isplitl [HS0 HS1 HS2]
    · iexists b0; iexists b1; iexists b2
      isplitr; · ipureintro; exact hb
      isplitl [HS0]; · iexact HS0
      isplitl [HS1]; · iexact HS1
      iexact HS2
    isplitl [HT0]; · iexact HT0
    isplitl [HT1]; · iexact HT1
    iexact Hp
  isplitl [Ho]; · iexact Ho
  isplitl [H0]
  · iexists (inp m c 0 t); isplitr; · ipureintro; rfl
    iapply owns_of_rep; iexact H0
  isplitl [H1]
  · iexists (inp m c 1 t); isplitr; · ipureintro; rfl
    iapply owns_of_rep; iexact H1
  isplitl [H2]
  · iexists (inp m c 2 t); isplitr; · ipureintro; rfl
    iapply owns_of_rep; iexact H2
  isplitl [H3]
  · iexists (inp m c 3 t); isplitr; · ipureintro; rfl
    iapply owns_of_rep; iexact H3
  isplitl [H4]
  · iexists (inp m c 4 t); isplitr; · ipureintro; rfl
    iapply owns_of_rep; iexact H4
  isplitl [H5]
  · iexists z5; isplitr; · ipureintro; exact h5
    iexact H5
  isplitl [H6]
  · iexists z6; isplitr; · ipureintro; exact h6
    iexact H6
  isplitl [H7]
  · iexists z7; isplitr; · ipureintro; exact h7
    iexact H7
  iexists z8; isplitr; · ipureintro; exact h8
  iexact H8

theorem share_eq (c : Dev nD) (K : Kept F c) (w : Fin (cfgA F).W) : (rdat m c K).share w = fullShare := by unfold RDat.share; split <;> rfl

/-- The tables as the launch hands them to the region, one by one. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp (Alg F))
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) (K : Kept F c) (h0 : ∀ a0 a1 a2, K.acc 0 a0 a1 a2) :
    iprop(Pipeline.ΦA (cfgA F).spec c ∗ Pipeline.ΦT pre0 (adm F).1 c) ⊢ (rdat m c K).Φ 0 := by
  show iprop(Pipeline.ΦA spec0 c ∗ Pipeline.prefHeld (Ix := Unit) (Name := ℕ) (U := UR sig nD τ) (Lvl := ℕ) pre0 c (fun _ => fullShare.right) (adm F).1) ⊢ Phi c K 0
  unfold Pipeline.ΦA
  rw [tables_eq, scopedRest0_eq]
  unfold Phi
  iintro ⟨⟨⟨⟨%a0, HS0⟩, ⟨%a1, HS1⟩, ⟨%a2, HS2⟩⟩, Hp⟩, HT0, HT1⟩
  isplitl [HS0 HS1 HS2]
  · iexists a0; iexists a1; iexists a2
    isplitr; · ipureintro; exact h0 a0 a1 a2
    isplitl [HS0]; · iexact HS0
    isplitl [HS1]; · iexact HS1
    iexact HS2
  isplitl [HT0]; · iexact HT0
  isplitl [HT1]; · iexact HT1
  iexact Hp

theorem exit (c : Dev nD) (K : Kept F c) : (rdat m c K).Φ (Fin.last (cfgA F).N) ⊢ Pipeline.ΦA (cfgA F).spec c := by
  show Phi c K (Fin.last (cfgA F).N) ⊢ Pipeline.ΦA spec0 c
  unfold Pipeline.ΦA Phi
  rw [scopedRest0_eq]
  iintro ⟨⟨%a0, %a1, %a2, -, HS0, HS1, HS2⟩, -, -, Hp⟩
  isplitl [HS0 HS1 HS2]
  · isplitl [HS0]; · iexists a0; iexact HS0
    isplitl [HS1]; · iexists a1; iexact HS1
    iexists a2; iexact HS2
  iexact Hp

set_option backward.isDefEq.respectTransparency.types false in
set_option maxHeartbeats 4000000 in
/-- The whole program's run: nothing faults, every counter ends at zero, and the outputs are made of blocks of which the claim holds. -/
theorem run (K : (c : Dev nD) → Kept F c) (hK : ∀ c, Steps m c (K c)) (h0 : ∀ c a0 a1 a2, (K c).acc 0 a0 a1 a2) :
    θ_run (defs (F := F)) (onTc (τ := τ) (main (F := F))) (s₀ m ρ)
      (fun r => RDat.FramePost (cfgA F) (fun c => rdat m c (K c)) (V m) r ∧ r.2.sem = fun _ => 0) :=
  RDat.θ_run_frameP_track (pcfgs (F := F)) (fun _ => adm F) (0 : Fin 1) (launch0 (F := F)) defs₀ Variants.none (fun c => rdat m c (K c)) m ρ main
    (hbody := fun c => body m c (K c) (hK c)) (hshare := fun c w => share_eq m c (K c) w) (howed := fun _ _ => rfl) (V := V m)
    (hmain := Pipeline.hmainP_prefixes _ 0 defs₀ Variants.none m main hostAll host_sub host_fresh main_chain)
    (hA := fun _ _ => rfl) (hpf := fun c k => V_tab m c k) (hin := fun c => enter m c (K c) (h0 c)) (hout := fun c => exit m c (K c))
    (Q' := fun r => RDat.FramePost (cfgA F) (fun c => rdat m c (K c)) (V m) r ∧ r.2.sem = fun _ => 0) (hQ' := fun _ h => h)

/-- The arguments end as launched. -/
theorem kept_arg (K : (c : Dev nD) → Kept F c) (r : PUnit × MemSt nD τ sig (Elt F)) (h : RDat.FramePost (cfgA F) (fun c => rdat m c (K c)) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).2 main_arg0 (Pipeline.mem_restRefs_of main_arg0 (by decide) (show ∀ w : Fin 9, (spec0 w).arr.view.ref ≠ main_arg0 from by decide))).trans (V_arg m c _ (by decide)),
    ((h c).2 main_arg1 (Pipeline.mem_restRefs_of main_arg1 (by decide) (show ∀ w : Fin 9, (spec0 w).arr.view.ref ≠ main_arg1 from by decide))).trans (V_arg m c _ (by decide)),
    ((h c).2 main_arg2 (Pipeline.mem_restRefs_of main_arg2 (by decide) (show ∀ w : Fin 9, (spec0 w).arr.view.ref ≠ main_arg2 from by decide))).trans (V_arg m c _ (by decide)),
    ((h c).2 main_arg3 (Pipeline.mem_restRefs_of main_arg3 (by decide) (show ∀ w : Fin 9, (spec0 w).arr.view.ref ≠ main_arg3 from by decide))).trans (V_arg m c _ (by decide)),
    ((h c).2 main_arg4 (Pipeline.mem_restRefs_of main_arg4 (by decide) (show ∀ w : Fin 9, (spec0 w).arr.view.ref ≠ main_arg4 from by decide))).trans (V_arg m c _ (by decide))⟩

theorem tiles : ∀ j : Fin 10, (j.val = 0 → ki j = qi j ∧ qi j ≠ 3) ∧ (j.val = 9 → ki j = qi j ∧ qi j = 3) ∧ (ki j = qi j → qi j = 3 → j.val = 9) := by decide

/-- Every step runs by some path. -/
theorem steps_nothing (c : Dev nD) : Steps m c (nothing c) := by
  intro t y5 y6 y7 y8 a0 a1 a2 _ _
  have p := tiles (grid0.coords t 1)
  by_cases d : ki (grid0.coords t 1) = qi (grid0.coords t 1)
  · by_cases z : (grid0.coords t 1).val = 0
    · have r := runA c (grid0.coords t) (ms t 0) (hstage0_0 _) (ms t 1) (hstage0_1 _) (ms t 2) (hstage0_2 _) (ms t 3) (hstage0_3 _) (ms t 4) (hstage0_4 _)
        (ms t 5) (hstage0_5 _) (ms t 6) (hstage0_6 _) (ms t 7) (hstage0_7 _) (ms t 8) (hstage0_8 _)
        (inp m c 0 t) (inp m c 1 t) (inp m c 2 t) (inp m c 3 t) (inp m c 4 t) y5 y6 y7 y8 a0 a1 a2
        ((first_iff _).2 z) ((fresh_iff F _).2 d) (fun h => (off_iff F _).1 h d) ((diag_iff F _).2 d) (fun h => (p.1 z).2 ((flush_iff F _).1 h)) (fun h => by rw [(last_iff _).1 h] at z; exact absurd z (by decide))
      exact ⟨_, _, _, _, _, _, _, r.2.2.2.2.2.2.2, trivial, trivial, trivial, trivial, trivial⟩
    · by_cases l : (grid0.coords t 1).val = 9
      · have r := runE c (grid0.coords t) (ms t 0) (hstage0_0 _) (ms t 1) (hstage0_1 _) (ms t 2) (hstage0_2 _) (ms t 3) (hstage0_3 _) (ms t 4) (hstage0_4 _)
          (ms t 5) (hstage0_5 _) (ms t 6) (hstage0_6 _) (ms t 7) (hstage0_7 _) (ms t 8) (hstage0_8 _)
          (inp m c 0 t) (inp m c 1 t) (inp m c 2 t) (inp m c 3 t) (inp m c 4 t) y5 y6 y7 y8 a0 a1 a2
          (fun h => z ((first_iff _).1 h)) ((fresh_iff F _).2 d) (fun h => (off_iff F _).1 h d) ((diag_iff F _).2 d) ((flush_iff F _).2 (p.2.1 l).2) ((last_iff _).2 l)
        exact ⟨_, _, _, _, _, _, _, r.2.2.2.2.2.2.2, trivial, trivial, trivial, trivial, trivial⟩
      · have r := runD c (grid0.coords t) (ms t 0) (hstage0_0 _) (ms t 1) (hstage0_1 _) (ms t 2) (hstage0_2 _) (ms t 3) (hstage0_3 _) (ms t 4) (hstage0_4 _)
          (ms t 5) (hstage0_5 _) (ms t 6) (hstage0_6 _) (ms t 7) (hstage0_7 _) (ms t 8) (hstage0_8 _)
          (inp m c 0 t) (inp m c 1 t) (inp m c 2 t) (inp m c 3 t) (inp m c 4 t) y5 y6 y7 y8 a0 a1 a2
          (fun h => z ((first_iff _).1 h)) ((fresh_iff F _).2 d) (fun h => (off_iff F _).1 h d) ((diag_iff F _).2 d) (fun h => l (p.2.2 d ((flush_iff F _).1 h))) (fun h => l ((last_iff _).1 h))
        exact ⟨_, _, _, _, _, _, _, r.2.2.2.2.2.2.2, trivial, trivial, trivial, trivial, trivial⟩
  · by_cases l : qi (grid0.coords t 1) = 3
    · have r := runC c (grid0.coords t) (ms t 0) (hstage0_0 _) (ms t 1) (hstage0_1 _) (ms t 2) (hstage0_2 _) (ms t 3) (hstage0_3 _) (ms t 4) (hstage0_4 _)
        (ms t 5) (hstage0_5 _) (ms t 6) (hstage0_6 _) (ms t 7) (hstage0_7 _) (ms t 8) (hstage0_8 _)
        (inp m c 0 t) (inp m c 1 t) (inp m c 2 t) (inp m c 3 t) (inp m c 4 t) y5 y6 y7 y8 a0 a1 a2
        (fun h => d (p.1 ((first_iff _).1 h)).1) (fun h => d ((fresh_iff F _).1 h)) ((off_iff F _).2 d) (fun h => d ((diag_iff F _).1 h)) ((flush_iff F _).2 l) (fun h => d (p.2.1 ((last_iff _).1 h)).1)
      exact ⟨_, _, _, _, _, _, _, r.2.2.2.2.2.2.2, trivial, trivial, trivial, trivial, trivial⟩
    · have r := runB c (grid0.coords t) (ms t 0) (hstage0_0 _) (ms t 1) (hstage0_1 _) (ms t 2) (hstage0_2 _) (ms t 3) (hstage0_3 _) (ms t 4) (hstage0_4 _)
        (ms t 5) (hstage0_5 _) (ms t 6) (hstage0_6 _) (ms t 7) (hstage0_7 _) (ms t 8) (hstage0_8 _)
        (inp m c 0 t) (inp m c 1 t) (inp m c 2 t) (inp m c 3 t) (inp m c 4 t) y5 y6 y7 y8 a0 a1 a2
        (fun h => d (p.1 ((first_iff _).1 h)).1) (fun h => d ((fresh_iff F _).1 h)) ((off_iff F _).2 d) (fun h => d ((diag_iff F _).1 h)) (fun h => l ((flush_iff F _).1 h)) (fun h => d (p.2.1 ((last_iff _).1 h)).1)
      exact ⟨_, _, _, _, _, _, _, r.2.2.2.2.2.2.2, trivial, trivial, trivial, trivial, trivial⟩

/-- The frame, over any floats. -/
theorem frame_run : θ_run (defs (F := F)) (onTc (τ := τ) (main (F := F))) (s₀ m ρ)
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run _ _ _).mono (fun r h => ⟨fun c => kept_arg m (fun c => nothing c) r h.1 c, h.2⟩)
    (run m ρ (fun c => nothing c) (fun c => steps_nothing m c) (fun _ _ _ _ => trivial))

end Cert.Attn
-- ==== Proof.AttnClaims.lean ====
module

public import proofs.«01_k».proof.Defs
public import proofs.«01_k».proof.Proof.AttnFrame
public import proofs.«01_k».proof.Proof.Gen.AttnKernel
public import proofs.«01_k».proof.Proof.Gen.AttnReferenceIdeal.Run

@[expose] public section

set_option maxRecDepth 16384

/-! # The attention's frames

`frame_run` holds over any elements; the exact program is its instance at the extended reals, and the program as printed is
the instance at the machine's words, where a named constant is its word. -/

namespace Cert.Attn

open Idealize.ShloMosaic Idealize.ShloMosaic.TcCoe Idealize.ShloMosaic.Tactic Idealize.SL.Sem

theorem frame_ideal : Cert.quiescent_AttnKernelIdeal (hAttnKernelIdeal := Cert.AttnKernelIdeal.Gen.facts) :=
  fun m ρ _ => frame_run (F := Ideal) m ρ

/-- At the machine's words a named constant is the word it was written with. -/
@[implicit_reducible] noncomputable def wordsNamed : Named Bits := ⟨fun _ _ {_} b => b⟩

/-- The frame's statement for the exact program's text, over the machine's words. -/
def WordsFrame : Prop :=
  letI := wordsNamed
  ∀ (m : (ℓ : Loc Cert.AttnKernelIdeal.nD Cert.AttnKernelIdeal.τ Cert.AttnKernelIdeal.sig) → Buf (Elt Bits) ℓ) (g : Dev Cert.AttnKernelIdeal.nD → PrngReg), True →
    θ_run (Cert.AttnKernelIdeal.defs (F := Bits)) (onTc (τ := Cert.AttnKernelIdeal.τ) (Cert.AttnKernelIdeal.main (F := Bits))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

theorem words_frame : WordsFrame := by
  letI := wordsNamed
  exact fun m ρ _ => frame_run (F := Bits) m ρ

/-- Word for word the printed program's frame. -/
theorem words_same : WordsFrame = Cert.quiescent_AttnKernel (hAttnKernel := Cert.AttnKernel.Gen.facts) := by
  sl_kernel_rfl

theorem frame_words : Cert.quiescent_AttnKernel (hAttnKernel := Cert.AttnKernel.Gen.facts) := words_same.mp words_frame

theorem frame_reference : Cert.quiescent_AttnReferenceIdeal (hAttnReferenceIdeal := Cert.AttnReferenceIdeal.Gen.facts) :=
  fun m g _ => (θ_run Cert.AttnReferenceIdeal.defs _ _).mono
    (fun r h => ⟨fun c => (h c).2.2.2.2, sem_eq_zero_of_no_sems (by decide) r.2⟩)
    (Cert.AttnReferenceIdeal.Value.run m g)

/-- The two names' values are those the table gives. -/
theorem preserves : Cert.preserves_AttnKernel_AttnKernelIdeal :=
  ⟨IdealRules.named_const.statement Cert.AttnKernelIdeal.κ "mask" .f32 0xF149F2CA#32 ⊥ rfl,
    IdealRules.named_const.statement Cert.AttnKernelIdeal.κ "ln2" .f32 0x3F317218#32 ((Real.log 2 : ℝ) : EReal) rfl⟩

end Cert.Attn

end
-- ==== Proof.AttnPay.lean ====
module

public import proofs.«01_k».proof.Proof.AttnTables
public import proofs.«01_k».proof.Proof.Words
public import Idealize.ShloMosaic.Lib.Pipeline.ValueKit

@[expose] public section

set_option maxRecDepth 16384

noncomputable section

/-! # The kernel's tile operations, entry by entry

What each payload of the kernel's body is at an index, over extended reals: the tile of scores of a key tile against a query
tile, its exponential, and the three products a step adds to the sums. -/

namespace Cert.Attn

open Cert.AttnKernelIdeal Cert.AttnKernelIdeal.Gen
open Idealize.ShloMosaic Idealize.ShloMosaic.TcCoe Idealize.ShloMosaic.Tactic

/-- Two 128-lane tiles side by side. -/
def cat (a b : Vec Ideal S1024x128 .bf16) (r : Fin 1024) (l : Fin 256) : EReal :=
  if h : l.val < 128 then a (ix2 r ⟨l.val, h⟩) else b (ix2 r ⟨l.val - 128, by omega⟩)

theorem pay16_at (a b : Vec Ideal S1024x128 .bf16) (r : Fin 1024) (l : Fin 256) : k0_pay16 a b (ix2 r l) = cat a b r l := by
  pointwise [k0_pay16, cat]

theorem pay17_eq (a b : Vec Ideal S1024x128 .bf16) : k0_pay17 a b = k0_pay16 a b := rfl
theorem pay29_eq (a b : Vec Ideal S1024x128 .bf16) : k0_pay29 a b = k0_pay16 a b := rfl
theorem pay30_eq (a b : Vec Ideal S1024x128 .bf16) : k0_pay30 a b = k0_pay16 a b := rfl

theorem pay18_at (a b : Vec Ideal S1024x128 .bf16) (k : Vec Ideal S1024x256 .bf16) (s t : Fin 1024) :
    k0_pay18 a b k (ix2 s t) = ∑ l : Fin 256, k (ix2 s l) * cat a b t l := by
  pointwise [k0_pay18, pay17_eq, pay16_at]

theorem pay19_at (v o : Vec Ideal S1024x256 .bf16) (s t : Fin 1024) :
    k0_pay19 v o (ix2 s t) = ∑ l : Fin 256, v (ix2 s l) * o (ix2 t l) := by
  pointwise [k0_pay19]

theorem pay20_at (a b : Vec Ideal S1024x128 .bf16) (k : Vec Ideal S1024x256 .bf16) (s t : Fin 1024) :
    k0_pay20 a b k (ix2 s t) = FloatOps.exp2 (F := Ideal) (φ := .f32) (k0_pay18 a b k (ix2 s t)) := by
  rw [pay18_at]
  pointwise [k0_pay20, pay16_at]

theorem mask_bot : (Named.named κ "mask" 0xF149F2CA#32 : Ideal .f32) = ⊥ := by
  simp [Named.named, κ]

/-- The diagonal tile's mask: the lanes' two counters, compared. -/
theorem sle (s t : Fin 1024) (x y : EReal) :
    Scalar.select (IntOp.cmpi CmpIPredicate.sle (BitVec.ofNat 32 s) (BitVec.ofNat 32 t)) x y = if s.val ≤ t.val then x else y := by
  rw [show IntOp.cmpi CmpIPredicate.sle (BitVec.ofNat 32 s) (BitVec.ofNat 32 t) = BitVec.ofBool (decide (s.val ≤ t.val)) from ?_, Words.sel]
  unfold IntOp.cmpi
  congr 1
  rw [Bool.eq_iff_iff, BitVec.sle_iff_toInt_le, decide_eq_true_iff,
    WordArith.toInt_ofNat_small _ (by omega), WordArith.toInt_ofNat_small _ (by omega)]
  exact Int.ofNat_le

theorem pay32_at (a b : Vec Ideal S1024x128 .bf16) (k : Vec Ideal S1024x256 .bf16) (s t : Fin 1024) :
    k0_pay32 a b k (ix2 s t) = if s.val ≤ t.val then k0_pay18 a b k (ix2 s t) else ⊥ := by
  rw [pay18_at]
  pointwise [k0_pay32, pay29_eq, pay16_at]
  rw [sle, mask_bot]

theorem pay33_eq (a b : Vec Ideal S1024x128 .bf16) (k : Vec Ideal S1024x256 .bf16) : k0_pay33 a b k = k0_pay18 a b k := rfl
theorem pay31_eq (v o : Vec Ideal S1024x256 .bf16) : k0_pay31 v o = k0_pay19 v o := rfl
theorem pay34_eq (v o : Vec Ideal S1024x256 .bf16) : k0_pay34 v o = k0_pay19 v o := rfl

theorem pay36_at (x : FVec Ideal S1024x1024 .f32) (s t : Fin 1024) :
    k0_pay36 x k0_pay35 (ix2 s t) = if s.val ≤ t.val then x (ix2 s t) else ⊥ := by
  pointwise [k0_pay36, k0_pay35]
  rw [sle, mask_bot]

/-- A power of two, over extended reals. -/
abbrev pow2 (x : EReal) : EReal := FloatOps.exp2 (F := Ideal) (φ := .f32) x

theorem pay21_at (a b : Vec Ideal S1024x128 .bf16) (k v o : Vec Ideal S1024x256 .bf16) (s t : Fin 1024) :
    k0_pay21 a b k v o (ix2 s t) = pow2 (k0_pay18 a b k (ix2 s t)) * k0_pay19 v o (ix2 s t) := by
  rw [pay19_at]
  pointwise [k0_pay21, pay20_at]

theorem pay26_at (x y : FVec Ideal S1024x1024 .f32) (s t : Fin 1024) : k0_pay26 x y (ix2 s t) = pow2 (x (ix2 s t)) * y (ix2 s t) := by
  pointwise [k0_pay26, k0_pay25]

theorem pay28_at (x : FVec Ideal S1024x1024 .f32) (s t : Fin 1024) : k0_pay28 x (ix2 s t) = pow2 (x (ix2 s t)) := by
  pointwise [k0_pay28, k0_pay25]

theorem pay38_at (y x : FVec Ideal S1024x1024 .f32) (s t : Fin 1024) : k0_pay38 y x (ix2 s t) = pow2 (x (ix2 s t)) * y (ix2 s t) := by
  pointwise [k0_pay38, k0_pay37]

/-! The three products a step adds. -/

theorem pay22_at (e : FVec Ideal S1024x1024 .f32) (acc : Vec Ideal S1x1024x128 .f32) (o : Vec Ideal S1024x128 .bf16) (s : Fin 1024) (d : Fin 128) :
    k0_pay22 e acc o (ix3 0 s d) = acc (ix3 0 s d) + ∑ t : Fin 1024, e (ix2 s t) * o (ix2 t d) := by
  pointwise [k0_pay22]

theorem pay4_at (acc : Vec Ideal S1x1024x128 .f32) (e : FVec Ideal S1024x1024 .bf16) (o : Vec Ideal S1024x128 .bf16) (s : Fin 1024) (d : Fin 128) :
    k0_pay4 (k0_pay27 acc) e o (ix3 0 s d) = acc (ix3 0 s d) + ∑ t : Fin 1024, e (ix2 s t) * o (ix2 t d) := by
  pointwise [k0_pay4, k0_pay27]

theorem pay39_at (x : FVec Ideal S1024x1024 .f32) (acc : Vec Ideal S1x1024x128 .f32) (o : Vec Ideal S1024x128 .bf16) (s : Fin 1024) (d : Fin 128) :
    k0_pay39 x acc o (ix3 0 s d) = acc (ix3 0 s d) + ∑ t : Fin 1024, pow2 (x (ix2 s t)) * o (ix2 t d) := by
  pointwise [k0_pay39, k0_pay37]

theorem pay9_eq (x : FVec Ideal S1024x1024 .f32) (acc : Vec Ideal S1x1024x128 .f32) (o : Vec Ideal S1024x128 .bf16) : k0_pay9 x acc o = k0_pay39 x acc o := rfl

theorem pay23_at (q : FVec Ideal S1024x256 .bf16) (d : FVec Ideal S1024x1024 .bf16) (acc : Vec Ideal S1x1024x256 .f32) (s : Fin 1024) (l : Fin 256) :
    k0_pay23 q d acc (ix3 0 s l) = acc (ix3 0 s l) + ∑ t : Fin 1024, d (ix2 s t) * q (ix2 t l) := by
  pointwise [k0_pay23]

theorem pay5_eq (q : FVec Ideal S1024x256 .bf16) (d : FVec Ideal S1024x1024 .bf16) (acc : Vec Ideal S1x1024x256 .f32) : k0_pay5 q d acc = k0_pay23 q d acc := rfl
theorem pay40_eq (q : FVec Ideal S1024x256 .bf16) (y x : FVec Ideal S1024x1024 .f32) (acc : Vec Ideal S1x1024x256 .f32) :
    k0_pay40 q y x acc = k0_pay23 q (k0_pay38 y x) acc := rfl
theorem pay10_eq (q : FVec Ideal S1024x256 .bf16) (y x : FVec Ideal S1024x1024 .f32) (acc : Vec Ideal S1x1024x256 .f32) :
    k0_pay10 q y x acc = k0_pay23 q (k0_pay38 y x) acc := rfl

theorem pay24_at (d : FVec Ideal S1024x1024 .bf16) (acc : Vec Ideal S1x1024x256 .f32) (k : Vec Ideal S1024x256 .bf16) (t : Fin 1024) (l : Fin 256) :
    k0_pay24 d acc k (ix3 0 t l) = acc (ix3 0 t l) + ∑ s : Fin 1024, d (ix2 s t) * k (ix2 s l) := by
  pointwise [k0_pay24]

theorem pay6_eq (d : FVec Ideal S1024x1024 .bf16) (acc : Vec Ideal S1x1024x256 .f32) (k : Vec Ideal S1024x256 .bf16) : k0_pay6 d acc k = k0_pay24 d acc k := rfl
theorem pay41_eq (y x : FVec Ideal S1024x1024 .f32) (acc : Vec Ideal S1x1024x256 .f32) (k : Vec Ideal S1024x256 .bf16) :
    k0_pay41 y x acc k = k0_pay24 (k0_pay38 y x) acc k := rfl
theorem pay11_eq (y x : FVec Ideal S1024x1024 .f32) (acc : Vec Ideal S1x1024x256 .f32) (k : Vec Ideal S1024x256 .bf16) :
    k0_pay11 y x acc k = k0_pay24 (k0_pay38 y x) acc k := rfl

/-! What the stores of the results hold. -/

theorem pay1_at (a : Fin 2) (r : Fin 4096) (l : Fin 256) : k0_pay1 (F := Ideal) (ix3 a r l) = (0 : EReal) := by pointwise [k0_pay1]
theorem pay2_at (a : Fin 2) (r : Fin 1024) (l : Fin 256) : k0_pay2 (F := Ideal) (ix3 a r l) = (0 : EReal) := by pointwise [k0_pay2]
theorem pay3_at (a : Fin 2) (r : Fin 1024) (l : Fin 128) : k0_pay3 (F := Ideal) (ix3 a r l) = (0 : EReal) := by pointwise [k0_pay3]

/-- The natural logarithm of two, as the kernel's constant is named. -/
abbrev ln2 : EReal := ((Real.log 2 : ℝ) : EReal)

theorem ln2_named : (Named.named κ "ln2" 0x3F317218#32 : Ideal .f32) = ln2 :=
  IdealRules.named_const.ideal_named_scalar κ "ln2" _ _ (by simp [κ])

/-- The scale's rational. -/
abbrev sc0 : EReal := Scalar.ofBits (F := Ideal) .f32 0x3DB504F3#32

theorem pay42_at (x : Vec Ideal S1x1024x128 .f32) (r : Fin 1024) (l : Fin 128) : k0_pay42 x (ix2 r l) = x (ix3 0 r l) * ln2 := by
  pointwise [k0_pay42]
  rw [ln2_named]
theorem pay12_eq (x : Vec Ideal S1x1024x128 .f32) : k0_pay12 (k0_pay45 x) = k0_pay42 x := rfl
theorem pay43_at (x : Vec Ideal S1x1024x128 .f32) (r : Fin 1024) (l : Fin 128) : k0_pay43 x (ix2 r l) = x (ix3 0 r l) := by
  pointwise [k0_pay43]
theorem pay13_eq (x : Vec Ideal S1x1024x128 .f32) : k0_pay13 x = k0_pay43 x := rfl
theorem pay44_at (x : Vec Ideal S1x1024x1 .f32) (r : Fin 1024) (l : Fin 128) : k0_pay44 x (ix3 0 r l) = 0 - x (ix3 0 r 0) := by
  pointwise [k0_pay44]
theorem pay14_eq (x : Vec Ideal S1x1024x1 .f32) : k0_pay14 x = k0_pay44 x := rfl
theorem pay46_at (x : Vec Ideal S1x4096x128 .f32) (r : Fin 4096) (l : Fin 128) : k0_pay46 x (ix2 r l) = x (ix3 0 r l) * sc0 := by
  pointwise [k0_pay46]
theorem pay48_eq (x : Vec Ideal S1x4096x128 .f32) : k0_pay48 x = k0_pay46 x := rfl
theorem pay47_at (x : Vec Ideal S1x4096x128 .f32) (y : Vec Ideal S1x4096x1 .f32) (r : Fin 4096) (l : Fin 128) :
    k0_pay47 x y (ix3 0 r l) = x (ix3 0 r l) + y (ix3 0 r 0) := by
  pointwise [k0_pay47]
theorem pay15_eq (x : Vec Ideal S1x4096x128 .f32) (y : Vec Ideal S1x4096x1 .f32) : k0_pay15 (k0_pay49 x) (k0_pay50 y) = k0_pay47 x y := rfl

end Cert.Attn

end
-- ==== Proof.AttnHeads.lean ====
module

public import proofs.«01_k».proof.Proof.AttnPay
public import proofs.«01_k».proof.Proof.Stores

@[expose] public section

set_option maxRecDepth 16384

noncomputable section

/-! # Sums of two heads kept in one buffer

A buffer of two heads' sums, each head's rows `o … o + R` replaced by themselves plus a product: what the buffer holds at an
index, and what the two loads in between read. -/

namespace Cert.Attn

open Cert.AttnKernelIdeal Cert.AttnKernelIdeal.Gen
open Idealize.ShloMosaic Idealize.ShloMosaic.TcCoe Idealize.ShloMosaic.Tactic

variable {sg : RefSig} {sp : Space} {N M R : ℕ}

/-- Contents of a two-head buffer, and of one head's stored rows. -/
abbrev Two (N M : ℕ) : Shape := ⟨3, ![2, N, M]⟩
abbrev One (R M : ℕ) : Shape := ⟨3, ![1, R, M]⟩

section load
variable {Val : EltTy → Type} {S : Shape} {e : EltTy} {κ' : Kind}

theorem readAt_at (v : View sg κ' sp S e) (f : v.ty.Contents Val) {off size : Fin S.rank → ℕ} (inb : ∀ a, off a + size a ≤ S.size a)
    (x : (Rect.unit off size inb).shape.Idx) (y : S.Idx) (h : ∀ a, (y a).val = off a + (x a).val) :
    v.readAt Val (Rect.unit off size inb).toLoadRect f x = v.read Val f y :=
  congrArg (v.read Val f) (funext fun a => Fin.ext ((Rect.idx_unit_val off size inb x a).trans (h a).symm))

end load

variable (v : View sg .tc sp (Two N M) .f32) (f : v.ty.Contents (Elt Ideal)) (L : List (View.Piece (Elt Ideal) (Two N M) .f32))
  {o : ℕ} {off0 off1 : Fin 3 → ℕ} (e0 : off0 = ![0, o, 0]) (e1 : off1 = ![1, o, 0])
  (i0 : ∀ a : Fin 3, off0 a + (![1, R, M] : Fin 3 → ℕ) a ≤ (Two N M).size a) (i1 : ∀ a : Fin 3, off1 a + (![1, R, M] : Fin 3 → ℕ) a ≤ (Two N M).size a)

/-- One head's rows as a rectangle of the buffer. -/
abbrev rows (off : Fin 3 → ℕ) (i : ∀ a : Fin 3, off a + (![1, R, M] : Fin 3 → ℕ) a ≤ (Two N M).size a) : Rect (Two N M) := Rect.unit off ![1, R, M] i

include e0 e1 in
theorem heads (P0 P1 : (One R M).Idx → EReal) (a : Fin 2) (r : Fin N) (l : Fin M) :
    v.read (Elt Ideal) (v.writes (Elt Ideal) f (⟨rows off1 i1, P1⟩ :: ⟨rows off0 i0, P0⟩ :: L)) (ix3 a r l)
      = if h : o ≤ r.val ∧ r.val < o + R then (if a = 0 then P0 (ix3 0 ⟨r.val - o, by omega⟩ l) else P1 (ix3 0 ⟨r.val - o, by omega⟩ l))
        else v.read (Elt Ideal) (v.writes (Elt Ideal) f L) (ix3 a r l) := by
  by_cases h : o ≤ r.val ∧ r.val < o + R
  · rw [dif_pos h]
    match a with
    | 0 =>
      rw [if_pos rfl]
      refine (View.read_writes_cons_unit_of_not_mem v f i1 _ _ _ e1 (0 : Fin 3) (Or.inl (by show 0 < 1; omega))).trans ?_
      refine View.read_writes_cons_unit_of_mem v f i0 _ _ _ (ix3 0 ⟨r.val - o, by omega⟩ l) e0 fun a => ?_
      match a with
      | 0 => rfl
      | 1 => show r.val = o + (r.val - o); omega
      | 2 => show l.val = 0 + l.val; omega
    | 1 =>
      rw [if_neg (by decide)]
      refine View.read_writes_cons_unit_of_mem v f i1 _ _ _ (ix3 0 ⟨r.val - o, by omega⟩ l) e1 fun a => ?_
      match a with
      | 0 => rfl
      | 1 => show r.val = o + (r.val - o); omega
      | 2 => show l.val = 0 + l.val; omega
  · rw [dif_neg h]
    have h' : r.val < o ∨ o + R ≤ r.val := by omega
    refine (View.read_writes_cons_unit_of_not_mem v f i1 _ _ _ e1 (1 : Fin 3) h').trans ?_
    exact View.read_writes_cons_unit_of_not_mem v f i0 _ _ _ e0 (1 : Fin 3) h'

include e0 e1 in
/-- Both heads' rows raised by `C`, one after the other. -/
theorem raised (R0 R1 : ((One R M).Idx → EReal) → (One R M).Idx → EReal) (C : Fin 2 → Fin R → Fin M → EReal)
    (h0 : ∀ acc r l, R0 acc (ix3 0 r l) = acc (ix3 0 r l) + C 0 r l) (h1 : ∀ acc r l, R1 acc (ix3 0 r l) = acc (ix3 0 r l) + C 1 r l)
    (ho : o + R ≤ N) (a : Fin 2) (r : Fin N) (l : Fin M) (P0 P1 : (One R M).Idx → EReal)
    (hP0 : P0 = R0 (v.readAt (Elt Ideal) (rows off0 i0).toLoadRect (v.writes (Elt Ideal) f L)))
    (hP1 : P1 = R1 (v.readAt (Elt Ideal) (rows off1 i1).toLoadRect (v.writes (Elt Ideal) f (⟨rows off0 i0, P0⟩ :: L)))) :
    v.read (Elt Ideal) (v.writes (Elt Ideal) f (⟨rows off1 i1, P1⟩ :: ⟨rows off0 i0, P0⟩ :: L)) (ix3 a r l)
      = v.read (Elt Ideal) (v.writes (Elt Ideal) f L) (ix3 a r l)
        + if h : o ≤ r.val ∧ r.val < o + R then C a ⟨r.val - o, by omega⟩ l else 0 := by
  rw [heads v f L e0 e1]
  by_cases h : o ≤ r.val ∧ r.val < o + R
  · rw [dif_pos h, dif_pos h]
    match a with
    | 0 =>
      rw [if_pos rfl, hP0, h0]
      congr 1
      refine readAt_at v _ i0 _ _ fun a => ?_
      subst e0
      match a with
      | 0 => rfl
      | 1 => show r.val = o + (r.val - o); omega
      | 2 => show l.val = 0 + l.val; omega
    | 1 =>
      rw [if_neg (by decide), hP1, h1]
      congr 1
      refine (readAt_at v _ i1 _ (ix3 1 r l) fun a => ?_).trans ?_
      · subst e1
        match a with
        | 0 => rfl
        | 1 => show r.val = o + (r.val - o); omega
        | 2 => show l.val = 0 + l.val; omega
      · exact View.read_writes_cons_unit_of_not_mem v f i0 _ _ _ e0 (0 : Fin 3) (Or.inr (by show 0 + 1 ≤ 1; omega))
  · rw [dif_neg h, dif_neg h, add_zero]

/-- Both heads' whole sums raised by `C`, read from what the buffer held. -/
theorem raised_whole (g : v.ty.Contents (Elt Ideal)) (R0 R1 : ((One N M).Idx → EReal) → (One N M).Idx → EReal) (C : Fin 2 → Fin N → Fin M → EReal)
    (h0 : ∀ acc r l, R0 acc (ix3 0 r l) = acc (ix3 0 r l) + C 0 r l) (h1 : ∀ acc r l, R1 acc (ix3 0 r l) = acc (ix3 0 r l) + C 1 r l)
    (i0 : ∀ a : Fin 3, (![0, 0, 0] : Fin 3 → ℕ) a + (![1, N, M] : Fin 3 → ℕ) a ≤ (Two N M).size a)
    (i1 : ∀ a : Fin 3, (![1, 0, 0] : Fin 3 → ℕ) a + (![1, N, M] : Fin 3 → ℕ) a ≤ (Two N M).size a)
    (a : Fin 2) (r : Fin N) (l : Fin M) (P0 P1 : (One N M).Idx → EReal)
    (hP0 : P0 = R0 (v.readAt (Elt Ideal) (rows ![0, 0, 0] i0).toLoadRect g))
    (hP1 : P1 = R1 (v.readAt (Elt Ideal) (rows ![1, 0, 0] i1).toLoadRect g)) :
    v.read (Elt Ideal) (v.writes (Elt Ideal) f (⟨rows ![1, 0, 0] i1, P1⟩ :: ⟨rows ![0, 0, 0] i0, P0⟩ :: L)) (ix3 a r l)
      = v.read (Elt Ideal) g (ix3 a r l) + C a r l := by
  rw [heads v f L rfl rfl, dif_pos ⟨Nat.zero_le _, by omega⟩]
  match a with
  | 0 =>
    rw [if_pos rfl, hP0, h0]
    congr 1
    refine readAt_at v _ i0 _ _ fun a => ?_
    match a with
    | 0 => rfl
    | 1 => show r.val = 0 + (r.val - 0); omega
    | 2 => show l.val = 0 + l.val; omega
  | 1 =>
    rw [if_neg (by decide), hP1, h1]
    congr 1
    refine readAt_at v _ i1 _ _ fun a => ?_
    match a with
    | 0 => rfl
    | 1 => show r.val = 0 + (r.val - 0); omega
    | 2 => show l.val = 0 + l.val; omega

/-- Both heads' whole sums raised by `C`, after a clearing store. -/
theorem raised_fresh (Z : (Two N M).Idx → EReal) (hZ : ∀ a r l, Z (ix3 a r l) = 0)
    (iZ : ∀ a : Fin 3, (![0, 0, 0] : Fin 3 → ℕ) a + (![2, N, M] : Fin 3 → ℕ) a ≤ (Two N M).size a)
    (R0 R1 : ((One N M).Idx → EReal) → (One N M).Idx → EReal) (C : Fin 2 → Fin N → Fin M → EReal)
    (h0 : ∀ acc r l, R0 acc (ix3 0 r l) = acc (ix3 0 r l) + C 0 r l) (h1 : ∀ acc r l, R1 acc (ix3 0 r l) = acc (ix3 0 r l) + C 1 r l)
    (i0 : ∀ a : Fin 3, (![0, 0, 0] : Fin 3 → ℕ) a + (![1, N, M] : Fin 3 → ℕ) a ≤ (Two N M).size a)
    (i1 : ∀ a : Fin 3, (![1, 0, 0] : Fin 3 → ℕ) a + (![1, N, M] : Fin 3 → ℕ) a ≤ (Two N M).size a)
    (a : Fin 2) (r : Fin N) (l : Fin M) (P0 P1 : (One N M).Idx → EReal)
    (hP0 : P0 = R0 (v.readCov ([⟨Rect.unit ![0, 0, 0] ![2, N, M] iZ, Z⟩] : List (View.Piece (Elt Ideal) (Two N M) .f32)) (rows ![0, 0, 0] i0).toLoadRect))
    (hP1 : P1 = R1 (v.readCov ([⟨rows ![0, 0, 0] i0, P0⟩, ⟨Rect.unit ![0, 0, 0] ![2, N, M] iZ, Z⟩] : List (View.Piece (Elt Ideal) (Two N M) .f32)) (rows ![1, 0, 0] i1).toLoadRect)) :
    v.read (Elt Ideal) (v.writes (Elt Ideal) f (⟨rows ![1, 0, 0] i1, P1⟩ :: ⟨rows ![0, 0, 0] i0, P0⟩ :: L)) (ix3 a r l) = C a r l := by
  have hz : ∀ (a : Fin 2) (r : Fin N) (l : Fin M), View.canon [(⟨Rect.unit ![0, 0, 0] ![2, N, M] iZ, Z⟩ : View.Piece (Elt Ideal) (Two N M) .f32)] (ix3 a r l) = (0 : EReal) := by
    intro a r l
    refine (Stores.canon_in (Val := Elt Ideal) (e := .f32) (S := Two N M) iZ Z [] _ (ix3 a r l) fun b => ?_).trans (hZ a r l)
    match b with
    | 0 => exact (Nat.zero_add _).symm
    | 1 => exact (Nat.zero_add _).symm
    | 2 => exact (Nat.zero_add _).symm
  rw [heads v f L rfl rfl, dif_pos ⟨Nat.zero_le _, by omega⟩]
  match a with
  | 0 =>
    rw [if_pos rfl, hP0, h0]
    refine (congrArg (· + _) ((Stores.readCov_at v _ i0 _ (ix3 0 r l) fun a => ?_).trans (hz 0 r l))).trans (zero_add _)
    match a with
    | 0 => rfl
    | 1 => show r.val = 0 + (r.val - 0); omega
    | 2 => show l.val = 0 + l.val; omega
  | 1 =>
    rw [if_neg (by decide), hP1, h1]
    refine (congrArg (· + _) ((Stores.readCov_at v _ i1 _ (ix3 1 r l) fun a => ?_).trans
      ((Stores.canon_out (S := Two N M) i0 P0 _ _ (0 : Fin 3) (Or.inr (by show 0 + 1 ≤ 1; omega))).trans (hz 1 r l)))).trans (zero_add _)
    match a with
    | 0 => rfl
    | 1 => show r.val = 0 + (r.val - 0); omega
    | 2 => show l.val = 0 + l.val; omega

end Cert.Attn

end
-- ==== Proof.AttnBlocks.lean ====
module

public import proofs.«01_k».proof.Proof.AttnHeads
public import proofs.«01_k».proof.Proof.AttnRun

@[expose] public section

set_option maxRecDepth 16384

noncomputable section

/-! # What one step adds

From the step's five blocks, head by head: the tile of weights, the tile of score gradients, and the products with them that
the step adds to the sums. -/

namespace Cert.Attn

open Cert.AttnKernelIdeal Cert.AttnKernelIdeal.Gen
open Idealize.ShloMosaic Idealize.ShloMosaic.TcCoe Idealize.ShloMosaic.Tactic

section blocks
variable (x0 : S1024x512.Idx → EReal) (x1 : S1024x256.Idx → EReal) (x2 x3 x4 : S1024x512.Idx → EReal)

/-- Head `a`'s columns of a block of packed heads. -/
def head (x : S1024x512.Idx → EReal) (a : Fin 2) (r : Fin 1024) (l : Fin 256) : EReal := x (ix2 r ⟨256 * a.val + l.val, by omega⟩)

/-- Head `a`'s query row: the head's own columns, then its further lanes. -/
def qrow (a : Fin 2) (r : Fin 1024) (l : Fin 256) : EReal :=
  if h : l.val < 128 then x0 (ix2 r ⟨256 * a.val + l.val, by omega⟩) else x1 (ix2 r ⟨128 * a.val + (l.val - 128), by omega⟩)

def score (a : Fin 2) (s t : Fin 1024) : EReal := ∑ l : Fin 256, head x2 a s l * qrow x0 x1 a t l

/-- The weight of key row `s` for query row `t`; above the diagonal of a diagonal tile it is zero. -/
def weight (d : Bool) (a : Fin 2) (s t : Fin 1024) : EReal :=
  pow2 (if d = false ∨ s.val ≤ t.val then score x0 x1 x2 a s t else ⊥)

def dscore (d : Bool) (a : Fin 2) (s t : Fin 1024) : EReal :=
  weight x0 x1 x2 d a s t * ∑ l : Fin 256, head x3 a s l * head x4 a t l

def addQ (d : Bool) (a : Fin 2) (t : Fin 1024) (l : Fin 256) : EReal := ∑ s : Fin 1024, dscore x0 x1 x2 x3 x4 d a s t * head x2 a s l
def addK (d : Bool) (a : Fin 2) (s : Fin 1024) (l : Fin 256) : EReal := ∑ t : Fin 1024, dscore x0 x1 x2 x3 x4 d a s t * qrow x0 x1 a t l
def addV (d : Bool) (a : Fin 2) (s : Fin 1024) (l : Fin 128) : EReal :=
  ∑ t : Fin 1024, weight x0 x1 x2 d a s t * x4 (ix2 t ⟨256 * a.val + l.val, by omega⟩)
end blocks

section loads
variable (arg4 : Memref sig .tc .vmem S1024x512 .bf16) (arg5 : Memref sig .tc .vmem S1024x256 .bf16)

theorem ld512 {n : ℕ} (o : ℕ) (i : ∀ a : Fin 2, (![0, o] : Fin 2 → ℕ) a + (![1024, n] : Fin 2 → ℕ) a ≤ S1024x512.size a)
    (x : S1024x512.Idx → EReal) (r : Fin 1024) (l : Fin n) (h : o + l.val < 512) :
    View.readAt (Elt Ideal) arg4.view (Rect.unit (s := S1024x512) ![0, o] ![1024, n] i).toLoadRect (arg4.view.rep (Val := Elt Ideal) x) (ix2 r l) = x (ix2 r ⟨o + l.val, h⟩) := by
  refine (readAt_at (Val := Elt Ideal) arg4.view _ i (ix2 r l) (ix2 r ⟨o + l.val, h⟩) fun a => ?_).trans
    (congrFun (View.read_rep (Val := Elt Ideal) arg4.view x) _)
  match a with
  | 0 => exact (Nat.zero_add _).symm
  | 1 => rfl

theorem ld256 {n : ℕ} (o : ℕ) (i : ∀ a : Fin 2, (![0, o] : Fin 2 → ℕ) a + (![1024, n] : Fin 2 → ℕ) a ≤ S1024x256.size a)
    (x : S1024x256.Idx → EReal) (r : Fin 1024) (l : Fin n) (h : o + l.val < 256) :
    View.readAt (Elt Ideal) arg5.view (Rect.unit (s := S1024x256) ![0, o] ![1024, n] i).toLoadRect (arg5.view.rep (Val := Elt Ideal) x) (ix2 r l) = x (ix2 r ⟨o + l.val, h⟩) := by
  refine (readAt_at (Val := Elt Ideal) arg5.view _ i (ix2 r l) (ix2 r ⟨o + l.val, h⟩) fun a => ?_).trans
    (congrFun (View.read_rep (Val := Elt Ideal) arg5.view x) _)
  match a with
  | 0 => exact (Nat.zero_add _).symm
  | 1 => rfl

/-- The loads: a head's 128 columns or its 256, head 0 or head 1. -/
abbrev l0 (x : S1024x512.Idx → EReal) : Vec Ideal S1024x128 .bf16 :=
  View.readAt (Elt Ideal) arg4.view (Rect.unit (s := S1024x512) ![0, 0] S1024x128.size inb_S1024x512_S1024x128_0_0).toLoadRect (arg4.view.rep (Val := Elt Ideal) x)
abbrev l1 (x : S1024x512.Idx → EReal) : Vec Ideal S1024x128 .bf16 :=
  View.readAt (Elt Ideal) arg4.view (Rect.unit (s := S1024x512) ![0, 256] S1024x128.size inb_S1024x512_S1024x128_0_256).toLoadRect (arg4.view.rep (Val := Elt Ideal) x)
abbrev w0 (x : S1024x512.Idx → EReal) : Vec Ideal S1024x256 .bf16 :=
  View.readAt (Elt Ideal) arg4.view (Rect.unit (s := S1024x512) ![0, 0] S1024x256.size inb_S1024x512_S1024x256_0_0).toLoadRect (arg4.view.rep (Val := Elt Ideal) x)
abbrev w1 (x : S1024x512.Idx → EReal) : Vec Ideal S1024x256 .bf16 :=
  View.readAt (Elt Ideal) arg4.view (Rect.unit (s := S1024x512) ![0, 256] S1024x256.size inb_S1024x512_S1024x256_0_256).toLoadRect (arg4.view.rep (Val := Elt Ideal) x)
abbrev e0 (x : S1024x256.Idx → EReal) : Vec Ideal S1024x128 .bf16 :=
  View.readAt (Elt Ideal) arg5.view (Rect.unit (s := S1024x256) ![0, 0] S1024x128.size inb_S1024x256_S1024x128_0_0).toLoadRect (arg5.view.rep (Val := Elt Ideal) x)
abbrev e1 (x : S1024x256.Idx → EReal) : Vec Ideal S1024x128 .bf16 :=
  View.readAt (Elt Ideal) arg5.view (Rect.unit (s := S1024x256) ![0, 128] S1024x128.size inb_S1024x256_S1024x128_0_128).toLoadRect (arg5.view.rep (Val := Elt Ideal) x)

theorem w0_at (x : S1024x512.Idx → EReal) (r : Fin 1024) (l : Fin 256) : w0 arg4 x (ix2 r l) = head x 0 r l :=
  ld512 arg4 0 _ x r l (by omega)
theorem w1_at (x : S1024x512.Idx → EReal) (r : Fin 1024) (l : Fin 256) : w1 arg4 x (ix2 r l) = head x 1 r l :=
  ld512 arg4 256 _ x r l (by omega)
theorem l0_at (x : S1024x512.Idx → EReal) (r : Fin 1024) (l : Fin 128) : l0 arg4 x (ix2 r l) = x (ix2 r ⟨256 * (0 : Fin 2).val + l.val, by show 0 + l.val < 512; omega⟩) :=
  ld512 arg4 0 _ x r l (by omega)
theorem l1_at (x : S1024x512.Idx → EReal) (r : Fin 1024) (l : Fin 128) : l1 arg4 x (ix2 r l) = x (ix2 r ⟨256 * (1 : Fin 2).val + l.val, by show 256 + l.val < 512; omega⟩) :=
  ld512 arg4 256 _ x r l (by omega)
theorem cat0 (x : S1024x512.Idx → EReal) (y : S1024x256.Idx → EReal) (r : Fin 1024) (l : Fin 256) : cat (l0 arg4 x) (e0 arg5 y) r l = qrow x y 0 r l := by
  unfold cat qrow
  by_cases h : l.val < 128
  · rw [dif_pos h, dif_pos h]; exact l0_at arg4 x r _
  · rw [dif_neg h, dif_neg h]; exact ld256 arg5 0 _ y r ⟨l.val - 128, by omega⟩ (by show 0 + (l.val - 128) < 256; omega)
theorem cat1 (x : S1024x512.Idx → EReal) (y : S1024x256.Idx → EReal) (r : Fin 1024) (l : Fin 256) : cat (l1 arg4 x) (e1 arg5 y) r l = qrow x y 1 r l := by
  unfold cat qrow
  by_cases h : l.val < 128
  · rw [dif_pos h, dif_pos h]; exact l1_at arg4 x r _
  · rw [dif_neg h, dif_neg h]; exact ld256 arg5 128 _ y r ⟨l.val - 128, by omega⟩ (by show 128 + (l.val - 128) < 256; omega)
end loads

section tiles
variable (arg4 : Memref sig .tc .vmem S1024x512 .bf16) (arg5 : Memref sig .tc .vmem S1024x256 .bf16)
  (arg6 arg7 arg8 : Memref sig .tc .vmem S1024x512 .bf16)
  (x0 : S1024x512.Idx → EReal) (x1 : S1024x256.Idx → EReal) (x2 x3 x4 : S1024x512.Idx → EReal)

theorem score0 (s t : Fin 1024) : k0_pay18 (l0 arg4 x0) (e0 arg5 x1) (w0 arg6 x2) (ix2 s t) = score x0 x1 x2 0 s t := by
  rw [pay18_at]; exact Finset.sum_congr rfl fun l _ => by rw [w0_at, cat0]
theorem score1 (s t : Fin 1024) : k0_pay18 (l1 arg4 x0) (e1 arg5 x1) (w1 arg6 x2) (ix2 s t) = score x0 x1 x2 1 s t := by
  rw [pay18_at]; exact Finset.sum_congr rfl fun l _ => by rw [w1_at, cat1]
theorem dweight0 (s t : Fin 1024) : k0_pay19 (w0 arg7 x3) (w0 arg8 x4) (ix2 s t) = ∑ l : Fin 256, head x3 0 s l * head x4 0 t l := by
  rw [pay19_at]; exact Finset.sum_congr rfl fun l _ => by rw [w0_at, w0_at]
theorem dweight1 (s t : Fin 1024) : k0_pay19 (w1 arg7 x3) (w1 arg8 x4) (ix2 s t) = ∑ l : Fin 256, head x3 1 s l * head x4 1 t l := by
  rw [pay19_at]; exact Finset.sum_congr rfl fun l _ => by rw [w1_at, w1_at]

/-- A full tile's weights and score gradients. -/
abbrev wf0 : FVec Ideal S1024x1024 .f32 := k0_pay20 (l0 arg4 x0) (e0 arg5 x1) (w0 arg6 x2)
abbrev wf1 : FVec Ideal S1024x1024 .bf16 := k0_pay28 (k0_pay18 (l1 arg4 x0) (e1 arg5 x1) (w1 arg6 x2))
abbrev df0 : FVec Ideal S1024x1024 .bf16 := k0_pay21 (l0 arg4 x0) (e0 arg5 x1) (w0 arg6 x2) (w0 arg7 x3) (w0 arg8 x4)
abbrev df1 : FVec Ideal S1024x1024 .bf16 := k0_pay26 (k0_pay18 (l1 arg4 x0) (e1 arg5 x1) (w1 arg6 x2)) (k0_pay19 (w1 arg7 x3) (w1 arg8 x4))
/-- A diagonal tile's masked scores. -/
abbrev sd0 : FVec Ideal S1024x1024 .f32 := k0_pay32 (l0 arg4 x0) (e0 arg5 x1) (w0 arg6 x2)
abbrev sd1 : FVec Ideal S1024x1024 .f32 := k0_pay36 (k0_pay33 (l1 arg4 x0) (e1 arg5 x1) (w1 arg6 x2)) k0_pay35

theorem wf0_at (s t : Fin 1024) : wf0 arg4 arg5 arg6 x0 x1 x2 (ix2 s t) = weight x0 x1 x2 false 0 s t := by
  unfold wf0; rw [pay20_at, score0]; unfold weight; rw [if_pos (Or.inl rfl)]
theorem wf1_at (s t : Fin 1024) : wf1 arg4 arg5 arg6 x0 x1 x2 (ix2 s t) = weight x0 x1 x2 false 1 s t := by
  unfold wf1; rw [pay28_at, score1]; unfold weight; rw [if_pos (Or.inl rfl)]
theorem df0_at (s t : Fin 1024) : df0 arg4 arg5 arg6 arg7 arg8 x0 x1 x2 x3 x4 (ix2 s t) = dscore x0 x1 x2 x3 x4 false 0 s t := by
  unfold df0; rw [pay21_at, score0, dweight0]; unfold dscore weight; rw [if_pos (Or.inl rfl)]
theorem df1_at (s t : Fin 1024) : df1 arg4 arg5 arg6 arg7 arg8 x0 x1 x2 x3 x4 (ix2 s t) = dscore x0 x1 x2 x3 x4 false 1 s t := by
  unfold df1; rw [pay26_at, score1, dweight1]; unfold dscore weight; rw [if_pos (Or.inl rfl)]
theorem sd0_at (s t : Fin 1024) : pow2 (sd0 arg4 arg5 arg6 x0 x1 x2 (ix2 s t)) = weight x0 x1 x2 true 0 s t := by
  unfold sd0; rw [pay32_at, score0]; unfold weight; simp
theorem sd1_at (s t : Fin 1024) : pow2 (sd1 arg4 arg5 arg6 x0 x1 x2 (ix2 s t)) = weight x0 x1 x2 true 1 s t := by
  unfold sd1; rw [pay36_at, pay33_eq, score1]; unfold weight; simp
theorem dd0_at (s t : Fin 1024) : k0_pay38 (k0_pay31 (w0 arg7 x3) (w0 arg8 x4)) (sd0 arg4 arg5 arg6 x0 x1 x2) (ix2 s t) = dscore x0 x1 x2 x3 x4 true 0 s t := by
  rw [pay38_at, sd0_at, pay31_eq, dweight0]; rfl
theorem dd1_at (s t : Fin 1024) : k0_pay38 (k0_pay34 (w1 arg7 x3) (w1 arg8 x4)) (sd1 arg4 arg5 arg6 x0 x1 x2) (ix2 s t) = dscore x0 x1 x2 x3 x4 true 1 s t := by
  rw [pay38_at, sd1_at, pay34_eq, dweight1]; rfl

/-! What each store holds, from what was loaded before it. -/

theorem fQ0 (acc : (One 1024 256).Idx → EReal) (r : Fin 1024) (l : Fin 256) :
    k0_pay24 (df0 arg4 arg5 arg6 arg7 arg8 x0 x1 x2 x3 x4) acc (w0 arg6 x2) (ix3 0 r l) = acc (ix3 0 r l) + addQ x0 x1 x2 x3 x4 false 0 r l := by
  rw [pay24_at]; exact congrArg _ (Finset.sum_congr rfl fun s _ => by rw [df0_at, w0_at])
theorem fQ1 (acc : (One 1024 256).Idx → EReal) (r : Fin 1024) (l : Fin 256) :
    k0_pay6 (df1 arg4 arg5 arg6 arg7 arg8 x0 x1 x2 x3 x4) acc (w1 arg6 x2) (ix3 0 r l) = acc (ix3 0 r l) + addQ x0 x1 x2 x3 x4 false 1 r l := by
  rw [pay6_eq, pay24_at]; exact congrArg _ (Finset.sum_congr rfl fun s _ => by rw [df1_at, w1_at])
theorem fK0 (acc : (One 1024 256).Idx → EReal) (r : Fin 1024) (l : Fin 256) :
    k0_pay23 (k0_pay16 (l0 arg4 x0) (e0 arg5 x1)) (df0 arg4 arg5 arg6 arg7 arg8 x0 x1 x2 x3 x4) acc (ix3 0 r l) = acc (ix3 0 r l) + addK x0 x1 x2 x3 x4 false 0 r l := by
  rw [pay23_at]; exact congrArg _ (Finset.sum_congr rfl fun s _ => by rw [df0_at, pay16_at, cat0])
theorem fK1 (acc : (One 1024 256).Idx → EReal) (r : Fin 1024) (l : Fin 256) :
    k0_pay5 (k0_pay17 (l1 arg4 x0) (e1 arg5 x1)) (df1 arg4 arg5 arg6 arg7 arg8 x0 x1 x2 x3 x4) acc (ix3 0 r l) = acc (ix3 0 r l) + addK x0 x1 x2 x3 x4 false 1 r l := by
  rw [pay5_eq, pay17_eq, pay23_at]; exact congrArg _ (Finset.sum_congr rfl fun s _ => by rw [df1_at, pay16_at, cat1])
theorem fV0 (acc : (One 1024 128).Idx → EReal) (r : Fin 1024) (l : Fin 128) :
    k0_pay22 (wf0 arg4 arg5 arg6 x0 x1 x2) acc (l0 arg8 x4) (ix3 0 r l) = acc (ix3 0 r l) + addV x0 x1 x2 x4 false 0 r l := by
  rw [pay22_at]; exact congrArg _ (Finset.sum_congr rfl fun s _ => by rw [wf0_at, l0_at])
theorem fV1 (acc : (One 1024 128).Idx → EReal) (r : Fin 1024) (l : Fin 128) :
    k0_pay4 (k0_pay27 acc) (wf1 arg4 arg5 arg6 x0 x1 x2) (l1 arg8 x4) (ix3 0 r l) = acc (ix3 0 r l) + addV x0 x1 x2 x4 false 1 r l := by
  rw [pay4_at]; exact congrArg _ (Finset.sum_congr rfl fun s _ => by rw [wf1_at, l1_at])
theorem dQ0 (acc : (One 1024 256).Idx → EReal) (r : Fin 1024) (l : Fin 256) :
    k0_pay41 (k0_pay31 (w0 arg7 x3) (w0 arg8 x4)) (sd0 arg4 arg5 arg6 x0 x1 x2) acc (w0 arg6 x2) (ix3 0 r l) = acc (ix3 0 r l) + addQ x0 x1 x2 x3 x4 true 0 r l := by
  rw [pay41_eq, pay24_at]; exact congrArg _ (Finset.sum_congr rfl fun s _ => by rw [dd0_at, w0_at])
theorem dQ1 (acc : (One 1024 256).Idx → EReal) (r : Fin 1024) (l : Fin 256) :
    k0_pay11 (k0_pay34 (w1 arg7 x3) (w1 arg8 x4)) (sd1 arg4 arg5 arg6 x0 x1 x2) acc (w1 arg6 x2) (ix3 0 r l) = acc (ix3 0 r l) + addQ x0 x1 x2 x3 x4 true 1 r l := by
  rw [pay11_eq, pay24_at]; exact congrArg _ (Finset.sum_congr rfl fun s _ => by rw [dd1_at, w1_at])
theorem dK0 (acc : (One 1024 256).Idx → EReal) (r : Fin 1024) (l : Fin 256) :
    k0_pay40 (k0_pay29 (l0 arg4 x0) (e0 arg5 x1)) (k0_pay31 (w0 arg7 x3) (w0 arg8 x4)) (sd0 arg4 arg5 arg6 x0 x1 x2) acc (ix3 0 r l) = acc (ix3 0 r l) + addK x0 x1 x2 x3 x4 true 0 r l := by
  rw [pay40_eq, pay29_eq, pay23_at]; exact congrArg _ (Finset.sum_congr rfl fun s _ => by rw [dd0_at, pay16_at, cat0])
theorem dK1 (acc : (One 1024 256).Idx → EReal) (r : Fin 1024) (l : Fin 256) :
    k0_pay10 (k0_pay30 (l1 arg4 x0) (e1 arg5 x1)) (k0_pay34 (w1 arg7 x3) (w1 arg8 x4)) (sd1 arg4 arg5 arg6 x0 x1 x2) acc (ix3 0 r l) = acc (ix3 0 r l) + addK x0 x1 x2 x3 x4 true 1 r l := by
  rw [pay10_eq, pay30_eq, pay23_at]; exact congrArg _ (Finset.sum_congr rfl fun s _ => by rw [dd1_at, pay16_at, cat1])
theorem dV0 (acc : (One 1024 128).Idx → EReal) (r : Fin 1024) (l : Fin 128) :
    k0_pay39 (sd0 arg4 arg5 arg6 x0 x1 x2) acc (l0 arg8 x4) (ix3 0 r l) = acc (ix3 0 r l) + addV x0 x1 x2 x4 true 0 r l := by
  rw [pay39_at]; exact congrArg _ (Finset.sum_congr rfl fun s _ => by rw [sd0_at, l0_at])
theorem dV1 (acc : (One 1024 128).Idx → EReal) (r : Fin 1024) (l : Fin 128) :
    k0_pay9 (sd1 arg4 arg5 arg6 x0 x1 x2) acc (l1 arg8 x4) (ix3 0 r l) = acc (ix3 0 r l) + addV x0 x1 x2 x4 true 1 r l := by
  rw [pay9_eq, pay39_at]; exact congrArg _ (Finset.sum_congr rfl fun s _ => by rw [sd1_at, l1_at])

end tiles

end Cert.Attn

end
-- ==== Proof.AttnPaths.lean ====
module

public import proofs.«01_k».proof.Proof.AttnBlocks

@[expose] public section

set_option maxRecDepth 16384

noncomputable section

/-! # What each path leaves

Path by path, the three sums and the four outputs after the step, entry by entry, over extended reals. -/

namespace Cert.Attn

open Cert.AttnKernelIdeal Cert.AttnKernelIdeal.Gen
open Idealize.ShloMosaic Idealize.ShloMosaic.TcCoe Idealize.ShloMosaic.Tactic

variable (c : Dev nD) (i : grid0.Coords)
  (arg4 : Memref sig .tc .vmem S1024x512 .bf16) (harg4 : arg4.IsWhole) (arg5 : Memref sig .tc .vmem S1024x256 .bf16) (harg5 : arg5.IsWhole)
  (arg6 : Memref sig .tc .vmem S1024x512 .bf16) (harg6 : arg6.IsWhole) (arg7 : Memref sig .tc .vmem S1024x512 .bf16) (harg7 : arg7.IsWhole)
  (arg8 : Memref sig .tc .vmem S1024x512 .bf16) (harg8 : arg8.IsWhole) (arg9 : Memref sig .tc .vmem S4096x256 .bf16) (harg9 : arg9.IsWhole)
  (arg10 : Memref sig .tc .vmem S1024x256 .bf16) (harg10 : arg10.IsWhole) (arg11 : Memref sig .tc .vmem S1024x256 .bf16) (harg11 : arg11.IsWhole)
  (arg12 : Memref sig .tc .vmem S2x4096x128 .f32) (harg12 : arg12.IsWhole)
  (x0 : S1024x512.Idx → Elt Ideal .bf16) (x1 : S1024x256.Idx → Elt Ideal .bf16) (x2 x3 x4 : S1024x512.Idx → Elt Ideal .bf16)
  (y5 : S4096x256.Idx → Elt Ideal .bf16) (y6 y7 : S1024x256.Idx → Elt Ideal .bf16) (y8 : S2x4096x128.Idx → Elt Ideal .f32)
  (a0 : Buf (Elt Ideal) ((c : Thread nD τ).loc cc0_scratch0)) (a1 : Buf (Elt Ideal) ((c : Thread nD τ).loc cc0_scratch1)) (a2 : Buf (Elt Ideal) ((c : Thread nD τ).loc cc0_scratch2))

/-- The sums' contents at an index. -/
abbrev atQ (a : Buf (Elt Ideal) ((c : Thread nD τ).loc cc0_scratch0)) : S2x4096x256.Idx → EReal := accQ.view.read (Elt Ideal) a
abbrev atK (a : Buf (Elt Ideal) ((c : Thread nD τ).loc cc0_scratch1)) : S2x1024x256.Idx → EReal := accK.view.read (Elt Ideal) a
abbrev atV (a : Buf (Elt Ideal) ((c : Thread nD τ).loc cc0_scratch2)) : S2x1024x128.Idx → EReal := accV.view.read (Elt Ideal) a

/-- The rows of query tile `q` raised by the step's addend. -/
def raiseQ (q : ℕ) (d : Bool) (a : Fin 2) (r : Fin 4096) (l : Fin 256) : EReal :=
  if h : 1024 * q ≤ r.val ∧ r.val < 1024 * q + 1024 then addQ x0 x1 x2 x3 x4 d a ⟨r.val - 1024 * q, by omega⟩ l else 0

theorem qi_lt : ∀ j : Fin 10, 1024 * qi j + 1024 ≤ 4096 := by decide

/-- A buffer cleared by one store. -/
theorem cleared {N M : ℕ} {sg : RefSig} {sp : Space} (v : View sg .tc sp (Two N M) .f32) (f : v.ty.Contents (Elt Ideal)) (Z : (Two N M).Idx → EReal) (hZ : ∀ a r l, Z (ix3 a r l) = 0)
    (iZ : ∀ a : Fin 3, (![0, 0, 0] : Fin 3 → ℕ) a + (![2, N, M] : Fin 3 → ℕ) a ≤ (Two N M).size a) (a : Fin 2) (r : Fin N) (l : Fin M) :
    v.read (Elt Ideal) (v.writes (Elt Ideal) f [⟨Rect.unit ![0, 0, 0] ![2, N, M] iZ, Z⟩]) (ix3 a r l) = 0 := by
  refine (View.read_writes_cons_unit_of_mem v f iZ _ _ _ (ix3 a r l) rfl fun b => ?_).trans (hZ a r l)
  match b with
  | 0 => exact (Nat.zero_add _).symm
  | 1 => exact (Nat.zero_add _).symm
  | 2 => exact (Nat.zero_add _).symm

/-- Two heads' columns stored side by side. -/
theorem beside {N : ℕ} {sg : RefSig} {sp : Space} (v : View sg .tc sp ⟨2, ![N, 256]⟩ .bf16) (f : v.ty.Contents (Elt Ideal))
    (i0 : ∀ a : Fin 2, (![0, 0] : Fin 2 → ℕ) a + (![N, 128] : Fin 2 → ℕ) a ≤ (⟨2, ![N, 256]⟩ : Shape).size a)
    (i1 : ∀ a : Fin 2, (![0, 128] : Fin 2 → ℕ) a + (![N, 128] : Fin 2 → ℕ) a ≤ (⟨2, ![N, 256]⟩ : Shape).size a)
    (P0 P1 : (⟨2, ![N, 128]⟩ : Shape).Idx → EReal) (C : Fin 2 → Fin N → Fin 128 → EReal)
    (h0 : ∀ r l, P0 (ix2 r l) = C 0 r l) (h1 : ∀ r l, P1 (ix2 r l) = C 1 r l) (a : Fin 2) (r : Fin N) (l : Fin 128) :
    v.read (Elt Ideal) (v.writes (Elt Ideal) f [⟨Rect.unit ![0, 128] ![N, 128] i1, P1⟩, ⟨Rect.unit ![0, 0] ![N, 128] i0, P0⟩]) (ix2 r ⟨128 * a.val + l.val, by omega⟩) = C a r l := by
  match a with
  | 0 =>
    refine (View.read_writes_cons_unit_of_not_mem v f i1 _ _ _ rfl (1 : Fin 2) (Or.inl (by show 128 * 0 + l.val < 128; omega))).trans ?_
    refine (View.read_writes_cons_unit_of_mem v f i0 _ _ _ (ix2 r l) rfl fun b => ?_).trans (h0 r l)
    match b with
    | 0 => exact (Nat.zero_add _).symm
    | 1 => rfl
  | 1 =>
    refine (View.read_writes_cons_unit_of_mem v f i1 _ _ _ (ix2 r l) rfl fun b => ?_).trans (h1 r l)
    match b with
    | 0 => exact (Nat.zero_add _).symm
    | 1 => rfl

/-- The sums after a step, from those before: raised by the step's products; the query gradient's sum starts anew at a head
group's first step, the other two at every diagonal tile. -/
def Did (first d : Bool) (b0 : Buf (Elt Ideal) ((c : Thread nD τ).loc cc0_scratch0)) (b1 : Buf (Elt Ideal) ((c : Thread nD τ).loc cc0_scratch1))
    (b2 : Buf (Elt Ideal) ((c : Thread nD τ).loc cc0_scratch2)) : Prop :=
  (∀ a r l, atQ c b0 (ix3 a r l) = (if first then 0 else atQ c a0 (ix3 a r l)) + raiseQ x0 x1 x2 x3 x4 (qi (i 1)) d a r l)
    ∧ (∀ a r l, atK c b1 (ix3 a r l) = (if d then 0 else atK c a1 (ix3 a r l)) + addK x0 x1 x2 x3 x4 d a r l)
    ∧ ∀ a r l, atV c b2 (ix3 a r l) = (if d then 0 else atV c a2 (ix3 a r l)) + addV x0 x1 x2 x4 d a r l

/-- What a key tile's last step leaves in the key and value gradients and in the gate gradient. -/
def Flushed (b1 : Buf (Elt Ideal) ((c : Thread nD τ).loc cc0_scratch1)) (b2 : Buf (Elt Ideal) ((c : Thread nD τ).loc cc0_scratch2))
    (z6 z7 : S1024x256.Idx → EReal) : Prop :=
  (∀ (a : Fin 2) r (l : Fin 128), z6 (ix2 r ⟨128 * a.val + l.val, by omega⟩) = atK c b1 (ix3 a r ⟨l.val, by omega⟩) * ln2)
    ∧ ∀ (a : Fin 2) r (l : Fin 128), z7 (ix2 r ⟨128 * a.val + l.val, by omega⟩) = atV c b2 (ix3 a r l)

/-- The gate gradient with a finished key tile's rows put in. -/
def gated (b1 : Buf (Elt Ideal) ((c : Thread nD τ).loc cc0_scratch1)) (y8 : S2x4096x128.Idx → EReal) (a : Fin 2) (r : Fin 4096) (l : Fin 128) : EReal :=
  if h : 1024 * ki (i 1) ≤ r.val ∧ r.val < 1024 * ki (i 1) + 1024 then 0 - atK c b1 (ix3 a ⟨r.val - 1024 * ki (i 1), by omega⟩ 131) else y8 (ix3 a r l)

/-- A rule for three axes from one for each. -/
theorem at3 {x y o : Fin 3 → ℕ} (h0 : y 0 = o 0 + x 0) (h1 : y 1 = o 1 + x 1) (h2 : y 2 = o 2 + x 2) : ∀ a, y a = o a + x a
  | 0 => h0
  | 1 => h1
  | 2 => h2

/-- The stores of a key tile's last step. -/
theorem flushed_of (L1 : List (View.Piece (Elt Ideal) (Two 1024 256) .f32)) (L2 : List (View.Piece (Elt Ideal) (Two 1024 128) .f32))
    (f6 : arg10.view.ty.Contents (Elt Ideal)) (f7 : arg11.view.ty.Contents (Elt Ideal)) :
    Flushed c (accK.view.writes (Elt Ideal) accK.view.junk L1) (accV.view.writes (Elt Ideal) accV.view.junk L2)
      (arg10.view.read (Elt Ideal) (arg10.view.writes (Elt Ideal) f6 [⟨Rect.unit (s := S1024x256) ![0, 128] S1024x128.size inb_S1024x256_S1024x128_0_128,
          k0_pay12 (k0_pay45 (accK.view.readCov L1 (Rect.unit (s := S2x1024x256) ![1, 0, 0] S1x1024x128.size inb_S2x1024x256_S1x1024x128_1_0_0).toLoadRect))⟩,
        ⟨Rect.unit (s := S1024x256) ![0, 0] S1024x128.size inb_S1024x256_S1024x128_0_0,
          k0_pay42 (accK.view.readCov L1 (Rect.unit (s := S2x1024x256) ![0, 0, 0] S1x1024x128.size inb_S2x1024x256_S1x1024x128_0_0_0).toLoadRect)⟩]))
      (arg11.view.read (Elt Ideal) (arg11.view.writes (Elt Ideal) f7 [⟨Rect.unit (s := S1024x256) ![0, 128] S1024x128.size inb_S1024x256_S1024x128_0_128,
          k0_pay13 (accV.view.readCov L2 (Rect.unit (s := S2x1024x128) ![1, 0, 0] S1x1024x128.size inb_S2x1024x128_S1x1024x128_1_0_0).toLoadRect)⟩,
        ⟨Rect.unit (s := S1024x256) ![0, 0] S1024x128.size inb_S1024x256_S1024x128_0_0,
          k0_pay43 (accV.view.readCov L2 (Rect.unit (s := S2x1024x128) ![0, 0, 0] S1x1024x128.size inb_S2x1024x128_S1x1024x128_0_0_0).toLoadRect)⟩])) := by
  refine ⟨fun a r l => beside arg10.view _ _ _ _ _ (fun a r l => atK c (accK.view.writes (Elt Ideal) accK.view.junk L1) (ix3 a r ⟨l.val, by omega⟩) * ln2) (fun r l => ?_) (fun r l => ?_) a r l,
    fun a r l => beside arg11.view _ _ _ _ _ (fun a r l => atV c (accV.view.writes (Elt Ideal) accV.view.junk L2) (ix3 a r l)) (fun r l => ?_) (fun r l => ?_) a r l⟩
  · rw [pay42_at]
    exact congrArg (· * _) (readAt_at accK.view _ _ _ (ix3 0 r ⟨l.val, by omega⟩) (at3 rfl (Nat.zero_add _).symm (Nat.zero_add _).symm))
  · rw [pay12_eq, pay42_at]
    exact congrArg (· * _) (readAt_at accK.view _ _ _ (ix3 1 r ⟨l.val, by omega⟩) (at3 rfl (Nat.zero_add _).symm (Nat.zero_add _).symm))
  · rw [pay43_at]
    exact readAt_at accV.view _ _ _ (ix3 0 r l) (at3 rfl (Nat.zero_add _).symm (Nat.zero_add _).symm)
  · rw [pay13_eq, pay43_at]
    exact readAt_at accV.view _ _ _ (ix3 1 r l) (at3 rfl (Nat.zero_add _).symm (Nat.zero_add _).symm)

/-- The stores of its rows of the gate gradient. -/
theorem gated_of (L1 : List (View.Piece (Elt Ideal) (Two 1024 256) .f32)) (j6 j7) (a : Fin 2) (r : Fin 4096) (l : Fin 128) :
    arg12.view.read (Elt Ideal) (arg12.view.writes (Elt Ideal) (harg12.unread y8)
        [⟨Rect.unit (s := S2x4096x128) (k0_off7 (wordK Ideal i)) S1x1024x128.size j7,
          k0_pay14 (accK.view.readCov L1 (Rect.unit (s := S2x1024x256) ![1, 0, 131] S1x1024x1.size inb_S2x1024x256_S1x1024x1_1_0_131).toLoadRect)⟩,
        ⟨Rect.unit (s := S2x4096x128) (k0_off6 (wordK Ideal i)) S1x1024x128.size j6,
          k0_pay44 (accK.view.readCov L1 (Rect.unit (s := S2x1024x256) ![0, 0, 131] S1x1024x1.size inb_S2x1024x256_S1x1024x1_0_0_131).toLoadRect)⟩]) (ix3 a r l)
      = gated c i (accK.view.writes (Elt Ideal) accK.view.junk L1) y8 a r l := by
  refine (heads arg12.view _ [] (off6_eq Ideal i) (off7_eq Ideal i) _ _ _ _ a r l).trans ?_
  unfold gated
  by_cases h : 1024 * ki (i 1) ≤ r.val ∧ r.val < 1024 * ki (i 1) + 1024
  · rw [dif_pos h, dif_pos h]
    match a with
    | 0 =>
      rw [if_pos rfl, pay44_at]
      exact congrArg (0 - ·) (readAt_at accK.view _ _ _ (ix3 0 ⟨r.val - 1024 * ki (i 1), by omega⟩ 131) (at3 rfl (Nat.zero_add _).symm rfl))
    | 1 =>
      rw [if_neg (by decide), pay14_eq, pay44_at]
      exact congrArg (0 - ·) (readAt_at accK.view _ _ _ (ix3 1 ⟨r.val - 1024 * ki (i 1), by omega⟩ 131) (at3 rfl (Nat.zero_add _).symm rfl))
  · rw [dif_neg h, dif_neg h]
    exact congrFun (Memref.IsWhole.read_unread _ _) _

/-- The last step adds the query side's lane to every row of it. -/
theorem added_of (b0 : Buf (Elt Ideal) ((c : Thread nD τ).loc cc0_scratch0)) (f : arg12.view.ty.Contents (Elt Ideal)) (L : List (View.Piece (Elt Ideal) (Two 4096 128) .f32))
    (P0 : (One 4096 128).Idx → EReal)
    (hP0 : P0 = k0_pay47 (arg12.view.readAt (Elt Ideal) (Rect.unit (s := S2x4096x128) ![0, 0, 0] S1x4096x128.size inb_S2x4096x128_S1x4096x128_0_0_0).toLoadRect (arg12.view.writes (Elt Ideal) f L))
          (accQ.view.readAt (Elt Ideal) (Rect.unit (s := S2x4096x256) ![0, 0, 128] S1x4096x1.size inb_S2x4096x256_S1x4096x1_0_0_128).toLoadRect b0))
    (a : Fin 2) (r : Fin 4096) (l : Fin 128) (G : EReal) (hG : arg12.view.read (Elt Ideal) (arg12.view.writes (Elt Ideal) f L) (ix3 a r l) = G) :
    arg12.view.read (Elt Ideal) (arg12.view.writes (Elt Ideal) f
        (⟨Rect.unit (s := S2x4096x128) ![1, 0, 0] S1x4096x128.size inb_S2x4096x128_S1x4096x128_1_0_0,
          k0_pay15 (k0_pay49 (arg12.view.readAt (Elt Ideal) (Rect.unit (s := S2x4096x128) ![1, 0, 0] S1x4096x128.size inb_S2x4096x128_S1x4096x128_1_0_0).toLoadRect
              (arg12.view.writes (Elt Ideal) f (⟨Rect.unit (s := S2x4096x128) ![0, 0, 0] S1x4096x128.size inb_S2x4096x128_S1x4096x128_0_0_0, P0⟩ :: L))))
            (k0_pay50 (accQ.view.readAt (Elt Ideal) (Rect.unit (s := S2x4096x256) ![1, 0, 128] S1x4096x1.size inb_S2x4096x256_S1x4096x1_1_0_128).toLoadRect b0))⟩
          :: ⟨Rect.unit (s := S2x4096x128) ![0, 0, 0] S1x4096x128.size inb_S2x4096x128_S1x4096x128_0_0_0, P0⟩ :: L)) (ix3 a r l)
      = G + atQ c b0 (ix3 a r 128) := by
  subst hG
  refine Eq.trans (raised arg12.view f L (o := 0) rfl rfl _ _
    (fun acc => k0_pay47 acc (accQ.view.readAt (Elt Ideal) (Rect.unit (s := S2x4096x256) ![0, 0, 128] S1x4096x1.size inb_S2x4096x256_S1x4096x1_0_0_128).toLoadRect b0))
    (fun acc => k0_pay47 acc (accQ.view.readAt (Elt Ideal) (Rect.unit (s := S2x4096x256) ![1, 0, 128] S1x4096x1.size inb_S2x4096x256_S1x4096x1_1_0_128).toLoadRect b0))
    (fun a r _ => atQ c b0 (ix3 a r 128)) (fun acc r l => ?_) (fun acc r l => ?_) (Nat.le_refl _) a r l _ _ hP0 (pay15_eq _ _)) ?_
  · dsimp only; rw [pay47_at]
    exact congrArg (_ + ·) (readAt_at accQ.view _ _ _ (ix3 0 r 128) (at3 rfl (Nat.zero_add _).symm rfl))
  · dsimp only; rw [pay47_at]
    exact congrArg (_ + ·) (readAt_at accQ.view _ _ _ (ix3 1 r 128) (at3 rfl (Nat.zero_add _).symm rfl))
  · rw [dif_pos ⟨Nat.zero_le _, by omega⟩]; rfl

/-- The query gradient's stores. -/
theorem query_of (b0 : Buf (Elt Ideal) ((c : Thread nD τ).loc cc0_scratch0)) (f : arg9.view.ty.Contents (Elt Ideal)) (a : Fin 2) (r : Fin 4096) (l : Fin 128) :
    arg9.view.read (Elt Ideal) (arg9.view.writes (Elt Ideal) f [⟨Rect.unit (s := S4096x256) ![0, 128] S4096x128.size inb_S4096x256_S4096x128_0_128,
          k0_pay48 (accQ.view.readAt (Elt Ideal) (Rect.unit (s := S2x4096x256) ![1, 0, 0] S1x4096x128.size inb_S2x4096x256_S1x4096x128_1_0_0).toLoadRect b0)⟩,
        ⟨Rect.unit (s := S4096x256) ![0, 0] S4096x128.size inb_S4096x256_S4096x128_0_0,
          k0_pay46 (accQ.view.readAt (Elt Ideal) (Rect.unit (s := S2x4096x256) ![0, 0, 0] S1x4096x128.size inb_S2x4096x256_S1x4096x128_0_0_0).toLoadRect b0)⟩]) (ix2 r ⟨128 * a.val + l.val, by omega⟩)
      = atQ c b0 (ix3 a r ⟨l.val, by omega⟩) * sc0 := by
  refine beside arg9.view _ _ _ _ _ (fun a r l => atQ c b0 (ix3 a r ⟨l.val, by omega⟩) * sc0) (fun r l => ?_) (fun r l => ?_) a r l
  · rw [pay46_at]
    exact congrArg (· * _) (readAt_at accQ.view _ _ _ (ix3 0 r ⟨l.val, by omega⟩) (at3 rfl (Nat.zero_add _).symm (Nat.zero_add _).symm))
  · rw [pay48_eq, pay46_at]
    exact congrArg (· * _) (readAt_at accQ.view _ _ _ (ix3 1 r ⟨l.val, by omega⟩) (at3 rfl (Nat.zero_add _).symm (Nat.zero_add _).symm))

section B
variable (n1 : ¬First i) (n2 : ¬Fresh Ideal i) (h3 : k0_cond3 (wordK Ideal i) (wordQ Ideal i) = 1#1) (n4 : ¬(k0_cond4 (wordK Ideal i) (wordQ Ideal i) = 1#1)) (n5 : ¬(k0_cond5 (wordQ Ideal i) = 1#1)) (n6 : ¬(k0_cond6 i = 1#1))

/-- Path B's run. -/
abbrev rB := runB c i arg4 harg4 arg5 harg5 arg6 harg6 arg7 harg7 arg8 harg8 arg9 harg9 arg10 harg10 arg11 harg11 arg12 harg12 x0 x1 x2 x3 x4 y5 y6 y7 y8 a0 a1 a2 n1 n2 h3 n4 n5 n6

theorem runB_did : Did c i x0 x1 x2 x3 x4 a0 a1 a2 false false (rB c i arg4 harg4 arg5 harg5 arg6 harg6 arg7 harg7 arg8 harg8 arg9 harg9 arg10 harg10 arg11 harg11 arg12 harg12 x0 x1 x2 x3 x4 y5 y6 y7 y8 a0 a1 a2 n1 n2 h3 n4 n5 n6).2.2.2.2.1 (rB c i arg4 harg4 arg5 harg5 arg6 harg6 arg7 harg7 arg8 harg8 arg9 harg9 arg10 harg10 arg11 harg11 arg12 harg12 x0 x1 x2 x3 x4 y5 y6 y7 y8 a0 a1 a2 n1 n2 h3 n4 n5 n6).2.2.2.2.2.1 (rB c i arg4 harg4 arg5 harg5 arg6 harg6 arg7 harg7 arg8 harg8 arg9 harg9 arg10 harg10 arg11 harg11 arg12 harg12 x0 x1 x2 x3 x4 y5 y6 y7 y8 a0 a1 a2 n1 n2 h3 n4 n5 n6).2.2.2.2.2.2.1 := by
  unfold rB runB; dsimp only
  exact ⟨fun a r l => raised accQ.view a0 [] (off2_eq Ideal i) (off3_eq Ideal i) _ _
      (fun acc => k0_pay24 (df0 arg4 arg5 arg6 arg7 arg8 x0 x1 x2 x3 x4) acc (w0 arg6 x2)) (fun acc => k0_pay6 (df1 arg4 arg5 arg6 arg7 arg8 x0 x1 x2 x3 x4) acc (w1 arg6 x2))
      (addQ x0 x1 x2 x3 x4 false) (fQ0 arg4 arg5 arg6 arg7 arg8 x0 x1 x2 x3 x4) (fQ1 arg4 arg5 arg6 arg7 arg8 x0 x1 x2 x3 x4) (qi_lt (i 1)) a r l _ _ rfl rfl,
    fun a r l => raised_whole accK.view _ [] a1
      (fun acc => k0_pay23 (k0_pay16 (l0 arg4 x0) (e0 arg5 x1)) (df0 arg4 arg5 arg6 arg7 arg8 x0 x1 x2 x3 x4) acc) (fun acc => k0_pay5 (k0_pay17 (l1 arg4 x0) (e1 arg5 x1)) (df1 arg4 arg5 arg6 arg7 arg8 x0 x1 x2 x3 x4) acc)
      (addK x0 x1 x2 x3 x4 false) (fK0 arg4 arg5 arg6 arg7 arg8 x0 x1 x2 x3 x4) (fK1 arg4 arg5 arg6 arg7 arg8 x0 x1 x2 x3 x4) _ _ a r l _ _ rfl rfl,
    fun a r l => raised_whole accV.view _ [] a2
      (fun acc => k0_pay22 (wf0 arg4 arg5 arg6 x0 x1 x2) acc (l0 arg8 x4)) (fun acc => k0_pay4 (k0_pay27 acc) (wf1 arg4 arg5 arg6 x0 x1 x2) (l1 arg8 x4))
      (addV x0 x1 x2 x4 false) (fV0 arg4 arg5 arg6 arg8 x0 x1 x2 x4) (fV1 arg4 arg5 arg6 arg8 x0 x1 x2 x4) _ _ a r l _ _ rfl rfl⟩

theorem runB_o8 : (rB c i arg4 harg4 arg5 harg5 arg6 harg6 arg7 harg7 arg8 harg8 arg9 harg9 arg10 harg10 arg11 harg11 arg12 harg12 x0 x1 x2 x3 x4 y5 y6 y7 y8 a0 a1 a2 n1 n2 h3 n4 n5 n6).2.2.2.1 = y8 := by
  unfold rB runB; dsimp only
  exact Memref.IsWhole.read_unread _ _
end B

section C
variable (n1 : ¬First i) (n2 : ¬Fresh Ideal i) (h3 : k0_cond3 (wordK Ideal i) (wordQ Ideal i) = 1#1) (n4 : ¬(k0_cond4 (wordK Ideal i) (wordQ Ideal i) = 1#1)) (h5 : k0_cond5 (wordQ Ideal i) = 1#1) (n6 : ¬(k0_cond6 i = 1#1))

/-- Path C's run. -/
abbrev rC := runC c i arg4 harg4 arg5 harg5 arg6 harg6 arg7 harg7 arg8 harg8 arg9 harg9 arg10 harg10 arg11 harg11 arg12 harg12 x0 x1 x2 x3 x4 y5 y6 y7 y8 a0 a1 a2 n1 n2 h3 n4 h5 n6

theorem runC_did : Did c i x0 x1 x2 x3 x4 a0 a1 a2 false false (rC c i arg4 harg4 arg5 harg5 arg6 harg6 arg7 harg7 arg8 harg8 arg9 harg9 arg10 harg10 arg11 harg11 arg12 harg12 x0 x1 x2 x3 x4 y5 y6 y7 y8 a0 a1 a2 n1 n2 h3 n4 h5 n6).2.2.2.2.1 (rC c i arg4 harg4 arg5 harg5 arg6 harg6 arg7 harg7 arg8 harg8 arg9 harg9 arg10 harg10 arg11 harg11 arg12 harg12 x0 x1 x2 x3 x4 y5 y6 y7 y8 a0 a1 a2 n1 n2 h3 n4 h5 n6).2.2.2.2.2.1 (rC c i arg4 harg4 arg5 harg5 arg6 harg6 arg7 harg7 arg8 harg8 arg9 harg9 arg10 harg10 arg11 harg11 arg12 harg12 x0 x1 x2 x3 x4 y5 y6 y7 y8 a0 a1 a2 n1 n2 h3 n4 h5 n6).2.2.2.2.2.2.1 := by
  unfold rC runC; dsimp only
  exact ⟨fun a r l => raised accQ.view a0 [] (off2_eq Ideal i) (off3_eq Ideal i) _ _
      (fun acc => k0_pay24 (df0 arg4 arg5 arg6 arg7 arg8 x0 x1 x2 x3 x4) acc (w0 arg6 x2)) (fun acc => k0_pay6 (df1 arg4 arg5 arg6 arg7 arg8 x0 x1 x2 x3 x4) acc (w1 arg6 x2))
      (addQ x0 x1 x2 x3 x4 false) (fQ0 arg4 arg5 arg6 arg7 arg8 x0 x1 x2 x3 x4) (fQ1 arg4 arg5 arg6 arg7 arg8 x0 x1 x2 x3 x4) (qi_lt (i 1)) a r l _ _ rfl rfl,
    fun a r l => raised_whole accK.view _ [] a1
      (fun acc => k0_pay23 (k0_pay16 (l0 arg4 x0) (e0 arg5 x1)) (df0 arg4 arg5 arg6 arg7 arg8 x0 x1 x2 x3 x4) acc) (fun acc => k0_pay5 (k0_pay17 (l1 arg4 x0) (e1 arg5 x1)) (df1 arg4 arg5 arg6 arg7 arg8 x0 x1 x2 x3 x4) acc)
      (addK x0 x1 x2 x3 x4 false) (fK0 arg4 arg5 arg6 arg7 arg8 x0 x1 x2 x3 x4) (fK1 arg4 arg5 arg6 arg7 arg8 x0 x1 x2 x3 x4) _ _ a r l _ _ rfl rfl,
    fun a r l => raised_whole accV.view _ [] a2
      (fun acc => k0_pay22 (wf0 arg4 arg5 arg6 x0 x1 x2) acc (l0 arg8 x4)) (fun acc => k0_pay4 (k0_pay27 acc) (wf1 arg4 arg5 arg6 x0 x1 x2) (l1 arg8 x4))
      (addV x0 x1 x2 x4 false) (fV0 arg4 arg5 arg6 arg8 x0 x1 x2 x4) (fV1 arg4 arg5 arg6 arg8 x0 x1 x2 x4) _ _ a r l _ _ rfl rfl⟩

theorem runC_flushed : Flushed c (rC c i arg4 harg4 arg5 harg5 arg6 harg6 arg7 harg7 arg8 harg8 arg9 harg9 arg10 harg10 arg11 harg11 arg12 harg12 x0 x1 x2 x3 x4 y5 y6 y7 y8 a0 a1 a2 n1 n2 h3 n4 h5 n6).2.2.2.2.2.1 (rC c i arg4 harg4 arg5 harg5 arg6 harg6 arg7 harg7 arg8 harg8 arg9 harg9 arg10 harg10 arg11 harg11 arg12 harg12 x0 x1 x2 x3 x4 y5 y6 y7 y8 a0 a1 a2 n1 n2 h3 n4 h5 n6).2.2.2.2.2.2.1 (rC c i arg4 harg4 arg5 harg5 arg6 harg6 arg7 harg7 arg8 harg8 arg9 harg9 arg10 harg10 arg11 harg11 arg12 harg12 x0 x1 x2 x3 x4 y5 y6 y7 y8 a0 a1 a2 n1 n2 h3 n4 h5 n6).2.1 (rC c i arg4 harg4 arg5 harg5 arg6 harg6 arg7 harg7 arg8 harg8 arg9 harg9 arg10 harg10 arg11 harg11 arg12 harg12 x0 x1 x2 x3 x4 y5 y6 y7 y8 a0 a1 a2 n1 n2 h3 n4 h5 n6).2.2.1 := by
  unfold rC runC; dsimp only
  exact flushed_of c arg10 arg11 _ _ _ _

theorem runC_o8 (a : Fin 2) (r : Fin 4096) (l : Fin 128) : (rC c i arg4 harg4 arg5 harg5 arg6 harg6 arg7 harg7 arg8 harg8 arg9 harg9 arg10 harg10 arg11 harg11 arg12 harg12 x0 x1 x2 x3 x4 y5 y6 y7 y8 a0 a1 a2 n1 n2 h3 n4 h5 n6).2.2.2.1 (ix3 a r l) = gated c i (rC c i arg4 harg4 arg5 harg5 arg6 harg6 arg7 harg7 arg8 harg8 arg9 harg9 arg10 harg10 arg11 harg11 arg12 harg12 x0 x1 x2 x3 x4 y5 y6 y7 y8 a0 a1 a2 n1 n2 h3 n4 h5 n6).2.2.2.2.2.1 y8 a r l := by
  unfold rC runC; dsimp only
  exact gated_of c i arg12 harg12 y8 _ _ _ a r l

end C

section A
variable (h1 : First i) (h2 : Fresh Ideal i) (n3 : ¬(k0_cond3 (wordK Ideal i) (wordQ Ideal i) = 1#1)) (h4 : k0_cond4 (wordK Ideal i) (wordQ Ideal i) = 1#1) (n5 : ¬(k0_cond5 (wordQ Ideal i) = 1#1)) (n6 : ¬(k0_cond6 i = 1#1))

/-- Path A's run. -/
abbrev rA := runA c i arg4 harg4 arg5 harg5 arg6 harg6 arg7 harg7 arg8 harg8 arg9 harg9 arg10 harg10 arg11 harg11 arg12 harg12 x0 x1 x2 x3 x4 y5 y6 y7 y8 a0 a1 a2 h1 h2 n3 h4 n5 n6

set_option maxHeartbeats 1000000 in
theorem runA_did : Did c i x0 x1 x2 x3 x4 a0 a1 a2 true true (rA c i arg4 harg4 arg5 harg5 arg6 harg6 arg7 harg7 arg8 harg8 arg9 harg9 arg10 harg10 arg11 harg11 arg12 harg12 x0 x1 x2 x3 x4 y5 y6 y7 y8 a0 a1 a2 h1 h2 n3 h4 n5 n6).2.2.2.2.1 (rA c i arg4 harg4 arg5 harg5 arg6 harg6 arg7 harg7 arg8 harg8 arg9 harg9 arg10 harg10 arg11 harg11 arg12 harg12 x0 x1 x2 x3 x4 y5 y6 y7 y8 a0 a1 a2 h1 h2 n3 h4 n5 n6).2.2.2.2.2.1 (rA c i arg4 harg4 arg5 harg5 arg6 harg6 arg7 harg7 arg8 harg8 arg9 harg9 arg10 harg10 arg11 harg11 arg12 harg12 x0 x1 x2 x3 x4 y5 y6 y7 y8 a0 a1 a2 h1 h2 n3 h4 n5 n6).2.2.2.2.2.2.1 := by
  unfold rA runA; dsimp only
  exact ⟨fun a r l => by
      rw [if_pos rfl]
      refine Eq.trans (b := atQ c (accQ.view.writes (Elt Ideal) accQ.view.junk [⟨Rect.unit (s := Two 4096 256) ![0, 0, 0] ![2, 4096, 256] inb_S2x4096x256_S2x4096x256_0_0_0, k0_pay1 (F := Ideal)⟩]) (ix3 a r l) + _) ?_ (congrArg (· + _) (cleared accQ.view accQ.view.junk (k0_pay1 (F := Ideal)) pay1_at inb_S2x4096x256_S2x4096x256_0_0_0 a r l))
      exact raised accQ.view accQ.view.junk [⟨Rect.unit (s := Two 4096 256) ![0, 0, 0] ![2, 4096, 256] inb_S2x4096x256_S2x4096x256_0_0_0, k0_pay1 (F := Ideal)⟩] (off4_eq Ideal i) (off5_eq Ideal i) _ _
        (fun acc => k0_pay41 (k0_pay31 (w0 arg7 x3) (w0 arg8 x4)) (sd0 arg4 arg5 arg6 x0 x1 x2) acc (w0 arg6 x2))
        (fun acc => k0_pay11 (k0_pay34 (w1 arg7 x3) (w1 arg8 x4)) (sd1 arg4 arg5 arg6 x0 x1 x2) acc (w1 arg6 x2))
        (addQ x0 x1 x2 x3 x4 true) (dQ0 arg4 arg5 arg6 arg7 arg8 x0 x1 x2 x3 x4) (dQ1 arg4 arg5 arg6 arg7 arg8 x0 x1 x2 x3 x4) (qi_lt (i 1)) a r l _ _ rfl rfl,
    fun a r l => by
      rw [if_pos rfl, zero_add]
      unfold runA.sl.HS1_3 runA.sl.v102 runA.sl.HS1_2 runA.sl.v71 runA.sl.HS1_1
      exact raised_fresh accK.view _ _ (k0_pay2 (F := Ideal)) pay2_at inb_S2x1024x256_S2x1024x256_0_0_0
        (fun acc => k0_pay40 (k0_pay29 (l0 arg4 x0) (e0 arg5 x1)) (k0_pay31 (w0 arg7 x3) (w0 arg8 x4)) (sd0 arg4 arg5 arg6 x0 x1 x2) acc)
        (fun acc => k0_pay10 (k0_pay30 (l1 arg4 x0) (e1 arg5 x1)) (k0_pay34 (w1 arg7 x3) (w1 arg8 x4)) (sd1 arg4 arg5 arg6 x0 x1 x2) acc)
        (addK x0 x1 x2 x3 x4 true) (dK0 arg4 arg5 arg6 arg7 arg8 x0 x1 x2 x3 x4) (dK1 arg4 arg5 arg6 arg7 arg8 x0 x1 x2 x3 x4) _ _ a r l _ _ rfl rfl,
    fun a r l => by
      rw [if_pos rfl, zero_add]
      unfold runA.sl.HS2_3 runA.sl.v92 runA.sl.HS2_2 runA.sl.v61 runA.sl.HS2_1
      exact raised_fresh accV.view _ _ (k0_pay3 (F := Ideal)) pay3_at inb_S2x1024x128_S2x1024x128_0_0_0
        (fun acc => k0_pay39 (sd0 arg4 arg5 arg6 x0 x1 x2) acc (l0 arg8 x4)) (fun acc => k0_pay9 (sd1 arg4 arg5 arg6 x0 x1 x2) acc (l1 arg8 x4))
        (addV x0 x1 x2 x4 true) (dV0 arg4 arg5 arg6 arg8 x0 x1 x2 x4) (dV1 arg4 arg5 arg6 arg8 x0 x1 x2 x4) _ _ a r l _ _ rfl rfl⟩

theorem runA_o8 : (rA c i arg4 harg4 arg5 harg5 arg6 harg6 arg7 harg7 arg8 harg8 arg9 harg9 arg10 harg10 arg11 harg11 arg12 harg12 x0 x1 x2 x3 x4 y5 y6 y7 y8 a0 a1 a2 h1 h2 n3 h4 n5 n6).2.2.2.1 = y8 := by
  unfold rA runA; dsimp only
  exact Memref.IsWhole.read_unread _ _
end A

section D
variable (n1 : ¬First i) (h2 : Fresh Ideal i) (n3 : ¬(k0_cond3 (wordK Ideal i) (wordQ Ideal i) = 1#1)) (h4 : k0_cond4 (wordK Ideal i) (wordQ Ideal i) = 1#1) (n5 : ¬(k0_cond5 (wordQ Ideal i) = 1#1)) (n6 : ¬(k0_cond6 i = 1#1))

/-- Path D's run. -/
abbrev rD := runD c i arg4 harg4 arg5 harg5 arg6 harg6 arg7 harg7 arg8 harg8 arg9 harg9 arg10 harg10 arg11 harg11 arg12 harg12 x0 x1 x2 x3 x4 y5 y6 y7 y8 a0 a1 a2 n1 h2 n3 h4 n5 n6

set_option maxHeartbeats 1000000 in
theorem runD_did : Did c i x0 x1 x2 x3 x4 a0 a1 a2 false true (rD c i arg4 harg4 arg5 harg5 arg6 harg6 arg7 harg7 arg8 harg8 arg9 harg9 arg10 harg10 arg11 harg11 arg12 harg12 x0 x1 x2 x3 x4 y5 y6 y7 y8 a0 a1 a2 n1 h2 n3 h4 n5 n6).2.2.2.2.1 (rD c i arg4 harg4 arg5 harg5 arg6 harg6 arg7 harg7 arg8 harg8 arg9 harg9 arg10 harg10 arg11 harg11 arg12 harg12 x0 x1 x2 x3 x4 y5 y6 y7 y8 a0 a1 a2 n1 h2 n3 h4 n5 n6).2.2.2.2.2.1 (rD c i arg4 harg4 arg5 harg5 arg6 harg6 arg7 harg7 arg8 harg8 arg9 harg9 arg10 harg10 arg11 harg11 arg12 harg12 x0 x1 x2 x3 x4 y5 y6 y7 y8 a0 a1 a2 n1 h2 n3 h4 n5 n6).2.2.2.2.2.2.1 := by
  unfold rD runD; dsimp only
  exact ⟨fun a r l => raised accQ.view a0 [] (off4_eq Ideal i) (off5_eq Ideal i) _ _
      (fun acc => k0_pay41 (k0_pay31 (w0 arg7 x3) (w0 arg8 x4)) (sd0 arg4 arg5 arg6 x0 x1 x2) acc (w0 arg6 x2))
      (fun acc => k0_pay11 (k0_pay34 (w1 arg7 x3) (w1 arg8 x4)) (sd1 arg4 arg5 arg6 x0 x1 x2) acc (w1 arg6 x2))
      (addQ x0 x1 x2 x3 x4 true) (dQ0 arg4 arg5 arg6 arg7 arg8 x0 x1 x2 x3 x4) (dQ1 arg4 arg5 arg6 arg7 arg8 x0 x1 x2 x3 x4) (qi_lt (i 1)) a r l _ _ rfl rfl,
    fun a r l => by
      rw [if_pos rfl, zero_add]
      unfold runD.sl.HS1_3 runD.sl.v102 runD.sl.HS1_2 runD.sl.v71 runD.sl.HS1_1
      exact raised_fresh accK.view _ _ (k0_pay2 (F := Ideal)) pay2_at inb_S2x1024x256_S2x1024x256_0_0_0
        (fun acc => k0_pay40 (k0_pay29 (l0 arg4 x0) (e0 arg5 x1)) (k0_pay31 (w0 arg7 x3) (w0 arg8 x4)) (sd0 arg4 arg5 arg6 x0 x1 x2) acc)
        (fun acc => k0_pay10 (k0_pay30 (l1 arg4 x0) (e1 arg5 x1)) (k0_pay34 (w1 arg7 x3) (w1 arg8 x4)) (sd1 arg4 arg5 arg6 x0 x1 x2) acc)
        (addK x0 x1 x2 x3 x4 true) (dK0 arg4 arg5 arg6 arg7 arg8 x0 x1 x2 x3 x4) (dK1 arg4 arg5 arg6 arg7 arg8 x0 x1 x2 x3 x4) _ _ a r l _ _ rfl rfl,
    fun a r l => by
      rw [if_pos rfl, zero_add]
      unfold runD.sl.HS2_3 runD.sl.v92 runD.sl.HS2_2 runD.sl.v61 runD.sl.HS2_1
      exact raised_fresh accV.view _ _ (k0_pay3 (F := Ideal)) pay3_at inb_S2x1024x128_S2x1024x128_0_0_0
        (fun acc => k0_pay39 (sd0 arg4 arg5 arg6 x0 x1 x2) acc (l0 arg8 x4)) (fun acc => k0_pay9 (sd1 arg4 arg5 arg6 x0 x1 x2) acc (l1 arg8 x4))
        (addV x0 x1 x2 x4 true) (dV0 arg4 arg5 arg6 arg8 x0 x1 x2 x4) (dV1 arg4 arg5 arg6 arg8 x0 x1 x2 x4) _ _ a r l _ _ rfl rfl⟩

theorem runD_o8 : (rD c i arg4 harg4 arg5 harg5 arg6 harg6 arg7 harg7 arg8 harg8 arg9 harg9 arg10 harg10 arg11 harg11 arg12 harg12 x0 x1 x2 x3 x4 y5 y6 y7 y8 a0 a1 a2 n1 h2 n3 h4 n5 n6).2.2.2.1 = y8 := by
  unfold rD runD; dsimp only
  exact Memref.IsWhole.read_unread _ _
end D

section E
variable (n1 : ¬First i) (h2 : Fresh Ideal i) (n3 : ¬(k0_cond3 (wordK Ideal i) (wordQ Ideal i) = 1#1)) (h4 : k0_cond4 (wordK Ideal i) (wordQ Ideal i) = 1#1) (h5 : k0_cond5 (wordQ Ideal i) = 1#1) (h6 : k0_cond6 i = 1#1)

/-- Path E's run. -/
abbrev rE := runE c i arg4 harg4 arg5 harg5 arg6 harg6 arg7 harg7 arg8 harg8 arg9 harg9 arg10 harg10 arg11 harg11 arg12 harg12 x0 x1 x2 x3 x4 y5 y6 y7 y8 a0 a1 a2 n1 h2 n3 h4 h5 h6

set_option maxHeartbeats 1000000 in
theorem runE_did : Did c i x0 x1 x2 x3 x4 a0 a1 a2 false true (rE c i arg4 harg4 arg5 harg5 arg6 harg6 arg7 harg7 arg8 harg8 arg9 harg9 arg10 harg10 arg11 harg11 arg12 harg12 x0 x1 x2 x3 x4 y5 y6 y7 y8 a0 a1 a2 n1 h2 n3 h4 h5 h6).2.2.2.2.1 (rE c i arg4 harg4 arg5 harg5 arg6 harg6 arg7 harg7 arg8 harg8 arg9 harg9 arg10 harg10 arg11 harg11 arg12 harg12 x0 x1 x2 x3 x4 y5 y6 y7 y8 a0 a1 a2 n1 h2 n3 h4 h5 h6).2.2.2.2.2.1 (rE c i arg4 harg4 arg5 harg5 arg6 harg6 arg7 harg7 arg8 harg8 arg9 harg9 arg10 harg10 arg11 harg11 arg12 harg12 x0 x1 x2 x3 x4 y5 y6 y7 y8 a0 a1 a2 n1 h2 n3 h4 h5 h6).2.2.2.2.2.2.1 := by
  unfold rE runE; dsimp only
  exact ⟨fun a r l => raised accQ.view a0 [] (off4_eq Ideal i) (off5_eq Ideal i) _ _
      (fun acc => k0_pay41 (k0_pay31 (w0 arg7 x3) (w0 arg8 x4)) (sd0 arg4 arg5 arg6 x0 x1 x2) acc (w0 arg6 x2))
      (fun acc => k0_pay11 (k0_pay34 (w1 arg7 x3) (w1 arg8 x4)) (sd1 arg4 arg5 arg6 x0 x1 x2) acc (w1 arg6 x2))
      (addQ x0 x1 x2 x3 x4 true) (dQ0 arg4 arg5 arg6 arg7 arg8 x0 x1 x2 x3 x4) (dQ1 arg4 arg5 arg6 arg7 arg8 x0 x1 x2 x3 x4) (qi_lt (i 1)) a r l _ _ rfl rfl,
    fun a r l => by
      rw [if_pos rfl, zero_add]
      unfold runE.sl.HS1_3 runE.sl.v102 runE.sl.HS1_2 runE.sl.v71 runE.sl.HS1_1
      exact raised_fresh accK.view _ _ (k0_pay2 (F := Ideal)) pay2_at inb_S2x1024x256_S2x1024x256_0_0_0
        (fun acc => k0_pay40 (k0_pay29 (l0 arg4 x0) (e0 arg5 x1)) (k0_pay31 (w0 arg7 x3) (w0 arg8 x4)) (sd0 arg4 arg5 arg6 x0 x1 x2) acc)
        (fun acc => k0_pay10 (k0_pay30 (l1 arg4 x0) (e1 arg5 x1)) (k0_pay34 (w1 arg7 x3) (w1 arg8 x4)) (sd1 arg4 arg5 arg6 x0 x1 x2) acc)
        (addK x0 x1 x2 x3 x4 true) (dK0 arg4 arg5 arg6 arg7 arg8 x0 x1 x2 x3 x4) (dK1 arg4 arg5 arg6 arg7 arg8 x0 x1 x2 x3 x4) _ _ a r l _ _ rfl rfl,
    fun a r l => by
      rw [if_pos rfl, zero_add]
      unfold runE.sl.HS2_3 runE.sl.v92 runE.sl.HS2_2 runE.sl.v61 runE.sl.HS2_1
      exact raised_fresh accV.view _ _ (k0_pay3 (F := Ideal)) pay3_at inb_S2x1024x128_S2x1024x128_0_0_0
        (fun acc => k0_pay39 (sd0 arg4 arg5 arg6 x0 x1 x2) acc (l0 arg8 x4)) (fun acc => k0_pay9 (sd1 arg4 arg5 arg6 x0 x1 x2) acc (l1 arg8 x4))
        (addV x0 x1 x2 x4 true) (dV0 arg4 arg5 arg6 arg8 x0 x1 x2 x4) (dV1 arg4 arg5 arg6 arg8 x0 x1 x2 x4) _ _ a r l _ _ rfl rfl⟩

theorem runE_flushed : Flushed c (rE c i arg4 harg4 arg5 harg5 arg6 harg6 arg7 harg7 arg8 harg8 arg9 harg9 arg10 harg10 arg11 harg11 arg12 harg12 x0 x1 x2 x3 x4 y5 y6 y7 y8 a0 a1 a2 n1 h2 n3 h4 h5 h6).2.2.2.2.2.1 (rE c i arg4 harg4 arg5 harg5 arg6 harg6 arg7 harg7 arg8 harg8 arg9 harg9 arg10 harg10 arg11 harg11 arg12 harg12 x0 x1 x2 x3 x4 y5 y6 y7 y8 a0 a1 a2 n1 h2 n3 h4 h5 h6).2.2.2.2.2.2.1 (rE c i arg4 harg4 arg5 harg5 arg6 harg6 arg7 harg7 arg8 harg8 arg9 harg9 arg10 harg10 arg11 harg11 arg12 harg12 x0 x1 x2 x3 x4 y5 y6 y7 y8 a0 a1 a2 n1 h2 n3 h4 h5 h6).2.1 (rE c i arg4 harg4 arg5 harg5 arg6 harg6 arg7 harg7 arg8 harg8 arg9 harg9 arg10 harg10 arg11 harg11 arg12 harg12 x0 x1 x2 x3 x4 y5 y6 y7 y8 a0 a1 a2 n1 h2 n3 h4 h5 h6).2.2.1 := by
  unfold rE runE; dsimp only
  exact flushed_of c arg10 arg11 _ _ _ _

theorem runE_o8 (a : Fin 2) (r : Fin 4096) (l : Fin 128) : (rE c i arg4 harg4 arg5 harg5 arg6 harg6 arg7 harg7 arg8 harg8 arg9 harg9 arg10 harg10 arg11 harg11 arg12 harg12 x0 x1 x2 x3 x4 y5 y6 y7 y8 a0 a1 a2 n1 h2 n3 h4 h5 h6).2.2.2.1 (ix3 a r l)
    = gated c i (rE c i arg4 harg4 arg5 harg5 arg6 harg6 arg7 harg7 arg8 harg8 arg9 harg9 arg10 harg10 arg11 harg11 arg12 harg12 x0 x1 x2 x3 x4 y5 y6 y7 y8 a0 a1 a2 n1 h2 n3 h4 h5 h6).2.2.2.2.2.1 y8 a r l + atQ c (rE c i arg4 harg4 arg5 harg5 arg6 harg6 arg7 harg7 arg8 harg8 arg9 harg9 arg10 harg10 arg11 harg11 arg12 harg12 x0 x1 x2 x3 x4 y5 y6 y7 y8 a0 a1 a2 n1 h2 n3 h4 h5 h6).2.2.2.2.1 (ix3 a r 128) := by
  unfold rE runE; dsimp only
  exact added_of c arg12 _ _ _ _ rfl a r l _ (gated_of c i arg12 harg12 y8 _ _ _ a r l)

theorem runE_o5 (a : Fin 2) (r : Fin 4096) (l : Fin 128) : (rE c i arg4 harg4 arg5 harg5 arg6 harg6 arg7 harg7 arg8 harg8 arg9 harg9 arg10 harg10 arg11 harg11 arg12 harg12 x0 x1 x2 x3 x4 y5 y6 y7 y8 a0 a1 a2 n1 h2 n3 h4 h5 h6).1 (ix2 r ⟨128 * a.val + l.val, by omega⟩)
    = atQ c (rE c i arg4 harg4 arg5 harg5 arg6 harg6 arg7 harg7 arg8 harg8 arg9 harg9 arg10 harg10 arg11 harg11 arg12 harg12 x0 x1 x2 x3 x4 y5 y6 y7 y8 a0 a1 a2 n1 h2 n3 h4 h5 h6).2.2.2.2.1 (ix3 a r ⟨l.val, by omega⟩) * sc0 := by
  unfold rE runE; dsimp only
  exact query_of c arg9 _ _ a r l

end E

end Cert.Attn

end
-- ==== Proof.AttnSums.lean ====
module

public import proofs.«01_k».proof.Proof.AttnPaths

@[expose] public section

set_option maxRecDepth 16384

noncomputable section

/-! # The ten steps of a head group

The sums over whole arrays that the steps build up tile by tile: what the three sums hold before each step, what the gate
gradient holds after it, and what they come to at the end. -/

namespace Cert.Attn

open Cert.AttnKernelIdeal Cert.AttnKernelIdeal.Gen
open Idealize.ShloMosaic Idealize.ShloMosaic.TcCoe Idealize.ShloMosaic.Tactic

/-- A tile's row in the array. -/
def row (i : Fin 4) (r : Fin 1024) : Fin 4096 := ⟨1024 * i.val + r.val, by omega⟩

/-- A group's head among the eight. -/
def hd (g : Fin 4) (a : Fin 2) : Fin 8 := ⟨2 * g.val + a.val, by omega⟩

theorem tile_lt : ∀ j : Fin 10, ki j < 4 ∧ qi j < 4 := by decide
def kf (j : Fin 10) : Fin 4 := ⟨ki j, (tile_lt j).1⟩
def qf (j : Fin 10) : Fin 4 := ⟨qi j, (tile_lt j).2⟩

section arrays
variable (A0 : S4096x2048.Idx → EReal) (A1 : S4096x1024.Idx → EReal) (A2 A3 A4 : S4096x2048.Idx → EReal)

/-- A head's row of packed columns, and the query's row with its further lanes. -/
def col (A : S4096x2048.Idx → EReal) (h : Fin 8) (t : Fin 4096) (l : Fin 256) : EReal := A (ix2 t ⟨256 * h.val + l.val, by omega⟩)
def Qr (h : Fin 8) (t : Fin 4096) (l : Fin 256) : EReal :=
  if hl : l.val < 128 then A0 (ix2 t ⟨256 * h.val + l.val, by omega⟩) else A1 (ix2 t ⟨128 * h.val + (l.val - 128), by omega⟩)

/-- The weight of key row `s` for query row `t`, zero where the key comes after the query; the gradient of its score. -/
def WT (h : Fin 8) (s t : Fin 4096) : EReal := pow2 (if s.val ≤ t.val then ∑ l : Fin 256, col A2 h s l * Qr A0 A1 h t l else ⊥)
def DS (h : Fin 8) (s t : Fin 4096) : EReal := WT A0 A1 A2 h s t * ∑ l : Fin 256, col A3 h s l * col A4 h t l

/-- What one tile adds to each sum. -/
def TQ (h : Fin 8) (i : Fin 4) (t : Fin 4096) (l : Fin 256) : EReal := ∑ s : Fin 1024, DS A0 A1 A2 A3 A4 h (row i s) t * col A2 h (row i s) l
def TK (h : Fin 8) (i j : Fin 4) (s : Fin 1024) (l : Fin 256) : EReal := ∑ t : Fin 1024, DS A0 A1 A2 A3 A4 h (row i s) (row j t) * Qr A0 A1 h (row j t) l
def TV (h : Fin 8) (i j : Fin 4) (s : Fin 1024) (l : Fin 128) : EReal :=
  ∑ t : Fin 1024, WT A0 A1 A2 h (row i s) (row j t) * A4 (ix2 (row j t) ⟨256 * h.val + l.val, by omega⟩)

section block
variable {A0 A1 A2 A3 A4}
variable {x0 : S1024x512.Idx → EReal} {x1 : S1024x256.Idx → EReal} {x2 x3 x4 : S1024x512.Idx → EReal} {g k q : Fin 4}

/-- The step's blocks are those of key tile `k`, query tile `q` and head group `g`. -/
structure Blocks (A0 : S4096x2048.Idx → EReal) (A1 : S4096x1024.Idx → EReal) (A2 A3 A4 : S4096x2048.Idx → EReal)
    (x0 : S1024x512.Idx → EReal) (x1 : S1024x256.Idx → EReal) (x2 x3 x4 : S1024x512.Idx → EReal) (g k q : Fin 4) : Prop where
  h0 : ∀ r (l : Fin 512), x0 (ix2 r l) = A0 (ix2 (row q r) ⟨512 * g.val + l.val, by omega⟩)
  h1 : ∀ r (l : Fin 256), x1 (ix2 r l) = A1 (ix2 (row q r) ⟨256 * g.val + l.val, by omega⟩)
  h2 : ∀ r (l : Fin 512), x2 (ix2 r l) = A2 (ix2 (row k r) ⟨512 * g.val + l.val, by omega⟩)
  h3 : ∀ r (l : Fin 512), x3 (ix2 r l) = A3 (ix2 (row k r) ⟨512 * g.val + l.val, by omega⟩)
  h4 : ∀ r (l : Fin 512), x4 (ix2 r l) = A4 (ix2 (row q r) ⟨512 * g.val + l.val, by omega⟩)

theorem Blocks.col_at {x : S1024x512.Idx → EReal} {A : S4096x2048.Idx → EReal} {i : Fin 4} (h : ∀ r (l : Fin 512), x (ix2 r l) = A (ix2 (row i r) ⟨512 * g.val + l.val, by omega⟩))
    (a : Fin 2) (r : Fin 1024) (l : Fin 256) : head x a r l = col A (hd g a) (row i r) l := by
  unfold head col
  rw [h]
  refine congrArg (fun z => A (ix2 (row i r) z)) (Fin.ext ?_)
  show 512 * g.val + (256 * a.val + l.val) = 256 * (2 * g.val + a.val) + l.val
  omega

theorem Blocks.q_at (B : Blocks A0 A1 A2 A3 A4 x0 x1 x2 x3 x4 g k q) (a : Fin 2) (r : Fin 1024) (l : Fin 256) : qrow x0 x1 a r l = Qr A0 A1 (hd g a) (row q r) l := by
  unfold qrow Qr
  by_cases hl : l.val < 128
  · rw [dif_pos hl, dif_pos hl, B.h0]
    refine congrArg (fun z => A0 (ix2 (row q r) z)) (Fin.ext ?_)
    show 512 * g.val + (256 * a.val + l.val) = 256 * (2 * g.val + a.val) + l.val
    omega
  · rw [dif_neg hl, dif_neg hl, B.h1]
    refine congrArg (fun z => A1 (ix2 (row q r) z)) (Fin.ext ?_)
    show 256 * g.val + (128 * a.val + (l.val - 128)) = 128 * (2 * g.val + a.val) + (l.val - 128)
    omega

theorem Blocks.weight_at (B : Blocks A0 A1 A2 A3 A4 x0 x1 x2 x3 x4 g k q) (d : Bool) (hd' : if d then k = q else k.val < q.val) (a : Fin 2) (s t : Fin 1024) :
    weight x0 x1 x2 d a s t = WT A0 A1 A2 (hd g a) (row k s) (row q t) := by
  unfold weight WT score
  have e : (d = false ∨ s.val ≤ t.val) ↔ (row k s).val ≤ (row q t).val := by
    unfold row
    cases d
    · simp only [Bool.false_eq_true, if_false] at hd'
      simp only [true_or, true_iff]
      omega
    · simp only [if_true] at hd'
      subst hd'
      simp
  simp only [e, Blocks.col_at B.h2, B.q_at]

theorem Blocks.dscore_at (B : Blocks A0 A1 A2 A3 A4 x0 x1 x2 x3 x4 g k q) (d : Bool) (hd' : if d then k = q else k.val < q.val) (a : Fin 2) (s t : Fin 1024) :
    dscore x0 x1 x2 x3 x4 d a s t = DS A0 A1 A2 A3 A4 (hd g a) (row k s) (row q t) := by
  unfold dscore DS
  rw [B.weight_at d hd']
  simp only [Blocks.col_at B.h3, Blocks.col_at B.h4]

theorem Blocks.addK_at (B : Blocks A0 A1 A2 A3 A4 x0 x1 x2 x3 x4 g k q) (d : Bool) (hd' : if d then k = q else k.val < q.val) (a : Fin 2) (s : Fin 1024) (l : Fin 256) :
    addK x0 x1 x2 x3 x4 d a s l = TK A0 A1 A2 A3 A4 (hd g a) k q s l :=
  Finset.sum_congr rfl fun t _ => by rw [B.dscore_at d hd', B.q_at]

theorem Blocks.addV_at (B : Blocks A0 A1 A2 A3 A4 x0 x1 x2 x3 x4 g k q) (d : Bool) (hd' : if d then k = q else k.val < q.val) (a : Fin 2) (s : Fin 1024) (l : Fin 128) :
    addV x0 x1 x2 x4 d a s l = TV A0 A1 A2 A4 (hd g a) k q s l :=
  Finset.sum_congr rfl fun t _ => by
    rw [B.weight_at d hd', B.h4]
    refine congrArg (fun z => _ * A4 (ix2 (row q t) z)) (Fin.ext ?_)
    show 512 * g.val + (256 * a.val + l.val) = 256 * (2 * g.val + a.val) + l.val
    omega

theorem Blocks.raiseQ_at (B : Blocks A0 A1 A2 A3 A4 x0 x1 x2 x3 x4 g k q) (d : Bool) (hd' : if d then k = q else k.val < q.val) (a : Fin 2) (r : Fin 4096) (l : Fin 256) :
    raiseQ x0 x1 x2 x3 x4 q.val d a r l = if 1024 * q.val ≤ r.val ∧ r.val < 1024 * q.val + 1024 then TQ A0 A1 A2 A3 A4 (hd g a) k r l else 0 := by
  unfold raiseQ
  by_cases h : 1024 * q.val ≤ r.val ∧ r.val < 1024 * q.val + 1024
  · rw [dif_pos h, if_pos h]
    refine Finset.sum_congr rfl fun s _ => ?_
    rw [B.dscore_at d hd', Blocks.col_at B.h2]
    refine congrArg (fun z => DS A0 A1 A2 A3 A4 (hd g a) (row k s) z * _) (Fin.ext ?_)
    show 1024 * q.val + (r.val - 1024 * q.val) = r.val
    omega
  · rw [dif_neg h, if_neg h]
end block

/-! ## The sums before step `n` of a head group -/

/-- Step `n` within the group. -/
abbrev st (n : ℕ) : Fin 10 := ⟨n % 10, Nat.mod_lt _ (by decide)⟩

def sumQ (h : Fin 8) : ℕ → Fin 4096 → Fin 256 → EReal
  | 0, _, _ => 0
  | n + 1, r, l => sumQ h n r l + if 1024 * (qf (st n)).val ≤ r.val ∧ r.val < 1024 * (qf (st n)).val + 1024 then TQ A0 A1 A2 A3 A4 h (kf (st n)) r l else 0
def sumK (h : Fin 8) : ℕ → Fin 1024 → Fin 256 → EReal
  | 0, _, _ => 0
  | n + 1, r, l => (if ki (st n) = qi (st n) then 0 else sumK h n r l) + TK A0 A1 A2 A3 A4 h (kf (st n)) (qf (st n)) r l
def sumV (h : Fin 8) : ℕ → Fin 1024 → Fin 128 → EReal
  | 0, _, _ => 0
  | n + 1, r, l => (if ki (st n) = qi (st n) then 0 else sumV h n r l) + TV A0 A1 A2 A4 h (kf (st n)) (qf (st n)) r l

/-- The step after a key tile's last. -/
def fl : Fin 4 → ℕ := ![4, 7, 9, 10]

/-! ## What they come to -/

theorem sum_tiles {M : Type} [AddCommMonoid M] (f : Fin 4096 → M) : ∑ t, f t = ∑ j : Fin 4, ∑ r : Fin 1024, f (row j r) := by
  rw [← Finset.sum_product', Finset.univ_product_univ]
  refine (Fintype.sum_equiv (finProdFinEquiv (m := 4) (n := 1024)) _ _ fun x => congrArg f (Fin.ext ?_)).symm
  show 1024 * x.1.val + x.2.val = x.2.val + 1024 * x.1.val
  omega

theorem pow2_bot : pow2 ⊥ = (0 : EReal) := Ideal.exp2_bot

theorem WT_zero (h : Fin 8) (s t : Fin 4096) (hst : ¬s.val ≤ t.val) : WT A0 A1 A2 h s t = 0 := by
  unfold WT; rw [if_neg hst]; exact pow2_bot
theorem DS_zero (h : Fin 8) (s t : Fin 4096) (hst : ¬s.val ≤ t.val) : DS A0 A1 A2 A3 A4 h s t = 0 := by
  unfold DS; rw [WT_zero _ _ _ _ _ _ hst, zero_mul]

theorem row_gt (i j : Fin 4) (hij : j.val < i.val) (s t : Fin 1024) : ¬(row i s).val ≤ (row j t).val := by
  unfold row; dsimp only; omega

theorem TK_zero (h : Fin 8) (i j : Fin 4) (hij : j.val < i.val) (s : Fin 1024) (l : Fin 256) : TK A0 A1 A2 A3 A4 h i j s l = 0 :=
  Finset.sum_eq_zero fun t _ => by rw [DS_zero _ _ _ _ _ _ _ _ (row_gt i j hij s t), zero_mul]
theorem TV_zero (h : Fin 8) (i j : Fin 4) (hij : j.val < i.val) (s : Fin 1024) (l : Fin 128) : TV A0 A1 A2 A4 h i j s l = 0 :=
  Finset.sum_eq_zero fun t _ => by rw [WT_zero _ _ _ _ _ _ (row_gt i j hij s t), zero_mul]

theorem sumK_end (h : Fin 8) (i : Fin 4) (s : Fin 1024) (l : Fin 256) :
    sumK A0 A1 A2 A3 A4 h (fl i) s l = ∑ t : Fin 4096, DS A0 A1 A2 A3 A4 h (row i s) t * Qr A0 A1 h t l := by
  rw [sum_tiles, Fin.sum_univ_four]
  show _ = TK A0 A1 A2 A3 A4 h i 0 s l + TK A0 A1 A2 A3 A4 h i 1 s l + TK A0 A1 A2 A3 A4 h i 2 s l + TK A0 A1 A2 A3 A4 h i 3 s l
  match i with
  | 0 =>
    show ((((0 : EReal) + TK A0 A1 A2 A3 A4 h 0 0 s l) + TK A0 A1 A2 A3 A4 h 0 1 s l) + TK A0 A1 A2 A3 A4 h 0 2 s l) + TK A0 A1 A2 A3 A4 h 0 3 s l = _
    rw [zero_add]
  | 1 =>
    show (((0 : EReal) + TK A0 A1 A2 A3 A4 h 1 1 s l) + TK A0 A1 A2 A3 A4 h 1 2 s l) + TK A0 A1 A2 A3 A4 h 1 3 s l = _
    rw [TK_zero _ _ _ _ _ h 1 0 (by decide)]
  | 2 =>
    show ((0 : EReal) + TK A0 A1 A2 A3 A4 h 2 2 s l) + TK A0 A1 A2 A3 A4 h 2 3 s l = _
    rw [TK_zero _ _ _ _ _ h 2 0 (by decide), TK_zero _ _ _ _ _ h 2 1 (by decide), add_zero]
  | 3 =>
    show (0 : EReal) + TK A0 A1 A2 A3 A4 h 3 3 s l = _
    rw [TK_zero _ _ _ _ _ h 3 0 (by decide), TK_zero _ _ _ _ _ h 3 1 (by decide), TK_zero _ _ _ _ _ h 3 2 (by decide), add_zero, add_zero]

theorem sumV_end (h : Fin 8) (i : Fin 4) (s : Fin 1024) (l : Fin 128) :
    sumV A0 A1 A2 A4 h (fl i) s l = ∑ t : Fin 4096, WT A0 A1 A2 h (row i s) t * A4 (ix2 t ⟨256 * h.val + l.val, by omega⟩) := by
  rw [sum_tiles, Fin.sum_univ_four]
  show _ = TV A0 A1 A2 A4 h i 0 s l + TV A0 A1 A2 A4 h i 1 s l + TV A0 A1 A2 A4 h i 2 s l + TV A0 A1 A2 A4 h i 3 s l
  match i with
  | 0 =>
    show ((((0 : EReal) + TV A0 A1 A2 A4 h 0 0 s l) + TV A0 A1 A2 A4 h 0 1 s l) + TV A0 A1 A2 A4 h 0 2 s l) + TV A0 A1 A2 A4 h 0 3 s l = _
    rw [zero_add]
  | 1 =>
    show (((0 : EReal) + TV A0 A1 A2 A4 h 1 1 s l) + TV A0 A1 A2 A4 h 1 2 s l) + TV A0 A1 A2 A4 h 1 3 s l = _
    rw [TV_zero _ _ _ _ h 1 0 (by decide)]
  | 2 =>
    show ((0 : EReal) + TV A0 A1 A2 A4 h 2 2 s l) + TV A0 A1 A2 A4 h 2 3 s l = _
    rw [TV_zero _ _ _ _ h 2 0 (by decide), TV_zero _ _ _ _ h 2 1 (by decide), add_zero]
  | 3 =>
    show (0 : EReal) + TV A0 A1 A2 A4 h 3 3 s l = _
    rw [TV_zero _ _ _ _ h 3 0 (by decide), TV_zero _ _ _ _ h 3 1 (by decide), TV_zero _ _ _ _ h 3 2 (by decide), add_zero, add_zero]

theorem TQ_zero (h : Fin 8) (i : Fin 4) (r : Fin 4096) (hr : r.val < 1024 * i.val) (l : Fin 256) : TQ A0 A1 A2 A3 A4 h i r l = 0 :=
  Finset.sum_eq_zero fun s _ => by
    rw [DS_zero _ _ _ _ _ _ _ _ (show ¬(row i s).val ≤ r.val by unfold row; dsimp only; omega), zero_mul]

theorem sumQ_end (h : Fin 8) (r : Fin 4096) (l : Fin 256) :
    sumQ A0 A1 A2 A3 A4 h 10 r l = ∑ s : Fin 4096, DS A0 A1 A2 A3 A4 h s r * col A2 h s l := by
  rw [sum_tiles, Fin.sum_univ_four]
  show _ = TQ A0 A1 A2 A3 A4 h 0 r l + TQ A0 A1 A2 A3 A4 h 1 r l + TQ A0 A1 A2 A3 A4 h 2 r l + TQ A0 A1 A2 A3 A4 h 3 r l
  show (((((((((((0 : EReal) + if 1024 * 0 ≤ r.val ∧ r.val < 1024 * 0 + 1024 then TQ A0 A1 A2 A3 A4 h 0 r l else 0)
    + if 1024 * 1 ≤ r.val ∧ r.val < 1024 * 1 + 1024 then TQ A0 A1 A2 A3 A4 h 0 r l else 0)
    + if 1024 * 2 ≤ r.val ∧ r.val < 1024 * 2 + 1024 then TQ A0 A1 A2 A3 A4 h 0 r l else 0)
    + if 1024 * 3 ≤ r.val ∧ r.val < 1024 * 3 + 1024 then TQ A0 A1 A2 A3 A4 h 0 r l else 0)
    + if 1024 * 1 ≤ r.val ∧ r.val < 1024 * 1 + 1024 then TQ A0 A1 A2 A3 A4 h 1 r l else 0)
    + if 1024 * 2 ≤ r.val ∧ r.val < 1024 * 2 + 1024 then TQ A0 A1 A2 A3 A4 h 1 r l else 0)
    + if 1024 * 3 ≤ r.val ∧ r.val < 1024 * 3 + 1024 then TQ A0 A1 A2 A3 A4 h 1 r l else 0)
    + if 1024 * 2 ≤ r.val ∧ r.val < 1024 * 2 + 1024 then TQ A0 A1 A2 A3 A4 h 2 r l else 0)
    + if 1024 * 3 ≤ r.val ∧ r.val < 1024 * 3 + 1024 then TQ A0 A1 A2 A3 A4 h 2 r l else 0)
    + if 1024 * 3 ≤ r.val ∧ r.val < 1024 * 3 + 1024 then TQ A0 A1 A2 A3 A4 h 3 r l else 0) = _
  have hr := r.isLt
  by_cases c0 : r.val < 1024
  · rw [if_pos (show 1024 * 0 ≤ r.val ∧ r.val < 1024 * 0 + 1024 by omega), TQ_zero _ _ _ _ _ h 1 r (by show r.val < 1024 * 1; omega),
      TQ_zero _ _ _ _ _ h 2 r (by show r.val < 1024 * 2; omega), TQ_zero _ _ _ _ _ h 3 r (by show r.val < 1024 * 3; omega)]
    simp [show ¬(1024 * 1 ≤ r.val ∧ r.val < 1024 * 1 + 1024) by omega, show ¬(1024 * 2 ≤ r.val ∧ r.val < 1024 * 2 + 1024) by omega, show ¬(1024 * 3 ≤ r.val ∧ r.val < 1024 * 3 + 1024) by omega, show ¬3072 ≤ r.val by omega]
  by_cases c1 : r.val < 2048
  · rw [TQ_zero _ _ _ _ _ h 2 r (by show r.val < 1024 * 2; omega), TQ_zero _ _ _ _ _ h 3 r (by show r.val < 1024 * 3; omega)]
    simp [c0, show (1024 * 1 ≤ r.val ∧ r.val < 1024 * 1 + 1024) by omega, show ¬(1024 * 2 ≤ r.val ∧ r.val < 1024 * 2 + 1024) by omega, show ¬(1024 * 3 ≤ r.val ∧ r.val < 1024 * 3 + 1024) by omega, show ¬3072 ≤ r.val by omega]
  by_cases c2 : r.val < 3072
  · rw [TQ_zero _ _ _ _ _ h 3 r (by show r.val < 1024 * 3; omega)]
    simp [c0, show ¬(1024 * 1 ≤ r.val ∧ r.val < 1024 * 1 + 1024) by omega, show (1024 * 2 ≤ r.val ∧ r.val < 1024 * 2 + 1024) by omega, show ¬(1024 * 3 ≤ r.val ∧ r.val < 1024 * 3 + 1024) by omega, show ¬3072 ≤ r.val by omega]
  · simp [c0, show ¬(1024 * 1 ≤ r.val ∧ r.val < 1024 * 1 + 1024) by omega, show ¬(1024 * 2 ≤ r.val ∧ r.val < 1024 * 2 + 1024) by omega, show (1024 * 3 ≤ r.val ∧ r.val < 1024 * 3 + 1024) by omega]

end arrays

end Cert.Attn

end
-- ==== Proof.AttnValue.lean ====
module

public import proofs.«01_k».proof.Proof.AttnSums
public import proofs.«01_k».proof.Proof.AttnFrame
public import Idealize.ShloMosaic.Lib.Pipeline.ValueKit

@[expose] public section

set_option maxRecDepth 16384

noncomputable section

/-! # What the launch leaves

The blocks a step finds, the claim each step keeps, and with it the four outputs as whole arrays. -/

namespace Cert.Attn

open Cert.AttnKernelIdeal Cert.AttnKernelIdeal.Gen
open Idealize.ShloMosaic Idealize.ShloMosaic.TcCoe Idealize.ShloMosaic.Tactic
open Idealize.ShloMosaic.Pipeline (RDat Window)
variable (m : (ℓ : Loc nD τ sig) → Buf (Elt Ideal) ℓ) (ρ : Dev nD → PrngReg) (c : Dev nD)

theorem qW_val (i : grid0.Coords) : (qW i).toNat = qi (i 1) := by revert i; decide +kernel
theorem kW_val (i : grid0.Coords) : (kW i).toNat = ki (i 1) := by revert i; decide +kernel

/-- The group and the step within it. -/
abbrev gr (t : Fin (cfgA Ideal).N) : Fin 4 := grid0.coords t 0
abbrev sp (t : Fin (cfgA Ideal).N) : Fin 10 := grid0.coords t 1

theorem ixQ (t : Fin (cfgA Ideal).N) : ((cfgA Ideal).win 0).index t = ![qi (sp t), (gr t).val] := by
  rw [← qW_val]; exact idx0 Ideal (grid0.coords t)
theorem ixX (t : Fin (cfgA Ideal).N) : ((cfgA Ideal).win 1).index t = ![qi (sp t), (gr t).val] := by
  rw [← qW_val]; exact idx0 Ideal (grid0.coords t)
theorem ixK (t : Fin (cfgA Ideal).N) : ((cfgA Ideal).win 2).index t = ![ki (sp t), (gr t).val] := by
  rw [← kW_val]; exact idx2 Ideal (grid0.coords t)
theorem ixV (t : Fin (cfgA Ideal).N) : ((cfgA Ideal).win 3).index t = ![ki (sp t), (gr t).val] := by
  rw [← kW_val]; exact idx2 Ideal (grid0.coords t)
theorem ixD (t : Fin (cfgA Ideal).N) : ((cfgA Ideal).win 4).index t = ![qi (sp t), (gr t).val] := by
  rw [← qW_val]; exact idx0 Ideal (grid0.coords t)
theorem ix6 (t : Fin (cfgA Ideal).N) : ((cfgA Ideal).win 6).index t = ![ki (sp t), (gr t).val] := by
  rw [← kW_val]; exact idx2 Ideal (grid0.coords t)
theorem ix7 (t : Fin (cfgA Ideal).N) : ((cfgA Ideal).win 7).index t = ![ki (sp t), (gr t).val] := by
  rw [← kW_val]; exact idx2 Ideal (grid0.coords t)

theorem at2 {x y : Fin 2 → ℕ} (h0 : x 0 = y 0) (h1 : x 1 = y 1) : ∀ a, x a = y a
  | 0 => h0
  | 1 => h1

theorem inp0_at (t : Fin (cfgA Ideal).N) (r : Fin 1024) (l : Fin 512) :
    inp m c 0 t (ix2 r l) = (V m c main_v139 : S4096x2048.Idx → EReal) (ix2 (row (qf (sp t)) r) ⟨512 * (gr t).val + l.val, by have := (gr t).isLt; omega⟩) := by
  have e := ixQ t
  unfold inp Window.fill
  rw [dif_pos (((((cfgA Ideal).win 0).moved_iff _ _)).mpr fun a => (ix2 r l a).isLt)]
  refine congrArg (V m c main_v139) (funext fun a => Fin.ext ?_)
  revert a
  refine at2 ?_ ?_
  · show ((cfgA Ideal).win 0).index t (0 : Fin 2) * 1024 + 1 * r.val = 1024 * qi (sp t) + r.val
    rw [e, Nat.one_mul]; exact congrArg (· + r.val) (Nat.mul_comm _ _)
  · show ((cfgA Ideal).win 0).index t (1 : Fin 2) * 512 + 1 * l.val = 512 * (gr t).val + l.val
    rw [e, Nat.one_mul]; exact congrArg (· + l.val) (Nat.mul_comm _ _)

theorem inp1_at (t : Fin (cfgA Ideal).N) (r : Fin 1024) (l : Fin 256) :
    inp m c 1 t (ix2 r l) = (V m c main_v140 : S4096x1024.Idx → EReal) (ix2 (row (qf (sp t)) r) ⟨256 * (gr t).val + l.val, by have := (gr t).isLt; omega⟩) := by
  have e := ixX t
  unfold inp Window.fill
  rw [dif_pos (((((cfgA Ideal).win 1).moved_iff _ _)).mpr fun a => (ix2 r l a).isLt)]
  refine congrArg (V m c main_v140) (funext fun a => Fin.ext ?_)
  revert a
  refine at2 ?_ ?_
  · show ((cfgA Ideal).win 1).index t (0 : Fin 2) * 1024 + 1 * r.val = 1024 * qi (sp t) + r.val
    rw [e, Nat.one_mul]; exact congrArg (· + r.val) (Nat.mul_comm _ _)
  · show ((cfgA Ideal).win 1).index t (1 : Fin 2) * 256 + 1 * l.val = 256 * (gr t).val + l.val
    rw [e, Nat.one_mul]; exact congrArg (· + l.val) (Nat.mul_comm _ _)

theorem inp2_at (t : Fin (cfgA Ideal).N) (r : Fin 1024) (l : Fin 512) :
    inp m c 2 t (ix2 r l) = (V m c main_v143 : S4096x2048.Idx → EReal) (ix2 (row (kf (sp t)) r) ⟨512 * (gr t).val + l.val, by have := (gr t).isLt; omega⟩) := by
  have e := ixK t
  unfold inp Window.fill
  rw [dif_pos (((((cfgA Ideal).win 2).moved_iff _ _)).mpr fun a => (ix2 r l a).isLt)]
  refine congrArg (V m c main_v143) (funext fun a => Fin.ext ?_)
  revert a
  refine at2 ?_ ?_
  · show ((cfgA Ideal).win 2).index t (0 : Fin 2) * 1024 + 1 * r.val = 1024 * ki (sp t) + r.val
    rw [e, Nat.one_mul]; exact congrArg (· + r.val) (Nat.mul_comm _ _)
  · show ((cfgA Ideal).win 2).index t (1 : Fin 2) * 512 + 1 * l.val = 512 * (gr t).val + l.val
    rw [e, Nat.one_mul]; exact congrArg (· + l.val) (Nat.mul_comm _ _)

theorem inp3_at (t : Fin (cfgA Ideal).N) (r : Fin 1024) (l : Fin 512) :
    inp m c 3 t (ix2 r l) = (V m c main_v146 : S4096x2048.Idx → EReal) (ix2 (row (kf (sp t)) r) ⟨512 * (gr t).val + l.val, by have := (gr t).isLt; omega⟩) := by
  have e := ixV t
  unfold inp Window.fill
  rw [dif_pos (((((cfgA Ideal).win 3).moved_iff _ _)).mpr fun a => (ix2 r l a).isLt)]
  refine congrArg (V m c main_v146) (funext fun a => Fin.ext ?_)
  revert a
  refine at2 ?_ ?_
  · show ((cfgA Ideal).win 3).index t (0 : Fin 2) * 1024 + 1 * r.val = 1024 * ki (sp t) + r.val
    rw [e, Nat.one_mul]; exact congrArg (· + r.val) (Nat.mul_comm _ _)
  · show ((cfgA Ideal).win 3).index t (1 : Fin 2) * 512 + 1 * l.val = 512 * (gr t).val + l.val
    rw [e, Nat.one_mul]; exact congrArg (· + l.val) (Nat.mul_comm _ _)

theorem inp4_at (t : Fin (cfgA Ideal).N) (r : Fin 1024) (l : Fin 512) :
    inp m c 4 t (ix2 r l) = (V m c main_v149 : S4096x2048.Idx → EReal) (ix2 (row (qf (sp t)) r) ⟨512 * (gr t).val + l.val, by have := (gr t).isLt; omega⟩) := by
  have e := ixD t
  unfold inp Window.fill
  rw [dif_pos (((((cfgA Ideal).win 4).moved_iff _ _)).mpr fun a => (ix2 r l a).isLt)]
  refine congrArg (V m c main_v149) (funext fun a => Fin.ext ?_)
  revert a
  refine at2 ?_ ?_
  · show ((cfgA Ideal).win 4).index t (0 : Fin 2) * 1024 + 1 * r.val = 1024 * qi (sp t) + r.val
    rw [e, Nat.one_mul]; exact congrArg (· + r.val) (Nat.mul_comm _ _)
  · show ((cfgA Ideal).win 4).index t (1 : Fin 2) * 512 + 1 * l.val = 512 * (gr t).val + l.val
    rw [e, Nat.one_mul]; exact congrArg (· + l.val) (Nat.mul_comm _ _)

/-- The five operands. -/
abbrev opQ : S4096x2048.Idx → EReal := V m c main_v139
abbrev opX : S4096x1024.Idx → EReal := V m c main_v140
abbrev opK : S4096x2048.Idx → EReal := V m c main_v143
abbrev opV : S4096x2048.Idx → EReal := V m c main_v146
abbrev opD : S4096x2048.Idx → EReal := V m c main_v149

theorem blocks (t : Fin (cfgA Ideal).N) :
    Blocks (opQ m c) (opX m c) (opK m c) (opV m c) (opD m c) (inp m c 0 t) (inp m c 1 t) (inp m c 2 t) (inp m c 3 t) (inp m c 4 t) (gr t) (kf (sp t)) (qf (sp t)) :=
  ⟨inp0_at m c t, inp1_at m c t, inp2_at m c t, inp3_at m c t, inp4_at m c t⟩

/-! ## The claim -/

abbrev SQ := sumQ (opQ m c) (opX m c) (opK m c) (opV m c) (opD m c)
abbrev SK := sumK (opQ m c) (opX m c) (opK m c) (opV m c) (opD m c)
abbrev SV := sumV (opQ m c) (opX m c) (opK m c) (opD m c)

def Held (g : Fin 4) (k : ℕ) (a0 : Buf (Elt Ideal) ((c : Thread nD τ).loc cc0_scratch0)) (a1 : Buf (Elt Ideal) ((c : Thread nD τ).loc cc0_scratch1))
    (a2 : Buf (Elt Ideal) ((c : Thread nD τ).loc cc0_scratch2)) : Prop :=
  (∀ a r l, atQ c a0 (ix3 a r l) = SQ m c (hd g a) k r l) ∧ (∀ a r l, atK c a1 (ix3 a r l) = SK m c (hd g a) k r l)
    ∧ ∀ a r l, atV c a2 (ix3 a r l) = SV m c (hd g a) k r l

/-- The head group of step `n` of the launch. -/
abbrev gN (n : ℕ) : Fin 4 := ⟨n / 10 % 4, Nat.mod_lt _ (by decide)⟩

/-- How many key tiles are finished after step `j`. -/
def fin : Fin 10 → ℕ := ![0, 0, 0, 1, 1, 1, 2, 2, 3, 4]

/-- The gate gradient's key part at a row. -/
def dcK (h : Fin 8) (r : Fin 4096) : EReal := 0 - SK m c h (fl ⟨r.val / 1024, by omega⟩) ⟨r.val % 1024, by omega⟩ 131

def kept : Kept Ideal c where
  acc n a0 a1 a2 := n % 10 ≠ 0 → Held m c (gN n) (n % 10) a0 a1 a2
  o5 n z := n % 10 = 9 → ∀ (a : Fin 2) r (l : Fin 128), z (ix2 r ⟨128 * a.val + l.val, by omega⟩) = SQ m c (hd (gN n) a) 10 r ⟨l.val, by omega⟩ * sc0
  o6 n z := qi (st n) = 3 → ∀ (a : Fin 2) r (l : Fin 128), z (ix2 r ⟨128 * a.val + l.val, by omega⟩) = SK m c (hd (gN n) a) (n % 10 + 1) r ⟨l.val, by omega⟩ * ln2
  o7 n z := qi (st n) = 3 → ∀ (a : Fin 2) r (l : Fin 128), z (ix2 r ⟨128 * a.val + l.val, by omega⟩) = SV m c (hd (gN n) a) (n % 10 + 1) r l
  o8 n z := ∀ (a : Fin 2) (r : Fin 4096) (l : Fin 128), r.val < 1024 * fin (st n) →
    z (ix3 a r l) = dcK m c (hd (gN n) a) r + if n % 10 = 9 then SQ m c (hd (gN n) a) 10 r 128 else 0

theorem N40 : (cfgA Ideal).N = 40 := N_0
theorem co (t : Fin (cfgA Ideal).N) : (gr t).val = t.val / 10 ∧ (sp t).val = t.val % 10 := by
  have h : ∀ t : Fin 40, ∀ h : t.val < grid0.N, (grid0.coords ⟨t.val, h⟩ 0).val = t.val / 10 ∧ (grid0.coords ⟨t.val, h⟩ 1).val = t.val % 10 := by decide +kernel
  exact h ⟨t.val, lt_of_lt_of_eq t.isLt N40⟩ t.isLt
theorem st_eq (t : Fin (cfgA Ideal).N) : st t.val = sp t := Fin.ext (co t).2.symm
theorem gN_eq (t : Fin (cfgA Ideal).N) : gN t.val = gr t := Fin.ext (by
  have := lt_of_lt_of_eq t.isLt N40
  show t.val / 10 % 4 = (gr t).val
  rw [(co t).1]; omega)
theorem st_st (n : ℕ) : st (n % 10) = st n := Fin.ext (Nat.mod_mod n 10)

theorem held_step (t : Fin (cfgA Ideal).N) (first d : Bool) (hf : first = true ↔ (sp t).val = 0) (hd' : d = true ↔ ki (sp t) = qi (sp t))
    (a0 : Buf (Elt Ideal) ((c : Thread nD τ).loc cc0_scratch0)) (a1 : Buf (Elt Ideal) ((c : Thread nD τ).loc cc0_scratch1)) (a2 : Buf (Elt Ideal) ((c : Thread nD τ).loc cc0_scratch2))
    (b0 : Buf (Elt Ideal) ((c : Thread nD τ).loc cc0_scratch0)) (b1 : Buf (Elt Ideal) ((c : Thread nD τ).loc cc0_scratch1)) (b2 : Buf (Elt Ideal) ((c : Thread nD τ).loc cc0_scratch2))
    (D : Did c (grid0.coords t) (inp m c 0 t) (inp m c 1 t) (inp m c 2 t) (inp m c 3 t) (inp m c 4 t) a0 a1 a2 first d b0 b1 b2)
    (H : (kept m c).acc t.val a0 a1 a2) : Held m c (gN t.val) (t.val % 10 + 1) b0 b1 b2 := by
  have B := blocks m c t
  have hlt : if d then kf (sp t) = qf (sp t) else (kf (sp t)).val < (qf (sp t)).val := by
    have le : ∀ j : Fin 10, ki j ≤ qi j := by decide
    cases d
    · have h1 := le (sp t)
      have h2 : ki (sp t) ≠ qi (sp t) := fun h => by simpa using hd'.2 h
      show ki (sp t) < qi (sp t)
      omega
    · exact Fin.ext (hd'.1 rfl)
  have H' : t.val % 10 ≠ 0 → Held m c (gN t.val) (t.val % 10) a0 a1 a2 := H
  have e1 : st (t.val % 10) = sp t := (st_st _).trans (st_eq t)
  have hz : (sp t).val = t.val % 10 := (co t).2
  have diag0 : ∀ j : Fin 10, j.val = 0 → ki j = qi j := by decide
  rw [gN_eq] at H' ⊢
  refine ⟨fun a r l => ?_, fun a r l => ?_, fun a r l => ?_⟩
  · have Dq : atQ c b0 (ix3 a r l) = (if first then 0 else atQ c a0 (ix3 a r l))
        + raiseQ (inp m c 0 t) (inp m c 1 t) (inp m c 2 t) (inp m c 3 t) (inp m c 4 t) (qf (sp t)).val d a r l := D.1 a r l
    rw [Dq, B.raiseQ_at d hlt a r l]
    show _ = SQ m c (hd (gr t) a) (t.val % 10) r l + if 1024 * (qf (st (t.val % 10))).val ≤ r.val ∧ r.val < 1024 * (qf (st (t.val % 10))).val + 1024 then TQ _ _ _ _ _ (hd (gr t) a) (kf (st (t.val % 10))) r l else 0
    rw [e1]
    refine congrArg (· + _) ?_
    by_cases h0 : t.val % 10 = 0
    · rw [if_pos (hf.2 (hz.trans h0)), h0]; rfl
    · rw [if_neg (fun h => h0 (hz.symm.trans (hf.1 h))), (H' h0).1]
  · rw [D.2.1 a r l, B.addK_at d hlt a r l]
    show _ = (if ki (st (t.val % 10)) = qi (st (t.val % 10)) then 0 else SK m c (hd (gr t) a) (t.val % 10) r l) + TK _ _ _ _ _ (hd (gr t) a) (kf (st (t.val % 10))) (qf (st (t.val % 10))) r l
    rw [e1]
    refine congrArg (· + _) ?_
    by_cases h0 : ki (sp t) = qi (sp t)
    · rw [if_pos (hd'.2 h0), if_pos h0]
    · rw [if_neg (fun h => h0 (hd'.1 h)), if_neg h0, (H' fun h => h0 (diag0 _ (hz.trans h))).2.1]
  · rw [D.2.2 a r l, B.addV_at d hlt a r l]
    show _ = (if ki (st (t.val % 10)) = qi (st (t.val % 10)) then 0 else SV m c (hd (gr t) a) (t.val % 10) r l) + TV _ _ _ _ (hd (gr t) a) (kf (st (t.val % 10))) (qf (st (t.val % 10))) r l
    rw [e1]
    refine congrArg (· + _) ?_
    by_cases h0 : ki (sp t) = qi (sp t)
    · rw [if_pos (hd'.2 h0), if_pos h0]
    · rw [if_neg (fun h => h0 (hd'.1 h)), if_neg h0, (H' fun h => h0 (diag0 _ (hz.trans h))).2.2]

theorem acc_next (n : ℕ) (hn : n < 40) (b0 : Buf (Elt Ideal) ((c : Thread nD τ).loc cc0_scratch0)) (b1 : Buf (Elt Ideal) ((c : Thread nD τ).loc cc0_scratch1)) (b2 : Buf (Elt Ideal) ((c : Thread nD τ).loc cc0_scratch2))
    (H : Held m c (gN n) (n % 10 + 1) b0 b1 b2) : (kept m c).acc (n + 1) b0 b1 b2 := by
  intro h
  have e1 : gN (n + 1) = gN n := Fin.ext (by show (n + 1) / 10 % 4 = n / 10 % 4; omega)
  have e2 : (n + 1) % 10 = n % 10 + 1 := by omega
  rw [e1, e2]; exact H

theorem gate_keep (t : Fin (cfgA Ideal).N) (hq : qi (sp t) ≠ 3) (y8 : S2x4096x128.Idx → EReal) (hy : t.val % 10 ≠ 0 → (kept m c).o8 (t.val - 1) y8) : (kept m c).o8 t.val y8 := by
  intro a r l hr
  have hs := (co t).2
  have stay : ∀ j : Fin 10, qi j ≠ 3 → (j.val = 0 ∧ fin j = 0) ∨ (j.val ≠ 0 ∧ fin (st (j.val - 1)) = fin j ∧ j.val ≠ 9) := by decide
  rcases stay (sp t) hq with ⟨h0, h1⟩ | ⟨h0, h1, h2⟩
  · rw [st_eq, h1] at hr; omega
  · have e1 : gN (t.val - 1) = gN t.val := Fin.ext (by show (t.val - 1) / 10 % 4 = t.val / 10 % 4; omega)
    have e2 : fin (st (t.val - 1)) = fin (st t.val) := by
      rw [st_eq, ← h1]; exact congrArg fin (Fin.ext (by show (t.val - 1) % 10 = ((sp t).val - 1) % 10; rw [hs]; omega))
    have := hy (by omega) a r l (by rw [e2]; exact hr)
    rw [this, e1, if_neg (by omega), if_neg (by omega)]

theorem gate_flush (t : Fin (cfgA Ideal).N) (hq : qi (sp t) = 3) (y8 : S2x4096x128.Idx → EReal) (hy : t.val % 10 ≠ 0 → (kept m c).o8 (t.val - 1) y8)
    (b0 : Buf (Elt Ideal) ((c : Thread nD τ).loc cc0_scratch0)) (b1 : Buf (Elt Ideal) ((c : Thread nD τ).loc cc0_scratch1)) (b2 : Buf (Elt Ideal) ((c : Thread nD τ).loc cc0_scratch2))
    (H : Held m c (gN t.val) (t.val % 10 + 1) b0 b1 b2) (a : Fin 2) (r : Fin 4096) (l : Fin 128) (hr : r.val < 1024 * fin (st t.val)) :
    gated c (grid0.coords t) b1 y8 a r l = dcK m c (hd (gN t.val) a) r := by
  have hs := (co t).2
  have done : ∀ j : Fin 10, qi j = 3 → j.val ≠ 0 ∧ fin j = ki j + 1 ∧ fin (st (j.val - 1)) = ki j ∧ fl (kf j) = j.val + 1 := by decide
  obtain ⟨h0, h1, h2, h3⟩ := done (sp t) hq
  rw [st_eq, h1] at hr
  unfold gated
  by_cases h : 1024 * ki (grid0.coords t 1) ≤ r.val ∧ r.val < 1024 * ki (grid0.coords t 1) + 1024
  · have h' : 1024 * ki (sp t) ≤ r.val ∧ r.val < 1024 * ki (sp t) + 1024 := h
    rw [dif_pos h, H.2.1]
    unfold dcK
    have e1 : (⟨r.val / 1024, by omega⟩ : Fin 4) = kf (sp t) := Fin.ext (by show r.val / 1024 = ki (sp t); omega)
    have e2 : (⟨r.val % 1024, by omega⟩ : Fin 1024) = ⟨r.val - 1024 * ki (sp t), by omega⟩ := Fin.ext (by show r.val % 1024 = r.val - 1024 * ki (sp t); omega)
    rw [e1, e2, h3, hs]
  · have h' : ¬(1024 * ki (sp t) ≤ r.val ∧ r.val < 1024 * ki (sp t) + 1024) := h
    rw [dif_neg h]
    have e1 : gN (t.val - 1) = gN t.val := Fin.ext (by show (t.val - 1) / 10 % 4 = t.val / 10 % 4; omega)
    have e2 : fin (st (t.val - 1)) = ki (sp t) := by
      rw [← h2]; exact congrArg fin (Fin.ext (by show (t.val - 1) % 10 = ((sp t).val - 1) % 10; rw [hs]; omega))
    have := hy (by omega) a r l (by rw [e2]; omega)
    rw [this, e1, if_neg (by omega), add_zero]

theorem flushed_keep (t : Fin (cfgA Ideal).N) (b0 : Buf (Elt Ideal) ((c : Thread nD τ).loc cc0_scratch0)) (b1 : Buf (Elt Ideal) ((c : Thread nD τ).loc cc0_scratch1)) (b2 : Buf (Elt Ideal) ((c : Thread nD τ).loc cc0_scratch2))
    (z6 z7 : S1024x256.Idx → EReal) (H : Held m c (gN t.val) (t.val % 10 + 1) b0 b1 b2) (hz : Flushed c b1 b2 z6 z7) : (kept m c).o6 t.val z6 ∧ (kept m c).o7 t.val z7 :=
  ⟨fun _ a r l => by rw [hz.1 a r l, H.2.1], fun _ a r l => by rw [hz.2 a r l, H.2.2]⟩

/-- Every step keeps the claim. -/
theorem steps_kept : Steps m c (kept m c) := by
  intro t y5 y6 y7 y8 a0 a1 a2 ha h8
  have p := tiles (grid0.coords t 1)
  have hs := (co t).2
  have h40 := lt_of_lt_of_eq t.isLt N40
  by_cases d : ki (grid0.coords t 1) = qi (grid0.coords t 1)
  · by_cases z : (grid0.coords t 1).val = 0
    · skip
      have A := held_step m c t true true (by simp [z]) (by simp [d]) a0 a1 a2 _ _ _ (runA_did c (grid0.coords t) (ms t 0) (hstage0_0 _) (ms t 1) (hstage0_1 _) (ms t 2) (hstage0_2 _) (ms t 3) (hstage0_3 _) (ms t 4) (hstage0_4 _)
        (ms t 5) (hstage0_5 _) (ms t 6) (hstage0_6 _) (ms t 7) (hstage0_7 _) (ms t 8) (hstage0_8 _)
        (inp m c 0 t) (inp m c 1 t) (inp m c 2 t) (inp m c 3 t) (inp m c 4 t) y5 y6 y7 y8 a0 a1 a2
        ((first_iff _).2 z) ((fresh_iff Ideal _).2 d) (fun h => (off_iff Ideal _).1 h d) ((diag_iff Ideal _).2 d) (fun h => (p.1 z).2 ((flush_iff Ideal _).1 h)) (fun h => by rw [(last_iff _).1 h] at z; exact absurd z (by decide))) ha
      have n9 : t.val % 10 ≠ 9 := by intro h; have := hs.trans h; have : (sp t).val = 0 := z; omega
      exact ⟨_, _, _, _, _, _, _, (runA c (grid0.coords t) (ms t 0) (hstage0_0 _) (ms t 1) (hstage0_1 _) (ms t 2) (hstage0_2 _) (ms t 3) (hstage0_3 _) (ms t 4) (hstage0_4 _)
        (ms t 5) (hstage0_5 _) (ms t 6) (hstage0_6 _) (ms t 7) (hstage0_7 _) (ms t 8) (hstage0_8 _)
        (inp m c 0 t) (inp m c 1 t) (inp m c 2 t) (inp m c 3 t) (inp m c 4 t) y5 y6 y7 y8 a0 a1 a2
        ((first_iff _).2 z) ((fresh_iff Ideal _).2 d) (fun h => (off_iff Ideal _).1 h d) ((diag_iff Ideal _).2 d) (fun h => (p.1 z).2 ((flush_iff Ideal _).1 h)) (fun h => by rw [(last_iff _).1 h] at z; exact absurd z (by decide))).2.2.2.2.2.2.2, acc_next m c t.val h40 _ _ _ A, fun h => absurd h n9,
        fun h => absurd h (st_eq t ▸ (p.1 z).2), fun h => absurd h (st_eq t ▸ (p.1 z).2),
        (congrArg ((kept m c).o8 t.val) (runA_o8 c (grid0.coords t) (ms t 0) (hstage0_0 _) (ms t 1) (hstage0_1 _) (ms t 2) (hstage0_2 _) (ms t 3) (hstage0_3 _) (ms t 4) (hstage0_4 _)
        (ms t 5) (hstage0_5 _) (ms t 6) (hstage0_6 _) (ms t 7) (hstage0_7 _) (ms t 8) (hstage0_8 _)
        (inp m c 0 t) (inp m c 1 t) (inp m c 2 t) (inp m c 3 t) (inp m c 4 t) y5 y6 y7 y8 a0 a1 a2
        ((first_iff _).2 z) ((fresh_iff Ideal _).2 d) (fun h => (off_iff Ideal _).1 h d) ((diag_iff Ideal _).2 d) (fun h => (p.1 z).2 ((flush_iff Ideal _).1 h)) (fun h => by rw [(last_iff _).1 h] at z; exact absurd z (by decide)))).mpr (gate_keep m c t ((p.1 z).2) y8 h8)⟩
    · by_cases l : (grid0.coords t 1).val = 9
      · skip
        have A := held_step m c t false true (by simp [z]) (by simp [d]) a0 a1 a2 _ _ _ (runE_did c (grid0.coords t) (ms t 0) (hstage0_0 _) (ms t 1) (hstage0_1 _) (ms t 2) (hstage0_2 _) (ms t 3) (hstage0_3 _) (ms t 4) (hstage0_4 _)
          (ms t 5) (hstage0_5 _) (ms t 6) (hstage0_6 _) (ms t 7) (hstage0_7 _) (ms t 8) (hstage0_8 _)
          (inp m c 0 t) (inp m c 1 t) (inp m c 2 t) (inp m c 3 t) (inp m c 4 t) y5 y6 y7 y8 a0 a1 a2
          (fun h => z ((first_iff _).1 h)) ((fresh_iff Ideal _).2 d) (fun h => (off_iff Ideal _).1 h d) ((diag_iff Ideal _).2 d) ((flush_iff Ideal _).2 (p.2.1 l).2) ((last_iff _).2 l)) ha
        have Z := flushed_keep m c t _ _ _ _ _ A (runE_flushed c (grid0.coords t) (ms t 0) (hstage0_0 _) (ms t 1) (hstage0_1 _) (ms t 2) (hstage0_2 _) (ms t 3) (hstage0_3 _) (ms t 4) (hstage0_4 _)
          (ms t 5) (hstage0_5 _) (ms t 6) (hstage0_6 _) (ms t 7) (hstage0_7 _) (ms t 8) (hstage0_8 _)
          (inp m c 0 t) (inp m c 1 t) (inp m c 2 t) (inp m c 3 t) (inp m c 4 t) y5 y6 y7 y8 a0 a1 a2
          (fun h => z ((first_iff _).1 h)) ((fresh_iff Ideal _).2 d) (fun h => (off_iff Ideal _).1 h d) ((diag_iff Ideal _).2 d) ((flush_iff Ideal _).2 (p.2.1 l).2) ((last_iff _).2 l))
        have n9 : t.val % 10 = 9 := hs.symm.trans l
        exact ⟨_, _, _, _, _, _, _, (runE c (grid0.coords t) (ms t 0) (hstage0_0 _) (ms t 1) (hstage0_1 _) (ms t 2) (hstage0_2 _) (ms t 3) (hstage0_3 _) (ms t 4) (hstage0_4 _)
          (ms t 5) (hstage0_5 _) (ms t 6) (hstage0_6 _) (ms t 7) (hstage0_7 _) (ms t 8) (hstage0_8 _)
          (inp m c 0 t) (inp m c 1 t) (inp m c 2 t) (inp m c 3 t) (inp m c 4 t) y5 y6 y7 y8 a0 a1 a2
          (fun h => z ((first_iff _).1 h)) ((fresh_iff Ideal _).2 d) (fun h => (off_iff Ideal _).1 h d) ((diag_iff Ideal _).2 d) ((flush_iff Ideal _).2 (p.2.1 l).2) ((last_iff _).2 l)).2.2.2.2.2.2.2, acc_next m c t.val h40 _ _ _ A,
          fun _ a r l' => (runE_o5 c (grid0.coords t) (ms t 0) (hstage0_0 _) (ms t 1) (hstage0_1 _) (ms t 2) (hstage0_2 _) (ms t 3) (hstage0_3 _) (ms t 4) (hstage0_4 _)
          (ms t 5) (hstage0_5 _) (ms t 6) (hstage0_6 _) (ms t 7) (hstage0_7 _) (ms t 8) (hstage0_8 _)
          (inp m c 0 t) (inp m c 1 t) (inp m c 2 t) (inp m c 3 t) (inp m c 4 t) y5 y6 y7 y8 a0 a1 a2
          (fun h => z ((first_iff _).1 h)) ((fresh_iff Ideal _).2 d) (fun h => (off_iff Ideal _).1 h d) ((diag_iff Ideal _).2 d) ((flush_iff Ideal _).2 (p.2.1 l).2) ((last_iff _).2 l) a r l').trans (by rw [A.1, n9]), Z.1, Z.2,
          fun a r l' hr => (runE_o8 c (grid0.coords t) (ms t 0) (hstage0_0 _) (ms t 1) (hstage0_1 _) (ms t 2) (hstage0_2 _) (ms t 3) (hstage0_3 _) (ms t 4) (hstage0_4 _)
          (ms t 5) (hstage0_5 _) (ms t 6) (hstage0_6 _) (ms t 7) (hstage0_7 _) (ms t 8) (hstage0_8 _)
          (inp m c 0 t) (inp m c 1 t) (inp m c 2 t) (inp m c 3 t) (inp m c 4 t) y5 y6 y7 y8 a0 a1 a2
          (fun h => z ((first_iff _).1 h)) ((fresh_iff Ideal _).2 d) (fun h => (off_iff Ideal _).1 h d) ((diag_iff Ideal _).2 d) ((flush_iff Ideal _).2 (p.2.1 l).2) ((last_iff _).2 l) a r l').trans (by rw [gate_flush m c t (p.2.1 l).2 y8 h8 _ _ _ A a r l' hr, A.1, n9, if_pos rfl])⟩
      · skip
        have A := held_step m c t false true (by simp [z]) (by simp [d]) a0 a1 a2 _ _ _ (runD_did c (grid0.coords t) (ms t 0) (hstage0_0 _) (ms t 1) (hstage0_1 _) (ms t 2) (hstage0_2 _) (ms t 3) (hstage0_3 _) (ms t 4) (hstage0_4 _)
          (ms t 5) (hstage0_5 _) (ms t 6) (hstage0_6 _) (ms t 7) (hstage0_7 _) (ms t 8) (hstage0_8 _)
          (inp m c 0 t) (inp m c 1 t) (inp m c 2 t) (inp m c 3 t) (inp m c 4 t) y5 y6 y7 y8 a0 a1 a2
          (fun h => z ((first_iff _).1 h)) ((fresh_iff Ideal _).2 d) (fun h => (off_iff Ideal _).1 h d) ((diag_iff Ideal _).2 d) (fun h => l (p.2.2 d ((flush_iff Ideal _).1 h))) (fun h => l ((last_iff _).1 h))) ha
        have n9 : t.val % 10 ≠ 9 := fun h => l (hs.trans h)
        exact ⟨_, _, _, _, _, _, _, (runD c (grid0.coords t) (ms t 0) (hstage0_0 _) (ms t 1) (hstage0_1 _) (ms t 2) (hstage0_2 _) (ms t 3) (hstage0_3 _) (ms t 4) (hstage0_4 _)
          (ms t 5) (hstage0_5 _) (ms t 6) (hstage0_6 _) (ms t 7) (hstage0_7 _) (ms t 8) (hstage0_8 _)
          (inp m c 0 t) (inp m c 1 t) (inp m c 2 t) (inp m c 3 t) (inp m c 4 t) y5 y6 y7 y8 a0 a1 a2
          (fun h => z ((first_iff _).1 h)) ((fresh_iff Ideal _).2 d) (fun h => (off_iff Ideal _).1 h d) ((diag_iff Ideal _).2 d) (fun h => l (p.2.2 d ((flush_iff Ideal _).1 h))) (fun h => l ((last_iff _).1 h))).2.2.2.2.2.2.2, acc_next m c t.val h40 _ _ _ A, fun h => absurd h n9,
          fun h => absurd h (st_eq t ▸ fun h => l (p.2.2 d h)), fun h => absurd h (st_eq t ▸ fun h => l (p.2.2 d h)),
          (congrArg ((kept m c).o8 t.val) (runD_o8 c (grid0.coords t) (ms t 0) (hstage0_0 _) (ms t 1) (hstage0_1 _) (ms t 2) (hstage0_2 _) (ms t 3) (hstage0_3 _) (ms t 4) (hstage0_4 _)
          (ms t 5) (hstage0_5 _) (ms t 6) (hstage0_6 _) (ms t 7) (hstage0_7 _) (ms t 8) (hstage0_8 _)
          (inp m c 0 t) (inp m c 1 t) (inp m c 2 t) (inp m c 3 t) (inp m c 4 t) y5 y6 y7 y8 a0 a1 a2
          (fun h => z ((first_iff _).1 h)) ((fresh_iff Ideal _).2 d) (fun h => (off_iff Ideal _).1 h d) ((diag_iff Ideal _).2 d) (fun h => l (p.2.2 d ((flush_iff Ideal _).1 h))) (fun h => l ((last_iff _).1 h)))).mpr (gate_keep m c t (fun h => l (p.2.2 d h)) y8 h8)⟩
  · have z : (grid0.coords t 1).val ≠ 0 := fun h => d (p.1 h).1
    by_cases l : qi (grid0.coords t 1) = 3
    · skip
      have A := held_step m c t false false (by simp [z]) (by simp [d]) a0 a1 a2 _ _ _ (runC_did c (grid0.coords t) (ms t 0) (hstage0_0 _) (ms t 1) (hstage0_1 _) (ms t 2) (hstage0_2 _) (ms t 3) (hstage0_3 _) (ms t 4) (hstage0_4 _)
        (ms t 5) (hstage0_5 _) (ms t 6) (hstage0_6 _) (ms t 7) (hstage0_7 _) (ms t 8) (hstage0_8 _)
        (inp m c 0 t) (inp m c 1 t) (inp m c 2 t) (inp m c 3 t) (inp m c 4 t) y5 y6 y7 y8 a0 a1 a2
        (fun h => d (p.1 ((first_iff _).1 h)).1) (fun h => d ((fresh_iff Ideal _).1 h)) ((off_iff Ideal _).2 d) (fun h => d ((diag_iff Ideal _).1 h)) ((flush_iff Ideal _).2 l) (fun h => d (p.2.1 ((last_iff _).1 h)).1)) ha
      have Z := flushed_keep m c t _ _ _ _ _ A (runC_flushed c (grid0.coords t) (ms t 0) (hstage0_0 _) (ms t 1) (hstage0_1 _) (ms t 2) (hstage0_2 _) (ms t 3) (hstage0_3 _) (ms t 4) (hstage0_4 _)
        (ms t 5) (hstage0_5 _) (ms t 6) (hstage0_6 _) (ms t 7) (hstage0_7 _) (ms t 8) (hstage0_8 _)
        (inp m c 0 t) (inp m c 1 t) (inp m c 2 t) (inp m c 3 t) (inp m c 4 t) y5 y6 y7 y8 a0 a1 a2
        (fun h => d (p.1 ((first_iff _).1 h)).1) (fun h => d ((fresh_iff Ideal _).1 h)) ((off_iff Ideal _).2 d) (fun h => d ((diag_iff Ideal _).1 h)) ((flush_iff Ideal _).2 l) (fun h => d (p.2.1 ((last_iff _).1 h)).1))
      have n9 : t.val % 10 ≠ 9 := by intro h; exact d (p.2.1 (hs.trans h)).1
      exact ⟨_, _, _, _, _, _, _, (runC c (grid0.coords t) (ms t 0) (hstage0_0 _) (ms t 1) (hstage0_1 _) (ms t 2) (hstage0_2 _) (ms t 3) (hstage0_3 _) (ms t 4) (hstage0_4 _)
        (ms t 5) (hstage0_5 _) (ms t 6) (hstage0_6 _) (ms t 7) (hstage0_7 _) (ms t 8) (hstage0_8 _)
        (inp m c 0 t) (inp m c 1 t) (inp m c 2 t) (inp m c 3 t) (inp m c 4 t) y5 y6 y7 y8 a0 a1 a2
        (fun h => d (p.1 ((first_iff _).1 h)).1) (fun h => d ((fresh_iff Ideal _).1 h)) ((off_iff Ideal _).2 d) (fun h => d ((diag_iff Ideal _).1 h)) ((flush_iff Ideal _).2 l) (fun h => d (p.2.1 ((last_iff _).1 h)).1)).2.2.2.2.2.2.2, acc_next m c t.val h40 _ _ _ A, fun h => absurd h n9, Z.1, Z.2,
        fun a r l' hr => (runC_o8 c (grid0.coords t) (ms t 0) (hstage0_0 _) (ms t 1) (hstage0_1 _) (ms t 2) (hstage0_2 _) (ms t 3) (hstage0_3 _) (ms t 4) (hstage0_4 _)
        (ms t 5) (hstage0_5 _) (ms t 6) (hstage0_6 _) (ms t 7) (hstage0_7 _) (ms t 8) (hstage0_8 _)
        (inp m c 0 t) (inp m c 1 t) (inp m c 2 t) (inp m c 3 t) (inp m c 4 t) y5 y6 y7 y8 a0 a1 a2
        (fun h => d (p.1 ((first_iff _).1 h)).1) (fun h => d ((fresh_iff Ideal _).1 h)) ((off_iff Ideal _).2 d) (fun h => d ((diag_iff Ideal _).1 h)) ((flush_iff Ideal _).2 l) (fun h => d (p.2.1 ((last_iff _).1 h)).1) a r l').trans ((gate_flush m c t l y8 h8 _ _ _ A a r l' hr).trans (by rw [if_neg n9, add_zero]))⟩
    · skip
      have A := held_step m c t false false (by simp [z]) (by simp [d]) a0 a1 a2 _ _ _ (runB_did c (grid0.coords t) (ms t 0) (hstage0_0 _) (ms t 1) (hstage0_1 _) (ms t 2) (hstage0_2 _) (ms t 3) (hstage0_3 _) (ms t 4) (hstage0_4 _)
        (ms t 5) (hstage0_5 _) (ms t 6) (hstage0_6 _) (ms t 7) (hstage0_7 _) (ms t 8) (hstage0_8 _)
        (inp m c 0 t) (inp m c 1 t) (inp m c 2 t) (inp m c 3 t) (inp m c 4 t) y5 y6 y7 y8 a0 a1 a2
        (fun h => d (p.1 ((first_iff _).1 h)).1) (fun h => d ((fresh_iff Ideal _).1 h)) ((off_iff Ideal _).2 d) (fun h => d ((diag_iff Ideal _).1 h)) (fun h => l ((flush_iff Ideal _).1 h)) (fun h => d (p.2.1 ((last_iff _).1 h)).1)) ha
      have n9 : t.val % 10 ≠ 9 := by intro h; exact d (p.2.1 (hs.trans h)).1
      exact ⟨_, _, _, _, _, _, _, (runB c (grid0.coords t) (ms t 0) (hstage0_0 _) (ms t 1) (hstage0_1 _) (ms t 2) (hstage0_2 _) (ms t 3) (hstage0_3 _) (ms t 4) (hstage0_4 _)
        (ms t 5) (hstage0_5 _) (ms t 6) (hstage0_6 _) (ms t 7) (hstage0_7 _) (ms t 8) (hstage0_8 _)
        (inp m c 0 t) (inp m c 1 t) (inp m c 2 t) (inp m c 3 t) (inp m c 4 t) y5 y6 y7 y8 a0 a1 a2
        (fun h => d (p.1 ((first_iff _).1 h)).1) (fun h => d ((fresh_iff Ideal _).1 h)) ((off_iff Ideal _).2 d) (fun h => d ((diag_iff Ideal _).1 h)) (fun h => l ((flush_iff Ideal _).1 h)) (fun h => d (p.2.1 ((last_iff _).1 h)).1)).2.2.2.2.2.2.2, acc_next m c t.val h40 _ _ _ A, fun h => absurd h n9,
        fun h => absurd h (st_eq t ▸ l), fun h => absurd h (st_eq t ▸ l),
        (congrArg ((kept m c).o8 t.val) (runB_o8 c (grid0.coords t) (ms t 0) (hstage0_0 _) (ms t 1) (hstage0_1 _) (ms t 2) (hstage0_2 _) (ms t 3) (hstage0_3 _) (ms t 4) (hstage0_4 _)
        (ms t 5) (hstage0_5 _) (ms t 6) (hstage0_6 _) (ms t 7) (hstage0_7 _) (ms t 8) (hstage0_8 _)
        (inp m c 0 t) (inp m c 1 t) (inp m c 2 t) (inp m c 3 t) (inp m c 4 t) y5 y6 y7 y8 a0 a1 a2
        (fun h => d (p.1 ((first_iff _).1 h)).1) (fun h => d ((fresh_iff Ideal _).1 h)) ((off_iff Ideal _).2 d) (fun h => d ((diag_iff Ideal _).1 h)) (fun h => l ((flush_iff Ideal _).1 h)) (fun h => d (p.2.1 ((last_iff _).1 h)).1))).mpr (gate_keep m c t (l) y8 h8)⟩

end Cert.Attn

end
-- ==== Proof.AttnOut.lean ====
module

public import proofs.«01_k».proof.Proof.AttnValue
public import Idealize.ShloMosaic.Lib.Pipeline.ValueKit

@[expose] public section

set_option maxRecDepth 16384

noncomputable section

/-! # The launch's four arrays

Which steps flush each output, that their blocks cover its array, and what the array holds at the end. -/

namespace Cert.Attn

open Cert.AttnKernelIdeal Cert.AttnKernelIdeal.Gen
open Idealize.ShloMosaic Idealize.ShloMosaic.TcCoe Idealize.ShloMosaic.Tactic
open Idealize.ShloMosaic.Pipeline (RDat Window)
variable (m : (ℓ : Loc nD τ sig) → Buf (Elt Ideal) ℓ) (ρ : Dev nD → PrngReg) (c : Dev nD)

/-- Head and lane of a column; the tile's row of a row. -/
abbrev hof (x : Fin 1024) : Fin 8 := ⟨x.val / 128, by omega⟩
abbrev lof (x : Fin 1024) : Fin 256 := ⟨x.val % 128, by omega⟩
abbrev lofV (x : Fin 1024) : Fin 128 := ⟨x.val % 128, by omega⟩

def out5 : S4096x1024.Idx → EReal := fun x => SQ m c (hof (x 1)) 10 (x 0) (lof (x 1)) * sc0
def out6 : S4096x1024.Idx → EReal := fun x => SK m c (hof (x 1)) (fl ⟨(x 0).val / 1024, by have := (x 0).isLt; change (x 0).val < 4096 at this; omega⟩) ⟨(x 0).val % 1024, by omega⟩ (lof (x 1)) * ln2
def out7 : S4096x1024.Idx → EReal := fun x => SV m c (hof (x 1)) (fl ⟨(x 0).val / 1024, by have := (x 0).isLt; change (x 0).val < 4096 at this; omega⟩) ⟨(x 0).val % 1024, by omega⟩ (lofV (x 1))
def out8 : S8x4096x128.Idx → EReal := fun x => dcK m c (x 0) (x 1) + SQ m c (x 0) 10 (x 1) 128

theorem turns : ∀ t : Fin 40,
    ((t.val + 1 = 40 ∨ ¬(ki (st (t.val + 1)) = ki (st t.val) ∧ (t.val + 1) / 10 = t.val / 10)) → qi (st t.val) = 3)
      ∧ (qi (st t.val) = 3 → t.val + 1 = 40 ∨ (t.val + 1 < 40 ∧ ¬(ki (st (t.val + 1)) = ki (st t.val) ∧ (t.val + 1) / 10 = t.val / 10))) := by
  decide +kernel
theorem reach : ∀ i g : Fin 4, ∃ t : Fin 40, qi (st t.val) = 3 ∧ ki (st t.val) = i.val ∧ t.val / 10 = g.val := by decide +kernel
theorem last_fl : ∀ j : Fin 10, qi j = 3 → fl (kf j) = j.val + 1 := by decide

theorem flush6_iff (t : Fin (cfgA Ideal).N) : ((cfgA Ideal).win 6).flush t = true ↔ qi (sp t) = 3 := by
  rw [Window.flush_eq_flushOf]
  unfold Window.flushOf
  rw [Bool.and_eq_true, Bool.or_eq_true, decide_eq_true_eq, decide_eq_true_eq]
  have e : ∀ u : Fin (cfgA Ideal).N, ((cfgA Ideal).win 6).indexMap ((cfgA Ideal).grid.coords u) = ![ki (sp u), (gr u).val] := fun u => ix6 u
  rw [e t]
  have k := turns ⟨t.val, lt_of_lt_of_eq t.isLt N40⟩
  have es : st t.val = sp t := st_eq t
  have eg : (gr t).val = t.val / 10 := (co t).1
  constructor
  · rintro ⟨-, h | ⟨hlt, h⟩⟩
    · rw [← es]; exact k.1 (Or.inl (h.trans N40))
    · rw [← es]; refine k.1 (Or.inr fun h2 => h ?_)
      refine (e ⟨t.val + 1, hlt⟩).trans ?_
      rw [← st_eq ⟨t.val + 1, hlt⟩, (co ⟨t.val + 1, hlt⟩).1, ← es, eg, h2.1, h2.2]
  · intro h
    refine ⟨rfl, ?_⟩
    rw [← es] at h
    rcases k.2 h with h1 | ⟨h1, h2⟩
    · exact Or.inl (h1.trans N40.symm)
    · refine Or.inr ⟨lt_of_lt_of_eq h1 N40.symm, fun h3 => h2 ?_⟩
      have h4 := (e ⟨t.val + 1, lt_of_lt_of_eq h1 N40.symm⟩).symm.trans h3
      rw [← st_eq ⟨t.val + 1, _⟩, (co ⟨t.val + 1, _⟩).1, ← es, eg] at h4
      exact ⟨congrFun h4 0, congrFun h4 1⟩

theorem covers6 : ((cfgA Ideal).win 6).Covers := by
  refine ⟨by decide +kernel, fun β => ?_⟩
  have hb0 : (β (0 : Fin 2)).val < 4 := (β (0 : Fin 2)).isLt
  have hb1 : (β (1 : Fin 2)).val < 4 := (β (1 : Fin 2)).isLt
  obtain ⟨t, h1, h2, h3⟩ := reach ⟨_, hb0⟩ ⟨_, hb1⟩
  refine ⟨⟨t.val, lt_of_lt_of_eq t.isLt N40.symm⟩, (flush6_iff _).2 ((congrArg qi (st_eq ⟨t.val, _⟩)).symm.trans h1), fun a => ⟨?_, Or.inl rfl⟩⟩
  rw [ix6, ← st_eq, (co _).1]
  revert a
  exact at2 (x := ![ki (st t.val), t.val / 10]) (y := fun a : Fin 2 => (β a).val) h2 h3

theorem emb6 (t : Fin (cfgA Ideal).N) (r : Fin 1024) (l : Fin 256) :
    (((cfgA Ideal).win 6).blk t).view.emb (ix2 r l) = (ix2 (row (kf (sp t)) r) ⟨256 * (gr t).val + l.val, by have := (gr t).isLt; omega⟩ : S4096x1024.Idx) := by
  have e := ix6 t
  refine funext fun a => Fin.ext ?_
  revert a
  refine at2 ?_ ?_
  · show ((cfgA Ideal).win 6).index t (0 : Fin 2) * 1024 + 1 * r.val = 1024 * ki (sp t) + r.val
    rw [e, Nat.one_mul]; exact congrArg (· + r.val) (Nat.mul_comm _ _)
  · show ((cfgA Ideal).win 6).index t (1 : Fin 2) * 256 + 1 * l.val = 256 * (gr t).val + l.val
    rw [e, Nat.one_mul]; exact congrArg (· + l.val) (Nat.mul_comm _ _)

theorem final6 (after : (w' : Fin (cfgA Ideal).W) → Fin (cfgA Ideal).N → ((cfgA Ideal).win w').block.Idx → Elt Ideal ((cfgA Ideal).win w').elt)
    (hL : ∀ u : Fin (cfgA Ideal).N, qi (sp u) = 3 → (kept m c).o6 u.val (after 6 u)) :
    ((rdat m c (kept m c)).withAfter after).arrAt 6 (cfgA Ideal).N = out6 m c := by
  refine ((rdat m c (kept m c)).withAfter after).arrAt_eq_of_covers 6 _ covers6 fun t hf y => ?_
  have hq := (flush6_iff t).1 hf
  idx_vars y
  show after 6 t (ix2 y0 y1) = out6 m c ((((cfgA Ideal).win 6).blk t).view.emb (ix2 y0 y1))
  rw [emb6 t y0 y1]
  have h := hL t hq ((congrArg qi (st_eq t)).trans hq) ⟨y1.val / 128, by omega⟩ y0 ⟨y1.val % 128, by omega⟩
  have e1 : (⟨128 * (y1.val / 128) + y1.val % 128, by omega⟩ : Fin 256) = y1 := Fin.ext (Nat.div_add_mod _ _)
  rw [e1] at h
  rw [h, gN_eq]
  have hg := (gr t).isLt
  have e2 : hd (gr t) ⟨y1.val / 128, by omega⟩ = hof ⟨256 * (gr t).val + y1.val, by omega⟩ := Fin.ext (by show 2 * (gr t).val + y1.val / 128 = (256 * (gr t).val + y1.val) / 128; omega)
  have e3 : (⟨y1.val % 128, by omega⟩ : Fin 256) = lof ⟨256 * (gr t).val + y1.val, by omega⟩ := Fin.ext (by show y1.val % 128 = (256 * (gr t).val + y1.val) % 128; omega)
  have e4 : t.val % 10 + 1 = fl (kf (sp t)) := by rw [← (co t).2]; exact (last_fl _ hq).symm
  have e5 : (⟨(row (kf (sp t)) y0).val / 1024, by omega⟩ : Fin 4) = kf (sp t) := Fin.ext (by show (1024 * ki (sp t) + y0.val) / 1024 = ki (sp t); omega)
  have e6 : (⟨(row (kf (sp t)) y0).val % 1024, by omega⟩ : Fin 1024) = y0 := Fin.ext (by show (1024 * ki (sp t) + y0.val) % 1024 = y0.val; omega)
  show _ = SK m c (hof ⟨256 * (gr t).val + y1.val, _⟩) (fl ⟨(row (kf (sp t)) y0).val / 1024, _⟩) ⟨(row (kf (sp t)) y0).val % 1024, _⟩ (lof ⟨256 * (gr t).val + y1.val, _⟩) * ln2
  rw [e2, e3, e4, e5, e6]

theorem flush7_iff (t : Fin (cfgA Ideal).N) : ((cfgA Ideal).win 7).flush t = true ↔ qi (sp t) = 3 := by
  rw [Window.flush_eq_flushOf]
  unfold Window.flushOf
  rw [Bool.and_eq_true, Bool.or_eq_true, decide_eq_true_eq, decide_eq_true_eq]
  have e : ∀ u : Fin (cfgA Ideal).N, ((cfgA Ideal).win 7).indexMap ((cfgA Ideal).grid.coords u) = ![ki (sp u), (gr u).val] := fun u => ix7 u
  rw [e t]
  have k := turns ⟨t.val, lt_of_lt_of_eq t.isLt N40⟩
  have es : st t.val = sp t := st_eq t
  have eg : (gr t).val = t.val / 10 := (co t).1
  constructor
  · rintro ⟨-, h | ⟨hlt, h⟩⟩
    · rw [← es]; exact k.1 (Or.inl (h.trans N40))
    · rw [← es]; refine k.1 (Or.inr fun h2 => h ?_)
      refine (e ⟨t.val + 1, hlt⟩).trans ?_
      rw [← st_eq ⟨t.val + 1, hlt⟩, (co ⟨t.val + 1, hlt⟩).1, ← es, eg, h2.1, h2.2]
  · intro h
    refine ⟨rfl, ?_⟩
    rw [← es] at h
    rcases k.2 h with h1 | ⟨h1, h2⟩
    · exact Or.inl (h1.trans N40.symm)
    · refine Or.inr ⟨lt_of_lt_of_eq h1 N40.symm, fun h3 => h2 ?_⟩
      have h4 := (e ⟨t.val + 1, lt_of_lt_of_eq h1 N40.symm⟩).symm.trans h3
      rw [← st_eq ⟨t.val + 1, _⟩, (co ⟨t.val + 1, _⟩).1, ← es, eg] at h4
      exact ⟨congrFun h4 0, congrFun h4 1⟩

theorem covers7 : ((cfgA Ideal).win 7).Covers := by
  refine ⟨by decide +kernel, fun β => ?_⟩
  have hb0 : (β (0 : Fin 2)).val < 4 := (β (0 : Fin 2)).isLt
  have hb1 : (β (1 : Fin 2)).val < 4 := (β (1 : Fin 2)).isLt
  obtain ⟨t, h1, h2, h3⟩ := reach ⟨_, hb0⟩ ⟨_, hb1⟩
  refine ⟨⟨t.val, lt_of_lt_of_eq t.isLt N40.symm⟩, (flush7_iff _).2 ((congrArg qi (st_eq ⟨t.val, _⟩)).symm.trans h1), fun a => ⟨?_, Or.inl rfl⟩⟩
  rw [ix7, ← st_eq, (co _).1]
  revert a
  exact at2 (x := ![ki (st t.val), t.val / 10]) (y := fun a : Fin 2 => (β a).val) h2 h3

theorem emb7 (t : Fin (cfgA Ideal).N) (r : Fin 1024) (l : Fin 256) :
    (((cfgA Ideal).win 7).blk t).view.emb (ix2 r l) = (ix2 (row (kf (sp t)) r) ⟨256 * (gr t).val + l.val, by have := (gr t).isLt; omega⟩ : S4096x1024.Idx) := by
  have e := ix7 t
  refine funext fun a => Fin.ext ?_
  revert a
  refine at2 ?_ ?_
  · show ((cfgA Ideal).win 7).index t (0 : Fin 2) * 1024 + 1 * r.val = 1024 * ki (sp t) + r.val
    rw [e, Nat.one_mul]; exact congrArg (· + r.val) (Nat.mul_comm _ _)
  · show ((cfgA Ideal).win 7).index t (1 : Fin 2) * 256 + 1 * l.val = 256 * (gr t).val + l.val
    rw [e, Nat.one_mul]; exact congrArg (· + l.val) (Nat.mul_comm _ _)

theorem final7 (after : (w' : Fin (cfgA Ideal).W) → Fin (cfgA Ideal).N → ((cfgA Ideal).win w').block.Idx → Elt Ideal ((cfgA Ideal).win w').elt)
    (hL : ∀ u : Fin (cfgA Ideal).N, qi (sp u) = 3 → (kept m c).o7 u.val (after 7 u)) :
    ((rdat m c (kept m c)).withAfter after).arrAt 7 (cfgA Ideal).N = out7 m c := by
  refine ((rdat m c (kept m c)).withAfter after).arrAt_eq_of_covers 7 _ covers7 fun t hf y => ?_
  have hq := (flush7_iff t).1 hf
  idx_vars y
  show after 7 t (ix2 y0 y1) = out7 m c ((((cfgA Ideal).win 7).blk t).view.emb (ix2 y0 y1))
  rw [emb7 t y0 y1]
  have h := hL t hq ((congrArg qi (st_eq t)).trans hq) ⟨y1.val / 128, by omega⟩ y0 ⟨y1.val % 128, by omega⟩
  have e1 : (⟨128 * (y1.val / 128) + y1.val % 128, by omega⟩ : Fin 256) = y1 := Fin.ext (Nat.div_add_mod _ _)
  rw [e1] at h
  rw [h, gN_eq]
  have hg := (gr t).isLt
  have e2 : hd (gr t) ⟨y1.val / 128, by omega⟩ = hof ⟨256 * (gr t).val + y1.val, by omega⟩ := Fin.ext (by show 2 * (gr t).val + y1.val / 128 = (256 * (gr t).val + y1.val) / 128; omega)
  have e3 : (⟨y1.val % 128, by omega⟩ : Fin 128) = lofV ⟨256 * (gr t).val + y1.val, by omega⟩ := Fin.ext (by show y1.val % 128 = (256 * (gr t).val + y1.val) % 128; omega)
  have e4 : t.val % 10 + 1 = fl (kf (sp t)) := by rw [← (co t).2]; exact (last_fl _ hq).symm
  have e5 : (⟨(row (kf (sp t)) y0).val / 1024, by omega⟩ : Fin 4) = kf (sp t) := Fin.ext (by show (1024 * ki (sp t) + y0.val) / 1024 = ki (sp t); omega)
  have e6 : (⟨(row (kf (sp t)) y0).val % 1024, by omega⟩ : Fin 1024) = y0 := Fin.ext (by show (1024 * ki (sp t) + y0.val) % 1024 = y0.val; omega)
  show _ = SV m c (hof ⟨256 * (gr t).val + y1.val, _⟩) (fl ⟨(row (kf (sp t)) y0).val / 1024, _⟩) ⟨(row (kf (sp t)) y0).val % 1024, _⟩ (lofV ⟨256 * (gr t).val + y1.val, _⟩)
  rw [e2, e3, e4, e5, e6]

theorem flush5' (t : Fin (cfgA Ideal).N) (h : t.val % 10 = 9) : ((cfgA Ideal).win 5).flush t = true := by
  have k : ∀ t : Fin 40, ∀ h : t.val < grid0.N, t.val % 10 = 9 → ((cfgA Ideal).win 5).flush ⟨t.val, h⟩ = true := by decide +kernel
  exact k ⟨t.val, lt_of_lt_of_eq t.isLt N40⟩ t.isLt h
theorem flush5 (t : Fin (cfgA Ideal).N) (h : ((cfgA Ideal).win 5).flush t = true) : t.val % 10 = 9 := by
  have k : ∀ t : Fin 40, ∀ h : t.val < grid0.N, ((cfgA Ideal).win 5).flush ⟨t.val, h⟩ = true → t.val % 10 = 9 := by decide +kernel
  exact k ⟨t.val, lt_of_lt_of_eq t.isLt N40⟩ t.isLt h
theorem flush8' (t : Fin (cfgA Ideal).N) (h : t.val % 10 = 9) : ((cfgA Ideal).win 8).flush t = true := by
  have k : ∀ t : Fin 40, ∀ h : t.val < grid0.N, t.val % 10 = 9 → ((cfgA Ideal).win 8).flush ⟨t.val, h⟩ = true := by decide +kernel
  exact k ⟨t.val, lt_of_lt_of_eq t.isLt N40⟩ t.isLt h
theorem flush8 (t : Fin (cfgA Ideal).N) (h : ((cfgA Ideal).win 8).flush t = true) : t.val % 10 = 9 := by
  have k : ∀ t : Fin 40, ∀ h : t.val < grid0.N, ((cfgA Ideal).win 8).flush ⟨t.val, h⟩ = true → t.val % 10 = 9 := by decide +kernel
  exact k ⟨t.val, lt_of_lt_of_eq t.isLt N40⟩ t.isLt h
theorem ix5 (t : Fin (cfgA Ideal).N) : ((cfgA Ideal).win 5).index t = ![0, (gr t).val] := by
  have k : ∀ i : grid0.Coords, ((cfgA Ideal).win 5).indexMap i = ![0, (i 0).val] := by decide +kernel
  exact k _
theorem ix8 (t : Fin (cfgA Ideal).N) : ((cfgA Ideal).win 8).index t = ![(gr t).val, 0, 0] := by
  have k : ∀ i : grid0.Coords, ((cfgA Ideal).win 8).indexMap i = ![(i 0).val, 0, 0] := by decide +kernel
  exact k _

theorem emb5 (t : Fin (cfgA Ideal).N) (r : Fin 4096) (l : Fin 256) :
    (((cfgA Ideal).win 5).blk t).view.emb (ix2 r l) = (ix2 r ⟨256 * (gr t).val + l.val, by have := (gr t).isLt; omega⟩ : S4096x1024.Idx) := by
  have e := ix5 t
  refine funext fun a => Fin.ext ?_
  revert a
  refine at2 ?_ ?_
  · show ((cfgA Ideal).win 5).index t (0 : Fin 2) * 4096 + 1 * r.val = r.val
    rw [e, Nat.one_mul]; exact (congrArg (· + r.val) (Nat.zero_mul _)).trans (Nat.zero_add _)
  · show ((cfgA Ideal).win 5).index t (1 : Fin 2) * 256 + 1 * l.val = 256 * (gr t).val + l.val
    rw [e, Nat.one_mul]; exact congrArg (· + l.val) (Nat.mul_comm _ _)

theorem emb8 (t : Fin (cfgA Ideal).N) (a : Fin 2) (r : Fin 4096) (l : Fin 128) :
    (((cfgA Ideal).win 8).blk t).view.emb (ix3 a r l) = (ix3 (hd (gr t) a) r l : S8x4096x128.Idx) := by
  have e := ix8 t
  refine funext fun b => Fin.ext ?_
  revert b
  show ∀ b : Fin 3, _
  intro b
  match b with
  | 0 =>
    show ((cfgA Ideal).win 8).index t (0 : Fin 3) * 2 + 1 * a.val = 2 * (gr t).val + a.val
    rw [e, Nat.one_mul]; exact congrArg (· + a.val) (Nat.mul_comm _ _)
  | 1 =>
    show ((cfgA Ideal).win 8).index t (1 : Fin 3) * 4096 + 1 * r.val = r.val
    rw [e, Nat.one_mul]; exact (congrArg (· + r.val) (Nat.zero_mul _)).trans (Nat.zero_add _)
  | 2 =>
    show ((cfgA Ideal).win 8).index t (2 : Fin 3) * 128 + 1 * l.val = l.val
    rw [e, Nat.one_mul]; exact (congrArg (· + l.val) (Nat.zero_mul _)).trans (Nat.zero_add _)

theorem final5 (after : (w' : Fin (cfgA Ideal).W) → Fin (cfgA Ideal).N → ((cfgA Ideal).win w').block.Idx → Elt Ideal ((cfgA Ideal).win w').elt)
    (hL : ∀ u : Fin (cfgA Ideal).N, u.val % 10 = 9 → (kept m c).o5 u.val (after 5 u)) :
    ((rdat m c (kept m c)).withAfter after).arrAt 5 (cfgA Ideal).N = out5 m c := by
  refine ((rdat m c (kept m c)).withAfter after).arrAt_eq_of_covers 5 _ (by decide +kernel) fun t hf y => ?_
  have hq := flush5 t hf
  idx_vars y
  show after 5 t (ix2 y0 y1) = out5 m c ((((cfgA Ideal).win 5).blk t).view.emb (ix2 y0 y1))
  rw [emb5 t y0 y1]
  have h := hL t hq hq ⟨y1.val / 128, by omega⟩ y0 ⟨y1.val % 128, by omega⟩
  have e1 : (⟨128 * (y1.val / 128) + y1.val % 128, by omega⟩ : Fin 256) = y1 := Fin.ext (Nat.div_add_mod _ _)
  rw [e1] at h
  rw [h, gN_eq]
  have hg := (gr t).isLt
  have e2 : hd (gr t) ⟨y1.val / 128, by omega⟩ = hof ⟨256 * (gr t).val + y1.val, by omega⟩ := Fin.ext (by show 2 * (gr t).val + y1.val / 128 = (256 * (gr t).val + y1.val) / 128; omega)
  have e3 : (⟨y1.val % 128, by omega⟩ : Fin 256) = lof ⟨256 * (gr t).val + y1.val, by omega⟩ := Fin.ext (by show y1.val % 128 = (256 * (gr t).val + y1.val) % 128; omega)
  show _ = SQ m c (hof ⟨256 * (gr t).val + y1.val, _⟩) 10 y0 (lof ⟨256 * (gr t).val + y1.val, _⟩) * sc0
  rw [e2, e3]

theorem final8 (after : (w' : Fin (cfgA Ideal).W) → Fin (cfgA Ideal).N → ((cfgA Ideal).win w').block.Idx → Elt Ideal ((cfgA Ideal).win w').elt)
    (hL : ∀ u : Fin (cfgA Ideal).N, u.val % 10 = 9 → (kept m c).o8 u.val (after 8 u)) :
    ((rdat m c (kept m c)).withAfter after).arrAt 8 (cfgA Ideal).N = out8 m c := by
  refine ((rdat m c (kept m c)).withAfter after).arrAt_eq_of_covers 8 _ (by decide +kernel) fun t hf y => ?_
  have hq := flush8 t hf
  idx_vars y
  show after 8 t (ix3 y0 y1 y2) = out8 m c ((((cfgA Ideal).win 8).blk t).view.emb (ix3 y0 y1 y2))
  rw [emb8 t y0 y1 y2]
  have e1 : st t.val = 9 := Fin.ext hq
  refine (hL t hq y0 y1 y2 (by rw [e1]; exact y1.isLt)).trans ?_
  rw [if_pos hq, gN_eq]
  rfl

/-- The four results at the end of a run. -/
theorem arrays (r : PUnit × MemSt nD τ sig (Elt Ideal)) (h : RDat.FramePost (cfgA Ideal) (fun c => rdat m c (kept m c)) (V m) r) :
    r.2.mem ((c : Thread nD τ).loc main_v150_0) = out5 m c ∧ r.2.mem ((c : Thread nD τ).loc main_v150_1) = out6 m c
      ∧ r.2.mem ((c : Thread nD τ).loc main_v150_2) = out7 m c ∧ r.2.mem ((c : Thread nD τ).loc main_v150_3) = out8 m c := by
  obtain ⟨after, hL, hA⟩ := h.exists_exact c
  have l5 : ∀ u : Fin (cfgA Ideal).N, ((cfgA Ideal).win 5).flush u = true → (kept m c).o5 u.val (after 5 u) := fun u hu => (hL 5 u hu).elim fun _ p => p.2
  have l6 : ∀ u : Fin (cfgA Ideal).N, ((cfgA Ideal).win 6).flush u = true → (kept m c).o6 u.val (after 6 u) := fun u hu => (hL 6 u hu).elim fun _ p => p.2
  have l7 : ∀ u : Fin (cfgA Ideal).N, ((cfgA Ideal).win 7).flush u = true → (kept m c).o7 u.val (after 7 u) := fun u hu => (hL 7 u hu).elim fun _ p => p.2
  have l8 : ∀ u : Fin (cfgA Ideal).N, ((cfgA Ideal).win 8).flush u = true → (kept m c).o8 u.val (after 8 u) := fun u hu => (hL 8 u hu).elim fun _ p => p.2
  refine ⟨(hA 5).trans (final5 m c after fun u hu => l5 u (flush5' u hu)), (hA 6).trans (final6 m c after fun u hu => l6 u ((flush6_iff u).2 hu)),
    (hA 7).trans (final7 m c after fun u hu => l7 u ((flush7_iff u).2 hu)), (hA 8).trans (final8 m c after fun u hu => l8 u (flush8' u hu))⟩

end Cert.Attn

end
-- ==== Proof.AttnTerms.lean ====
module

public import proofs.«01_k».proof.Proof.AttnHost
public import Idealize.ShloMosaic.Lib.StableHlo.Run

@[expose] public section

set_option maxRecDepth 16384

noncomputable section

/-! # The launch's operands as terms

What the host lines of the kernel leave in the five arrays that the launch reads, as terms over the arguments. -/

namespace Cert.Attn.Host

open Cert.AttnKernelIdeal Cert.AttnKernelIdeal.Gen
open Idealize.ShloMosaic Idealize.ShloMosaic.TcCoe Idealize.ShloMosaic.Tactic Idealize.ShloMosaic.StableHlo

abbrev Arg := FVec Ideal S4096x1024 .f32
abbrev Big := FVec Ideal S8x4096x4096 .f32
abbrev Lanes (e : FTy) := FVec Ideal S4096x8x128 e

/-- An argument rounded, by heads. -/
def byHead (X : Arg) : Lanes .f32 := shapeCast _ (extf .f32 (truncf .bf16 X bitsLt_bf16_f32) bitsLt_bf16_f32) shapeCasts_S4096x1024_S4096x8x128

/-- The masked logits. -/
def lgT (A B : Arg) (D : FVec Ideal S8x4096 .f32) : Big :=
  select (broadcastInDim S8x4096x4096 ![1, 2] bcast_S4096x4096_S8x4096x4096_1_2
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (addf (mulf (Host.dotGeneral dot_S4096x8x128_S4096x8x128_S8x4096x4096_2_2_0_0_1_1 none (byHead A) (byHead B))
        (broadcastInDim S8x4096x4096 ![] bcast_S_S8x4096x4096 (constant S_ .f32 0x3DB504F3#32)))
      (subf (broadcastInDim S8x4096x4096 ![0, 1, 2] bcast_S8x4096x1_S8x4096x4096_0_1_2 (broadcastInDim S8x4096x1 ![0, 1] bcast_S8x4096_S8x4096x1_0_1 D))
        (broadcastInDim S8x4096x4096 ![0, 1, 2] bcast_S8x1x4096_S8x4096x4096_0_1_2 (broadcastInDim S8x1x4096 ![0, 2] bcast_S8x4096_S8x1x4096_0_2 D))))
    (broadcastInDim S8x4096x4096 ![] bcast_S_S8x4096x4096 (id (constant S_ .f32 0xFF800000#32)))

/-- The rows' maxima, the exponentials over them, the rows' sums, the weights. -/
def mxT (L : Big) : FVec Ideal S8x4096x1 .f32 :=
  broadcastInDim S8x4096x1 ![0, 1] bcast_S8x4096_S8x4096x1_0_1 (Host.reduce FloatOps.maximumf L (constant S_ .f32 0xFF800000#32) reducesTo_S8x4096x4096_S8x4096_d2 h_S_)
def exT (L : Big) (M : FVec Ideal S8x4096x1 .f32) : Big := Host.exp (subf L (broadcastInDim S8x4096x4096 ![0, 1, 2] bcast_S8x4096x1_S8x4096x4096_0_1_2 M))
def smT (X : Big) : FVec Ideal S8x4096x1 .f32 :=
  broadcastInDim S8x4096x1 ![0, 1] bcast_S8x4096_S8x4096x1_0_1 (Host.reduceAdd X (constant S_ .f32 0x00000000#32) reducesTo_S8x4096x4096_S8x4096_d2 h_S_)
def prT (X : Big) (Y : FVec Ideal S8x4096x1 .f32) : Big := Host.divf X (broadcastInDim S8x4096x4096 ![0, 1, 2] bcast_S8x4096x1_S8x4096x4096_0_1_2 Y)

/-- The output times its cotangent, summed over a head's columns. -/
def deT (C E : Arg) (W : Big) : FVec Ideal S4096x8x1 .f32 :=
  broadcastInDim S4096x8x1 ![0, 1] bcast_S4096x8_S4096x8x1_0_1 (Host.reduceAdd
    (mulf (transpose S4096x8x128 [2, 0, 1] (Host.dotGeneral dot_S4096x8x128_S8x4096x4096_S8x128x4096_0_2_2_1_1_0 none (byHead C) W) transposes_S8x128x4096_S4096x8x128_2_0_1) (byHead E))
    (constant S_ .f32 0x00000000#32) reducesTo_S4096x8x128_S4096x8_d2 h_S_)

/-- The logarithm of 2, by the host. -/
def l2T : FVec Ideal S_ .f32 := Host.log (constant S_ .f32 0x40000000#32)

def perHead (X : FVec Ideal S8x4096 .f32) : Lanes .f32 :=
  broadcastInDim S4096x8x128 ![0, 1, 2] bcast_S4096x8x1_S4096x8x128_0_1_2 (broadcastInDim S4096x8x1 ![0, 1] bcast_S4096x8_S4096x8x1_0_1
    (transpose S4096x8 [1, 0] (Host.divf X (broadcastInDim S8x4096 ![] bcast_S_S8x4096 l2T)) transposes_S8x4096_S4096x8_1_0))

/-- The shifted bias of the queries, the negated one of the keys, the negated row sums. -/
def qT (D : FVec Ideal S8x4096 .f32) (M Y : FVec Ideal S8x4096x1 .f32) : Lanes .f32 := perHead (subf D (shapeCast _ (addf M (Host.log Y)) shapeCasts_S8x4096x1_S8x4096))
def kT (D : FVec Ideal S8x4096 .f32) : Lanes .f32 := perHead (Host.negf D)
def dT (X : FVec Ideal S4096x8x1 .f32) : Lanes .f32 := broadcastInDim S4096x8x128 ![0, 1, 2] bcast_S4096x8x1_S4096x8x128_0_1_2 (Host.negf X)

def lane : IVec S4096x8x128 32 := iotaInDim S4096x8x128 32 2
def is (k : BitVec 32) : IVec S4096x8x128 1 := cmpi .eq lane (broadcastInDim S4096x8x128 ![] bcast_S_S4096x8x128 (constantI S_ 32 k))
def ge (k : BitVec 32) : IVec S4096x8x128 1 := cmpi .sge lane (broadcastInDim S4096x8x128 ![] bcast_S_S4096x8x128 (constantI S_ 32 k))
def lt (k : BitVec 32) : IVec S4096x8x128 1 := cmpi .slt lane (broadcastInDim S4096x8x128 ![] bcast_S_S4096x8x128 (constantI S_ 32 k))
def ones (p : IVec S4096x8x128 1) : Lanes .bf16 :=
  truncf .bf16 (select p (broadcastInDim S4096x8x128 ![] bcast_S_S4096x8x128 (constant S_ .f32 0x3F800000#32))
    (broadcastInDim S4096x8x128 ![] bcast_S_S4096x8x128 (constant S_ .f32 0x00000000#32))) bitsLt_bf16_f32
def rest (X : Lanes .f32) : Lanes .f32 := subf X (extf .f32 (truncf .bf16 X bitsLt_bf16_f32) bitsLt_bf16_f32)

/-- The further columns of a head: a value in three parts from lane `i`, ones where `p`. -/
def extras (X : Lanes .f32) (i j k : BitVec 32) (p : IVec S4096x8x128 1) : Lanes .bf16 :=
  select (is i) (truncf .bf16 X bitsLt_bf16_f32) (select (is j) (truncf .bf16 (rest X) bitsLt_bf16_f32)
    (select (is k) (truncf .bf16 (rest (rest X)) bitsLt_bf16_f32) (ones p)))

def packed (X Y : Lanes .bf16) : FVec Ideal S4096x2048 .bf16 :=
  shapeCast _ (concatenate S4096x8x256 2 [⟨S4096x8x128, X⟩, ⟨S4096x8x128, Y⟩] concatenates_S4096x8x128_S4096x8x128_S4096x8x256_d2) shapeCasts_S4096x8x256_S4096x2048

section
variable (A B C E : Arg) (D : FVec Ideal S8x4096 .f32)
def mxV := mxT (lgT A B D)
def exV := exT (lgT A B D) (mxV A B D)
def smV := smT (exV A B D)
def qxV := extras (qT D (mxV A B D) (smV A B D)) 0#32 1#32 2#32 (andi (ge 3#32) (lt 6#32))
def kxV := extras (kT D) 3#32 4#32 5#32 (andi (ge 0#32) (lt 3#32))
def dxV := extras (dT (deT C E (prT (exV A B D) (smV A B D)))) 0#32 1#32 2#32 (andi (ge 128#32) (lt 131#32))
def scT : FVec Ideal S_ .f32 := Host.divf (constant S_ .f32 0x3DB504F3#32) l2T
end

variable (m : (ℓ : Loc nD τ sig) → Buf (Elt Ideal) ℓ) (c : Dev nD)

/-- The operations before the last stretch, and what they leave. -/
abbrev pre : List (List (HloOp τ sig (Elt Ideal))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]

def W : (b : DevRef τ sig) → Buf (Elt Ideal) (c, b) := after (List.flatten pre) (fun b => m (c, b))

theorem V_eq (b : Ref sig .tc) : V m c b = after hostOps0_22 (W m c) b := by
  unfold V W
  rw [← after_append]
  rfl

abbrev aQ : Arg := m ((c : Thread nD τ).loc main_arg0)
abbrev aK : Arg := m ((c : Thread nD τ).loc main_arg1)
abbrev aV : Arg := m ((c : Thread nD τ).loc main_arg2)
abbrev aC : FVec Ideal S8x4096 .f32 := m ((c : Thread nD τ).loc main_arg3)
abbrev aD : Arg := m ((c : Thread nD τ).loc main_arg4)

set_option maxHeartbeats 4000000 in
theorem W_v2 : W m c (Proc.devRef .tc main_v2) = (byHead (aQ m c) : Lanes .f32) := by
  unfold W
  simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append, TRef.nullary, TRef.ternary, TRef.unary, TRef.toBuf, TRef.ofBuf, cast_eq]
  after_results_simp
  rfl

set_option maxHeartbeats 4000000 in
theorem W_v5 : W m c (Proc.devRef .tc main_v5) = (byHead (aK m c) : Lanes .f32) := by
  unfold W
  simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append, TRef.nullary, TRef.ternary, TRef.unary, TRef.toBuf, TRef.ofBuf, cast_eq]
  after_results_simp
  rfl

set_option maxHeartbeats 4000000 in
theorem W_v8 : W m c (Proc.devRef .tc main_v8) = (byHead (aV m c) : Lanes .f32) := by
  unfold W
  simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append, TRef.nullary, TRef.ternary, TRef.unary, TRef.toBuf, TRef.ofBuf, cast_eq]
  after_results_simp
  rfl

set_option maxHeartbeats 4000000 in
theorem W_v11 : W m c (Proc.devRef .tc main_v11) = (byHead (aD m c) : Lanes .f32) := by
  unfold W
  simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append, TRef.nullary, TRef.ternary, TRef.unary, TRef.toBuf, TRef.ofBuf, cast_eq]
  after_results_simp
  rfl

set_option maxHeartbeats 4000000 in
theorem W_v45 : W m c (Proc.devRef .tc main_v45) = (l2T : FVec Ideal S_ .f32) := by
  unfold W
  simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append, TRef.nullary, TRef.ternary, TRef.unary, TRef.toBuf, TRef.ofBuf, cast_eq]
  after_results_simp
  rfl

set_option maxHeartbeats 4000000 in
theorem W_v75 : W m c (Proc.devRef .tc main_v75) = (qxV (aQ m c) (aK m c) (aC m c) : Lanes .bf16) := by
  unfold W
  simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append, TRef.nullary, TRef.ternary, TRef.unary, TRef.toBuf, TRef.ofBuf, cast_eq]
  after_results_simp
  rfl

set_option maxHeartbeats 4000000 in
theorem W_v104 : W m c (Proc.devRef .tc main_v104) = (kxV (aC m c) : Lanes .bf16) := by
  unfold W
  simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append, TRef.nullary, TRef.ternary, TRef.unary, TRef.toBuf, TRef.ofBuf, cast_eq]
  after_results_simp
  rfl

set_option maxHeartbeats 4000000 in
theorem W_v129 : W m c (Proc.devRef .tc main_v129) = (dxV (aQ m c) (aK m c) (aV m c) (aD m c) (aC m c) : Lanes .bf16) := by
  unfold W
  simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append, TRef.nullary, TRef.ternary, TRef.unary, TRef.toBuf, TRef.ofBuf, cast_eq]
  after_results_simp
  rfl

set_option maxHeartbeats 4000000 in
theorem W_v132 : W m c (Proc.devRef .tc main_v132) = (select (lt 3#32) (broadcastInDim S4096x8x128 ![] bcast_S_S4096x8x128 (constant S_ .f32 0x3F800000#32)) (broadcastInDim S4096x8x128 ![] bcast_S_S4096x8x128 (constant S_ .f32 0x00000000#32)) : Lanes .f32) := by
  unfold W
  simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append, TRef.nullary, TRef.ternary, TRef.unary, TRef.toBuf, TRef.ofBuf, cast_eq]
  after_results_simp
  rfl

theorem V_v140 : V m c main_v140 = (shapeCast _ (qxV (aQ m c) (aK m c) (aC m c)) shapeCasts_S4096x8x128_S4096x1024 : FVec Ideal S4096x1024 .bf16) := by
  rw [V_eq]
  unfold hostOps0_22
  after_results_simp
  refine Eq.trans (b := (shapeCast _ (W m c (Proc.devRef .tc main_v75) : Lanes .bf16) shapeCasts_S4096x8x128_S4096x1024 : FVec Ideal S4096x1024 .bf16)) rfl ?_
  rw [W_v75]

theorem V_v139 : V m c main_v139 = (packed (truncf .bf16 (mulf (byHead (aQ m c)) (broadcastInDim S4096x8x128 ![] bcast_S_S4096x8x128 scT)) bitsLt_bf16_f32) (qxV (aQ m c) (aK m c) (aC m c)) : FVec Ideal S4096x2048 .bf16) := by
  rw [V_eq]
  unfold hostOps0_22
  after_results_simp
  refine Eq.trans (b := (packed (truncf .bf16 (mulf (W m c (Proc.devRef .tc main_v2) : Lanes .f32) (broadcastInDim S4096x8x128 ![] bcast_S_S4096x8x128 (Host.divf (constant S_ .f32 0x3DB504F3#32) (W m c (Proc.devRef .tc main_v45) : FVec Ideal S_ .f32)))) bitsLt_bf16_f32) (W m c (Proc.devRef .tc main_v75) : Lanes .bf16) : FVec Ideal S4096x2048 .bf16)) rfl ?_
  rw [W_v2, W_v45, W_v75]
  rfl

theorem V_v143 : V m c main_v143 = (packed (truncf .bf16 (byHead (aK m c)) bitsLt_bf16_f32) (kxV (aC m c)) : FVec Ideal S4096x2048 .bf16) := by
  rw [V_eq]
  unfold hostOps0_22
  after_results_simp
  refine Eq.trans (b := (packed (truncf .bf16 (W m c (Proc.devRef .tc main_v5) : Lanes .f32) bitsLt_bf16_f32) (W m c (Proc.devRef .tc main_v104) : Lanes .bf16) : FVec Ideal S4096x2048 .bf16)) rfl ?_
  rw [W_v5, W_v104]

theorem V_v146 : V m c main_v146 = (packed (truncf .bf16 (byHead (aV m c)) bitsLt_bf16_f32) (ones (lt 3#32)) : FVec Ideal S4096x2048 .bf16) := by
  rw [V_eq]
  unfold hostOps0_22
  after_results_simp
  refine Eq.trans (b := (packed (truncf .bf16 (W m c (Proc.devRef .tc main_v8) : Lanes .f32) bitsLt_bf16_f32) (truncf .bf16 (W m c (Proc.devRef .tc main_v132) : Lanes .f32) bitsLt_bf16_f32) : FVec Ideal S4096x2048 .bf16)) rfl ?_
  rw [W_v8, W_v132]
  rfl

theorem V_v149 : V m c main_v149 = (packed (truncf .bf16 (byHead (aD m c)) bitsLt_bf16_f32) (dxV (aQ m c) (aK m c) (aV m c) (aD m c) (aC m c)) : FVec Ideal S4096x2048 .bf16) := by
  rw [V_eq]
  unfold hostOps0_22
  after_results_simp
  refine Eq.trans (b := (packed (truncf .bf16 (W m c (Proc.devRef .tc main_v11) : Lanes .f32) bitsLt_bf16_f32) (W m c (Proc.devRef .tc main_v129) : Lanes .bf16) : FVec Ideal S4096x2048 .bf16)) rfl ?_
  rw [W_v11, W_v129]

end Cert.Attn.Host

end
-- ==== Proof.AttnRefTerms.lean ====
module

public import proofs.«01_k».proof.Proof.Gen.AttnReferenceIdeal.Run
public import Idealize.ShloMosaic.Lib.Pointwise

@[expose] public section

set_option maxRecDepth 16384

noncomputable section

/-! # The reference's results as terms

The reference's four results, line by line, as terms over its arguments. -/

namespace Cert.Attn.Ref

open Cert.AttnReferenceIdeal Cert.AttnReferenceIdeal.Gen
open Idealize.ShloMosaic Idealize.ShloMosaic.TcCoe

abbrev Arg := FVec Ideal S4096x1024 .f32
abbrev Big := FVec Ideal S8x4096x4096 .f32
abbrev Col := FVec Ideal S8x4096x1 .f32

def byHead (X : Arg) : FVec Ideal S4096x8x128 .f32 := shapeCast _ (extf .f32 (truncf .bf16 X bitsLt_bf16_f32) bitsLt_bf16_f32) shapeCasts_S4096x1024_S4096x8x128
def round16 (X : Big) : Big := extf .f32 (truncf .bf16 X bitsLt_bf16_f32) bitsLt_bf16_f32
def wide (X : Col) : Big := broadcastInDim S8x4096x4096 ![0, 1, 2] bcast_S8x4096x1_S8x4096x4096_0_1_2 X
def asCol (X : FVec Ideal S8x4096 .f32) : Col := broadcastInDim S8x4096x1 ![0, 1] bcast_S8x4096_S8x4096x1_0_1 X
def zero : FVec Ideal S_ .f32 := constant S_ .f32 0x00000000#32
def rowSum (X : Big) : FVec Ideal S8x4096 .f32 := Host.reduceAdd X zero reducesTo_S8x4096x4096_S8x4096_d2 h_S_

/-- Which keys a query sees. -/
def sees : IVec S8x4096x4096 1 :=
  broadcastInDim S8x4096x4096 ![1, 2] bcast_S4096x4096_S8x4096x4096_1_2
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0))))

def lgT (A B : Arg) (D : FVec Ideal S8x4096 .f32) : Big :=
  select sees
    (addf (mulf (Host.dotGeneral dot_S4096x8x128_S4096x8x128_S8x4096x4096_2_2_0_0_1_1 none (byHead A) (byHead B))
        (broadcastInDim S8x4096x4096 ![] bcast_S_S8x4096x4096 (constant S_ .f32 0x3DB504F3#32)))
      (subf (wide (asCol D))
        (broadcastInDim S8x4096x4096 ![0, 1, 2] bcast_S8x1x4096_S8x4096x4096_0_1_2 (broadcastInDim S8x1x4096 ![0, 2] bcast_S8x4096_S8x1x4096_0_2 D))))
    (broadcastInDim S8x4096x4096 ![] bcast_S_S8x4096x4096 (id (constant S_ .f32 0xFF800000#32)))

def mxT (L : Big) : Col :=
  asCol (maximumf (broadcastInDim S8x4096 ![] bcast_S_S8x4096 (constant S_ .f32 0xFF800000#32))
    (Host.reduce FloatOps.maximumf L (constant S_ .f32 0xFF800000#32) reducesTo_S8x4096x4096_S8x4096_d2 h_S_))
def exT (L : Big) (M : Col) : Big := Host.exp (subf L (wide M))
def smT (X : Big) : Col := asCol (rowSum X)
def prT (X : Big) (Y : Col) : Big := Host.divf X (wide Y)

/-- The cotangent of the weights: the output's cotangent times the values. -/
def dwT (C E : Arg) : Big :=
  round16 (Host.dotGeneral dot_S8x128x4096_S4096x8x128_S8x4096x4096_1_2_2_0_0_1 none
    (transpose S8x128x4096 [1, 2, 0] (byHead E) transposes_S4096x8x128_S8x128x4096_1_2_0) (byHead C))

/-- The cotangent of the rows' sums. -/
def dsumT (G X : Big) (Y : Col) : FVec Ideal S8x4096 .f32 :=
  Host.reduceAdd (Host.negf (shapeCast _ (rowSum (mulf (mulf G (wide (Host.divf (broadcastInDim S8x4096x1 ![] bcast_S_S8x4096x1 (constant S_ .f32 0x3F800000#32)) (mulf Y Y)))) X))
    shapeCasts_S8x4096_S8x4096x1) : Col) zero reducesTo_S8x4096x1_S8x4096_d2 h_S_

/-- The cotangent of the logits. -/
def dsT (G X : Big) (Y : Col) (U : FVec Ideal S8x4096 .f32) : Big :=
  select sees (mulf (addf (Host.divf G (wide Y)) (broadcastInDim S8x4096x4096 ![0, 1] bcast_S8x4096_S8x4096x4096_0_1 U)) X)
    (broadcastInDim S8x4096x4096 ![] bcast_S_S8x4096x4096 zero)

def dvT (E : Arg) (P : Big) : FVec Ideal S4096x1024 .bf16 :=
  truncf .bf16 (extf .f32 (truncf .bf16 (shapeCast _ (transpose S4096x8x128 [2, 0, 1] (Host.dotGeneral dot_S8x128x4096_S8x4096x4096_S8x128x4096_2_1_1_2_0_0 none
    (transpose S8x128x4096 [1, 2, 0] (byHead E) transposes_S4096x8x128_S8x128x4096_1_2_0) (round16 P)) transposes_S8x128x4096_S4096x8x128_2_0_1)
    shapeCasts_S4096x8x128_S4096x1024 : Arg) bitsLt_bf16_f32) bitsLt_bf16_f32) bitsLt_bf16_f32
def scaled (S : Big) : Big := mulf S (broadcastInDim S8x4096x4096 ![] bcast_S_S8x4096x4096 (constant S_ .f32 0x3DB504F3#32))
def dkT (A : Arg) (S : Big) : FVec Ideal S4096x1024 .bf16 :=
  truncf .bf16 (extf .f32 (truncf .bf16 (shapeCast _ (transpose S4096x8x128 [1, 0, 2] (Host.dotGeneral dot_S8x4096x4096_S4096x8x128_S8x4096x128_1_0_2_2_0_1 none (scaled S) (byHead A))
    transposes_S8x4096x128_S4096x8x128_1_0_2) shapeCasts_S4096x8x128_S4096x1024 : Arg) bitsLt_bf16_f32) bitsLt_bf16_f32) bitsLt_bf16_f32
def dqT (B : Arg) (S : Big) : FVec Ideal S4096x1024 .bf16 :=
  truncf .bf16 (extf .f32 (truncf .bf16 (shapeCast _ (transpose S4096x8x128 [1, 0, 2] (Host.dotGeneral dot_S8x4096x4096_S4096x8x128_S8x4096x128_2_0_1_2_0_1 none (scaled S) (byHead B))
    transposes_S8x4096x128_S4096x8x128_1_0_2) shapeCasts_S4096x8x128_S4096x1024 : Arg) bitsLt_bf16_f32) bitsLt_bf16_f32) bitsLt_bf16_f32
def dcT (S : Big) : FVec Ideal S8x4096x128 .f32 :=
  broadcastInDim S8x4096x128 ![0, 1, 2] bcast_S8x4096x1_S8x4096x128_0_1_2 (asCol (addf
    (Host.reduceAdd (shapeCast _ (Host.reduceAdd (Host.negf S) zero reducesTo_S8x4096x4096_S8x4096_d1 h_S_) shapeCasts_S8x4096_S8x1x4096) zero reducesTo_S8x1x4096_S8x4096_d1 h_S_)
    (Host.reduceAdd (shapeCast _ (rowSum S) shapeCasts_S8x4096_S8x4096x1 : Col) zero reducesTo_S8x4096x1_S8x4096_d2 h_S_)))

section
variable (A B C E : Arg) (D : FVec Ideal S8x4096 .f32)
def exV := exT (lgT A B D) (mxT (lgT A B D))
def smV := smT (exV A B D)
def dsV := dsT (dwT C E) (exV A B D) (smV A B D) (dsumT (dwT C E) (exV A B D) (smV A B D))
end

variable (m : (ℓ : Loc nD τ sig) → Buf (Elt Ideal) ℓ) (c : Dev nD)
abbrev aQ : Arg := m ((c.tc : Thread nD τ).loc main_arg0)
abbrev aK : Arg := m ((c.tc : Thread nD τ).loc main_arg1)
abbrev aV : Arg := m ((c.tc : Thread nD τ).loc main_arg2)
abbrev aC : FVec Ideal S8x4096 .f32 := m ((c.tc : Thread nD τ).loc main_arg3)
abbrev aD : Arg := m ((c.tc : Thread nD τ).loc main_arg4)

theorem out0 : Value.res_main_v103 m c = dqT (aK m c) (dsV (aQ m c) (aK m c) (aV m c) (aD m c) (aC m c)) := rfl
theorem out1 : Value.res_main_v104 m c = dkT (aQ m c) (dsV (aQ m c) (aK m c) (aV m c) (aD m c) (aC m c)) := rfl
theorem out2 : Value.res_main_v105 m c = dvT (aD m c) (prT (exV (aQ m c) (aK m c) (aC m c)) (smV (aQ m c) (aK m c) (aC m c))) := rfl
theorem out3 : Value.res_main_v107 m c = dcT (dsV (aQ m c) (aK m c) (aV m c) (aD m c) (aC m c)) := rfl

end Cert.Attn.Ref

end
-- ==== Proof.AttnRefAt.lean ====
module

public import proofs.«01_k».proof.Proof.AttnRefTerms
public import Idealize.ShloMosaic.Lib.WordArith

@[expose] public section

set_option maxRecDepth 16384

noncomputable section

/-! # The reference's terms at an index

The reference's row maxima, exponentials, row sums, weights, cotangents and results, element by element. -/

namespace Cert.Attn.Ref

open Cert.AttnReferenceIdeal Cert.AttnReferenceIdeal.Gen
open Idealize.ShloMosaic Idealize.ShloMosaic.TcCoe

/-- A causal mask: the two counters, compared. -/
theorem sle (s t : Fin 4096) (x y : EReal) :
    Scalar.select (IntOp.cmpi CmpIPredicate.sle (BitVec.ofNat 32 s) (BitVec.ofNat 32 t)) x y = if s.val ≤ t.val then x else y := by
  have e : IntOp.cmpi CmpIPredicate.sle (BitVec.ofNat 32 s) (BitVec.ofNat 32 t) = BitVec.ofBool (decide (s.val ≤ t.val)) := by
    show BitVec.ofBool ((BitVec.ofNat 32 s).sle (BitVec.ofNat 32 t)) = _
    congr 1
    rw [Bool.eq_iff_iff, BitVec.sle_iff_toInt_le, decide_eq_true_iff,
      WordArith.toInt_ofNat_small _ (by omega), WordArith.toInt_ofNat_small _ (by omega)]
    exact Int.ofNat_le
  rw [e]
  by_cases h : s.val ≤ t.val <;> simp [h, Scalar.select]

abbrev hc (h : Fin 8) (d : Fin 128) : Fin 1024 := ⟨h.val * 128 + d.val, by omega⟩
abbrev sc : EReal := Ideal.ofBits FTy.f32 1035273459#32

theorem lg_at (A B : Arg) (D : FVec Ideal S8x4096 .f32) (h : Fin 8) (t s : Fin 4096) :
    lgT A B D (ix3 h t s) = if s.val ≤ t.val then (∑ d : Fin 128, A (ix2 t (hc h d)) * B (ix2 s (hc h d))) * sc + (D (ix2 h t) - D (ix2 h s)) else ⊥ := by
  have e : lgT A B D (ix3 h t s) = Scalar.select (IntOp.cmpi .sle (BitVec.ofNat 32 s) (BitVec.ofNat 32 t))
      ((∑ d : Fin 128, A (ix2 t (hc h d)) * B (ix2 s (hc h d))) * sc + (D (ix2 h t) - D (ix2 h s))) (id (constant S_ FTy.f32 4286578688#32 : FVec Ideal S_ .f32) ix0) := by
    pointwise [lgT, sees, byHead, wide, asCol]
  rw [e, sle]
  have b : (id (constant S_ FTy.f32 4286578688#32 : FVec Ideal S_ .f32) ix0 : EReal) = ⊥ := by
    show Ideal.ofBits .f32 4286578688#32 = ⊥
    simp [Ideal.ofBits, Ideal.ieee]
  rw [b]

theorem dw_at (C E : Arg) (h : Fin 8) (t s : Fin 4096) : dwT C E (ix3 h t s) = ∑ d : Fin 128, E (ix2 t (hc h d)) * C (ix2 s (hc h d)) := by
  pointwise [dwT, round16, byHead]

theorem ex_at (L : Big) (M : Col) (h : Fin 8) (t s : Fin 4096) : exT L M (ix3 h t s) = Ideal.exp (L (ix3 h t s) - M (ix3 h t 0)) := by
  pointwise [exT, wide]

theorem sm_at (X : Big) (h : Fin 8) (t : Fin 4096) : smT X (ix3 h t 0) = ∑ s : Fin 4096, X (ix3 h t s) := by
  pointwise [smT, asCol, rowSum, zero]

theorem pr_at (X : Big) (Y : Col) (h : Fin 8) (t s : Fin 4096) : prT X Y (ix3 h t s) = Ideal.div (X (ix3 h t s)) (Y (ix3 h t 0)) := by
  pointwise [prT, wide]

theorem ds_at (G X : Big) (Y : Col) (U : FVec Ideal S8x4096 .f32) (h : Fin 8) (t s : Fin 4096) :
    dsT G X Y U (ix3 h t s) = if s.val ≤ t.val then (Ideal.div (G (ix3 h t s)) (Y (ix3 h t 0)) + U (ix2 h t)) * X (ix3 h t s) else 0 := by
  rw [← sle]
  pointwise [dsT, sees, wide, zero]

abbrev hd (x : Fin 1024) : Fin 8 := ⟨x.val / 128, by omega⟩
theorem dsum_at (G X : Big) (Y : Col) (h : Fin 8) (t : Fin 4096) :
    dsumT G X Y (ix2 h t) = -∑ s : Fin 4096, G (ix3 h t s) * Ideal.div 1 (Y (ix3 h t 0) * Y (ix3 h t 0)) * X (ix3 h t s) := by
  have e : dsumT G X Y (ix2 h t) = ∑ _x : Fin 1, -∑ s : Fin 4096, G (ix3 h t s) * Ideal.div 1 (Y (ix3 h t 0) * Y (ix3 h t 0)) * X (ix3 h t s) := by
    pointwise [dsumT, rowSum, wide, zero]
  rw [e, Fin.sum_univ_one]
theorem dv_at (E : Arg) (P : Big) (t : Fin 4096) (x : Fin 1024) :
    dvT E P (ix2 t x) = ∑ u : Fin 4096, E (ix2 u x) * P (ix3 (hd x) u t) := by
  pointwise [dvT, byHead, round16]
theorem dk_at (A : Arg) (S : Big) (t : Fin 4096) (x : Fin 1024) :
    dkT A S (ix2 t x) = ∑ u : Fin 4096, S (ix3 (hd x) u t) * sc * A (ix2 u x) := by
  pointwise [dkT, byHead, scaled]
theorem dq_at (B : Arg) (S : Big) (t : Fin 4096) (x : Fin 1024) :
    dqT B S (ix2 t x) = ∑ u : Fin 4096, S (ix3 (hd x) t u) * sc * B (ix2 u x) := by
  pointwise [dqT, byHead, scaled]
theorem dc_at (S : Big) (h : Fin 8) (t : Fin 4096) (l : Fin 128) :
    dcT S (ix3 h t l) = (∑ u : Fin 4096, -S (ix3 h u t)) + ∑ s : Fin 4096, S (ix3 h t s) := by
  have e : dcT S (ix3 h t l) = (∑ _x : Fin 1, ∑ u : Fin 4096, -S (ix3 h u t)) + ∑ _x : Fin 1, ∑ s : Fin 4096, S (ix3 h t s) := by
    pointwise [dcT, asCol, rowSum, zero]
  rw [e, Fin.sum_univ_one, Fin.sum_univ_one]

/-- The maximum of a row that holds a real number and no `⊤` is a real number. -/
theorem rowMax (X : Big) (h : Fin 8) (t : Fin 4096) (hX : ∀ s, X (ix3 h t s) ≠ ⊤) (s0 : Fin 4096) (hd : X (ix3 h t s0) ≠ ⊥) :
    ∃ r : ℝ, Host.reduce (FloatOps.maximumf (F := Ideal) (φ := .f32)) X (constant (F := Ideal) S_ .f32 0xFF800000#32) reducesTo_S8x4096x4096_S8x4096_d2 h_S_ (ix2 h t) = (r : EReal) := by
  have bot : (constant (F := Ideal) S_ .f32 0xFF800000#32 (Shape.Idx.first h_S_) : EReal) = ⊥ := by
    show Ideal.ofBits .f32 4286578688#32 = ⊥
    simp [Ideal.ofBits, Ideal.ieee]
  rw [Host.reduce_eq_fold, bot]
  set S := Finset.univ.filter fun i : S8x4096x4096.Idx => reducesTo_S8x4096x4096_S8x4096_d2.drop i = ix2 h t with hS
  have key : ∃ r : ℝ, S.fold max (⊥ : EReal) X = (r : EReal) := by
    have top : S.fold max (⊥ : EReal) X < ⊤ := by
      rw [Finset.fold_max_lt]
      refine ⟨bot_lt_top, fun i hi => lt_top_iff_ne_top.2 ?_⟩
      rw [hS, Finset.mem_filter] at hi
      have e0 := congrArg (fun j => (j 0).val) hi.2
      have e1 := congrArg (fun j => (j 1).val) hi.2
      simp only [Shape.ReducesTo.drop_apply_val_of_eq reducesTo_S8x4096x4096_S8x4096_d2 i 0 0] at e0
      simp only [Shape.ReducesTo.drop_apply_val_of_eq reducesTo_S8x4096x4096_S8x4096_d2 i 1 1] at e1
      have : i = ix3 h t (i 2) := by
        funext a; fin_cases a
        · exact Fin.ext e0
        · exact Fin.ext e1
        · rfl
      rw [this]; exact hX _
    have low : ⊥ < S.fold max (⊥ : EReal) X := by
      rw [Finset.lt_fold_max]
      refine Or.inr ⟨ix3 h t s0, ?_, bot_lt_iff_ne_bot.2 hd⟩
      rw [hS, Finset.mem_filter]
      refine ⟨Finset.mem_univ _, ?_⟩
      funext a; fin_cases a
      · exact Fin.ext (Shape.ReducesTo.drop_apply_val_of_eq reducesTo_S8x4096x4096_S8x4096_d2 (ix3 h t s0) 0 0)
      · exact Fin.ext (Shape.ReducesTo.drop_apply_val_of_eq reducesTo_S8x4096x4096_S8x4096_d2 (ix3 h t s0) 1 1)
    exact ⟨_, (EReal.coe_toReal top.ne low.ne').symm⟩
  exact key

theorem mx_at (X : Big) (h : Fin 8) (t : Fin 4096) (z : Fin 1) : mxT X (ix3 h t z)
    = Host.reduce (FloatOps.maximumf (F := Ideal) (φ := .f32)) X (constant (F := Ideal) S_ .f32 0xFF800000#32) reducesTo_S8x4096x4096_S8x4096_d2 h_S_ (ix2 h t) := by
  have g : ∀ R : FVec Ideal S8x4096 .f32, (asCol (maximumf (broadcastInDim S8x4096 ![] bcast_S_S8x4096 (constant S_ .f32 0xFF800000#32)) R)) (ix3 h t z)
      = max (Ideal.ofBits FTy.f32 4286578688#32) (R (ix2 h t)) := by
    intro R
    pointwise [asCol]
  have b : Ideal.ofBits FTy.f32 4286578688#32 = ⊥ := by simp [Ideal.ofBits, Ideal.ieee]
  unfold mxT
  rw [g, b, max_eq_right bot_le]

theorem mx_real (X : Big) (h : Fin 8) (t : Fin 4096) (hX : ∀ s, X (ix3 h t s) ≠ ⊤) (s0 : Fin 4096) (hd : X (ix3 h t s0) ≠ ⊥) :
    ∃ r : ℝ, mxT X (ix3 h t 0) = (r : EReal) := by
  rw [mx_at]
  exact rowMax X h t hX s0 hd

end Cert.Attn.Ref

end
-- ==== Proof.AttnOperands.lean ====
module

public import proofs.«01_k».proof.Proof.AttnTerms
public import proofs.«01_k».proof.Proof.AttnSums
public import proofs.«01_k».proof.Proof.AttnRefAt
public import Idealize.ShloMosaic.Lib.Pointwise

@[expose] public section

set_option maxRecDepth 16384

noncomputable section

/-! # The launch's operands at an index

The five operands element by element: a head's 128 columns, then the further columns. -/

namespace Cert.Attn.Host

open Cert.AttnKernelIdeal Cert.AttnKernelIdeal.Gen
open Idealize.ShloMosaic Idealize.ShloMosaic.TcCoe
open Cert.Attn.Ref (hc sc)

/-! ## Columns and heads -/

theorem packed_at (X Y : Lanes .bf16) (h : Fin 8) (t : Fin 4096) (l : Fin 256) :
    packed X Y (ix2 t ⟨256 * h.val + l.val, by omega⟩) = if hl : l.val < 128 then X (ix3 t h ⟨l.val, hl⟩) else Y (ix3 t h ⟨l.val - 128, by omega⟩) := by
  pointwise [packed]

theorem lanes_at (X : Lanes .bf16) (h : Fin 8) (t : Fin 4096) (l : Fin 128) :
    (shapeCast _ X shapeCasts_S4096x8x128_S4096x1024 : FVec Ideal S4096x1024 .bf16) (ix2 t ⟨128 * h.val + l.val, by omega⟩) = X (ix3 t h l) := by
  pointwise
theorem heads_at (X : Arg) (h : Fin 8) (t : Fin 4096) (d : Fin 128) : byHead X (ix3 t h d) = X (ix2 t (hc h d)) := by
  pointwise [byHead]

/-! ## The lanes' counter against words -/

theorem eq_word : ∀ l : Fin 128, ∀ i : Fin 6, IntOp.cmpi .eq (BitVec.ofNat 32 l) (BitVec.ofNat 32 i) = BitVec.ofBool (decide (l.val = i.val)) := by decide
theorem within (a b : BitVec 32) (h : Fin 8) (t : Fin 4096) (l : Fin 128) :
    andi (ge a) (lt b) (ix3 t h l) = IntOp.cmpi .sge (BitVec.ofNat 32 l) a &&& IntOp.cmpi .slt (BitVec.ofNat 32 l) b := by
  pointwise [ge, lt, lane]
  rfl
theorem below (b : BitVec 32) (h : Fin 8) (t : Fin 4096) (l : Fin 128) :
    lt b (ix3 t h l) = IntOp.cmpi .slt (BitVec.ofNat 32 l) b := by
  pointwise [lt, lane]
theorem ones_at (p : IVec S4096x8x128 1) (h : Fin 8) (t : Fin 4096) (l : Fin 128) : ones p (ix3 t h l) = Scalar.select (p (ix3 t h l)) (1 : EReal) 0 := by
  pointwise [ones]

theorem w36 : ∀ l : Fin 128, IntOp.cmpi .sge (BitVec.ofNat 32 l) 3#32 &&& IntOp.cmpi .slt (BitVec.ofNat 32 l) 6#32 = BitVec.ofBool (decide (3 ≤ l.val ∧ l.val < 6)) := by decide
theorem w03 : ∀ l : Fin 128, IntOp.cmpi .sge (BitVec.ofNat 32 l) 0#32 &&& IntOp.cmpi .slt (BitVec.ofNat 32 l) 3#32 = BitVec.ofBool (decide (l.val < 3)) := by decide
theorem w3 : ∀ l : Fin 128, IntOp.cmpi .slt (BitVec.ofNat 32 l) 3#32 = BitVec.ofBool (decide (l.val < 3)) := by decide
theorem w128 : ∀ l : Fin 128, IntOp.cmpi .sge (BitVec.ofNat 32 l) 128#32 &&& IntOp.cmpi .slt (BitVec.ofNat 32 l) 131#32 = 0#1 := by decide

/-! ## A value in three parts, and the values -/

theorem extras_at (X : Lanes .f32) (i j k : BitVec 32) (p : IVec S4096x8x128 1) (h : Fin 8) (t : Fin 4096) (l : Fin 128) :
    extras X i j k p (ix3 t h l) = Scalar.select (IntOp.cmpi .eq (BitVec.ofNat 32 l) i) (X (ix3 t h l))
      (Scalar.select (IntOp.cmpi .eq (BitVec.ofNat 32 l) j) (X (ix3 t h l) - X (ix3 t h l))
        (Scalar.select (IntOp.cmpi .eq (BitVec.ofNat 32 l) k) (X (ix3 t h l) - X (ix3 t h l) - (X (ix3 t h l) - X (ix3 t h l)))
          (Scalar.select (p (ix3 t h l)) (1 : EReal) 0))) := by
  pointwise [extras, is, lane, rest, ones]

theorem log_coe {r : ℝ} (h : 0 < r) : Ideal.log (r : EReal) = ((Real.log r : ℝ) : EReal) := by
  show (if r ≤ 0 then (⊥ : EReal) else ((Real.log r : ℝ) : EReal)) = _
  rw [if_neg (not_le.2 h)]

theorem l2_eq : l2T ix0 = ((Real.log 2 : ℝ) : EReal) := by
  have e : l2T ix0 = Ideal.log (Ideal.ofBits .f32 0x40000000#32) := by pointwise [l2T]
  have b : Ideal.ofBits .f32 0x40000000#32 = ((2 : ℝ) : EReal) := by simp [Ideal.ofBits, Ideal.ieee, -EReal.coe_mul]; norm_num
  rw [e, b]
  exact log_coe (by norm_num)
theorem perHead_at (X : FVec Ideal S8x4096 .f32) (h : Fin 8) (t : Fin 4096) (l : Fin 128) : perHead X (ix3 t h l) = Ideal.div (X (ix2 h t)) (l2T ix0) := by
  pointwise [perHead]
theorem q_at (D : FVec Ideal S8x4096 .f32) (M Y : FVec Ideal S8x4096x1 .f32) (h : Fin 8) (t : Fin 4096) (l : Fin 128) :
    qT D M Y (ix3 t h l) = Ideal.div (D (ix2 h t) - (M (ix3 h t 0) + Ideal.log (Y (ix3 h t 0)))) (l2T ix0) := by
  unfold qT
  rw [perHead_at]
  pointwise
theorem k_at (D : FVec Ideal S8x4096 .f32) (h : Fin 8) (t : Fin 4096) (l : Fin 128) : kT D (ix3 t h l) = Ideal.div (-D (ix2 h t)) (l2T ix0) := by
  unfold kT
  rw [perHead_at]
  pointwise
theorem d_at (X : FVec Ideal S4096x8x1 .f32) (h : Fin 8) (t : Fin 4096) (l : Fin 128) : dT X (ix3 t h l) = -X (ix3 t h 0) := by
  pointwise [dT]

theorem de_at (C E : Arg) (P : Big) (h : Fin 8) (t : Fin 4096) :
    deT C E P (ix3 t h 0) = ∑ d : Fin 128, (∑ s : Fin 4096, C (ix2 s (hc h d)) * P (ix3 h t s)) * E (ix2 t (hc h d)) := by
  pointwise [deT, byHead]

/-! ## The forward lines are the reference's -/

theorem lg_eq (A B : Arg) (D : FVec Ideal S8x4096 .f32) : lgT A B D = Ref.lgT A B D := rfl
theorem ex_eq (L : Big) (M : FVec Ideal S8x4096x1 .f32) : exT L M = Ref.exT L M := rfl
theorem sm_eq (X : Big) : smT X = Ref.smT X := rfl
theorem pr_eq (X : Big) (Y : FVec Ideal S8x4096x1 .f32) : prT X Y = Ref.prT X Y := rfl
theorem mx_eq (X : Big) : mxT X = Ref.mxT X := by
  funext i
  idx_vars i
  rw [Ref.mx_at]
  have g : ∀ R : FVec Ideal S8x4096 .f32, (broadcastInDim S8x4096x1 ![0, 1] bcast_S8x4096_S8x4096x1_0_1 R) (ix3 i0 i1 i2) = R (ix2 i0 i1) := by
    intro R
    pointwise
  unfold mxT
  rw [g]

theorem exV_eq (A B : Arg) (D : FVec Ideal S8x4096 .f32) : exV A B D = Ref.exV A B D := by
  unfold exV mxV
  rw [mx_eq]
  rfl
theorem smV_eq (A B : Arg) (D : FVec Ideal S8x4096 .f32) : smV A B D = Ref.smV A B D := by
  unfold smV
  rw [exV_eq]
  rfl

/-! ## The further columns at real values -/

theorem sel (p : Prop) [Decidable p] (x y : EReal) : Scalar.select (BitVec.ofBool (decide p)) x y = if p then x else y := by
  by_cases h : p <;> simp [h, Scalar.select]

theorem sub_self_coe (x : ℝ) : ((x : EReal) - (x : EReal)) = 0 := by
  rw [← EReal.coe_sub, sub_self, EReal.coe_zero]

theorem qx_at (X : Lanes .f32) (h : Fin 8) (t : Fin 4096) (l : Fin 128) (x : ℝ) (hx : X (ix3 t h l) = (x : EReal)) :
    extras X 0#32 1#32 2#32 (andi (ge 3#32) (lt 6#32)) (ix3 t h l) = if l.val = 0 then (x : EReal) else if 3 ≤ l.val ∧ l.val < 6 then 1 else 0 := by
  rw [extras_at, within, w36, hx, sub_self_coe, sub_zero]
  have e0 := eq_word l 0
  have e1 := eq_word l 1
  have e2 := eq_word l 2
  rw [show (0#32) = BitVec.ofNat 32 (0 : Fin 6).val from rfl, show (1#32) = BitVec.ofNat 32 (1 : Fin 6).val from rfl, show (2#32) = BitVec.ofNat 32 (2 : Fin 6).val from rfl, e0, e1, e2,
    sel, sel, sel, sel]
  simp only [Fin.val_zero, Fin.val_one, show (2 : Fin 6).val = 2 from rfl]
  split_ifs <;> first | rfl | omega

theorem kx_at (X : Lanes .f32) (h : Fin 8) (t : Fin 4096) (l : Fin 128) (x : ℝ) (hx : X (ix3 t h l) = (x : EReal)) :
    extras X 3#32 4#32 5#32 (andi (ge 0#32) (lt 3#32)) (ix3 t h l) = if l.val < 3 then 1 else if l.val = 3 then (x : EReal) else 0 := by
  rw [extras_at, within, w03, hx, sub_self_coe, sub_zero]
  have e0 := eq_word l 3
  have e1 := eq_word l 4
  have e2 := eq_word l 5
  rw [show (4#32) = BitVec.ofNat 32 (4 : Fin 6).val from rfl, show (5#32) = BitVec.ofNat 32 (5 : Fin 6).val from rfl, show (3#32) = BitVec.ofNat 32 (3 : Fin 6).val from rfl, e0, e1, e2,
    sel, sel, sel, sel]
  simp only [show (3 : Fin 6).val = 3 from rfl, show (4 : Fin 6).val = 4 from rfl, show (5 : Fin 6).val = 5 from rfl]
  split_ifs <;> first | rfl | omega

theorem dx_at (X : Lanes .f32) (h : Fin 8) (t : Fin 4096) (l : Fin 128) (x : ℝ) (hx : X (ix3 t h l) = (x : EReal)) :
    extras X 0#32 1#32 2#32 (andi (ge 128#32) (lt 131#32)) (ix3 t h l) = if l.val = 0 then (x : EReal) else 0 := by
  rw [extras_at, within, w128, hx, sub_self_coe, sub_zero]
  have e0 := eq_word l 0
  have e1 := eq_word l 1
  have e2 := eq_word l 2
  rw [show (0#32) = BitVec.ofNat 32 (0 : Fin 6).val from rfl, show (1#32) = BitVec.ofNat 32 (1 : Fin 6).val from rfl, show (2#32) = BitVec.ofNat 32 (2 : Fin 6).val from rfl, e0, e1, e2,
    sel, sel, sel]
  simp only [Fin.val_zero, Fin.val_one, show (2 : Fin 6).val = 2 from rfl]
  split_ifs <;> simp [Scalar.select]

theorem vx_at (h : Fin 8) (t : Fin 4096) (l : Fin 128) : ones (lt 3#32) (ix3 t h l) = if l.val < 3 then (1 : EReal) else 0 := by
  rw [ones_at, below, w3, sel]

end Cert.Attn.Host

end
-- ==== Proof.AttnReal.lean ====
module

public import proofs.«01_k».proof.Proof.AttnRefAt
public import proofs.«01_k».proof.Proof.AttnSums

@[expose] public section

set_option maxRecDepth 16384

noncomputable section

/-! # The gradient in real numbers

With finite arguments every value of the attention's gradient is a real number. The logits `zr`, the exponentials over the row's
maximum `er`, their sums `lr`, the weights `pr`, the weights' cotangent `dwr`, its weighted mean `der`, and the logits' cotangent `dsr`;
and the reference's intermediate results as these numbers. -/

namespace Cert.Attn

open Cert.AttnReferenceIdeal Cert.AttnReferenceIdeal.Gen
open Idealize.ShloMosaic Idealize.ShloMosaic.TcCoe
open Cert.Attn.Ref (hc sc)

/-! ## Real numbers among the extended ones -/

theorem sum_coe {ι : Type} [Fintype ι] (f : ι → ℝ) : ∑ i, (f i : EReal) = ((∑ i, f i : ℝ) : EReal) :=
  (map_sum (⟨⟨Real.toEReal, EReal.coe_zero⟩, EReal.coe_add⟩ : ℝ →+ EReal) f _).symm

theorem div_real (x : ℝ) {y : ℝ} (h : y ≠ 0) : Ideal.div (x : EReal) (y : EReal) = ((x / y : ℝ) : EReal) := by
  rw [Ideal.div_coe h, ← EReal.coe_mul, mul_one_div]

def scr : ℝ := 11863283 / 134217728
theorem sc_eq : sc = ((scr : ℝ) : EReal) := by
  unfold sc scr
  simp [Ideal.ofBits, Ideal.ieee, -EReal.coe_mul]; norm_num

theorem pow2_real (x : ℝ) : pow2 ((x / Real.log 2 : ℝ) : EReal) = ((Real.exp x : ℝ) : EReal) := by
  show ((Real.rpow 2 (x / Real.log 2) : ℝ) : EReal) = _
  congr 1
  show (2 : ℝ) ^ (x / Real.log 2) = _
  rw [Real.rpow_def_of_pos (by norm_num), mul_div_cancel₀]
  exact (Real.log_pos (by norm_num)).ne'

/-! ## The numbers -/

abbrev RArg := S4096x1024.Idx → ℝ
abbrev RGate := S8x4096.Idx → ℝ
def up (a : RArg) : Ref.Arg := fun i => (a i : EReal)
def upG (g : RGate) : FVec Ideal S8x4096 .f32 := fun i => (g i : EReal)

section
variable (a b v e : RArg) (g : RGate) (M : Fin 8 → Fin 4096 → ℝ)

def zr (h : Fin 8) (t s : Fin 4096) : ℝ := (∑ d : Fin 128, a (ix2 t (hc h d)) * b (ix2 s (hc h d))) * scr + (g (ix2 h t) - g (ix2 h s))
def er (h : Fin 8) (t s : Fin 4096) : ℝ := if s.val ≤ t.val then Real.exp (zr a b g h t s - M h t) else 0
def lr (h : Fin 8) (t : Fin 4096) : ℝ := ∑ s, er a b g M h t s
def pr (h : Fin 8) (t s : Fin 4096) : ℝ := er a b g M h t s / lr a b g M h t
def dwr (h : Fin 8) (t s : Fin 4096) : ℝ := ∑ d : Fin 128, e (ix2 t (hc h d)) * v (ix2 s (hc h d))
def der (h : Fin 8) (t : Fin 4096) : ℝ := ∑ s, pr a b g M h t s * dwr v e h t s
def dsr (h : Fin 8) (t s : Fin 4096) : ℝ := pr a b g M h t s * (dwr v e h t s - der a b v e g M h t)

theorem er_nonneg (h : Fin 8) (t s : Fin 4096) : 0 ≤ er a b g M h t s := by
  unfold er
  split_ifs
  · exact (Real.exp_pos _).le
  · exact le_rfl

theorem lr_pos (h : Fin 8) (t : Fin 4096) : 0 < lr a b g M h t := by
  refine Finset.sum_pos' (fun s _ => er_nonneg a b g M h t s) ⟨t, Finset.mem_univ _, ?_⟩
  unfold er
  rw [if_pos le_rfl]
  exact Real.exp_pos _

/-- The weights through the logarithm of the row's sum. -/
theorem pr_lse (h : Fin 8) (t s : Fin 4096) :
    pr a b g M h t s = if s.val ≤ t.val then Real.exp (zr a b g h t s - (M h t + Real.log (lr a b g M h t))) else 0 := by
  unfold pr er
  split_ifs
  · rw [← sub_sub, Real.exp_sub (zr a b g h t s - M h t), Real.exp_log (lr_pos a b g M h t)]
  · rw [zero_div]

/-! ## The reference's intermediate results -/

theorem lg_up (h : Fin 8) (t s : Fin 4096) :
    Ref.lgT (up a) (up b) (upG g) (ix3 h t s) = if s.val ≤ t.val then ((zr a b g h t s : ℝ) : EReal) else ⊥ := by
  rw [Ref.lg_at]
  unfold up upG zr
  simp only [sc_eq, ← EReal.coe_mul, ← EReal.coe_sub, sum_coe, ← EReal.coe_add]

theorem max_up : ∃ M : Fin 8 → Fin 4096 → ℝ, ∀ h t, Ref.mxT (Ref.lgT (up a) (up b) (upG g)) (ix3 h t 0) = ((M h t : ℝ) : EReal) := by
  have H : ∀ h t, ∃ r : ℝ, Ref.mxT (Ref.lgT (up a) (up b) (upG g)) (ix3 h t 0) = (r : EReal) := by
    intro h t
    refine Ref.mx_real _ h t (fun s => ?_) t ?_
    · rw [lg_up]
      split_ifs
      · exact EReal.coe_ne_top _
      · exact bot_ne_top
    · rw [lg_up, if_pos le_rfl]
      exact EReal.coe_ne_bot _
  choose M hM using H
  exact ⟨M, hM⟩

variable {M} (hM : ∀ h t, Ref.mxT (Ref.lgT (up a) (up b) (upG g)) (ix3 h t 0) = ((M h t : ℝ) : EReal))
include hM

theorem ex_up (h : Fin 8) (t s : Fin 4096) : Ref.exV (up a) (up b) (upG g) (ix3 h t s) = ((er a b g M h t s : ℝ) : EReal) := by
  unfold Ref.exV er
  rw [Ref.ex_at, hM, lg_up]
  split_ifs
  · rw [← EReal.coe_sub]
    rfl
  · rfl

theorem sm_up (h : Fin 8) (t : Fin 4096) : Ref.smV (up a) (up b) (upG g) (ix3 h t 0) = ((lr a b g M h t : ℝ) : EReal) := by
  unfold Ref.smV lr
  rw [Ref.sm_at]
  simp only [ex_up a b g hM, sum_coe]

theorem pr_up (h : Fin 8) (t s : Fin 4096) :
    Ref.prT (Ref.exV (up a) (up b) (upG g)) (Ref.smV (up a) (up b) (upG g)) (ix3 h t s) = ((pr a b g M h t s : ℝ) : EReal) := by
  rw [Ref.pr_at, ex_up a b g hM, sm_up a b g hM, div_real _ (lr_pos a b g M h t).ne']
  rfl

omit hM in
theorem dw_up (h : Fin 8) (t s : Fin 4096) : Ref.dwT (up v) (up e) (ix3 h t s) = ((dwr v e h t s : ℝ) : EReal) := by
  rw [Ref.dw_at]
  unfold up dwr
  simp only [← EReal.coe_mul, sum_coe]

theorem ds_up (h : Fin 8) (t s : Fin 4096) : Ref.dsV (up a) (up b) (up v) (up e) (upG g) (ix3 h t s) = ((dsr a b v e g M h t s : ℝ) : EReal) := by
  have hl := (lr_pos a b g M h t).ne'
  have one : Ideal.div 1 ((lr a b g M h t * lr a b g M h t : ℝ) : EReal) = ((1 / (lr a b g M h t * lr a b g M h t) : ℝ) : EReal) := by
    rw [← EReal.coe_one, div_real _ (mul_ne_zero hl hl)]
  unfold Ref.dsV
  rw [Ref.ds_at, Ref.dsum_at]
  simp only [dw_up, ex_up a b g hM, sm_up a b g hM, one, ← EReal.coe_mul, sum_coe, div_real _ hl, ← EReal.coe_neg, ← EReal.coe_add]
  unfold dsr der
  have key : (∑ s, dwr v e h t s * (1 / (lr a b g M h t * lr a b g M h t)) * er a b g M h t s) = (∑ s, pr a b g M h t s * dwr v e h t s) / lr a b g M h t := by
    rw [Finset.sum_div]
    refine Finset.sum_congr rfl fun s _ => ?_
    unfold pr
    field_simp
  rw [key]
  by_cases hs : s.val ≤ t.val
  · rw [if_pos hs]
    congr 1
    unfold pr
    field_simp
    ring
  · rw [if_neg hs]
    have : pr a b g M h t s = 0 := by rw [pr_lse, if_neg hs]
    rw [this, zero_mul]
    rfl

end

end Cert.Attn

end
-- ==== Proof.AttnKer.lean ====
module

public import proofs.«01_k».proof.Proof.AttnOperands
public import proofs.«01_k».proof.Proof.AttnReal

@[expose] public section

set_option maxRecDepth 16384

noncomputable section

/-! # The kernel's weights and scores' gradient in real numbers

With finite arguments the columns of the five operands are real numbers; a score over the 256 columns of a head is the logit less the
row's log-sum over the logarithm of 2, so its power of two is the weight, and the product of the values' with the cotangent's columns is
the weights' cotangent less its weighted mean. -/

namespace Cert.Attn

open Cert.AttnKernelIdeal Cert.AttnKernelIdeal.Gen
open Idealize.ShloMosaic Idealize.ShloMosaic.TcCoe
open Cert.Attn.Ref (hc sc)
open Cert.Attn.Host (packed byHead qxV kxV dxV ones scT l2T)

/-- The operands over arbitrary arguments. -/
def kQ (A B : Host.Arg) (D : FVec Ideal S8x4096 .f32) : S4096x2048.Idx → EReal :=
  packed (truncf .bf16 (mulf (byHead A) (broadcastInDim S4096x8x128 ![] bcast_S_S4096x8x128 scT)) bitsLt_bf16_f32) (qxV A B D)
def kX (A B : Host.Arg) (D : FVec Ideal S8x4096 .f32) : S4096x1024.Idx → EReal :=
  (shapeCast _ (qxV A B D) shapeCasts_S4096x8x128_S4096x1024 : FVec Ideal S4096x1024 .bf16)
def kK (B : Host.Arg) (D : FVec Ideal S8x4096 .f32) : S4096x2048.Idx → EReal := packed (truncf .bf16 (byHead B) bitsLt_bf16_f32) (kxV D)
def kV (C : Host.Arg) : S4096x2048.Idx → EReal := packed (truncf .bf16 (byHead C) bitsLt_bf16_f32) (ones (Host.lt 3#32))
def kD (A B C E : Host.Arg) (D : FVec Ideal S8x4096 .f32) : S4096x2048.Idx → EReal :=
  packed (truncf .bf16 (byHead E) bitsLt_bf16_f32) (dxV A B C E D)

/-- A sum over a head's 256 columns: the 128 of the head, then the further ones. -/
theorem sum_cols (f : Fin 256 → EReal) : ∑ l, f l = (∑ d : Fin 128, f ⟨d.val, by omega⟩) + ∑ d : Fin 128, f ⟨128 + d.val, by omega⟩ := by
  rw [show (∑ l, f l) = ∑ l : Fin (128 + 128), f l from rfl, Fin.sum_univ_add]
  rfl

theorem lt_at (d : Fin 128) : ¬ (128 + d.val < 128) := by omega
theorem less (d : Fin 128) : (⟨128 + d.val - 128, by omega⟩ : Fin 128) = d := by ext; simp

theorem scT_eq : scT ix0 = ((scr / Real.log 2 : ℝ) : EReal) := by
  have e : scT ix0 = Ideal.div sc (l2T ix0) := by pointwise [scT]
  rw [e, Host.l2_eq, sc_eq, div_real]
  exact (Real.log_pos (by norm_num)).ne'

section
variable (a b v e : RArg) (g : RGate) {M : Fin 8 → Fin 4096 → ℝ}
  (hM : ∀ h t, Ref.mxT (Ref.lgT (up a) (up b) (upG g)) (ix3 h t 0) = ((M h t : ℝ) : EReal))

abbrev l2 : ℝ := Real.log 2
theorem l2_ne : l2 ≠ 0 := (Real.log_pos (by norm_num)).ne'

/-! ## A head's own columns -/

theorem colK_lo (h : Fin 8) (s : Fin 4096) (d : Fin 128) : col (kK (up b) (upG g)) h s ⟨d.val, by omega⟩ = ((b (ix2 s (hc h d)) : ℝ) : EReal) := by
  unfold col kK
  rw [Host.packed_at _ _ h s ⟨d.val, by omega⟩, dif_pos d.isLt]
  exact Host.heads_at (up b) h s d

theorem colV_lo (h : Fin 8) (s : Fin 4096) (d : Fin 128) : col (kV (up v)) h s ⟨d.val, by omega⟩ = ((v (ix2 s (hc h d)) : ℝ) : EReal) := by
  unfold col kV
  rw [Host.packed_at _ _ h s ⟨d.val, by omega⟩, dif_pos d.isLt]
  exact Host.heads_at (up v) h s d

theorem colD_lo (h : Fin 8) (t : Fin 4096) (d : Fin 128) :
    col (kD (up a) (up b) (up v) (up e) (upG g)) h t ⟨d.val, by omega⟩ = ((e (ix2 t (hc h d)) : ℝ) : EReal) := by
  unfold col kD
  rw [Host.packed_at _ _ h t ⟨d.val, by omega⟩, dif_pos d.isLt]
  exact Host.heads_at (up e) h t d

theorem Qr_lo (h : Fin 8) (t : Fin 4096) (d : Fin 128) :
    Qr (kQ (up a) (up b) (upG g)) (kX (up a) (up b) (upG g)) h t ⟨d.val, by omega⟩ = ((a (ix2 t (hc h d)) * (scr / l2) : ℝ) : EReal) := by
  unfold Qr kQ
  rw [dif_pos d.isLt, Host.packed_at _ _ h t ⟨d.val, by omega⟩, dif_pos d.isLt]
  have e : (truncf .bf16 (mulf (byHead (up a)) (broadcastInDim S4096x8x128 ![] bcast_S_S4096x8x128 scT)) bitsLt_bf16_f32 : Host.Lanes .bf16) (ix3 t h d)
      = byHead (up a) (ix3 t h d) * scT ix0 := by
    pointwise
  rw [e, Host.heads_at, scT_eq, EReal.coe_mul]
  rfl

/-! ## The further columns -/

theorem colK_hi (h : Fin 8) (s : Fin 4096) (d : Fin 128) :
    col (kK (up b) (upG g)) h s ⟨128 + d.val, by omega⟩ = if d.val < 3 then 1 else if d.val = 3 then ((-g (ix2 h s) / l2 : ℝ) : EReal) else 0 := by
  unfold col kK
  rw [Host.packed_at _ _ h s ⟨128 + d.val, by omega⟩, dif_neg (lt_at d), less]
  refine Host.kx_at _ h s d _ ?_
  rw [Host.k_at, Host.l2_eq]
  show Ideal.div (-((g (ix2 h s) : ℝ) : EReal)) _ = _
  rw [← EReal.coe_neg, div_real _ l2_ne]

theorem colV_hi (h : Fin 8) (s : Fin 4096) (d : Fin 128) : col (kV (up v)) h s ⟨128 + d.val, by omega⟩ = if d.val < 3 then (1 : EReal) else 0 := by
  unfold col kV
  rw [Host.packed_at _ _ h s ⟨128 + d.val, by omega⟩, dif_neg (lt_at d), less]
  exact Host.vx_at h s d

include hM

theorem Qr_hi (h : Fin 8) (t : Fin 4096) (d : Fin 128) :
    Qr (kQ (up a) (up b) (upG g)) (kX (up a) (up b) (upG g)) h t ⟨128 + d.val, by omega⟩
      = if d.val = 0 then (((g (ix2 h t) - (M h t + Real.log (lr a b g M h t))) / l2 : ℝ) : EReal) else if 3 ≤ d.val ∧ d.val < 6 then 1 else 0 := by
  unfold Qr kX
  rw [dif_neg (lt_at d)]
  have i : (⟨128 * h.val + (128 + d.val - 128), by omega⟩ : Fin 1024) = ⟨128 * h.val + d.val, by omega⟩ := by ext; simp
  show (shapeCast _ (qxV (up a) (up b) (upG g)) shapeCasts_S4096x8x128_S4096x1024 : FVec Ideal S4096x1024 .bf16) (ix2 t ⟨128 * h.val + (128 + d.val - 128), by omega⟩) = _
  rw [i, Host.lanes_at _ h t d]
  refine Host.qx_at _ h t d _ ?_
  rw [Host.q_at, Host.l2_eq, Host.smV_eq, sm_up a b g hM]
  unfold Host.mxV
  rw [Host.mx_eq, Host.lg_eq, hM, Host.log_coe (lr_pos a b g M h t), ← EReal.coe_add]
  show Ideal.div (((g (ix2 h t) : ℝ) : EReal) - _) _ = _
  rw [← EReal.coe_sub, div_real _ l2_ne]

theorem colD_hi (h : Fin 8) (t : Fin 4096) (d : Fin 128) :
    col (kD (up a) (up b) (up v) (up e) (upG g)) h t ⟨128 + d.val, by omega⟩ = if d.val = 0 then ((-der a b v e g M h t : ℝ) : EReal) else 0 := by
  unfold col kD
  rw [Host.packed_at _ _ h t ⟨128 + d.val, by omega⟩, dif_neg (lt_at d), less]
  refine Host.dx_at _ h t d _ ?_
  rw [Host.d_at, Host.de_at, Host.exV_eq, Host.smV_eq, Host.pr_eq]
  simp only [pr_up a b g hM]
  unfold up
  simp only [← EReal.coe_mul, sum_coe]
  rw [← EReal.coe_neg]
  congr 2
  unfold der dwr
  simp only [Finset.mul_sum, Finset.sum_mul]
  rw [Finset.sum_comm]
  refine Finset.sum_congr rfl fun s _ => Finset.sum_congr rfl fun d _ => ?_
  ring

/-! ## The weights and the gradient -/

theorem score_up (h : Fin 8) (s t : Fin 4096) :
    ∑ l : Fin 256, col (kK (up b) (upG g)) h s l * Qr (kQ (up a) (up b) (upG g)) (kX (up a) (up b) (upG g)) h t l
      = (((zr a b g h t s - (M h t + Real.log (lr a b g M h t))) / l2 : ℝ) : EReal) := by
  rw [sum_cols]
  simp only [colK_lo, Qr_lo, colK_hi, Qr_hi a b g hM, ← EReal.coe_mul, sum_coe]
  have i : ∀ (x y : ℝ) (d : Fin 128), ((if d.val < 3 then 1 else if d.val = 3 then (y : EReal) else 0) * (if d.val = 0 then (x : EReal) else if 3 ≤ d.val ∧ d.val < 6 then 1 else 0))
      = (((if d = 0 then x else 0) + (if d = 3 then y else 0) : ℝ) : EReal) := by
    intro x y d
    have h0 : (d = 0) ↔ d.val = 0 := Fin.ext_iff
    have h3 : (d = 3) ↔ d.val = 3 := Fin.ext_iff
    simp only [h0, h3]
    split_ifs <;> first | omega | simp
  simp only [i, sum_coe, Finset.sum_add_distrib, Finset.sum_ite_eq', Finset.mem_univ, if_true, ← EReal.coe_add]
  congr 1
  unfold zr
  have k : (∑ d : Fin 128, b (ix2 s (hc h d)) * (a (ix2 t (hc h d)) * (scr / l2))) = (∑ d : Fin 128, a (ix2 t (hc h d)) * b (ix2 s (hc h d))) * scr / l2 := by
    rw [mul_div_assoc, Finset.sum_mul]
    refine Finset.sum_congr rfl fun d _ => ?_
    ring
  rw [k]
  ring

theorem WT_up (h : Fin 8) (s t : Fin 4096) :
    WT (kQ (up a) (up b) (upG g)) (kX (up a) (up b) (upG g)) (kK (up b) (upG g)) h s t = ((pr a b g M h t s : ℝ) : EReal) := by
  unfold WT
  rw [score_up a b g hM, pr_lse]
  split_ifs
  · exact pow2_real _
  · rw [pow2_bot, EReal.coe_zero]

theorem DS_up (h : Fin 8) (s t : Fin 4096) :
    DS (kQ (up a) (up b) (upG g)) (kX (up a) (up b) (upG g)) (kK (up b) (upG g)) (kV (up v)) (kD (up a) (up b) (up v) (up e) (upG g)) h s t
      = ((dsr a b v e g M h t s : ℝ) : EReal) := by
  unfold DS
  rw [WT_up a b g hM, sum_cols]
  simp only [colV_lo, colD_lo, colV_hi, colD_hi a b v e g hM, ← EReal.coe_mul, sum_coe]
  have i : ∀ (x : ℝ) (d : Fin 128), ((if d.val < 3 then (1 : EReal) else 0) * (if d.val = 0 then (x : EReal) else 0)) = ((if d = 0 then x else 0 : ℝ) : EReal) := by
    intro x d
    have h0 : (d = 0) ↔ d.val = 0 := Fin.ext_iff
    simp only [h0]
    split_ifs <;> first | omega | simp
  simp only [i, sum_coe, Finset.sum_ite_eq', Finset.mem_univ, if_true, ← EReal.coe_add, ← EReal.coe_mul]
  congr 1
  unfold dsr dwr
  rw [sub_eq_add_neg]
  congr 2
  exact Finset.sum_congr rfl fun d _ => mul_comm _ _

end

end Cert.Attn

end
-- ==== Proof.AttnEq.lean ====
module

public import proofs.«01_k».proof.Proof.AttnOut
public import proofs.«01_k».proof.Proof.AttnKer

@[expose] public section

set_option maxRecDepth 16384

noncomputable section

/-! # The kernel's four results are the reference's

At finite arguments: each result of the kernel is a sum over the keys or the queries of the logits' cotangent times the operands'
columns, and the scale that the operands carry comes back at the end. -/

namespace Cert.Attn

open Cert.AttnKernelIdeal Cert.AttnKernelIdeal.Gen
open Idealize.ShloMosaic Idealize.ShloMosaic.TcCoe
open Cert.Attn.Ref (hc sc)

/-- A column is its head's. -/
theorem hc_of (x : Fin 1024) : hc (hof x) (lofV x) = x := by
  ext
  show x.val / 128 * 128 + x.val % 128 = x.val
  omega

theorem row_of (t : Fin 4096) : row ⟨t.val / 1024, by omega⟩ ⟨t.val % 1024, by omega⟩ = t := by
  ext
  show 1024 * (t.val / 1024) + t.val % 1024 = t.val
  omega

section
variable (m : (ℓ : Loc nD τ sig) → Buf (Elt Ideal) ℓ) (c : Dev nD) {a b v e : RArg} {g : RGate}
  (hQ : Host.aQ m c = up a) (hK : Host.aK m c = up b) (hV : Host.aV m c = up v) (hC : Host.aC m c = upG g) (hD : Host.aD m c = up e)
include hQ hK hC

theorem opQ_eq : opQ m c = kQ (up a) (up b) (upG g) := by
  show V m c main_v139 = _
  rw [Host.V_v139, hQ, hK, hC]
  rfl
theorem opX_eq : opX m c = kX (up a) (up b) (upG g) := by
  show V m c main_v140 = _
  rw [Host.V_v140, hQ, hK, hC]
  rfl
omit hQ in
theorem opK_eq : opK m c = kK (up b) (upG g) := by
  show V m c main_v143 = _
  rw [Host.V_v143, hK, hC]
  rfl
omit hQ hK hC in
include hV in
theorem opV_eq : opV m c = kV (up v) := by
  show V m c main_v146 = _
  rw [Host.V_v146, hV]
  rfl
include hV hD in
theorem opD_eq : opD m c = kD (up a) (up b) (up v) (up e) (upG g) := by
  show V m c main_v149 = _
  rw [Host.V_v149, hQ, hK, hV, hC, hD]
  rfl

include hV hD

/-- The logits' cotangent by the reference. -/
abbrev dS (a b v e : RArg) (g : RGate) : Ref.Big := Ref.dsV (up a) (up b) (up v) (up e) (upG g)

theorem out5_eq : out5 m c = Ref.dqT (up b) (dS a b v e g) := by
  obtain ⟨M, hM⟩ := max_up a b g
  funext i
  idx_vars i
  rw [Ref.dq_at]
  show sumQ (opQ m c) (opX m c) (opK m c) (opV m c) (opD m c) (hof i1) 10 i0 (lof i1) * sc = _
  rw [sumQ_end, opQ_eq m c hQ hK hC, opX_eq m c hQ hK hC, opK_eq m c hK hC, opV_eq m c hV, opD_eq m c hQ hK hV hC hD]
  have k : ∀ s, col (kK (up b) (upG g)) (hof i1) s (lof i1) = ((b (ix2 s i1) : ℝ) : EReal) := fun s => by
    rw [show lof i1 = ⟨(lofV i1).val, by omega⟩ from rfl, colK_lo b g (hof i1) s (lofV i1), hc_of]
  simp only [k, DS_up a b v e g hM, ds_up a b v e g hM, sc_eq, up, ← EReal.coe_mul, sum_coe]
  congr 1
  rw [Finset.sum_mul]
  refine Finset.sum_congr rfl fun s _ => ?_
  show dsr a b v e g M (Ref.hd i1) i0 s * _ * _ = _
  ring

theorem out6_eq : out6 m c = Ref.dkT (up a) (dS a b v e g) := by
  obtain ⟨M, hM⟩ := max_up a b g
  funext i
  idx_vars i
  rw [Ref.dk_at]
  show sumK (opQ m c) (opX m c) (opK m c) (opV m c) (opD m c) (hof i1) (fl ⟨i0.val / 1024, by omega⟩) ⟨i0.val % 1024, by omega⟩ (lof i1) * ln2 = _
  rw [sumK_end, row_of, opQ_eq m c hQ hK hC, opX_eq m c hQ hK hC, opK_eq m c hK hC, opV_eq m c hV, opD_eq m c hQ hK hV hC hD]
  have k : ∀ t, Qr (kQ (up a) (up b) (upG g)) (kX (up a) (up b) (upG g)) (hof i1) t (lof i1) = ((a (ix2 t i1) * (scr / l2) : ℝ) : EReal) := fun t => by
    rw [show lof i1 = ⟨(lofV i1).val, by omega⟩ from rfl, Qr_lo a b g (hof i1) t (lofV i1), hc_of]
  simp only [k, DS_up a b v e g hM, ds_up a b v e g hM, sc_eq, up, ← EReal.coe_mul, sum_coe]
  congr 1
  rw [Finset.sum_mul]
  refine Finset.sum_congr rfl fun t _ => ?_
  show dsr a b v e g M (Ref.hd i1) t i0 * (_ * (scr / l2)) * l2 = _
  have := l2_ne
  field_simp

theorem out7_eq : out7 m c = Ref.dvT (up e) (Ref.prT (Ref.exV (up a) (up b) (upG g)) (Ref.smV (up a) (up b) (upG g))) := by
  obtain ⟨M, hM⟩ := max_up a b g
  funext i
  idx_vars i
  rw [Ref.dv_at]
  show sumV (opQ m c) (opX m c) (opK m c) (opD m c) (hof i1) (fl ⟨i0.val / 1024, by omega⟩) ⟨i0.val % 1024, by omega⟩ (lofV i1) = _
  rw [sumV_end, row_of, opQ_eq m c hQ hK hC, opX_eq m c hQ hK hC, opK_eq m c hK hC, opD_eq m c hQ hK hV hC hD]
  refine Finset.sum_congr rfl fun t _ => ?_
  have k : kD (up a) (up b) (up v) (up e) (upG g) (ix2 t ⟨256 * (hof i1).val + (lofV i1).val, by omega⟩) = ((e (ix2 t i1) : ℝ) : EReal) := by
    have := colD_lo a b v e g (hof i1) t (lofV i1)
    rw [hc_of] at this
    exact this
  rw [k, WT_up a b g hM, pr_up a b g hM]
  exact mul_comm _ _

theorem out8_eq : out8 m c = Ref.dcT (dS a b v e g) := by
  obtain ⟨M, hM⟩ := max_up a b g
  funext i
  idx_vars i
  rw [Ref.dc_at]
  show (0 - sumK (opQ m c) (opX m c) (opK m c) (opV m c) (opD m c) i0 (fl ⟨i1.val / 1024, by omega⟩) ⟨i1.val % 1024, by omega⟩ 131)
    + sumQ (opQ m c) (opX m c) (opK m c) (opV m c) (opD m c) i0 10 i1 128 = _
  rw [sumK_end, sumQ_end, row_of, opQ_eq m c hQ hK hC, opX_eq m c hQ hK hC, opK_eq m c hK hC, opV_eq m c hV, opD_eq m c hQ hK hV hC hD]
  have q1 : ∀ t, Qr (kQ (up a) (up b) (upG g)) (kX (up a) (up b) (upG g)) i0 t 131 = ((1 : ℝ) : EReal) := fun t => by
    rw [show (131 : Fin 256) = ⟨128 + (3 : Fin 128).val, by decide⟩ from rfl, Qr_hi a b g hM i0 t 3]
    rfl
  have k1 : ∀ s, col (kK (up b) (upG g)) i0 s 128 = ((1 : ℝ) : EReal) := fun s => by
    rw [show (128 : Fin 256) = ⟨128 + (0 : Fin 128).val, by decide⟩ from rfl, colK_hi b g i0 s 0]
    rfl
  simp only [q1, k1, DS_up a b v e g hM, ds_up a b v e g hM, mul_one, ← EReal.coe_mul, ← EReal.coe_neg, sum_coe, zero_sub, Finset.sum_neg_distrib]

end

end Cert.Attn

end
-- ==== Proof.AttnFinite.lean ====
module

public import proofs.«01_k».proof.Pre_finite
public import proofs.«01_k».proof.Proof.AttnReal
public import Idealize.ShloMosaic.Lib.ReduceAll
public import Idealize.ShloMosaic.Lib.Affine

@[expose] public section

set_option maxRecDepth 16384

noncomputable section

/-! # What the precondition says

Every element of the five arguments is a real number. -/

namespace Cert.Attn.Finite

open Idealize.ShloMosaic Cert.Pre_finite
open Cert.Attn (RArg RGate up upG)

theorem facts : Cert.Pre_finite.Facts where
  bcast_S_S4096x1024 := by decide
  reducesTo_S4096x1024_S_d0_1 := by decide
  h_S_ := by decide
  bcast_S_S8x4096 := by decide
  reducesTo_S8x4096_S_d0_1 := by decide

theorem real_of_abs (x : EReal) (h : Ideal.cmp .olt (max x (-x)) ⊤ = 1#1) : x = ((x.toReal : ℝ) : EReal) := by
  induction x using EReal.rec with
  | bot => simp [Ideal.cmp] at h
  | top => simp [Ideal.cmp] at h
  | coe r => rfl

theorem inf_word : Ideal.ofBits .f32 0x7F800000#32 = ⊤ := by simp [Ideal.ofBits, Ideal.ieee]

theorem arg (X : FVec Ideal S4096x1024 .f32) (hb : S_.BroadcastsInDim S4096x1024 (![] : Fin 0 → Fin S4096x1024.rank)) (hr : S4096x1024.ReducesTo [0, 1] S_) (hu : 0 < S_.numel)
    (h : Host.reduce IntOp.andi (cmpf .olt (Host.absf X) (broadcastInDim S4096x1024 ![] hb (constant S_ .f32 0x7F800000#32))) (constantI S_ 1 1#1) hr hu ix0 = 1#1) :
    ∃ a : RArg, X = up a := by
  haveI : Subsingleton S_.Idx := ⟨fun a b => funext fun i => i.elim0⟩
  refine ⟨fun i => (X i).toReal, funext fun i => real_of_abs _ ?_⟩
  have e := Host.reduce_andi_all _ _ _ _ _ h i
  rw [← inf_word]
  exact e

theorem gate (X : FVec Ideal S8x4096 .f32) (hb : S_.BroadcastsInDim S8x4096 (![] : Fin 0 → Fin S8x4096.rank)) (hr : S8x4096.ReducesTo [0, 1] S_) (hu : 0 < S_.numel)
    (h : Host.reduce IntOp.andi (cmpf .olt (Host.absf X) (broadcastInDim S8x4096 ![] hb (constant S_ .f32 0x7F800000#32))) (constantI S_ 1 1#1) hr hu ix0 = 1#1) :
    ∃ g : RGate, X = upG g := by
  haveI : Subsingleton S_.Idx := ⟨fun a b => funext fun i => i.elim0⟩
  refine ⟨fun i => (X i).toReal, funext fun i => real_of_abs _ ?_⟩
  have e := Host.reduce_andi_all _ _ _ _ _ h i
  rw [← inf_word]
  exact e

theorem args [Cert.Pre_finite.Facts] (A B C : FVec Ideal S4096x1024 .f32) (D : FVec Ideal S8x4096 .f32) (E : FVec Ideal S4096x1024 .f32)
    (h : Cert.Pre_finite.fn (F := Ideal) A B C D E = fun _ => 1#1) :
    ∃ (a b v e : RArg) (g : RGate), A = up a ∧ B = up b ∧ C = up v ∧ D = upG g ∧ E = up e := by
  have h0 := congrFun h ix0
  dsimp only [Cert.Pre_finite.fn, Cert.Pre_finite.fn_part1] at h0
  obtain ⟨h1, hE⟩ := IntOp.andi_eq_one.1 h0
  obtain ⟨h2, hD⟩ := IntOp.andi_eq_one.1 h1
  obtain ⟨h3, hC⟩ := IntOp.andi_eq_one.1 h2
  obtain ⟨hA, hB⟩ := IntOp.andi_eq_one.1 h3
  obtain ⟨a, ha⟩ := arg A _ _ _ hA
  obtain ⟨b, hb⟩ := arg B _ _ _ hB
  obtain ⟨v, hv⟩ := arg C _ _ _ hC
  obtain ⟨g, hg⟩ := gate D _ _ _ hD
  obtain ⟨e, he⟩ := arg E _ _ _ hE
  exact ⟨a, b, v, e, g, ha, hb, hv, hg, he⟩

end Cert.Attn.Finite

end
-- ==== Proof.AttnAlgebraic.lean ====
module

public import proofs.«01_k».proof.Defs
public import proofs.«01_k».proof.Proof.AttnClaims
public import proofs.«01_k».proof.Proof.AttnEq
public import proofs.«01_k».proof.Proof.AttnFinite

@[expose] public section

set_option maxRecDepth 16384

noncomputable section

/-! # The attention's value claim

From the same finite arguments both programs end with the same four arrays: the kernel's by its run with the sums as what it keeps, the
reference's by its generated run. -/

namespace Cert.Attn

open Idealize.ShloMosaic Idealize.ShloMosaic.TcCoe Idealize.SL.Sem

theorem frame_ideal_finite : Cert.quiescent_AttnKernelIdeal_pre_finite (hAttnKernelIdeal := Cert.AttnKernelIdeal.Gen.facts) (hPre_finite := Finite.facts) :=
  fun m ρ _ => frame_ideal m ρ trivial

theorem frame_reference_finite : Cert.quiescent_AttnReferenceIdeal_pre_finite (hAttnReferenceIdeal := Cert.AttnReferenceIdeal.Gen.facts) (hPre_finite := Finite.facts) :=
  fun m g _ => frame_reference m g trivial

theorem algebraic : Cert.algebraic_AttnKernelIdeal_AttnReferenceIdeal_pre_finite (hAttnKernelIdeal := Cert.AttnKernelIdeal.Gen.facts)
    (hAttnReferenceIdeal := Cert.AttnReferenceIdeal.Gen.facts) (hPre_finite := Finite.facts) := by
  intro m g m' g' hpre hargs
  refine ⟨fun c => out5 m c, fun c => out6 m c, fun c => out7 m c, fun c => out8 m c, ?_, ?_⟩
  · exact (θ_run _ _ _).mono (fun r h c =>
      ⟨(arrays m c r h.1).1, (arrays m c r h.1).2.1, (arrays m c r h.1).2.2.1, (arrays m c r h.1).2.2.2, kept_arg m (fun c => kept m c) r h.1 c⟩)
      (run m g (fun c => kept m c) (fun c => steps_kept m c) (fun c a0 a1 a2 hn => absurd rfl hn))
  · refine (θ_run Cert.AttnReferenceIdeal.defs _ _).mono (fun r h c => ?_) (Cert.AttnReferenceIdeal.Value.run m' g')
    obtain ⟨a, b, v, e, w, hQ, hK, hV, hC, hD⟩ := @Finite.args Finite.facts _ _ _ _ _ (hpre c)
    have rQ : Ref.aQ m' c = up a := ((hargs c).1).trans hQ
    have rK : Ref.aK m' c = up b := ((hargs c).2.1).trans hK
    have rV : Ref.aV m' c = up v := ((hargs c).2.2.1).trans hV
    have rC : Ref.aC m' c = upG w := ((hargs c).2.2.2.1).trans hC
    have rD : Ref.aD m' c = up e := ((hargs c).2.2.2.2).trans hD
    refine ⟨(h c).1.trans ?_, (h c).2.1.trans ?_, (h c).2.2.1.trans ?_, (h c).2.2.2.1.trans ?_, (h c).2.2.2.2⟩
    · rw [Ref.out0, rQ, rK, rV, rC, rD]
      exact (out5_eq m c hQ hK hV hC hD).symm
    · rw [Ref.out1, rQ, rK, rV, rC, rD]
      exact (out6_eq m c hQ hK hV hC hD).symm
    · rw [Ref.out2, rQ, rK, rC, rD]
      exact (out7_eq m c hQ hK hV hC hD).symm
    · rw [Ref.out3, rQ, rK, rV, rC, rD]
      exact (out8_eq m c hQ hK hV hC hD).symm

end Cert.Attn

end
-- ==== Proof.RowNorm.lean ====
module

public import proofs.«01_k».proof.Proof.AttnReal

@[expose] public section

set_option maxRecDepth 16384

noncomputable section

/-! # The gradient of a row's normalisation, in real numbers

A row `x` of 1024 numbers is divided by the root of its mean square `ms x` (over which a small constant is added). With `y` the
cotangent of the normalised row, `gradKer` is the gradient as a kernel writes it (the projection off the normalised row), and `gradRef`
as differentiating the definition gives it (the two factors of the square each contribute the same). -/

namespace Cert.Norm

open Idealize.ShloMosaic
open Cert.Attn (sum_coe div_real)

abbrev Row := Fin 1024 → ℝ

def eps : ℝ := 8796093 / 8796093022208
theorem eps_eq : Ideal.ofBits FTy.f32 0x358637BD#32 = ((eps : ℝ) : EReal) := by
  unfold eps
  simp [Ideal.ofBits, Ideal.ieee, -EReal.coe_mul]; norm_num
theorem kilo_eq : Ideal.ofBits FTy.f32 0x44800000#32 = ((1024 : ℝ) : EReal) := by
  simp [Ideal.ofBits, Ideal.ieee, -EReal.coe_mul]; norm_num
theorem mhalf_eq : Ideal.ofBits FTy.f32 0xBF000000#32 = ((-(1 / 2) : ℝ) : EReal) := by
  simp [Ideal.ofBits, Ideal.ieee, -EReal.coe_mul]; norm_num

def ms (x : Row) : ℝ := (∑ j, x j * x j) / 1024 + eps
def rs (x : Row) : ℝ := (Real.sqrt (ms x))⁻¹

theorem ms_pos (x : Row) : 0 < ms x := by
  have h : 0 ≤ ∑ j, x j * x j := Finset.sum_nonneg fun j _ => mul_self_nonneg _
  unfold ms eps
  positivity

theorem rsqrt_real {r : ℝ} (h : 0 < r) : Ideal.rsqrt (r : EReal) = (((Real.sqrt r)⁻¹ : ℝ) : EReal) := by
  rw [Ideal.rsqrt_coe, if_neg (not_lt.2 h.le), if_neg h.ne']

theorem rs_up (x : Row) : Ideal.rsqrt ((ms x : ℝ) : EReal) = ((rs x : ℝ) : EReal) := rsqrt_real (ms_pos x)

theorem rs_sq (x : Row) : rs x * rs x = (ms x)⁻¹ := by
  unfold rs
  rw [← mul_inv, Real.mul_self_sqrt (ms_pos x).le]

def gradKer (x y : Row) (d : Fin 1024) : ℝ := rs x * (y d - x d * rs x * ((∑ j, y j * (x j * rs x)) / 1024))

/-- What each factor of the square contributes, over its value. -/
def half (x y : Row) : ℝ := (∑ j, x j * y j) * (-(1 / 2) * (rs x / ms x)) / 1024

def gradRef (x y : Row) (d : Fin 1024) : ℝ := y d * rs x + x d * half x y + half x y * x d

theorem grad_eq (x y : Row) (d : Fin 1024) : gradKer x y d = gradRef x y d := by
  unfold gradKer gradRef half
  have e : ∑ j, y j * (x j * rs x) = (∑ j, x j * y j) * rs x := by
    rw [Finset.sum_mul]
    exact Finset.sum_congr rfl fun j _ => by ring
  have h : rs x / ms x = rs x * (rs x * rs x) := by rw [rs_sq, div_eq_mul_inv]
  rw [e, h]
  ring

end Cert.Norm

end
-- ==== Proof.InputRef.lean ====
module

public import proofs.«01_k».proof.Proof.Gen.InputReferenceIdeal.Run
public import proofs.«01_k».proof.Proof.RowNorm

@[expose] public section

set_option maxRecDepth 16384

noncomputable section

/-! # The input's gradient: the reference's two results

The seven cotangents side by side (`cat`), their product with the projections' weights (`dn`, the cotangent of the normalised input times
its gain), the row's mean square and its root, and the two results, each element by element and then as real numbers. -/

namespace Cert.Input.Ref

open Cert.InputReferenceIdeal Cert.InputReferenceIdeal.Gen
open Idealize.ShloMosaic Idealize.ShloMosaic.TcCoe

abbrev Tok := FVec Ideal S4096x1024 .f32

def cat (q k v : Tok) (f : FVec Ideal S4096x8 .f32) (a x l : Tok) : FVec Ideal S4096x6152 .f32 :=
  concatenate S4096x6152 1 [⟨S4096x1024, q⟩, ⟨S4096x1024, k⟩, ⟨S4096x1024, v⟩, ⟨S4096x8, f⟩, ⟨S4096x1024, a⟩, ⟨S4096x1024, x⟩, ⟨S4096x1024, l⟩]
    concatenates_S4096x1024_S4096x1024_S4096x1024_S4096x8_S4096x1024_S4096x1024_S4096x1024_S4096x6152_d1
def dn (Z : FVec Ideal S4096x6152 .f32) (W : FVec Ideal S1024x6152 .f32) : Tok :=
  Host.dotGeneral dot_S4096x6152_S1024x6152_S4096x1024_1_1_0_0_n_n none Z W
def sq (X : Tok) : FVec Ideal S4096x1 .f32 :=
  addf (Host.divf (broadcastInDim S4096x1 ![0] bcast_S4096_S4096x1_0 (Host.reduceAdd (mulf X X) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
def root (X : Tok) : FVec Ideal S4096x1 .f32 := Host.rsqrt (sq X)
def ct (N : Tok) (G : FVec Ideal S1x1024 .f32) : Tok := mulf N (broadcastInDim S4096x1024 ![0, 1] bcast_S1x1024_S4096x1024_0_1 G)
def part (X Y : Tok) : Tok := broadcastInDim S4096x1024 ![0] bcast_S4096_S4096x1024_0 (Host.reduceAdd (Host.divf
  (mulf (shapeCast _ (Host.reduceAdd (mulf X Y) (constant S_ .f32 0x00000000#32) reducesTo_S4096x1024_S4096_d1 h_S_) shapeCasts_S4096_S4096x1)
    (mulf (broadcastInDim S4096x1 ![] bcast_S_S4096x1 (constant S_ .f32 0xBF000000#32)) (Host.divf (root X) (sq X))))
  (broadcastInDim S4096x1 ![] bcast_S_S4096x1 (constant S_ .f32 0x44800000#32))) (constant S_ .f32 0x00000000#32) reducesTo_S4096x1_S4096_d1 h_S_)
def gx (X H Y : Tok) : Tok :=
  addf (addf (addf H (mulf Y (broadcastInDim S4096x1024 ![0, 1] bcast_S4096x1_S4096x1024_0_1 (root X)))) (mulf X (part X Y))) (mulf (part X Y) X)
def gg (X N : Tok) : FVec Ideal S8x1024 .f32 :=
  pad S8x1024 ![0, 0] ![7, 0] ![0, 0] (shapeCast _ (Host.reduceAdd (mulf (mulf X (broadcastInDim S4096x1024 ![0, 1] bcast_S4096x1_S4096x1024_0_1 (root X))) N)
    (constant S_ .f32 0x00000000#32) reducesTo_S4096x1024_S1024_d0 h_S_) shapeCasts_S1024_S1x1024) (sitofp .f32 (constantI S_ 32 0#32)) pads_S1x1024_S8x1024_070_000 h_S_

section
variable (m : (ℓ : Loc nD τ sig) → Buf (Elt Ideal) ℓ) (c : Dev nD)

abbrev aX : Tok := m ((c.tc : Thread nD τ).loc main_arg0)
abbrev aG : FVec Ideal S1x1024 .f32 := m ((c.tc : Thread nD τ).loc main_arg1)
abbrev aW : FVec Ideal S1024x6152 .f32 := m ((c.tc : Thread nD τ).loc main_arg2)
abbrev aF : FVec Ideal S4096x8 .f32 := m ((c.tc : Thread nD τ).loc main_arg6)
abbrev aH : Tok := m ((c.tc : Thread nD τ).loc main_arg10)
def aZ : FVec Ideal S4096x6152 .f32 := cat (m ((c.tc : Thread nD τ).loc main_arg3)) (m ((c.tc : Thread nD τ).loc main_arg4)) (m ((c.tc : Thread nD τ).loc main_arg5))
  (aF m c) (m ((c.tc : Thread nD τ).loc main_arg7)) (m ((c.tc : Thread nD τ).loc main_arg8)) (m ((c.tc : Thread nD τ).loc main_arg9))

theorem out0 : Value.res_main_v44 m c = gx (aX m c) (aH m c) (ct (dn (aZ m c) (aW m c)) (aG m c)) := rfl

end

theorem sq_at (X : Tok) (t : Fin 4096) : sq X (ix2 t 0)
    = Ideal.div (∑ j : Fin 1024, X (ix2 t j) * X (ix2 t j)) (Ideal.ofBits FTy.f32 0x44800000#32) + Ideal.ofBits FTy.f32 0x358637BD#32 := by
  pointwise [sq]
theorem root_at (X : Tok) (t : Fin 4096) : root X (ix2 t 0) = Ideal.rsqrt (sq X (ix2 t 0)) := rfl
theorem part_at (X Y : Tok) (t : Fin 4096) (d : Fin 1024) : part X Y (ix2 t d)
    = Ideal.div ((∑ j : Fin 1024, X (ix2 t j) * Y (ix2 t j)) * (Ideal.ofBits FTy.f32 0xBF000000#32 * Ideal.div (root X (ix2 t 0)) (sq X (ix2 t 0))))
      (Ideal.ofBits FTy.f32 0x44800000#32) := by
  pointwise [part]
  rw [Fin.sum_univ_one]
theorem gx_at (X H Y : Tok) (t : Fin 4096) (d : Fin 1024) : gx X H Y (ix2 t d)
    = H (ix2 t d) + Y (ix2 t d) * root X (ix2 t 0) + X (ix2 t d) * part X Y (ix2 t d) + part X Y (ix2 t d) * X (ix2 t d) := by
  pointwise [gx]
theorem ct_at (N : Tok) (G : FVec Ideal S1x1024 .f32) (t : Fin 4096) (d : Fin 1024) : ct N G (ix2 t d) = N (ix2 t d) * G (ix2 0 d) := by
  pointwise [ct]
theorem dn_at (Z : FVec Ideal S4096x6152 .f32) (W : FVec Ideal S1024x6152 .f32) (t : Fin 4096) (d : Fin 1024) :
    dn Z W (ix2 t d) = ∑ k : Fin 6152, Z (ix2 t k) * W (ix2 d k) := by
  pointwise [dn]
theorem gg_at (X N : Tok) (i : Fin 8) (d : Fin 1024) :
    gg X N (ix2 i d) = if i.val = 0 then ∑ t : Fin 4096, X (ix2 t d) * root X (ix2 t 0) * N (ix2 t d) else 0 := by
  pointwise [gg]
  rw [show (FloatOps.sitofp FTy.f32 0#32 : Ideal .f32) = (0 : EReal) from by
    change (((0#32 : BitVec 32).toInt : ℝ) : EReal) = 0; simp]
  by_cases h : i.val = 0
  · rw [dif_pos (by omega), if_pos h]
  · rw [dif_neg (by omega), if_neg h]

/-- A sum over `a + b` places in two parts. -/
theorem split {M : Type} [AddCommMonoid M] {n : ℕ} (a b : ℕ) (h : n = a + b) (f : Fin n → M) :
    ∑ i, f i = ∑ i : Fin a, f ⟨i.val, by omega⟩ + ∑ i : Fin b, f ⟨a + i.val, by omega⟩ := by
  subst h
  exact Fin.sum_univ_add f

theorem cat_at (q k v : Tok) (f : FVec Ideal S4096x8 .f32) (a x l : Tok) (t : Fin 4096) (i : Fin 6152) :
    cat q k v f a x l (ix2 t i) = if h : i.val < 1024 then q (ix2 t ⟨i.val, h⟩)
      else if h : i.val - 1024 < 1024 then k (ix2 t ⟨i.val - 1024, h⟩)
      else if h : i.val - 1024 - 1024 < 1024 then v (ix2 t ⟨i.val - 1024 - 1024, h⟩)
      else if h : i.val - 1024 - 1024 - 1024 < 8 then f (ix2 t ⟨i.val - 1024 - 1024 - 1024, h⟩)
      else if h : i.val - 1024 - 1024 - 1024 - 8 < 1024 then a (ix2 t ⟨i.val - 1024 - 1024 - 1024 - 8, h⟩)
      else if h : i.val - 1024 - 1024 - 1024 - 8 - 1024 < 1024 then x (ix2 t ⟨i.val - 1024 - 1024 - 1024 - 8 - 1024, h⟩)
      else l (ix2 t ⟨i.val - 1024 - 1024 - 1024 - 8 - 1024 - 1024, by omega⟩) := by
  pointwise [cat]

/-- The product with the projections' weights, one projection at a time. -/
theorem dn_cat (q k v : Tok) (f : FVec Ideal S4096x8 .f32) (a x l : Tok) (W : FVec Ideal S1024x6152 .f32) (t : Fin 4096) (d : Fin 1024) :
    dn (cat q k v f a x l) W (ix2 t d)
      = ∑ j : Fin 1024, q (ix2 t j) * W (ix2 d ⟨j.val, by omega⟩)
        + (∑ j : Fin 1024, k (ix2 t j) * W (ix2 d ⟨1024 + j.val, by omega⟩)
        + (∑ j : Fin 1024, v (ix2 t j) * W (ix2 d ⟨1024 + (1024 + j.val), by omega⟩)
        + (∑ j : Fin 8, f (ix2 t j) * W (ix2 d ⟨1024 + (1024 + (1024 + j.val)), by omega⟩)
        + (∑ j : Fin 1024, a (ix2 t j) * W (ix2 d ⟨1024 + (1024 + (1024 + (8 + j.val))), by omega⟩)
        + (∑ j : Fin 1024, x (ix2 t j) * W (ix2 d ⟨1024 + (1024 + (1024 + (8 + (1024 + j.val)))), by omega⟩)
        + ∑ j : Fin 1024, l (ix2 t j) * W (ix2 d ⟨1024 + (1024 + (1024 + (8 + (1024 + (1024 + j.val))))), by omega⟩)))))) := by
  rw [dn_at, split 1024 5128 rfl, split 1024 4104 rfl, split 1024 3080 rfl, split 8 3072 rfl, split 1024 2048 rfl, split 1024 1024 rfl]
  refine congrArg₂ (· + ·) (Finset.sum_congr rfl fun j _ => congrArg₂ (· * ·) ?_ rfl) ?_
  · rw [cat_at, dif_pos (by dsimp only; omega)]
  refine congrArg₂ (· + ·) (Finset.sum_congr rfl fun j _ => congrArg₂ (· * ·) ?_ rfl) ?_
  · rw [cat_at, dif_neg (by dsimp only; omega), dif_pos (by dsimp only; omega)]
    exact congrArg _ (congrArg (ix2 t) (Fin.ext (by dsimp only; omega)))
  refine congrArg₂ (· + ·) (Finset.sum_congr rfl fun j _ => congrArg₂ (· * ·) ?_ rfl) ?_
  · rw [cat_at, dif_neg (by dsimp only; omega), dif_neg (by dsimp only; omega), dif_pos (by dsimp only; omega)]
    exact congrArg _ (congrArg (ix2 t) (Fin.ext (by dsimp only; omega)))
  refine congrArg₂ (· + ·) (Finset.sum_congr rfl fun j _ => congrArg₂ (· * ·) ?_ rfl) ?_
  · rw [cat_at, dif_neg (by dsimp only; omega), dif_neg (by dsimp only; omega), dif_neg (by dsimp only; omega), dif_pos (by dsimp only; omega)]
    exact congrArg _ (congrArg (ix2 t) (Fin.ext (by dsimp only; omega)))
  refine congrArg₂ (· + ·) (Finset.sum_congr rfl fun j _ => congrArg₂ (· * ·) ?_ rfl) ?_
  · rw [cat_at, dif_neg (by dsimp only; omega), dif_neg (by dsimp only; omega), dif_neg (by dsimp only; omega), dif_neg (by dsimp only; omega), dif_pos (by dsimp only; omega)]
    exact congrArg _ (congrArg (ix2 t) (Fin.ext (by dsimp only; omega)))
  refine congrArg₂ (· + ·) (Finset.sum_congr rfl fun j _ => congrArg₂ (· * ·) ?_ rfl) ?_
  · rw [cat_at, dif_neg (by dsimp only; omega), dif_neg (by dsimp only; omega), dif_neg (by dsimp only; omega), dif_neg (by dsimp only; omega), dif_neg (by dsimp only; omega), dif_pos (by dsimp only; omega)]
    exact congrArg _ (congrArg (ix2 t) (Fin.ext (by dsimp only; omega)))
  refine Finset.sum_congr rfl fun j _ => congrArg₂ (· * ·) ?_ rfl
  rw [cat_at, dif_neg (by dsimp only; omega), dif_neg (by dsimp only; omega), dif_neg (by dsimp only; omega), dif_neg (by dsimp only; omega), dif_neg (by dsimp only; omega), dif_neg (by dsimp only; omega)]
  exact congrArg _ (congrArg (ix2 t) (Fin.ext (by dsimp only; omega)))

/-! ## In real numbers -/

open Cert.Attn (RArg up sum_coe div_real)
open Cert.Norm

abbrev RRow := S1x1024.Idx → ℝ
def up1 (g : RRow) : FVec Ideal S1x1024 .f32 := fun i => (g i : EReal)

/-- A row of an array. -/
def rowR (a : RArg) (t : Fin 4096) : Row := fun j => a (ix2 t j)

/-- The cotangent of the normalised input times the gain. -/
def yr (n : RArg) (g : RRow) (t : Fin 4096) : Row := fun j => n (ix2 t j) * g (ix2 0 j)

theorem sq_up (x : RArg) (t : Fin 4096) : sq (up x) (ix2 t 0) = ((ms (rowR x t) : ℝ) : EReal) := by
  rw [sq_at, kilo_eq, eps_eq]
  unfold up ms rowR
  simp only [← EReal.coe_mul, sum_coe, div_real _ (show (1024 : ℝ) ≠ 0 by norm_num), ← EReal.coe_add]

theorem root_up (x : RArg) (t : Fin 4096) : root (up x) (ix2 t 0) = ((rs (rowR x t) : ℝ) : EReal) := by
  rw [root_at, sq_up, rs_up]

theorem gx_up (x h n : RArg) (g : RRow) (t : Fin 4096) (d : Fin 1024) :
    gx (up x) (up h) (ct (up n) (up1 g)) (ix2 t d) = ((h (ix2 t d) + gradRef (rowR x t) (yr n g t) d : ℝ) : EReal) := by
  rw [gx_at, part_at, root_up, sq_up, kilo_eq, mhalf_eq]
  simp only [ct_at]
  unfold up up1
  simp only [← EReal.coe_mul, sum_coe, div_real _ (ms_pos (rowR x t)).ne', div_real _ (show (1024 : ℝ) ≠ 0 by norm_num), ← EReal.coe_add]
  congr 1
  unfold gradRef half rowR yr
  ring

end Cert.Input.Ref

end
-- ==== Proof.InputKer.lean ====
module

public import proofs.«01_k».proof.Proof.Gen.InputKernelIdeal.Value
public import proofs.«01_k».proof.Proof.InputRef
public import proofs.«01_k».proof.Proof.FgateMath
public import proofs.«01_k».proof.Proof.Stores

@[expose] public section

set_option maxRecDepth 16384

noncomputable section

/-! # What the kernel of the input's gradient computes

The 4096 rows go in 16 tiles of 256. A tile's gradient of the normalised input is seven products with rows of the projections' weights,
the forget gate's with 8 rows padded to 128. -/

namespace Cert.Input.Ker

open Cert.InputKernelIdeal Cert.InputKernelIdeal.Gen Idealize.ShloMosaic Idealize.ShloMosaic.TcCoe Idealize.SL.Sem
open Idealize.ShloMosaic.Pipeline (Dat)
open Cert.Input.Ref (Tok cat dn root)
open Cert.Fgate (ext)

/-- The tile's seven products, as they are added. -/
theorem pay6 (q k v a x l : Vec Ideal S256x1024 .bf16) (f : Vec Ideal S256x128 .bf16) (wq wk wv wa wx wl : Vec Ideal S1024x1024 .bf16)
    (wf : Vec Ideal S128x1024 .bf16) (r : Fin 256) (d : Fin 1024) :
    k0_pay6 (k0_pay4 f wf q wq a wa k wk) (k0_pay5 x wx) v wv l wl (ix2 r d)
      = ((((((∑ j : Fin 128, f (ix2 r j) * wf (ix2 j d)) + ∑ j : Fin 1024, q (ix2 r j) * wq (ix2 j d)) + ∑ j : Fin 1024, a (ix2 r j) * wa (ix2 j d))
        + ∑ j : Fin 1024, k (ix2 r j) * wk (ix2 j d)) + ∑ j : Fin 1024, x (ix2 r j) * wx (ix2 j d)) + ∑ j : Fin 1024, v (ix2 r j) * wv (ix2 j d))
        + ∑ j : Fin 1024, l (ix2 r j) * wl (ix2 j d) := by
  pointwise [k0_pay6, k0_pay4, k0_pay5]

theorem pay7 (x : Vec Ideal S256x1024 .f32) (r : Fin 256) :
    k0_pay7 x (ix2 r 0) = Ideal.rsqrt (Ideal.div (∑ j : Fin 1024, x (ix2 r j) * x (ix2 r j)) (Ideal.ofBits FTy.f32 0x44800000#32) + Ideal.ofBits FTy.f32 0x358637BD#32) := by
  pointwise [k0_pay7]

theorem pay8 (x : Vec Ideal S256x1024 .f32) (r : Fin 256) (d : Fin 1024) : k0_pay8 x (ix2 r d) = x (ix2 r d) * k0_pay7 x (ix2 r 0) := by
  pointwise [k0_pay8]

theorem pay9 (p q : FVec Ideal S256x1024 .f32) (v l : Vec Ideal S256x1024 .bf16) (wv wl : Vec Ideal S1024x1024 .bf16)
    (x h : Vec Ideal S256x1024 .f32) (g : Vec Ideal S1x1024 .f32) (r : Fin 256) (d : Fin 1024) :
    k0_pay9 p q v wv l wl x h g (ix2 r d) = h (ix2 r d) + k0_pay7 x (ix2 r 0) * (k0_pay6 p q v wv l wl (ix2 r d) * g (ix2 0 d)
      - x (ix2 r d) * k0_pay7 x (ix2 r 0) * Ideal.div (∑ j : Fin 1024, k0_pay6 p q v wv l wl (ix2 r j) * g (ix2 0 j) * (x (ix2 r j) * k0_pay7 x (ix2 r 0)))
        (Ideal.ofBits FTy.f32 0x44800000#32)) := by
  pointwise [k0_pay9, k0_pay8]

theorem pay2 (n x : FVec Ideal S256x1024 .f32) (v : Vec Ideal S1x1024 .f32) (d : Fin 1024) :
    k0_pay2 n x v (ix2 0 d) = v (ix2 0 d) + ∑ r : Fin 256, n (ix2 r d) * x (ix2 r d) := by
  pointwise [k0_pay2]

variable (m : (ℓ : Loc nD τ sig) → Buf (Elt Ideal) ℓ) (c : Dev nD)

abbrev aX : Tok := m ((c : Thread nD τ).loc main_arg0)
abbrev aG : FVec Ideal S1x1024 .f32 := m ((c : Thread nD τ).loc main_arg1)
abbrev aW : FVec Ideal S1024x6152 .f32 := m ((c : Thread nD τ).loc main_arg2)
abbrev aQ : Tok := m ((c : Thread nD τ).loc main_arg3)
abbrev aK : Tok := m ((c : Thread nD τ).loc main_arg4)
abbrev aV : Tok := m ((c : Thread nD τ).loc main_arg5)
abbrev aF : FVec Ideal S4096x8 .f32 := m ((c : Thread nD τ).loc main_arg6)
abbrev aA : Tok := m ((c : Thread nD τ).loc main_arg7)
abbrev aP : Tok := m ((c : Thread nD τ).loc main_arg8)
abbrev aL : Tok := m ((c : Thread nD τ).loc main_arg9)
abbrev aH : Tok := m ((c : Thread nD τ).loc main_arg10)

/-- The gradient of the normalised input. -/
def nrm : Tok := dn (cat (aQ m c) (aK m c) (aV m c) (aF m c) (aA m c) (aP m c) (aL m c)) (aW m c)

/-- Row `x` of the tile that point `t` works on. -/
def row (t : Fin cfg0.N) (x : Fin 256) : Fin 4096 := ⟨t.val * 256 + x.val, by have := lt_of_lt_of_eq t.isLt (show cfg0.N = 16 from N_0); omega⟩

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![t.val, 0]
    ∧ win0_11.index t = ![0, 0] ∧ win0_12.index t = ![t.val, 0] ∧ win0_13.index t = ![t.val, 0] ∧ win0_14.index t = ![0, 0] :=
  (by decide +kernel : ∀ t : Fin grid0.N, _)

theorem zero16 : (FloatOps.sitofp FTy.bf16 0#32 : Ideal .bf16) = (0 : EReal) := by
  change (((0#32 : BitVec 32).toInt : ℝ) : EReal) = 0; simp
theorem zero32 : (FloatOps.sitofp FTy.f32 0#32 : Ideal .f32) = (0 : EReal) := by
  change (((0#32 : BitVec 32).toInt : ℝ) : EReal) = 0; simp

theorem V4 (t : Fin 4096) (d : Fin 1024) : (V m c main_v4 : FVec Ideal S4096x1024 .bf16) (ix2 t d) = aQ m c (ix2 t d) := by
  unfold V
  simp only [hostOps0, hostOps0_1, hostOps0_2, hostOps0_3, hostOps0_4, List.flatten_cons, List.flatten_nil, List.append_nil, List.cons_append, List.nil_append]
  after_results
  pointwise [aQ]
theorem V5 (t : Fin 4096) (d : Fin 1024) : (V m c main_v5 : FVec Ideal S4096x1024 .bf16) (ix2 t d) = aK m c (ix2 t d) := by
  unfold V
  simp only [hostOps0, hostOps0_1, hostOps0_2, hostOps0_3, hostOps0_4, List.flatten_cons, List.flatten_nil, List.append_nil, List.cons_append, List.nil_append]
  after_results
  pointwise [aK]
theorem V6 (t : Fin 4096) (d : Fin 1024) : (V m c main_v6 : FVec Ideal S4096x1024 .bf16) (ix2 t d) = aV m c (ix2 t d) := by
  unfold V
  simp only [hostOps0, hostOps0_1, hostOps0_2, hostOps0_3, hostOps0_4, List.flatten_cons, List.flatten_nil, List.append_nil, List.cons_append, List.nil_append]
  after_results
  pointwise [aV]
theorem V7 (t : Fin 4096) (d : Fin 1024) : (V m c main_v7 : FVec Ideal S4096x1024 .bf16) (ix2 t d) = aA m c (ix2 t d) := by
  unfold V
  simp only [hostOps0, hostOps0_1, hostOps0_2, hostOps0_3, hostOps0_4, List.flatten_cons, List.flatten_nil, List.append_nil, List.cons_append, List.nil_append]
  after_results
  pointwise [aA]
theorem V8 (t : Fin 4096) (d : Fin 1024) : (V m c main_v8 : FVec Ideal S4096x1024 .bf16) (ix2 t d) = aP m c (ix2 t d) := by
  unfold V
  simp only [hostOps0, hostOps0_1, hostOps0_2, hostOps0_3, hostOps0_4, List.flatten_cons, List.flatten_nil, List.append_nil, List.cons_append, List.nil_append]
  after_results
  pointwise [aP]
theorem V9 (t : Fin 4096) (d : Fin 1024) : (V m c main_v9 : FVec Ideal S4096x1024 .bf16) (ix2 t d) = aL m c (ix2 t d) := by
  unfold V
  simp only [hostOps0, hostOps0_1, hostOps0_2, hostOps0_3, hostOps0_4, List.flatten_cons, List.flatten_nil, List.append_nil, List.cons_append, List.nil_append]
  after_results
  pointwise [aL]

theorem V11 (t : Fin 4096) (j : Fin 128) :
    (V m c main_v11 : FVec Ideal S4096x128 .bf16) (ix2 t j) = if h : j.val < 8 then aF m c (ix2 t ⟨j.val, h⟩) else 0 := by
  unfold V
  simp only [hostOps0, hostOps0_1, hostOps0_2, hostOps0_3, hostOps0_4, List.flatten_cons, List.flatten_nil, List.append_nil, List.cons_append, List.nil_append]
  after_results
  change (truncf .bf16 (pad S4096x128 ![0, 0] ![0, 120] ![0, 0] (aF m c) (sitofp .f32 (constantI S_ 32 0#32)) pads_S4096x8_S4096x128_000_01200 h_S_
    : FVec Ideal S4096x128 .f32) bitsLt_bf16_f32 : FVec Ideal S4096x128 .bf16) (ix2 t j) = _
  pointwise []
  rw [zero32]

theorem V3 (j : Fin 128) (d : Fin 1024) :
    (V m c main_v3 : FVec Ideal S128x1024 .bf16) (ix2 j d) = if h : j.val < 8 then aW m c (ix2 d ⟨3072 + j.val, by omega⟩) else 0 := by
  unfold V
  simp only [hostOps0, hostOps0_1, hostOps0_2, hostOps0_3, hostOps0_4, List.flatten_cons, List.flatten_nil, List.append_nil, List.cons_append, List.nil_append]
  after_results
  change (pad S128x1024 ![0, 0] ![120, 0] ![0, 0] (extractStridedSlice S8x1024 ![3072, 0] (truncf .bf16 (transpose S6152x1024 [1, 0] (aW m c)
      transposes_S1024x6152_S6152x1024_1_0 : FVec Ideal S6152x1024 .f32) bitsLt_bf16_f32 : FVec Ideal S6152x1024 .bf16) slices_S6152x1024_S8x1024_3072_0 : FVec Ideal S8x1024 .bf16)
    (sitofp .bf16 (constantI S_ 32 0#32)) pads_S8x1024_S128x1024_01200_000 h_S_ : FVec Ideal S128x1024 .bf16) (ix2 j d) = _
  pointwise []
  rw [zero16]

theorem V12 (j : Fin 3072) (d : Fin 1024) :
    (V m c main_v12 : FVec Ideal S3072x1024 .bf16) (ix2 j d) = aW m c (ix2 d ⟨j.val, by omega⟩) := by
  unfold V
  simp only [hostOps0, hostOps0_1, hostOps0_2, hostOps0_3, hostOps0_4, List.flatten_cons, List.flatten_nil, List.append_nil, List.cons_append, List.nil_append]
  after_results
  pointwise [aW]

theorem V13 (j : Fin 3072) (d : Fin 1024) :
    (V m c main_v13 : FVec Ideal S3072x1024 .bf16) (ix2 j d) = aW m c (ix2 d ⟨3080 + j.val, by omega⟩) := by
  unfold V
  simp only [hostOps0, hostOps0_1, hostOps0_2, hostOps0_3, hostOps0_4, List.flatten_cons, List.flatten_nil, List.append_nil, List.cons_append, List.nil_append]
  after_results
  pointwise [aW]

theorem iblk0 (t : Fin cfg0.N) (x : Fin 256) (d : Fin 1024) : (iblk m c 0 t : FVec Ideal S256x1024 .bf16) (ix2 x d) = aQ m c (ix2 (row t x) d) := by
  refine Eq.trans ?_ (V4 m c (row t x) d)
  blk_ext [iblk, idx t, row]
theorem iblk1 (t : Fin cfg0.N) (x : Fin 256) (d : Fin 1024) : (iblk m c 1 t : FVec Ideal S256x1024 .bf16) (ix2 x d) = aK m c (ix2 (row t x) d) := by
  refine Eq.trans ?_ (V5 m c (row t x) d)
  blk_ext [iblk, idx t, row]
theorem iblk2 (t : Fin cfg0.N) (x : Fin 256) (d : Fin 1024) : (iblk m c 2 t : FVec Ideal S256x1024 .bf16) (ix2 x d) = aV m c (ix2 (row t x) d) := by
  refine Eq.trans ?_ (V6 m c (row t x) d)
  blk_ext [iblk, idx t, row]
theorem iblk3 (t : Fin cfg0.N) (x : Fin 256) (d : Fin 1024) : (iblk m c 3 t : FVec Ideal S256x1024 .bf16) (ix2 x d) = aA m c (ix2 (row t x) d) := by
  refine Eq.trans ?_ (V7 m c (row t x) d)
  blk_ext [iblk, idx t, row]
theorem iblk4 (t : Fin cfg0.N) (x : Fin 256) (d : Fin 1024) : (iblk m c 4 t : FVec Ideal S256x1024 .bf16) (ix2 x d) = aP m c (ix2 (row t x) d) := by
  refine Eq.trans ?_ (V8 m c (row t x) d)
  blk_ext [iblk, idx t, row]
theorem iblk5 (t : Fin cfg0.N) (x : Fin 256) (d : Fin 1024) : (iblk m c 5 t : FVec Ideal S256x1024 .bf16) (ix2 x d) = aL m c (ix2 (row t x) d) := by
  refine Eq.trans ?_ (V9 m c (row t x) d)
  blk_ext [iblk, idx t, row]
theorem iblk6 (t : Fin cfg0.N) (x : Fin 256) (j : Fin 128) :
    (iblk m c 6 t : FVec Ideal S256x128 .bf16) (ix2 x j) = if h : j.val < 8 then aF m c (ix2 (row t x) ⟨j.val, h⟩) else 0 := by
  refine Eq.trans ?_ (V11 m c (row t x) j)
  blk_ext [iblk, idx t, row]
theorem iblk7 (t : Fin cfg0.N) (j : Fin 3072) (d : Fin 1024) :
    (iblk m c 7 t : FVec Ideal S3072x1024 .bf16) (ix2 j d) = aW m c (ix2 d ⟨j.val, by omega⟩) := by
  refine Eq.trans ?_ (V12 m c j d)
  blk_ext [iblk, idx t, row]
theorem iblk8 (t : Fin cfg0.N) (j : Fin 128) (d : Fin 1024) :
    (iblk m c 8 t : FVec Ideal S128x1024 .bf16) (ix2 j d) = if h : j.val < 8 then aW m c (ix2 d ⟨3072 + j.val, by omega⟩) else 0 := by
  refine Eq.trans ?_ (V3 m c j d)
  blk_ext [iblk, idx t, row]
theorem iblk9 (t : Fin cfg0.N) (j : Fin 3072) (d : Fin 1024) :
    (iblk m c 9 t : FVec Ideal S3072x1024 .bf16) (ix2 j d) = aW m c (ix2 d ⟨3080 + j.val, by omega⟩) := by
  refine Eq.trans ?_ (V13 m c j d)
  blk_ext [iblk, idx t, row]
theorem iblk10 (t : Fin cfg0.N) (x : Fin 256) (d : Fin 1024) : (iblk m c 10 t : FVec Ideal S256x1024 .f32) (ix2 x d) = aX m c (ix2 (row t x) d) := by
  refine Eq.trans ?_ (congrFun (V_main_arg0 m c) (ix2 (row t x) d))
  blk_ext [iblk, idx t, row]
theorem iblk11 (t : Fin cfg0.N) (d : Fin 1024) : (iblk m c 11 t : FVec Ideal S1x1024 .f32) (ix2 0 d) = aG m c (ix2 0 d) := by
  refine Eq.trans ?_ (congrFun (V_main_arg1 m c) (ix2 0 d))
  blk_ext [iblk, idx t, row]
theorem iblk12 (t : Fin cfg0.N) (x : Fin 256) (d : Fin 1024) : (iblk m c 12 t : FVec Ideal S256x1024 .f32) (ix2 x d) = aH m c (ix2 (row t x) d) := by
  refine Eq.trans ?_ (congrFun (V_main_arg10 m c) (ix2 (row t x) d))
  blk_ext [iblk, idx t, row]

end Cert.Input.Ker

end
-- ==== Proof.InputTiles.lean ====
module

public import proofs.«01_k».proof.Proof.InputKer

@[expose] public section

set_option maxRecDepth 16384

noncomputable section

/-! # The tiles of the input's gradient put together

Each tile writes its rows of the gradient, and adds its rows' part of the gain's gradient to the first row of the second result. -/

namespace Cert.Input.Ker

open Cert.InputKernelIdeal Cert.InputKernelIdeal.Gen Idealize.ShloMosaic Idealize.ShloMosaic.TcCoe Idealize.SL.Sem
open Idealize.ShloMosaic.Pipeline (Dat)
open Cert.Input.Ref (Tok cat dn root)
open Cert.Fgate (ext)

/-- The sum of the rows before row `n`. -/
def pre (g : Fin 4096 → EReal) (n : ℕ) : EReal := ∑ j ∈ Finset.range n, ext g j

theorem pre_zero (g : Fin 4096 → EReal) : pre g 0 = 0 := by simp [pre]
theorem pre_tile (g : Fin 4096 → EReal) (a : ℕ) : pre g (a + 256) = pre g a + ∑ x : Fin 256, ext g (a + x.val) := by
  unfold pre
  rw [Finset.sum_range_add, Finset.sum_range (fun x => ext g (a + x))]
theorem pre_all (g : Fin 4096 → EReal) : pre g 4096 = ∑ t, g t := by
  unfold pre
  rw [Finset.sum_range]
  exact Finset.sum_congr rfl fun t _ => dif_pos t.isLt

/-- A sum over 128 lanes whose terms past the eighth vanish. -/
theorem lanes (f : Fin 128 → EReal) (g : Fin 8 → EReal) (h : ∀ j, f j = if hj : j.val < 8 then g ⟨j.val, hj⟩ else 0) : ∑ j, f j = ∑ j, g j := by
  rw [Cert.Input.Ref.split 8 120 rfl]
  rw [Finset.sum_eq_zero (s := (Finset.univ : Finset (Fin 120))) (fun j _ => by rw [h, dif_neg (by dsimp only; omega)]), add_zero]
  exact Finset.sum_congr rfl fun j _ => by rw [h, dif_pos j.isLt]

/-- A load of 1024 of the weights' rows. -/
theorem ldw (X : Vec Ideal S3072x1024 .bf16) (o : ℕ) (h) (ho : o + 1024 ≤ 3072) (j d : Fin 1024) :
    View.ld X (Rect.unit ![o, 0] ![1024, 1024] h : Rect S3072x1024) (ix2 j d) = X (ix2 ⟨o + j.val, by omega⟩ d) := by
  refine View.ld_unit_apply_of _ _ _ _ _ _ fun a => ?_
  match a with
  | ⟨0, _⟩ => rfl
  | ⟨1, _⟩ => exact (Nat.zero_add _).symm

variable (m : (ℓ : Loc nD τ sig) → Buf (Elt Ideal) ℓ) (c : Dev nD)

abbrev p4 (t : Fin cfg0.N) : FVec Ideal S256x1024 .f32 :=
  k0_pay4 (iblk m c 6 t) (iblk m c 8 t) (iblk m c 0 t) (View.ld (iblk m c 7 t) (Rect.unit ![0, 0] ![1024, 1024] inb_S3072x1024_S1024x1024_0_0))
    (iblk m c 3 t) (View.ld (iblk m c 9 t) (Rect.unit ![0, 0] ![1024, 1024] inb_S3072x1024_S1024x1024_0_0))
    (iblk m c 1 t) (View.ld (iblk m c 7 t) (Rect.unit ![1024, 0] ![1024, 1024] inb_S3072x1024_S1024x1024_1024_0))
abbrev p5 (t : Fin cfg0.N) : FVec Ideal S256x1024 .f32 :=
  k0_pay5 (iblk m c 4 t) (View.ld (iblk m c 9 t) (Rect.unit ![1024, 0] ![1024, 1024] inb_S3072x1024_S1024x1024_1024_0))
abbrev p6 (t : Fin cfg0.N) : FVec Ideal S256x1024 .f32 :=
  k0_pay6 (p4 m c t) (p5 m c t) (iblk m c 2 t) (View.ld (iblk m c 7 t) (Rect.unit ![2048, 0] ![1024, 1024] inb_S3072x1024_S1024x1024_2048_0))
    (iblk m c 5 t) (View.ld (iblk m c 9 t) (Rect.unit ![2048, 0] ![1024, 1024] inb_S3072x1024_S1024x1024_2048_0))
abbrev p9 (t : Fin cfg0.N) : FVec Ideal S256x1024 .f32 :=
  k0_pay9 (p4 m c t) (p5 m c t) (iblk m c 2 t) (View.ld (iblk m c 7 t) (Rect.unit ![2048, 0] ![1024, 1024] inb_S3072x1024_S1024x1024_2048_0))
    (iblk m c 5 t) (View.ld (iblk m c 9 t) (Rect.unit ![2048, 0] ![1024, 1024] inb_S3072x1024_S1024x1024_2048_0))
    (iblk m c 10 t) (iblk m c 12 t) (iblk m c 11 t)

/-- Seven summands in the kernel's order and in the reference's. -/
theorem reorder (f q a k x v l : EReal) : ((((((f + q) + a) + k) + x) + v) + l) = q + (k + (v + (f + (a + (x + l))))) := by abel

/-- The tile's gradient of the normalised input. -/
theorem p6_at (t : Fin cfg0.N) (r : Fin 256) (d : Fin 1024) : p6 m c t (ix2 r d) = nrm m c (ix2 (row t r) d) := by
  refine (pay6 _ _ _ _ _ _ _ _ _ _ _ _ _ _ r d).trans ?_
  refine Eq.trans ?_ (Cert.Input.Ref.dn_cat _ _ _ _ _ _ _ _ (row t r) d).symm
  refine Eq.trans ?_ (reorder _ _ _ _ _ _ _)
  refine congrArg₂ (· + ·) (congrArg₂ (· + ·) (congrArg₂ (· + ·) (congrArg₂ (· + ·) (congrArg₂ (· + ·) (congrArg₂ (· + ·) ?_ ?_) ?_) ?_) ?_) ?_) ?_
  · refine lanes _ _ fun j => ?_
    rw [iblk6, iblk8]
    by_cases hj : j.val < 8
    · rw [dif_pos hj, dif_pos hj, dif_pos hj]
      exact congrArg _ (congrArg _ (congrArg (ix2 d) (Fin.ext (by dsimp only; omega))))
    · rw [dif_neg hj, dif_neg hj, dif_neg hj, zero_mul]
  all_goals refine Finset.sum_congr rfl fun j _ => ?_
  · rw [iblk0, ldw _ _ _ (by omega), iblk7]
    exact congrArg _ (congrArg _ (congrArg (ix2 d) (Fin.ext (by dsimp only; omega))))
  · rw [iblk3, ldw _ _ _ (by omega), iblk9]
    exact congrArg _ (congrArg _ (congrArg (ix2 d) (Fin.ext (by dsimp only; omega))))
  · rw [iblk1, ldw _ _ _ (by omega), iblk7]
  · rw [iblk4, ldw _ _ _ (by omega), iblk9]
    exact congrArg _ (congrArg _ (congrArg (ix2 d) (Fin.ext (by dsimp only; omega))))
  · rw [iblk2, ldw _ _ _ (by omega), iblk7]
    exact congrArg _ (congrArg _ (congrArg (ix2 d) (Fin.ext (by dsimp only; omega))))
  · rw [iblk5, ldw _ _ _ (by omega), iblk9]
    exact congrArg _ (congrArg _ (congrArg (ix2 d) (Fin.ext (by dsimp only; omega))))

theorem root_blk (t : Fin cfg0.N) (r : Fin 256) : k0_pay7 (iblk m c 10 t) (ix2 r 0) = root (aX m c) (ix2 (row t r) 0) := by
  rw [pay7, Cert.Input.Ref.root_at, Cert.Input.Ref.sq_at]
  simp only [iblk10]

/-- The gradient of the input in row `t`. -/
def gxK (t : Fin 4096) (d : Fin 1024) : EReal :=
  aH m c (ix2 t d) + root (aX m c) (ix2 t 0) * (nrm m c (ix2 t d) * aG m c (ix2 0 d)
    - aX m c (ix2 t d) * root (aX m c) (ix2 t 0) * Ideal.div (∑ j : Fin 1024, nrm m c (ix2 t j) * aG m c (ix2 0 j) * (aX m c (ix2 t j) * root (aX m c) (ix2 t 0)))
      (Ideal.ofBits FTy.f32 0x44800000#32))

theorem p9_at (t : Fin cfg0.N) (r : Fin 256) (d : Fin 1024) : p9 m c t (ix2 r d) = gxK m c (row t r) d := by
  refine (pay9 _ _ _ _ _ _ _ _ _ r d).trans ?_
  unfold gxK
  rw [root_blk, iblk12, iblk10, iblk11]
  refine congrArg₂ (fun a b => _ + _ * (a * _ - _ * Ideal.div b _)) (p6_at m c t r d) (Finset.sum_congr rfl fun j _ => ?_)
  rw [iblk11, iblk10]
  exact congrArg (fun a => a * _ * _) (p6_at m c t r j)

/-- Row `t`'s part of the gain's gradient. -/
def ggK (d : Fin 1024) (t : Fin 4096) : EReal := nrm m c (ix2 t d) * (aX m c (ix2 t d) * root (aX m c) (ix2 t 0))

theorem accOut (t : Fin cfg0.N) (v : Vec Ideal S1x1024 .f32) (d : Fin 1024) (hv : v (ix2 0 d) = pre (ggK m c d) (t.val * 256)) :
    k0_pay2 (p6 m c t) (k0_pay8 (iblk m c 10 t)) v (ix2 0 d) = pre (ggK m c d) (t.val * 256 + 256) := by
  have hN := lt_of_lt_of_eq t.isLt (show cfg0.N = 16 from N_0)
  rw [pay2, hv, pre_tile]
  congr 1
  refine Finset.sum_congr rfl fun r _ => ?_
  rw [p6_at, pay8, root_blk, iblk10]
  have e : ext (ggK m c d) (t.val * 256 + r.val) = ggK m c d (row t r) := dif_pos (show t.val * 256 + r.val < 4096 by omega)
  exact e.symm

theorem pay1 (x : FVec Ideal S256x1024 .f32) (r : Fin 256) (d : Fin 1024) : k0_pay1 x (ix2 r d) = x (ix2 r d) := by
  pointwise [k0_pay1]

/-- What the run leaves after point `n`. -/
theorem inv : ∀ (n : ℕ) (hn : n < cfg0.N) (d : Fin 1024),
    (∀ x : Fin 256, (outsAt0 m c n hn).1 (ix2 x d) = gxK m c (row ⟨n, hn⟩ x) d)
    ∧ ∀ i : Fin 8, (outsAt0 m c n hn).2 (ix2 i d) = if i.val = 0 then pre (ggK m c d) (n * 256 + 256) else 0 := by
  intro n
  induction n with
  | zero =>
    intro hn d
    rw [outsAt0_A m c ⟨0, hn⟩ rfl]
    refine ⟨?_, ?_⟩
    · intro x
      frame_out
      exact (pay1 _ x d).trans (p9_at m c ⟨0, hn⟩ x d)
    · intro i
      frame_out
      by_cases hi : i.val = 0
      · refine (Stores.canon_in _ _ _ _ (ix2 0 d) ?_).trans ?_
        · intro a
          match a with
          | ⟨0, _⟩ => exact hi
          | ⟨1, _⟩ => exact (Nat.zero_add _).symm
        rw [if_pos hi]
        refine accOut m c ⟨0, hn⟩ _ d ?_
        refine (Stores.readCov_at _ _ _ _ (ix2 0 d) (fun a => by match a with | ⟨0, _⟩ => rfl | ⟨1, _⟩ => exact (Nat.zero_add _).symm)).trans ?_
        refine (Stores.canon_in _ _ _ _ (ix2 0 d) (fun a => by match a with | ⟨0, _⟩ => rfl | ⟨1, _⟩ => exact (Nat.zero_add _).symm)).trans ?_
        rw [show (⟨0, hn⟩ : Fin cfg0.N).val * 256 = 0 from rfl, pre_zero]
        pointwise [k0_pay3]
      · refine (Stores.canon_out _ _ _ _ (0 : Fin 2) (Or.inr (by show 0 + 1 ≤ i.val; omega))).trans ?_
        refine (Stores.canon_in _ _ _ _ (ix2 i d) (fun a => by match a with | ⟨0, _⟩ => exact (Nat.zero_add _).symm | ⟨1, _⟩ => exact (Nat.zero_add _).symm)).trans ?_
        rw [if_neg hi]
        pointwise [k0_pay3]
  | succ n ih =>
    intro hn d
    have hN := lt_of_lt_of_eq hn (show cfg0.N = 16 from N_0)
    obtain ⟨_, ih2⟩ := ih (Nat.lt_of_succ_lt hn) d
    rw [outsAt0_B m c ⟨n + 1, hn⟩ (by show ¬ (n + 1) % 16 = 0; omega)]
    refine ⟨?_, ?_⟩
    · intro x
      frame_out
      exact (pay1 _ x d).trans (p9_at m c ⟨n + 1, hn⟩ x d)
    · intro i
      frame_out
      by_cases hi : i.val = 0
      · refine (Idealize.ShloMosaic.View.read_writes_cons_unit_of_mem _ _ _ _ _ _ (ix2 0 d) rfl ?_).trans ?_
        · intro a
          match a with
          | ⟨0, _⟩ => exact hi
          | ⟨1, _⟩ => show d.val = 0 + d.val; omega
        rw [if_pos hi]
        refine accOut m c ⟨n + 1, hn⟩ _ d ?_
        refine (View.ld_unit_apply_of _ _ _ _ _ (ix2 0 d) (fun a => by match a with | ⟨0, _⟩ => rfl | ⟨1, _⟩ => exact (Nat.zero_add _).symm)).trans ?_
        refine (ih2 0).trans ((if_pos rfl).trans ?_)
        exact congrArg _ (by show n * 256 + 256 = (n + 1) * 256; omega)
      · refine (Idealize.ShloMosaic.View.read_writes_cons_unit_of_not_mem _ _ _ _ _ _ rfl (0 : Fin 2) (Or.inr ?_)).trans ?_
        · show 0 + 1 ≤ i.val; omega
        rw [View.writes_nil, Memref.IsWhole.read_unread, if_neg hi]
        exact (ih2 i).trans (if_neg hi)

/-- The two results of the kernel. -/
def out13 : FVec Ideal S4096x1024 .f32 := fun i => gxK m c (i 0) (i 1)
def out14 : FVec Ideal S8x1024 .f32 := fun i => if (i 0).val = 0 then ∑ t, ggK m c (i 1) t else 0

theorem final13 : (dats m 0 c).arrAt 13 cfg0.N = out13 m c := by
  refine (dats m 0 c).arrAt_eq_of_covers 13 _ (by decide +kernel) fun t hf y => ?_
  idx_vars y
  blk_simp; rw [after0_13]
  have e : (win0_13.blk t).view.emb (ix2 y0 y1) = ix2 (row t y0) y1 := by blk_ext [idx t, row]
  rw [e]
  exact (inv m c t.val t.isLt y1).1 y0

theorem final14 : (dats m 0 c).arrAt 14 cfg0.N = out14 m c := by
  refine (dats m 0 c).arrAt_eq_of_covers 14 _ (by decide +kernel) fun t hf y => ?_
  idx_vars y
  blk_simp; rw [after0_14]
  have e : (win0_14.blk t).view.emb (ix2 y0 y1) = ix2 y0 y1 := by blk_ext [idx t]
  rw [e]
  have h15 : t.val * 256 + 256 = 4096 := by
    have h1 := (flush0_14 t).mp hf
    have h2 := lt_of_lt_of_eq t.isLt (show cfg0.N = 16 from N_0)
    omega
  refine ((inv m c t.val t.isLt y1).2 y0).trans ?_
  rw [h15, pre_all]
  rfl

end Cert.Input.Ker

end
-- ==== Proof.InputClaims.lean ====
module

public import proofs.«01_k».proof.Defs
public import proofs.«01_k».proof.Proof.Gen.InputReferenceIdeal.Run
public import proofs.«01_k».proof.Proof.Gen.InputKernel.Frame
public import proofs.«01_k».proof.Proof.InputTiles
public import proofs.«01_k».proof.Proof.AttnFinite

@[expose] public section

set_option maxRecDepth 16384

noncomputable section

/-! # The claims about the input's gradient

With finite arguments the seven products are real numbers, and then the kernel's gradient of a row is the reference's. The gain's gradient
needs no finiteness. -/

namespace Cert.Input

open Idealize.ShloMosaic Idealize.ShloMosaic.TcCoe Idealize.SL.Sem
open Cert.Input.Ref (Tok cat dn root gx gg ct RRow up1 rowR yr)
open Cert.Attn (RArg up sum_coe div_real)
open Cert.Norm

/-! ## What the precondition says -/

section
open Cert.Pre_all_finite

theorem facts : Cert.Pre_all_finite.Facts where
  bcast_S_S4096x1024 := by decide
  reducesTo_S4096x1024_S_d0_1 := by decide
  h_S_ := by decide
  bcast_S_S1x1024 := by decide
  reducesTo_S1x1024_S_d0_1 := by decide
  bcast_S_S1024x6152 := by decide
  reducesTo_S1024x6152_S_d0_1 := by decide
  bcast_S_S4096x8 := by decide
  reducesTo_S4096x8_S_d0_1 := by decide

theorem arr {S : Shape} {l} (X : FVec Ideal S .f32) (hb : S_.BroadcastsInDim S (![] : Fin 0 → Fin S.rank)) (hr : S.ReducesTo l S_) (hu : 0 < S_.numel)
    (h : Host.reduce IntOp.andi (cmpf .olt (Host.absf X) (broadcastInDim S ![] hb (constant S_ .f32 0x7F800000#32))) (constantI S_ 1 1#1) hr hu ix0 = 1#1) :
    ∃ a : S.Idx → ℝ, X = fun i => (a i : EReal) := by
  haveI : Subsingleton S_.Idx := ⟨fun a b => funext fun i => i.elim0⟩
  refine ⟨fun i => (X i).toReal, funext fun i => Cert.Attn.Finite.real_of_abs _ ?_⟩
  have e := Host.reduce_andi_all _ _ _ _ _ h i
  rw [← Cert.Attn.Finite.inf_word]
  exact e

theorem args [Cert.Pre_all_finite.Facts] (X : Tok) (G : FVec Ideal S1x1024 .f32) (W : FVec Ideal S1024x6152 .f32) (Q K V : Tok) (F : FVec Ideal S4096x8 .f32)
    (A P L H : Tok) (h : Cert.Pre_all_finite.fn (F := Ideal) X G W Q K V F A P L H = fun _ => 1#1) :
    ∃ (x q k v a p l e : RArg) (g : RRow) (w : S1024x6152.Idx → ℝ) (f : S4096x8.Idx → ℝ), X = up x ∧ G = up1 g ∧ W = (fun i => (w i : EReal))
      ∧ Q = up q ∧ K = up k ∧ V = up v ∧ F = (fun i => (f i : EReal)) ∧ A = up a ∧ P = up p ∧ L = up l ∧ H = up e := by
  have h0 := congrFun h ix0
  dsimp only [Cert.Pre_all_finite.fn, Cert.Pre_all_finite.fn_part1, Cert.Pre_all_finite.fn_part2, Cert.Pre_all_finite.fn_part3] at h0
  obtain ⟨h0, hH⟩ := IntOp.andi_eq_one.1 h0
  obtain ⟨h0, hL⟩ := IntOp.andi_eq_one.1 h0
  obtain ⟨h0, hP⟩ := IntOp.andi_eq_one.1 h0
  obtain ⟨h0, hA⟩ := IntOp.andi_eq_one.1 h0
  obtain ⟨h0, hF⟩ := IntOp.andi_eq_one.1 h0
  obtain ⟨h0, hV⟩ := IntOp.andi_eq_one.1 h0
  obtain ⟨h0, hK⟩ := IntOp.andi_eq_one.1 h0
  obtain ⟨h0, hQ⟩ := IntOp.andi_eq_one.1 h0
  obtain ⟨h0, hW⟩ := IntOp.andi_eq_one.1 h0
  obtain ⟨hX, hG⟩ := IntOp.andi_eq_one.1 h0
  obtain ⟨x, hx⟩ := arr X _ _ _ hX
  obtain ⟨g, hg⟩ := arr G _ _ _ hG
  obtain ⟨w, hw⟩ := arr W _ _ _ hW
  obtain ⟨q, hq⟩ := arr Q _ _ _ hQ
  obtain ⟨k, hk⟩ := arr K _ _ _ hK
  obtain ⟨v, hv⟩ := arr V _ _ _ hV
  obtain ⟨f, hf⟩ := arr F _ _ _ hF
  obtain ⟨a, ha⟩ := arr A _ _ _ hA
  obtain ⟨p, hp⟩ := arr P _ _ _ hP
  obtain ⟨l, hl⟩ := arr L _ _ _ hL
  obtain ⟨e, he⟩ := arr H _ _ _ hH
  exact ⟨x, q, k, v, a, p, l, e, g, w, f, hx, hg, hw, hq, hk, hv, hf, ha, hp, hl, he⟩

/-- The seven products of real arrays are real. -/
theorem dn_real (q k v a p l : RArg) (f : S4096x8.Idx → ℝ) (w : S1024x6152.Idx → ℝ) :
    ∃ n : RArg, dn (cat (up q) (up k) (up v) (fun i => (f i : EReal)) (up a) (up p) (up l)) (fun i => (w i : EReal)) = up n := by
  refine ⟨fun i => (dn (cat (up q) (up k) (up v) (fun i => (f i : EReal)) (up a) (up p) (up l)) (fun i => (w i : EReal)) i).toReal, funext fun i => ?_⟩
  idx_vars i
  have e : ∃ r : ℝ, dn (cat (up q) (up k) (up v) (fun i => (f i : EReal)) (up a) (up p) (up l)) (fun i => (w i : EReal)) (ix2 i0 i1) = (r : EReal) := by
    rw [Ref.dn_cat]
    unfold up
    simp only [← EReal.coe_mul, sum_coe, ← EReal.coe_add]
    exact ⟨_, rfl⟩
  obtain ⟨r, hr⟩ := e
  exact hr.trans (congrArg Real.toEReal ((congrArg EReal.toReal hr).trans (EReal.toReal_coe r)).symm)

end

/-! ## The two results -/

variable (m : (ℓ : Loc Cert.InputKernelIdeal.nD Cert.InputKernelIdeal.τ Cert.InputKernelIdeal.sig) → Buf (Elt Ideal) ℓ) (c : Dev Cert.InputKernelIdeal.nD)

theorem out13_eq {x h n : RArg} {g : RRow} (hX : Ker.aX m c = up x) (hH : Ker.aH m c = up h) (hN : Ker.nrm m c = up n) (hG : Ker.aG m c = up1 g) :
    Ker.out13 m c = gx (Ker.aX m c) (Ker.aH m c) (ct (Ker.nrm m c) (Ker.aG m c)) := by
  funext i
  idx_vars i
  rw [hX, hH, hN, hG]
  refine Eq.trans ?_ (Ref.gx_up x h n g i0 i1).symm
  show Ker.gxK m c i0 i1 = _
  unfold Ker.gxK
  rw [hX, hH, hN, hG, Ref.root_up, kilo_eq, ← grad_eq]
  unfold up up1
  simp only [← EReal.coe_mul, sum_coe, div_real _ (show (1024 : ℝ) ≠ 0 by norm_num), ← EReal.coe_add, ← EReal.coe_sub]
  rfl

theorem out14_eq : Ker.out14 m c = gg (Ker.aX m c) (Ker.nrm m c) := by
  funext i
  idx_vars i
  rw [Ref.gg_at]
  show (if i0.val = 0 then ∑ t, Ker.ggK m c i1 t else 0) = _
  refine if_congr Iff.rfl (Finset.sum_congr rfl fun t _ => ?_) rfl
  exact mul_comm _ _

theorem frame_words : Cert.quiescent_InputKernel (hInputKernel := Cert.InputKernel.Gen.facts) := fun m ρ _ => Cert.InputKernel.Gen.frame m ρ
theorem frame_ideal : Cert.quiescent_InputKernelIdeal (hInputKernelIdeal := Cert.InputKernelIdeal.Gen.facts) := fun m ρ _ => Cert.InputKernelIdeal.Gen.frame m ρ
theorem frame_ideal_finite : Cert.quiescent_InputKernelIdeal_pre_all_finite (hInputKernelIdeal := Cert.InputKernelIdeal.Gen.facts) (hPre_all_finite := facts) :=
  fun m ρ _ => frame_ideal m ρ trivial
theorem frame_reference : Cert.quiescent_InputReferenceIdeal (hInputReferenceIdeal := Cert.InputReferenceIdeal.Gen.facts) :=
  fun m g _ => (θ_run Cert.InputReferenceIdeal.defs _ _).mono
    (fun r h => ⟨fun c => (h c).2.2, sem_eq_zero_of_no_sems (by decide) r.2⟩)
    (Cert.InputReferenceIdeal.Value.run m g)
theorem frame_reference_finite : Cert.quiescent_InputReferenceIdeal_pre_all_finite (hInputReferenceIdeal := Cert.InputReferenceIdeal.Gen.facts) (hPre_all_finite := facts) :=
  fun m g _ => frame_reference m g trivial

theorem algebraic : Cert.algebraic_InputKernelIdeal_InputReferenceIdeal_pre_all_finite (hInputKernelIdeal := Cert.InputKernelIdeal.Gen.facts)
    (hInputReferenceIdeal := Cert.InputReferenceIdeal.Gen.facts) (hPre_all_finite := facts) := by
  intro m g m' g' hpre hargs
  refine ⟨fun c => Ker.out13 m c, fun c => Ker.out14 m c, ?_, ?_⟩
  · exact (θ_run Cert.InputKernelIdeal.defs _ _).mono (fun r h c =>
      ⟨(h c).1.trans (Ker.final13 m c), (h c).2.1.trans (Ker.final14 m c), (h c).2.2⟩) (Cert.InputKernelIdeal.Value.run_blocks m g)
  · refine (θ_run Cert.InputReferenceIdeal.defs _ _).mono (fun r h c => ?_) (Cert.InputReferenceIdeal.Value.run m' g')
    obtain ⟨x, q, k, v, a, p, l, e, b, w, f, hX, hG, hW, hQ, hK, hV, hF, hA, hP, hL, hH⟩ := @args facts _ _ _ _ _ _ _ _ _ _ _ (hpre c)
    obtain ⟨n, hn⟩ := dn_real q k v a p l f w
    obtain ⟨sX, sG, sW, sQ, sK, sV, sF, sA, sP, sL, sH⟩ := hargs c
    have hN : Ker.nrm m c = up n := by
      unfold Ker.nrm Ker.aQ Ker.aK Ker.aV Ker.aF Ker.aA Ker.aP Ker.aL Ker.aW
      rw [hQ, hK, hV, hF, hA, hP, hL, hW]
      exact hn
    have rX : Ref.aX m' c = Ker.aX m c := sX
    have rG : Ref.aG m' c = Ker.aG m c := sG
    have rH : Ref.aH m' c = Ker.aH m c := sH
    have rN : dn (Ref.aZ m' c) (Ref.aW m' c) = Ker.nrm m c := by
      unfold Ref.aZ Ref.aF Ref.aW Ker.nrm
      rw [sQ, sK, sV, sF, sA, sP, sL, sW]
    refine ⟨(h c).1.trans ?_, (h c).2.1.trans ?_, (h c).2.2⟩
    · rw [Ref.out0, rX, rG, rH, rN]
      exact (out13_eq m c hX hH hN hG).symm
    · refine Eq.trans (b := gg (Ref.aX m' c) (dn (Ref.aZ m' c) (Ref.aW m' c))) rfl ?_
      rw [rX, rN]
      exact (out14_eq m c).symm

end Cert.Input

end
-- ==== Proof.TailMath.lean ====
module

public import proofs.«01_k».proof.Proof.RowNorm
public import proofs.«01_k».proof.Proof.FgateMath

@[expose] public section

set_option maxRecDepth 16384

noncomputable section

/-! # The tail of the step, in real numbers

The mixed row `mu` is normalised and added to the input (`hid`); the embedding's row `pe`, normalised and gated by a logistic function of
`hid`, is added; the loss is half the mean of the squared distance `df` to the target. The rest is its derivative in every argument. -/

namespace Cert.Tail

open Idealize.ShloMosaic
open Cert.Attn (sum_coe div_real)
open Cert.Norm

/-- The arguments. -/
structure Data where
  a : Fin 4096 → Fin 2048 → ℝ
  x : Fin 4096 → Fin 1024 → ℝ
  p : Fin 4096 → Fin 256 → ℝ
  t : Fin 4096 → Fin 1024 → ℝ
  wo : Fin 2048 → Fin 1024 → ℝ
  g : Fin 1024 → ℝ
  wp : Fin 256 → Fin 1024 → ℝ
  e : Fin 1024 → ℝ
  wg : Fin 1024 → Fin 1024 → ℝ
  b : Fin 1024 → ℝ

/-- The logistic function. -/
def sg (z : ℝ) : ℝ := 1 / (1 + Real.exp (-z))

theorem sg_tanh (z : ℝ) : 1 / 2 * Real.tanh (1 / 2 * z) + 1 / 2 = sg z := by
  unfold sg
  have e1 : Real.exp (-z) = Real.exp (-(1 / 2 * z)) * Real.exp (-(1 / 2 * z)) := by rw [← Real.exp_add]; ring_nf
  have hp := Real.exp_pos (1 / 2 * z)
  rw [Real.tanh_eq_sinh_div_cosh, Real.sinh_eq, Real.cosh_eq, e1, Real.exp_neg]
  field_simp
  ring

namespace Data
variable (D : Data) (t : Fin 4096) (d : Fin 1024)

def mu : ℝ := ∑ k, D.a t k * D.wo k d
def pe : ℝ := ∑ k, D.p t k * D.wp k d
def mh : ℝ := D.mu t d * rs (D.mu t)
def ph : ℝ := D.pe t d * rs (D.pe t)
def hid : ℝ := D.x t d + D.mh t d * D.g d
def em : ℝ := D.ph t d * D.e d
def s : ℝ := sg (∑ j, D.hid t j * D.wg j d + D.b d)
def df : ℝ := D.hid t d + D.s t d * D.em t d - D.t t d
def dy : ℝ := D.df t d * (1 / 1024)
def de : ℝ := D.dy t d * D.s t d
def dg : ℝ := D.dy t d * D.em t d * D.s t d * (1 - D.s t d)
def dh : ℝ := D.dy t d + ∑ j, D.dg t j * D.wg d j
def dpe : ℝ := gradKer (D.pe t) (fun j => D.de t j * D.e j) d
def dmix : ℝ := gradKer (D.mu t) (fun j => D.dh t j * D.g j) d
def da (k : Fin 2048) : ℝ := ∑ j, D.dmix t j * D.wo k j

/-- The four rows of sums: the two gains' gradients, the gate's bias's and the loss's, one number for each feature. -/
def row (i : ℕ) : ℝ :=
  match i with
  | 0 => D.dh t d * D.mh t d
  | 1 => D.de t d * D.ph t d
  | 2 => D.dg t d
  | 3 => D.df t d * D.df t d * (1 / 2048)
  | _ => 0

end Data

theorem one_eq : Ideal.ofBits FTy.f32 0x3F800000#32 = ((1 : ℝ) : EReal) := by
  simp [Ideal.ofBits, Ideal.ieee, -EReal.coe_mul]; norm_num
theorem two_eq : Ideal.ofBits FTy.f32 0x40000000#32 = ((2 : ℝ) : EReal) := by
  simp [Ideal.ofBits, Ideal.ieee, -EReal.coe_mul]; norm_num
theorem milli_eq : Ideal.ofBits FTy.f32 0x3A800000#32 = ((1 / 1024 : ℝ) : EReal) := by
  simp [Ideal.ofBits, Ideal.ieee, -EReal.coe_mul]; norm_num
theorem hmilli_eq : Ideal.ofBits FTy.f32 0x3A000000#32 = ((1 / 2048 : ℝ) : EReal) := by
  simp [Ideal.ofBits, Ideal.ieee, -EReal.coe_mul]; norm_num

end Cert.Tail

end
-- ==== Proof.TailPay.lean ====
module

public import proofs.«01_k».proof.Proof.Gen.TailKernelIdeal.Skeleton
public import proofs.«01_k».proof.Proof.TailMath
public import Idealize.ShloMosaic.Lib.Pipeline.ValueKit

@[expose] public section

set_option maxRecDepth 16384

noncomputable section

/-! # What a tile of the tail computes

A tile's rows are the rows `T r` of the arrays. Each value of the body is first read at an index, and then, its operands being the real
numbers of the arguments `D`, it is the real number of the same name. -/

namespace Cert.Tail.Pay

open Cert.TailKernelIdeal Cert.TailKernelIdeal.Gen Idealize.ShloMosaic Idealize.ShloMosaic.TcCoe
open Cert.Attn (sum_coe div_real)
open Cert.Norm Cert.Tail
open Cert.Fgate (half_f32)

abbrev kilo : Ideal .f32 := Ideal.ofBits FTy.f32 0x44800000#32
abbrev Til := FVec Ideal S256x1024 .f32
abbrev Tilh := FVec Ideal S256x1024 .bf16

theorem at3 (a : Vec Ideal S256x2048 .bf16) (w : Vec Ideal S2048x1024 .bf16) (r : Fin 256) (d : Fin 1024) :
    k0_pay3 a w (ix2 r d) = ∑ k : Fin 2048, a (ix2 r k) * w (ix2 k d) := by
  pointwise [k0_pay3]
theorem at4 (a : Vec Ideal S256x2048 .bf16) (w : Vec Ideal S2048x1024 .bf16) (r : Fin 256) :
    k0_pay4 a w (ix2 r 0) = Ideal.rsqrt (Ideal.div (∑ j : Fin 1024, k0_pay3 a w (ix2 r j) * k0_pay3 a w (ix2 r j)) kilo + Ideal.ofBits FTy.f32 0x358637BD#32) := by
  pointwise [k0_pay4]
theorem at5 (a : Vec Ideal S256x2048 .bf16) (w : Vec Ideal S2048x1024 .bf16) (r : Fin 256) (d : Fin 1024) :
    k0_pay5 a w (ix2 r d) = k0_pay3 a w (ix2 r d) * k0_pay4 a w (ix2 r 0) := by
  pointwise [k0_pay5]
theorem at6 (a : Vec Ideal S256x2048 .bf16) (w : Vec Ideal S2048x1024 .bf16) (x : Vec Ideal S256x1024 .f32) (g : Vec Ideal S1x1024 .f32) (r : Fin 256) (d : Fin 1024) :
    k0_pay6 a w x g (ix2 r d) = x (ix2 r d) + k0_pay5 a w (ix2 r d) * g (ix2 0 d) := by
  pointwise [k0_pay6]
theorem at7 (p : Vec Ideal S256x256 .f32) (r k : Fin 256) : k0_pay7 p (ix2 r k) = p (ix2 r k) := by
  pointwise [k0_pay7]
theorem at8 (p : Vec Ideal S256x256 .f32) (r k : Fin 256) : k0_pay8 p (ix2 r k) = p (ix2 r k) := by
  pointwise [k0_pay8, k0_pay7]
theorem at9 (p : Vec Ideal S256x256 .f32) (w : Vec Ideal S256x1024 .bf16) (r : Fin 256) (d : Fin 1024) :
    k0_pay9 p w (ix2 r d) = ∑ k : Fin 256, p (ix2 r k) * w (ix2 k d) := by
  pointwise [k0_pay9, k0_pay7]
theorem at10 (p : Vec Ideal S256x256 .f32) (w : Vec Ideal S256x1024 .bf16) (r : Fin 256) :
    k0_pay10 p w (ix2 r 0) = ∑ j : Fin 1024, k0_pay9 p w (ix2 r j) * k0_pay9 p w (ix2 r j) := by
  pointwise [k0_pay10]
theorem at11 (q : FVec Ideal S256x1 .f32) (k : Ideal .f32) (r : Fin 256) :
    k0_pay11 q k (ix2 r 0) = Ideal.rsqrt (Ideal.div (q (ix2 r 0)) k + Ideal.ofBits FTy.f32 0x358637BD#32) := by
  pointwise [k0_pay11]
theorem at12 (v : Til) (q : FVec Ideal S256x1 .f32) (k : Ideal .f32) (r : Fin 256) (d : Fin 1024) :
    k0_pay12 v q k (ix2 r d) = v (ix2 r d) * k0_pay11 q k (ix2 r 0) := by
  pointwise [k0_pay12]
theorem at13 (v : Til) (q : FVec Ideal S256x1 .f32) (k : Ideal .f32) (e : Vec Ideal S1x1024 .f32) (r : Fin 256) (d : Fin 1024) :
    k0_pay13 v q k e (ix2 r d) = k0_pay12 v q k (ix2 r d) * e (ix2 0 d) := by
  pointwise [k0_pay13]
theorem at15 (h : Til) (r : Fin 256) (d : Fin 1024) : k0_pay15 h (ix2 r d) = h (ix2 r d) := by
  pointwise [k0_pay15, k0_pay14]
theorem at16 (h : Til) (w : Vec Ideal S1024x1024 .bf16) (b : Vec Ideal S1x1024 .f32) (r : Fin 256) (d : Fin 1024) :
    k0_pay16 h w b (ix2 r d) = Ideal.ofBits FTy.f32 0x3F000000#32 * Ideal.tanh (Ideal.ofBits FTy.f32 0x3F000000#32
      * (∑ j : Fin 1024, h (ix2 r j) * w (ix2 j d) + b (ix2 0 d))) + Ideal.ofBits FTy.f32 0x3F000000#32 := by
  pointwise [k0_pay16, k0_pay14]

section
variable (h v : Til) (q : FVec Ideal S256x1 .f32) (k : Ideal .f32) (e b : Vec Ideal S1x1024 .f32) (w : Vec Ideal S1024x1024 .bf16) (y : Vec Ideal S256x1024 .f32)
  (r : Fin 256) (d : Fin 1024)
theorem at17 : k0_pay17 h v q k e w b y (ix2 r d) = h (ix2 r d) + k0_pay16 h w b (ix2 r d) * k0_pay13 v q k e (ix2 r d) - y (ix2 r d) := by
  pointwise [k0_pay17]
theorem at18 : k0_pay18 h v q k e w b y (ix2 r d) = k0_pay17 h v q k e w b y (ix2 r d) * Ideal.ofBits FTy.f32 0x3A800000#32 := by
  pointwise [k0_pay18]
theorem at19 : k0_pay19 h v q k e w b y (ix2 r d) = k0_pay18 h v q k e w b y (ix2 r d) * k0_pay16 h w b (ix2 r d) := by
  pointwise [k0_pay19]
theorem at20 : k0_pay20 h v q k e w b y (ix2 r d) = k0_pay18 h v q k e w b y (ix2 r d) * k0_pay13 v q k e (ix2 r d) * k0_pay16 h w b (ix2 r d)
    * (Ideal.ofBits FTy.f32 0x3F800000#32 - k0_pay16 h w b (ix2 r d)) := by
  pointwise [k0_pay20]
theorem at21 : k0_pay21 h v q k e w b y (ix2 r d) = k0_pay20 h v q k e w b y (ix2 r d) := by
  pointwise [k0_pay21]
end

theorem at22 (n : Tilh) (r : Fin 256) (d : Fin 1024) : k0_pay22 n (ix2 r d) = n (ix2 r d) := by
  pointwise [k0_pay22]
theorem at27 (n : Tilh) (r : Fin 256) (d : Fin 1024) : k0_pay27 n (ix2 r d) = n (ix2 r d) := by
  pointwise [k0_pay27]
theorem at23 (y : Til) (n : Tilh) (w : Vec Ideal S1024x1024 .bf16) (r : Fin 256) (d : Fin 1024) :
    k0_pay23 y n w (ix2 r d) = y (ix2 r d) + ∑ j : Fin 1024, n (ix2 r j) * w (ix2 d j) := by
  pointwise [k0_pay23]
theorem at24 (y : Til) (n : Tilh) (w : Vec Ideal S1024x1024 .bf16) (r : Fin 256) (d : Fin 1024) :
    k0_pay24 y n w (ix2 r d) = k0_pay23 y n w (ix2 r d) := by
  pointwise [k0_pay24]
theorem at25 (q : FVec Ideal S256x1 .f32) (v u : Til) (e : Vec Ideal S1x1024 .f32) (r : Fin 256) (d : Fin 1024) :
    k0_pay25 q v u e (ix2 r d) = q (ix2 r 0) * (u (ix2 r d) * e (ix2 0 d)
      - v (ix2 r d) * Ideal.div (∑ j : Fin 1024, u (ix2 r j) * e (ix2 0 j) * v (ix2 r j)) kilo) := by
  pointwise [k0_pay25]
theorem at26 (q : FVec Ideal S256x1 .f32) (v y : Til) (n : Tilh) (w : Vec Ideal S1024x1024 .bf16) (e : Vec Ideal S1x1024 .f32) (r : Fin 256) (d : Fin 1024) :
    k0_pay26 q v y n w e (ix2 r d) = q (ix2 r 0) * (k0_pay23 y n w (ix2 r d) * e (ix2 0 d)
      - v (ix2 r d) * Ideal.div (∑ j : Fin 1024, k0_pay23 y n w (ix2 r j) * e (ix2 0 j) * v (ix2 r j)) kilo) := by
  pointwise [k0_pay26]
theorem at28 (n : Tilh) (w : Vec Ideal S2048x1024 .bf16) (r : Fin 256) (k : Fin 2048) :
    k0_pay28 n w (ix2 r k) = ∑ j : Fin 1024, n (ix2 r j) * w (ix2 k j) := by
  pointwise [k0_pay28]
theorem at29 (v y : Til) (z : Vec Ideal S1x1024 .f32) (d : Fin 1024) : k0_pay29 v y z (ix2 0 d) = z (ix2 0 d) + ∑ r : Fin 256, y (ix2 r d) * v (ix2 r d) := by
  pointwise [k0_pay29]
theorem at30 (v y : Til) (z : Vec Ideal S1x1024 .f32) (d : Fin 1024) : k0_pay30 v y z (ix2 0 d) = z (ix2 0 d) + ∑ r : Fin 256, y (ix2 r d) * v (ix2 r d) := by
  pointwise [k0_pay30]
theorem at31 (y : Til) (z : Vec Ideal S1x1024 .f32) (d : Fin 1024) : k0_pay31 y z (ix2 0 d) = z (ix2 0 d) + ∑ r : Fin 256, y (ix2 r d) := by
  pointwise [k0_pay31]
theorem at1 (y : Til) (z : Vec Ideal S1x1024 .f32) (d : Fin 1024) : k0_pay1 y z (ix2 0 d)
    = z (ix2 0 d) + (∑ r : Fin 256, y (ix2 r d) * y (ix2 r d)) * Ideal.ofBits FTy.f32 0x3A000000#32 := by
  pointwise [k0_pay1]
theorem at2 (i : Fin 8) (d : Fin 1024) : (k0_pay2 (F := Ideal)) (ix2 i d) = 0 := by
  pointwise [k0_pay2]

/-! ## In real numbers -/

section
variable {D : Data} {T : Fin 256 → Fin 4096} {a : Vec Ideal S256x2048 .bf16} {wo : Vec Ideal S2048x1024 .bf16} {x y : Vec Ideal S256x1024 .f32}
  {g e b : Vec Ideal S1x1024 .f32} {p : Vec Ideal S256x256 .f32} {wp : Vec Ideal S256x1024 .bf16} {wg : Vec Ideal S1024x1024 .bf16}

theorem kilo_ne : (1024 : ℝ) ≠ 0 := by norm_num
theorem kilo_up : kilo = ((1024 : ℝ) : EReal) := kilo_eq

/-- A tile's blocks are the real numbers `D` in the rows `T`. -/
structure Blocks (D : Data) (T : Fin 256 → Fin 4096) (a : Vec Ideal S256x2048 .bf16) (wo : Vec Ideal S2048x1024 .bf16) (x y : Vec Ideal S256x1024 .f32)
    (g e b : Vec Ideal S1x1024 .f32) (p : Vec Ideal S256x256 .f32) (wp : Vec Ideal S256x1024 .bf16) (wg : Vec Ideal S1024x1024 .bf16) : Prop where
  a : ∀ r k, a (ix2 r k) = (D.a (T r) k : EReal)
  wo : ∀ k d, wo (ix2 k d) = (D.wo k d : EReal)
  x : ∀ r d, x (ix2 r d) = (D.x (T r) d : EReal)
  y : ∀ r d, y (ix2 r d) = (D.t (T r) d : EReal)
  g : ∀ d, g (ix2 0 d) = (D.g d : EReal)
  e : ∀ d, e (ix2 0 d) = (D.e d : EReal)
  b : ∀ d, b (ix2 0 d) = (D.b d : EReal)
  p : ∀ r k, p (ix2 r k) = (D.p (T r) k : EReal)
  wp : ∀ k d, wp (ix2 k d) = (D.wp k d : EReal)
  wg : ∀ k d, wg (ix2 k d) = (D.wg k d : EReal)

variable (h : Blocks D T a wo x y g e b p wp wg) (r : Fin 256) (d : Fin 1024)
include h

theorem mu : k0_pay3 a wo (ix2 r d) = (D.mu (T r) d : EReal) := by
  rw [at3]
  simp only [h.a, h.wo, ← EReal.coe_mul, sum_coe]
  rfl
theorem rm : k0_pay4 a wo (ix2 r 0) = (rs (D.mu (T r)) : EReal) := by
  rw [at4, ← rs_up, eps_eq, kilo_up]
  simp only [mu h, ← EReal.coe_mul, sum_coe, div_real _ kilo_ne, ← EReal.coe_add]
  rfl
theorem mh : k0_pay5 a wo (ix2 r d) = (D.mh (T r) d : EReal) := by
  rw [at5, mu h, rm h, ← EReal.coe_mul]
  rfl
theorem hid : k0_pay6 a wo x g (ix2 r d) = (D.hid (T r) d : EReal) := by
  rw [at6, mh h, h.x, h.g, ← EReal.coe_mul, ← EReal.coe_add]
  rfl
theorem pe : k0_pay9 p wp (ix2 r d) = (D.pe (T r) d : EReal) := by
  rw [at9]
  simp only [h.p, h.wp, ← EReal.coe_mul, sum_coe]
  rfl
theorem rp : k0_pay11 (k0_pay10 p wp) kilo (ix2 r 0) = (rs (D.pe (T r)) : EReal) := by
  rw [at11, at10, ← rs_up, eps_eq, kilo_up]
  simp only [pe h, ← EReal.coe_mul, sum_coe, div_real _ kilo_ne, ← EReal.coe_add]
  rfl
theorem ph : k0_pay12 (k0_pay9 p wp) (k0_pay10 p wp) kilo (ix2 r d) = (D.ph (T r) d : EReal) := by
  rw [at12, pe h, rp h, ← EReal.coe_mul]
  rfl
theorem em : k0_pay13 (k0_pay9 p wp) (k0_pay10 p wp) kilo e (ix2 r d) = (D.em (T r) d : EReal) := by
  rw [at13, ph h, h.e, ← EReal.coe_mul]
  rfl
theorem s : k0_pay16 (k0_pay6 a wo x g) wg b (ix2 r d) = (D.s (T r) d : EReal) := by
  rw [at16, half_f32]
  simp only [hid h, h.wg, h.b, ← EReal.coe_mul, sum_coe, ← EReal.coe_add]
  change ((1 / 2 : ℝ) : EReal) * ((Real.tanh (1 / 2 * (∑ j, D.hid (T r) j * D.wg j d + D.b d)) : ℝ) : EReal) + ((1 / 2 : ℝ) : EReal) = _
  rw [← EReal.coe_mul, ← EReal.coe_add, sg_tanh]
  rfl
theorem df : k0_pay17 (k0_pay6 a wo x g) (k0_pay9 p wp) (k0_pay10 p wp) kilo e wg b y (ix2 r d) = (D.df (T r) d : EReal) := by
  rw [at17, hid h, s h, em h, h.y, ← EReal.coe_mul, ← EReal.coe_add, ← EReal.coe_sub]
  rfl
theorem dy : k0_pay18 (k0_pay6 a wo x g) (k0_pay9 p wp) (k0_pay10 p wp) kilo e wg b y (ix2 r d) = (D.dy (T r) d : EReal) := by
  rw [at18, df h, milli_eq, ← EReal.coe_mul]
  rfl
theorem de : k0_pay19 (k0_pay6 a wo x g) (k0_pay9 p wp) (k0_pay10 p wp) kilo e wg b y (ix2 r d) = (D.de (T r) d : EReal) := by
  rw [at19, dy h, s h, ← EReal.coe_mul]
  rfl
theorem dg : k0_pay20 (k0_pay6 a wo x g) (k0_pay9 p wp) (k0_pay10 p wp) kilo e wg b y (ix2 r d) = (D.dg (T r) d : EReal) := by
  rw [at20, dy h, s h, em h, one_eq, ← EReal.coe_mul, ← EReal.coe_mul, ← EReal.coe_sub, ← EReal.coe_mul]
  rfl
theorem dgh : k0_pay21 (k0_pay6 a wo x g) (k0_pay9 p wp) (k0_pay10 p wp) kilo e wg b y (ix2 r d) = (D.dg (T r) d : EReal) :=
  (at21 _ _ _ _ _ _ _ _ r d).trans (dg h r d)
theorem dh : k0_pay23 (k0_pay18 (k0_pay6 a wo x g) (k0_pay9 p wp) (k0_pay10 p wp) kilo e wg b y)
    (k0_pay21 (k0_pay6 a wo x g) (k0_pay9 p wp) (k0_pay10 p wp) kilo e wg b y) wg (ix2 r d) = (D.dh (T r) d : EReal) := by
  rw [at23]
  simp only [dy h, dgh h, h.wg, ← EReal.coe_mul, sum_coe, ← EReal.coe_add]
  rfl
theorem dpe : k0_pay25 (k0_pay11 (k0_pay10 p wp) kilo) (k0_pay12 (k0_pay9 p wp) (k0_pay10 p wp) kilo)
    (k0_pay19 (k0_pay6 a wo x g) (k0_pay9 p wp) (k0_pay10 p wp) kilo e wg b y) e (ix2 r d) = (D.dpe (T r) d : EReal) := by
  rw [at25, rp h]
  simp only [de h, ph h, h.e, ← EReal.coe_mul, sum_coe]
  simp only [kilo_up, div_real _ kilo_ne, ← EReal.coe_sub, ← EReal.coe_mul]
  rfl
theorem dmix : k0_pay26 (k0_pay4 a wo) (k0_pay5 a wo) (k0_pay18 (k0_pay6 a wo x g) (k0_pay9 p wp) (k0_pay10 p wp) kilo e wg b y)
    (k0_pay21 (k0_pay6 a wo x g) (k0_pay9 p wp) (k0_pay10 p wp) kilo e wg b y) wg g (ix2 r d) = (D.dmix (T r) d : EReal) := by
  rw [at26, rm h]
  simp only [dh h, mh h, h.g, ← EReal.coe_mul, sum_coe]
  simp only [kilo_up, div_real _ kilo_ne, ← EReal.coe_sub, ← EReal.coe_mul]
  rfl
theorem da (k : Fin 2048) : k0_pay28 (k0_pay26 (k0_pay4 a wo) (k0_pay5 a wo) (k0_pay18 (k0_pay6 a wo x g) (k0_pay9 p wp) (k0_pay10 p wp) kilo e wg b y)
    (k0_pay21 (k0_pay6 a wo x g) (k0_pay9 p wp) (k0_pay10 p wp) kilo e wg b y) wg g) wo (ix2 r k) = (D.da (T r) k : EReal) := by
  rw [at28]
  simp only [dmix h, h.wo, ← EReal.coe_mul, sum_coe]
  rfl

end

end Cert.Tail.Pay

end
-- ==== Proof.TailRef.lean ====
module

public import proofs.«01_k».proof.Proof.Gen.TailReferenceIdeal.Run
public import proofs.«01_k».proof.Proof.InputRef
public import proofs.«01_k».proof.Proof.TailMath

@[expose] public section

set_option maxRecDepth 16384

noncomputable section

/-! # The tail's reference, value by value

The arrays of the reference by name, each read at an index as the real number of the same name. -/

namespace Cert.Tail.Ref

open Cert.TailReferenceIdeal Cert.TailReferenceIdeal.Gen
open Idealize.ShloMosaic Idealize.ShloMosaic.TcCoe
open Cert.Input.Ref (Tok root sq part ct sq_at root_at part_at ct_at)
open Cert.Attn (sum_coe div_real)
open Cert.Norm Cert.Tail

abbrev Row1 := FVec Ideal S1x1024 .f32

def con (w : BitVec 32) : Tok := broadcastInDim S4096x1024 ![] bcast_S_S4096x1024 (constant S_ .f32 w)
def mixed (A : FVec Ideal S4096x2048 .f32) (W : FVec Ideal S2048x1024 .f32) : Tok := Host.dotGeneral dot_S4096x2048_S2048x1024_S4096x1024_1_0_0_1_n_n none A W
def embed (P : FVec Ideal S4096x256 .f32) (W : FVec Ideal S256x1024 .f32) : Tok := Host.dotGeneral dot_S4096x256_S256x1024_S4096x1024_1_0_0_1_n_n none P W
def wide (X : Tok) : Tok := broadcastInDim S4096x1024 ![0, 1] bcast_S4096x1_S4096x1024_0_1 (root X)
def nrm (X : Tok) : Tok := mulf X (wide X)
def hid (X M : Tok) (G : Row1) : Tok := addf X (ct (nrm M) G)
def gate (H : Tok) (W : FVec Ideal S1024x1024 .f32) (B : Row1) : Tok :=
  Host.divf (con 0x3F800000#32) (addf (con 0x3F800000#32) (Host.exp (Host.negf (addf (Host.dotGeneral dot_S4096x1024_S1024x1024_S4096x1024_1_0_0_1_n_n none H W)
    (broadcastInDim S4096x1024 ![0, 1] bcast_S1x1024_S4096x1024_0_1 B)))))
def dif (H S E T : Tok) : Tok := subf (addf H (mulf S E)) T
def dyo (R : Tok) : Tok := mulf (broadcastInDim S4096x1024 ![0] bcast_S4096_S4096x1024_0 (Host.divf (broadcastInDim S4096 ![] bcast_S_S4096
  (mulf (constant S_ .f32 0x3F000000#32) (constant S_ .f32 0x3F800000#32))) (broadcastInDim S4096 ![] bcast_S_S4096 (constant S_ .f32 0x44800000#32)))) (mulf (con 0x40000000#32) R)
def dgo (Y E S : Tok) : Tok := mulf (mulf Y E) (mulf S (subf (con 0x3F800000#32) S))
def dho (Y N : Tok) (W : FVec Ideal S1024x1024 .f32) : Tok := addf Y (Host.dotGeneral dot_S4096x1024_S1024x1024_S4096x1024_1_1_0_0_n_n none N W)
def dnr (X Y : Tok) : Tok := addf (addf (mulf Y (wide X)) (mulf X (part X Y))) (mulf (part X Y) X)
def dao (M : Tok) (W : FVec Ideal S2048x1024 .f32) : FVec Ideal S4096x2048 .f32 := Host.dotGeneral dot_S4096x1024_S2048x1024_S4096x2048_1_1_0_0_n_n none M W
def col (X : Tok) : FVec Ideal S1024 .f32 := Host.reduceAdd X (constant S_ .f32 0x00000000#32) reducesTo_S4096x1024_S1024_d0 h_S_
def rows (H N P U Z R : Tok) : FVec Ideal S8x1024 .f32 :=
  concatenate S8x1024 0 [⟨S1x1024, shapeCast S1x1024 (col (mulf N H)) shapeCasts_S1024_S1x1024⟩, ⟨S1x1024, shapeCast S1x1024 (col (mulf P U)) shapeCasts_S1024_S1x1024⟩,
    ⟨S1x1024, broadcastInDim S1x1024 ![1] bcast_S1024_S1x1024_1 (col Z)⟩,
    ⟨S1x1024, Host.divf (mulf (broadcastInDim S1x1024 ![] bcast_S_S1x1024 (constant S_ .f32 0x3F000000#32)) (broadcastInDim S1x1024 ![1] bcast_S1024_S1x1024_1 (col (mulf R R))))
      (broadcastInDim S1x1024 ![] bcast_S_S1x1024 (constant S_ .f32 0x44800000#32))⟩,
    ⟨S4x1024, broadcastInDim S4x1024 ![] bcast_S_S4x1024 (constant S_ .f32 0x00000000#32)⟩] concatenates_S1x1024_S1x1024_S1x1024_S1x1024_S4x1024_S8x1024_d0

section
variable (m : (ℓ : Loc nD τ sig) → Buf (Elt Ideal) ℓ) (c : Dev nD)

abbrev aA : FVec Ideal S4096x2048 .f32 := m ((c.tc : Thread nD τ).loc main_arg0)
abbrev aX : Tok := m ((c.tc : Thread nD τ).loc main_arg1)
abbrev aP : FVec Ideal S4096x256 .f32 := m ((c.tc : Thread nD τ).loc main_arg2)
abbrev aT : Tok := m ((c.tc : Thread nD τ).loc main_arg3)
abbrev aWo : FVec Ideal S2048x1024 .f32 := m ((c.tc : Thread nD τ).loc main_arg4)
abbrev aG : Row1 := m ((c.tc : Thread nD τ).loc main_arg5)
abbrev aWp : FVec Ideal S256x1024 .f32 := m ((c.tc : Thread nD τ).loc main_arg6)
abbrev aE : Row1 := m ((c.tc : Thread nD τ).loc main_arg7)
abbrev aWg : FVec Ideal S1024x1024 .f32 := m ((c.tc : Thread nD τ).loc main_arg8)
abbrev aB : Row1 := m ((c.tc : Thread nD τ).loc main_arg9)

def vM : Tok := mixed (aA m c) (aWo m c)
def vP : Tok := embed (aP m c) (aWp m c)
def vH : Tok := hid (aX m c) (vM m c) (aG m c)
def vS : Tok := gate (vH m c) (aWg m c) (aB m c)
def vE : Tok := ct (nrm (vP m c)) (aE m c)
def vR : Tok := dif (vH m c) (vS m c) (vE m c) (aT m c)
def vY : Tok := dyo (vR m c)
def vU : Tok := mulf (vS m c) (vY m c)
def vN : Tok := dgo (vY m c) (vE m c) (vS m c)
def vD : Tok := dho (vY m c) (vN m c) (aWg m c)
def vL : Tok := dnr (vM m c) (ct (vD m c) (aG m c))
def vQ : Tok := dnr (vP m c) (ct (vU m c) (aE m c))

theorem out0 : Value.res_main_v85 m c = vD m c := rfl
theorem out1 : Value.res_main_v115 m c = dao (vL m c) (aWo m c) := rfl
theorem out2 : Value.res_main_v116 m c = truncf .bf16 (vL m c) bitsLt_bf16_f32 := rfl
theorem out4 : Value.res_main_v118 m c = truncf .bf16 (vN m c) bitsLt_bf16_f32 := rfl
theorem out6 : Value.res_main_v120 m c = truncf .bf16 (vQ m c) bitsLt_bf16_f32 := rfl
theorem out7 : Value.res_main_v114 m c = rows (vD m c) (nrm (vM m c)) (nrm (vP m c)) (vU m c) (vN m c) (vR m c) := rfl

end

end Cert.Tail.Ref

end
-- ==== Proof.TailReal.lean ====
module

public import proofs.«01_k».proof.Proof.TailRef

@[expose] public section

set_option maxRecDepth 16384

noncomputable section

/-! # The tail's reference in real numbers

With arguments that are the real numbers `D`, every array of the reference is the real array of the same meaning, and so are its eight
results. -/

namespace Cert.Tail

open Idealize.ShloMosaic Idealize.ShloMosaic.TcCoe
open Cert.Input.Ref (Tok)

/-- The arguments are the real numbers `D`. -/
structure Holds (A : FVec Ideal TailReferenceIdeal.S4096x2048 .f32) (X : Tok) (P : FVec Ideal TailReferenceIdeal.S4096x256 .f32) (T : Tok)
    (Wo : FVec Ideal TailReferenceIdeal.S2048x1024 .f32) (G : FVec Ideal TailReferenceIdeal.S1x1024 .f32) (Wp : FVec Ideal TailReferenceIdeal.S256x1024 .f32)
    (E : FVec Ideal TailReferenceIdeal.S1x1024 .f32) (Wg : FVec Ideal TailReferenceIdeal.S1024x1024 .f32) (B : FVec Ideal TailReferenceIdeal.S1x1024 .f32)
    (D : Data) : Prop where
  a : ∀ t k, A (ix2 t k) = (D.a t k : EReal)
  x : ∀ t d, X (ix2 t d) = (D.x t d : EReal)
  p : ∀ t k, P (ix2 t k) = (D.p t k : EReal)
  t : ∀ t d, T (ix2 t d) = (D.t t d : EReal)
  wo : ∀ k d, Wo (ix2 k d) = (D.wo k d : EReal)
  g : ∀ d, G (ix2 0 d) = (D.g d : EReal)
  wp : ∀ k d, Wp (ix2 k d) = (D.wp k d : EReal)
  e : ∀ d, E (ix2 0 d) = (D.e d : EReal)
  wg : ∀ k d, Wg (ix2 k d) = (D.wg k d : EReal)
  b : ∀ d, B (ix2 0 d) = (D.b d : EReal)

namespace Ref

open Cert.TailReferenceIdeal Cert.TailReferenceIdeal.Gen
open Cert.Input.Ref (root sq part ct sq_at root_at part_at ct_at)
open Cert.Attn (sum_coe div_real)
open Cert.Norm
open Cert.Fgate (half_f32)

theorem kilo_ne : (1024 : ℝ) ≠ 0 := by norm_num

section
variable {X Y : Tok} {x y : Row} {t : Fin 4096} (hX : ∀ j, X (ix2 t j) = (x j : EReal)) (hY : ∀ j, Y (ix2 t j) = (y j : EReal))
include hX

theorem sq_real : sq X (ix2 t 0) = ((ms x : ℝ) : EReal) := by
  rw [sq_at, kilo_eq, eps_eq]
  simp only [hX, ← EReal.coe_mul, sum_coe, div_real _ kilo_ne, ← EReal.coe_add]
  rfl
theorem root_real : root X (ix2 t 0) = ((rs x : ℝ) : EReal) := by
  rw [root_at, sq_real hX, rs_up]
theorem nrm_real (d : Fin 1024) : nrm X (ix2 t d) = ((x d * rs x : ℝ) : EReal) := by
  have e : nrm X (ix2 t d) = X (ix2 t d) * root X (ix2 t 0) := by pointwise [nrm, wide]
  rw [e, hX, root_real hX, ← EReal.coe_mul]
include hY
theorem dnr_real (d : Fin 1024) : dnr X Y (ix2 t d) = ((gradKer x y d : ℝ) : EReal) := by
  have e : dnr X Y (ix2 t d) = Y (ix2 t d) * root X (ix2 t 0) + X (ix2 t d) * part X Y (ix2 t d) + part X Y (ix2 t d) * X (ix2 t d) := by
    pointwise [dnr, wide]
  rw [e, part_at, root_real hX, sq_real hX, kilo_eq, mhalf_eq, grad_eq]
  simp only [hX, hY, ← EReal.coe_mul, sum_coe, div_real _ (ms_pos x).ne', div_real _ kilo_ne, ← EReal.coe_add]
  rfl
end

theorem con_at (w : BitVec 32) (t : Fin 4096) (d : Fin 1024) : con w (ix2 t d) = Ideal.ofBits FTy.f32 w := by
  pointwise [con]
theorem mixed_at (A : FVec Ideal S4096x2048 .f32) (W : FVec Ideal S2048x1024 .f32) (t : Fin 4096) (d : Fin 1024) :
    mixed A W (ix2 t d) = ∑ k : Fin 2048, A (ix2 t k) * W (ix2 k d) := by
  pointwise [mixed]
theorem embed_at (A : FVec Ideal S4096x256 .f32) (W : FVec Ideal S256x1024 .f32) (t : Fin 4096) (d : Fin 1024) :
    embed A W (ix2 t d) = ∑ k : Fin 256, A (ix2 t k) * W (ix2 k d) := by
  pointwise [embed]
theorem gate_at (H : Tok) (W : FVec Ideal S1024x1024 .f32) (B : Row1) (t : Fin 4096) (d : Fin 1024) : gate H W B (ix2 t d)
    = Ideal.div (con 0x3F800000#32 (ix2 t d)) (con 0x3F800000#32 (ix2 t d) + Ideal.exp (-(∑ j : Fin 1024, H (ix2 t j) * W (ix2 j d) + B (ix2 0 d)))) := by
  pointwise [gate]
theorem dif_at (H S E T : Tok) (t : Fin 4096) (d : Fin 1024) : dif H S E T (ix2 t d) = H (ix2 t d) + S (ix2 t d) * E (ix2 t d) - T (ix2 t d) := by
  pointwise [dif]
theorem dyo_at (R : Tok) (t : Fin 4096) (d : Fin 1024) : dyo R (ix2 t d)
    = Ideal.div (Ideal.ofBits FTy.f32 0x3F000000#32 * Ideal.ofBits FTy.f32 0x3F800000#32) (Ideal.ofBits FTy.f32 0x44800000#32) * (con 0x40000000#32 (ix2 t d) * R (ix2 t d)) := by
  pointwise [dyo]
theorem dgo_at (Y E S : Tok) (t : Fin 4096) (d : Fin 1024) :
    dgo Y E S (ix2 t d) = Y (ix2 t d) * E (ix2 t d) * (S (ix2 t d) * (con 0x3F800000#32 (ix2 t d) - S (ix2 t d))) := by
  pointwise [dgo]
theorem dho_at (Y N : Tok) (W : FVec Ideal S1024x1024 .f32) (t : Fin 4096) (d : Fin 1024) :
    dho Y N W (ix2 t d) = Y (ix2 t d) + ∑ j : Fin 1024, N (ix2 t j) * W (ix2 d j) := by
  pointwise [dho]
theorem dao_at (M : Tok) (W : FVec Ideal S2048x1024 .f32) (t : Fin 4096) (k : Fin 2048) :
    dao M W (ix2 t k) = ∑ j : Fin 1024, M (ix2 t j) * W (ix2 k j) := by
  pointwise [dao]
theorem col_at (X : Tok) (d : Fin 1024) : col X (ix1 d) = ∑ t : Fin 4096, X (ix2 t d) := by
  pointwise [col]
theorem rows_at (H N P U Z R : Tok) (i : Fin 8) (d : Fin 1024) : rows H N P U Z R (ix2 i d)
    = if h : i.val < 1 then col (mulf N H) (ix1 d)
      else if h : i.val - 1 < 1 then col (mulf P U) (ix1 d)
      else if h : i.val - 1 - 1 < 1 then col Z (ix1 d)
      else if h : i.val - 1 - 1 - 1 < 1 then Ideal.div (Ideal.ofBits FTy.f32 0x3F000000#32 * col (mulf R R) (ix1 d)) (Ideal.ofBits FTy.f32 0x44800000#32)
      else 0 := by
  pointwise [rows]

section
variable (m : (ℓ : Loc nD τ sig) → Buf (Elt Ideal) ℓ) (c : Dev nD) {D : Data}
  (h : Holds (aA m c) (aX m c) (aP m c) (aT m c) (aWo m c) (aG m c) (aWp m c) (aE m c) (aWg m c) (aB m c) D) (t : Fin 4096) (d : Fin 1024)
include h

theorem vM_at : vM m c (ix2 t d) = (D.mu t d : EReal) := by
  unfold vM
  rw [mixed_at]
  simp only [h.a, h.wo, ← EReal.coe_mul, sum_coe]
  rfl
theorem vP_at : vP m c (ix2 t d) = (D.pe t d : EReal) := by
  unfold vP
  rw [embed_at]
  simp only [h.p, h.wp, ← EReal.coe_mul, sum_coe]
  rfl
theorem nM_at : nrm (vM m c) (ix2 t d) = (D.mh t d : EReal) := nrm_real (vM_at m c h t) d
theorem nP_at : nrm (vP m c) (ix2 t d) = (D.ph t d : EReal) := nrm_real (vP_at m c h t) d
theorem vH_at : vH m c (ix2 t d) = (D.hid t d : EReal) := by
  have e : vH m c (ix2 t d) = aX m c (ix2 t d) + ct (nrm (vM m c)) (aG m c) (ix2 t d) := by pointwise [vH, hid]
  rw [e, ct_at, nM_at m c h, h.x, h.g, ← EReal.coe_mul, ← EReal.coe_add]
  rfl
theorem vE_at : vE m c (ix2 t d) = (D.em t d : EReal) := by
  unfold vE
  rw [ct_at, nP_at m c h, h.e, ← EReal.coe_mul]
  rfl
theorem vS_at : vS m c (ix2 t d) = (D.s t d : EReal) := by
  unfold vS
  rw [gate_at, con_at, one_eq]
  simp only [vH_at m c h, h.wg, h.b, ← EReal.coe_mul, sum_coe, ← EReal.coe_add, ← EReal.coe_neg]
  have hp := Real.exp_pos (-(∑ j, D.hid t j * D.wg j d + D.b d))
  change Ideal.div ((1 : ℝ) : EReal) (((1 : ℝ) : EReal) + ((Real.exp (-(∑ j, D.hid t j * D.wg j d + D.b d)) : ℝ) : EReal)) = _
  rw [← EReal.coe_add, div_real _ (by positivity)]
  rfl
theorem vR_at : vR m c (ix2 t d) = (D.df t d : EReal) := by
  unfold vR
  rw [dif_at, vH_at m c h, vS_at m c h, vE_at m c h, h.t, ← EReal.coe_mul, ← EReal.coe_add, ← EReal.coe_sub]
  rfl
theorem vY_at : vY m c (ix2 t d) = (D.dy t d : EReal) := by
  unfold vY
  rw [dyo_at, con_at, vR_at m c h, half_f32, one_eq, kilo_eq, two_eq, ← EReal.coe_mul, div_real _ kilo_ne, ← EReal.coe_mul, ← EReal.coe_mul]
  congr 1
  unfold Data.dy
  ring
theorem vU_at : vU m c (ix2 t d) = (D.de t d : EReal) := by
  have e : vU m c (ix2 t d) = vS m c (ix2 t d) * vY m c (ix2 t d) := by pointwise [vU]
  rw [e, vS_at m c h, vY_at m c h, ← EReal.coe_mul, mul_comm]
  rfl
theorem vN_at : vN m c (ix2 t d) = (D.dg t d : EReal) := by
  unfold vN
  rw [dgo_at, con_at, one_eq, vS_at m c h, vY_at m c h, vE_at m c h, ← EReal.coe_mul, ← EReal.coe_sub, ← EReal.coe_mul, ← EReal.coe_mul, ← mul_assoc]
  rfl
theorem vD_at : vD m c (ix2 t d) = (D.dh t d : EReal) := by
  unfold vD
  rw [dho_at]
  simp only [vY_at m c h, vN_at m c h, h.wg, ← EReal.coe_mul, sum_coe, ← EReal.coe_add]
  rfl
theorem vL_at : vL m c (ix2 t d) = (D.dmix t d : EReal) :=
  dnr_real (vM_at m c h t) (y := fun j => D.dh t j * D.g j) (fun j => by rw [ct_at, vD_at m c h, h.g, ← EReal.coe_mul]) d
theorem vQ_at : vQ m c (ix2 t d) = (D.dpe t d : EReal) :=
  dnr_real (vP_at m c h t) (y := fun j => D.de t j * D.e j) (fun j => by rw [ct_at, vU_at m c h, h.e, ← EReal.coe_mul]) d
theorem da_at (k : Fin 2048) : dao (vL m c) (aWo m c) (ix2 t k) = (D.da t k : EReal) := by
  rw [dao_at]
  simp only [vL_at m c h, h.wo, ← EReal.coe_mul, sum_coe]
  rfl

theorem rows_real (i : Fin 8) : rows (vD m c) (nrm (vM m c)) (nrm (vP m c)) (vU m c) (vN m c) (vR m c) (ix2 i d) = ((∑ t, D.row t d i.val : ℝ) : EReal) := by
  rw [rows_at]
  obtain ⟨i, hi⟩ := i
  match i, hi with
  | 0, _ =>
    rw [dif_pos (by norm_num), col_at]
    refine (Finset.sum_congr rfl fun t _ => ?_).trans (sum_coe _)
    refine (congrArg₂ (· * ·) (nM_at m c h t d) (vD_at m c h t d)).trans ?_
    rw [← EReal.coe_mul, mul_comm]
    rfl
  | 1, _ =>
    rw [dif_neg (by norm_num), dif_pos (by norm_num), col_at]
    refine (Finset.sum_congr rfl fun t _ => ?_).trans (sum_coe _)
    refine (congrArg₂ (· * ·) (nP_at m c h t d) (vU_at m c h t d)).trans ?_
    rw [← EReal.coe_mul, mul_comm]
    rfl
  | 2, _ =>
    rw [dif_neg (by norm_num), dif_neg (by norm_num), dif_pos (by norm_num), col_at]
    exact (Finset.sum_congr rfl fun t _ => vN_at m c h t d).trans (sum_coe _)
  | 3, _ =>
    rw [dif_neg (by norm_num), dif_neg (by norm_num), dif_neg (by norm_num), dif_pos (by norm_num), col_at, half_f32, kilo_eq]
    have e : ∑ t, (mulf (vR m c) (vR m c) : Tok) (ix2 t d) = ((∑ t, D.df t d * D.df t d : ℝ) : EReal) :=
      (Finset.sum_congr rfl fun t _ => (congrArg₂ (· * ·) (vR_at m c h t d) (vR_at m c h t d)).trans (EReal.coe_mul _ _).symm).trans (sum_coe _)
    rw [e, ← EReal.coe_mul, div_real _ kilo_ne]
    congr 1
    show 1 / 2 * (∑ t, D.df t d * D.df t d) / 1024 = ∑ t, D.df t d * D.df t d * (1 / 2048)
    rw [← Finset.sum_mul]
    ring
  | n + 4, hn =>
    rw [dif_neg (by simp), dif_neg (by simp), dif_neg (by simp), dif_neg (by simp)]
    have e : ∑ t, D.row t d (n + 4) = 0 := Finset.sum_eq_zero fun t _ => rfl
    rw [e]
    rfl

end
end Ref

end Cert.Tail

end
-- ==== Proof.TailKer.lean ====
module

public import proofs.«01_k».proof.Proof.Gen.TailKernelIdeal.Value
public import proofs.«01_k».proof.Proof.TailPay
public import proofs.«01_k».proof.Proof.TailReal

@[expose] public section

set_option maxRecDepth 16384

noncomputable section

/-! # The blocks of the tail's kernel

The 4096 rows go in 16 tiles of 256. A tile's blocks are the arguments' numbers in its rows. -/

namespace Cert.Tail.Ker

open Cert.TailKernelIdeal Cert.TailKernelIdeal.Gen Idealize.ShloMosaic Idealize.ShloMosaic.TcCoe Idealize.SL.Sem
open Idealize.ShloMosaic.Pipeline (Dat)
open Cert.Input.Ref (Tok)

variable (m : (ℓ : Loc nD τ sig) → Buf (Elt Ideal) ℓ) (c : Dev nD)

abbrev aA : FVec Ideal S4096x2048 .f32 := m ((c : Thread nD τ).loc main_arg0)
abbrev aX : Tok := m ((c : Thread nD τ).loc main_arg1)
abbrev aP : FVec Ideal S4096x256 .f32 := m ((c : Thread nD τ).loc main_arg2)
abbrev aT : Tok := m ((c : Thread nD τ).loc main_arg3)
abbrev aWo : FVec Ideal S2048x1024 .f32 := m ((c : Thread nD τ).loc main_arg4)
abbrev aG : FVec Ideal S1x1024 .f32 := m ((c : Thread nD τ).loc main_arg5)
abbrev aWp : FVec Ideal S256x1024 .f32 := m ((c : Thread nD τ).loc main_arg6)
abbrev aE : FVec Ideal S1x1024 .f32 := m ((c : Thread nD τ).loc main_arg7)
abbrev aWg : FVec Ideal S1024x1024 .f32 := m ((c : Thread nD τ).loc main_arg8)
abbrev aB : FVec Ideal S1x1024 .f32 := m ((c : Thread nD τ).loc main_arg9)

/-- Row `x` of the tile that point `t` works on. -/
def row (t : Fin cfg0.N) (x : Fin 256) : Fin 4096 := ⟨t.val * 256 + x.val, by have := lt_of_lt_of_eq t.isLt (show cfg0.N = 16 from N_0); omega⟩

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![0, 0] :=
  (by decide +kernel : ∀ t : Fin grid0.N, _)

theorem V0 (t : Fin 4096) (k : Fin 2048) : (V m c main_v0 : FVec Ideal S4096x2048 .bf16) (ix2 t k) = aA m c (ix2 t k) := by
  unfold V
  simp only [hostOps0]
  after_results
  pointwise [aA]
theorem V1 (k : Fin 2048) (d : Fin 1024) : (V m c main_v1 : FVec Ideal S2048x1024 .bf16) (ix2 k d) = aWo m c (ix2 k d) := by
  unfold V
  simp only [hostOps0]
  after_results
  pointwise [aWo]
theorem V2 (k : Fin 256) (d : Fin 1024) : (V m c main_v2 : FVec Ideal S256x1024 .bf16) (ix2 k d) = aWp m c (ix2 k d) := by
  unfold V
  simp only [hostOps0]
  after_results
  pointwise [aWp]
theorem V3 (k : Fin 1024) (d : Fin 1024) : (V m c main_v3 : FVec Ideal S1024x1024 .bf16) (ix2 k d) = aWg m c (ix2 k d) := by
  unfold V
  simp only [hostOps0]
  after_results
  pointwise [aWg]

theorem iblk0 (t : Fin cfg0.N) (x : Fin 256) (k : Fin 2048) : (iblk m c 0 t : FVec Ideal S256x2048 .bf16) (ix2 x k) = aA m c (ix2 (row t x) k) := by
  refine Eq.trans ?_ (V0 m c (row t x) k)
  blk_ext [iblk, idx t, row]
theorem iblk1 (t : Fin cfg0.N) (x : Fin 256) (d : Fin 1024) : (iblk m c 1 t : FVec Ideal S256x1024 .f32) (ix2 x d) = aX m c (ix2 (row t x) d) := by
  refine Eq.trans ?_ (congrFun (V_main_arg1 m c) (ix2 (row t x) d))
  blk_ext [iblk, idx t, row]
theorem iblk2 (t : Fin cfg0.N) (x : Fin 256) (k : Fin 256) : (iblk m c 2 t : FVec Ideal S256x256 .f32) (ix2 x k) = aP m c (ix2 (row t x) k) := by
  refine Eq.trans ?_ (congrFun (V_main_arg2 m c) (ix2 (row t x) k))
  blk_ext [iblk, idx t, row]
theorem iblk3 (t : Fin cfg0.N) (x : Fin 256) (d : Fin 1024) : (iblk m c 3 t : FVec Ideal S256x1024 .f32) (ix2 x d) = aT m c (ix2 (row t x) d) := by
  refine Eq.trans ?_ (congrFun (V_main_arg3 m c) (ix2 (row t x) d))
  blk_ext [iblk, idx t, row]
theorem iblk4 (t : Fin cfg0.N) (k : Fin 2048) (d : Fin 1024) : (iblk m c 4 t : FVec Ideal S2048x1024 .bf16) (ix2 k d) = aWo m c (ix2 k d) := by
  refine Eq.trans ?_ (V1 m c k d)
  blk_ext [iblk, idx t, row]
theorem iblk5 (t : Fin cfg0.N) (d : Fin 1024) : (iblk m c 5 t : FVec Ideal S1x1024 .f32) (ix2 0 d) = aG m c (ix2 0 d) := by
  refine Eq.trans ?_ (congrFun (V_main_arg5 m c) (ix2 0 d))
  blk_ext [iblk, idx t, row]
theorem iblk6 (t : Fin cfg0.N) (k : Fin 256) (d : Fin 1024) : (iblk m c 6 t : FVec Ideal S256x1024 .bf16) (ix2 k d) = aWp m c (ix2 k d) := by
  refine Eq.trans ?_ (V2 m c k d)
  blk_ext [iblk, idx t, row]
theorem iblk7 (t : Fin cfg0.N) (d : Fin 1024) : (iblk m c 7 t : FVec Ideal S1x1024 .f32) (ix2 0 d) = aE m c (ix2 0 d) := by
  refine Eq.trans ?_ (congrFun (V_main_arg7 m c) (ix2 0 d))
  blk_ext [iblk, idx t, row]
theorem iblk8 (t : Fin cfg0.N) (k : Fin 1024) (d : Fin 1024) : (iblk m c 8 t : FVec Ideal S1024x1024 .bf16) (ix2 k d) = aWg m c (ix2 k d) := by
  refine Eq.trans ?_ (V3 m c k d)
  blk_ext [iblk, idx t, row]
theorem iblk9 (t : Fin cfg0.N) (d : Fin 1024) : (iblk m c 9 t : FVec Ideal S1x1024 .f32) (ix2 0 d) = aB m c (ix2 0 d) := by
  refine Eq.trans ?_ (congrFun (V_main_arg9 m c) (ix2 0 d))
  blk_ext [iblk, idx t, row]

/-- The kernel's arguments are the real numbers `D`. -/
abbrev HoldsK (D : Data) : Prop := Holds (aA m c) (aX m c) (aP m c) (aT m c) (aWo m c) (aG m c) (aWp m c) (aE m c) (aWg m c) (aB m c) D

theorem blocks {D : Data} (h : HoldsK m c D) (t : Fin cfg0.N) : Pay.Blocks D (row t) (iblk m c 0 t) (iblk m c 4 t) (iblk m c 1 t) (iblk m c 3 t)
    (iblk m c 5 t) (iblk m c 7 t) (iblk m c 9 t) (iblk m c 2 t) (iblk m c 6 t) (iblk m c 8 t) where
  a r k := (iblk0 m c t r k).trans (h.a _ _)
  wo k d := (iblk4 m c t k d).trans (h.wo _ _)
  x r d := (iblk1 m c t r d).trans (h.x _ _)
  y r d := (iblk3 m c t r d).trans (h.t _ _)
  g d := (iblk5 m c t d).trans (h.g _)
  e d := (iblk7 m c t d).trans (h.e _)
  b d := (iblk9 m c t d).trans (h.b _)
  p r k := (iblk2 m c t r k).trans (h.p _ _)
  wp k d := (iblk6 m c t k d).trans (h.wp _ _)
  wg k d := (iblk8 m c t k d).trans (h.wg _ _)

end Cert.Tail.Ker

end
-- ==== Proof.TailTiles.lean ====
module

public import proofs.«01_k».proof.Proof.TailKer
public import proofs.«01_k».proof.Proof.InputTiles

@[expose] public section

set_option maxRecDepth 16384

noncomputable section

/-! # The tiles of the tail put together

Each tile writes its rows of seven results, and adds its rows' part of the sums over all rows to the first four rows of the eighth. -/

namespace Cert.Tail.Ker

open Cert.TailKernelIdeal Cert.TailKernelIdeal.Gen Idealize.ShloMosaic Idealize.ShloMosaic.TcCoe Idealize.SL.Sem
open Idealize.ShloMosaic.Pipeline (Dat)
open Cert.Input.Ker (pre pre_zero pre_tile pre_all)
open Cert.Fgate (ext)
open Cert.Attn (sum_coe)

variable (m : (ℓ : Loc nD τ sig) → Buf (Elt Ideal) ℓ) (c : Dev nD) {D : Data} (h : HoldsK m c D)

/-- The rows' part of one entry of the sums. -/
def term (D : Data) (d : Fin 1024) (i : ℕ) (t : Fin 4096) : EReal := (D.row t d i : EReal)

/-- What the run leaves after point `t`. -/
structure Left (D : Data) (t : Fin cfg0.N) (O : Vec Ideal S256x1024 .f32 × Vec Ideal S256x2048 .f32 × Vec Ideal S256x1024 .bf16 × Vec Ideal S256x1024 .bf16
    × Vec Ideal S256x1024 .bf16 × Vec Ideal S256x256 .bf16 × Vec Ideal S256x1024 .bf16 × Vec Ideal S8x1024 .f32) : Prop where
  dh : ∀ x d, O.1 (ix2 x d) = (D.dh (row t x) d : EReal)
  da : ∀ x k, O.2.1 (ix2 x k) = (D.da (row t x) k : EReal)
  dmix : ∀ x d, O.2.2.1 (ix2 x d) = (D.dmix (row t x) d : EReal)
  hid : ∀ x d, O.2.2.2.1 (ix2 x d) = (D.hid (row t x) d : EReal)
  dg : ∀ x d, O.2.2.2.2.1 (ix2 x d) = (D.dg (row t x) d : EReal)
  p : ∀ x k, O.2.2.2.2.2.1 (ix2 x k) = (D.p (row t x) k : EReal)
  dpe : ∀ x d, O.2.2.2.2.2.2.1 (ix2 x d) = (D.dpe (row t x) d : EReal)
  acc : ∀ (i : Fin 8) d, O.2.2.2.2.2.2.2 (ix2 i d) = pre (term D d i.val) (t.val * 256 + 256)

/-- One tile's rows added to the sums. -/
theorem tile (t : Fin cfg0.N) (d : Fin 1024) (i : ℕ) (z : EReal) (f : Fin 256 → EReal) (hz : z = pre (term D d i) (t.val * 256))
    (hf : ∀ r, f r = (D.row (row t r) d i : EReal)) : z + ∑ r, f r = pre (term D d i) (t.val * 256 + 256) := by
  have hN := lt_of_lt_of_eq t.isLt (show cfg0.N = 16 from N_0)
  rw [hz, pre_tile]
  congr 1
  refine Finset.sum_congr rfl fun r _ => (hf r).trans ?_
  have e : ext (term D d i) (t.val * 256 + r.val) = term D d i (row t r) := dif_pos (show t.val * 256 + r.val < 4096 by omega)
  exact e.symm

theorem pre_rest (d : Fin 1024) (i : ℕ) (hi : 4 ≤ i) (n : ℕ) : pre (term D d i) n = 0 := by
  refine Finset.sum_eq_zero fun j _ => ?_
  unfold ext
  split
  · obtain ⟨k, rfl⟩ := Nat.exists_eq_add_of_le' hi
    exact EReal.coe_zero
  · rfl

/-- Row `k` of the sums lies in their buffer. -/
abbrev Fits (k : ℕ) : Prop := ∀ a : Fin 2, (![k, 0] : Fin 2 → ℕ) a + (![1, 1024] : Fin 2 → ℕ) a ≤ S8x1024.size a
abbrev Puts := List (View.Piece (Elt Ideal) S8x1024 .f32)
abbrev put {k : ℕ} (inb : Fits k) (w : S1x1024.Idx → EReal) : View.Piece (Elt Ideal) S8x1024 .f32 := ⟨Rect.unit ![k, 0] ![1, 1024] inb, w⟩

/-- One row stored over earlier stores, read in the row and outside it, and a load of a row. -/
theorem in_row {k : ℕ} (inb : Fits k) (w : S1x1024.Idx → EReal) (L : Puts) (i : Fin 8) (d : Fin 1024) (hi : i.val = k) :
    View.canon (put inb w :: L) (ix2 i d) = w (ix2 0 d) := by
  refine Stores.canon_in (Val := Elt Ideal) (S := S8x1024) (e := .f32) inb w L (ix2 i d) (ix2 0 d) fun a => ?_
  match a with
  | 0 => exact hi
  | 1 => exact (Nat.zero_add _).symm
theorem out_row {k : ℕ} (inb : Fits k) (w : S1x1024.Idx → EReal) (L : Puts) (i : Fin 8) (d : Fin 1024) (hi : i.val < k ∨ k + 1 ≤ i.val) :
    View.canon (put inb w :: L) (ix2 i d) = View.canon L (ix2 i d) :=
  Stores.canon_out (Val := Elt Ideal) (S := S8x1024) (e := .f32) inb w L (ix2 i d) (0 : Fin 2) hi
theorem in_all (inb : ∀ a : Fin 2, (![0, 0] : Fin 2 → ℕ) a + (![8, 1024] : Fin 2 → ℕ) a ≤ S8x1024.size a) (i : Fin 8) (d : Fin 1024) :
    View.canon [(⟨Rect.unit ![0, 0] ![8, 1024] inb, (k0_pay2 (F := Ideal))⟩ : View.Piece (Elt Ideal) S8x1024 .f32)] (ix2 i d) = 0 := by
  refine (Stores.canon_in (Val := Elt Ideal) (S := S8x1024) (e := .f32) inb (k0_pay2 (F := Ideal)) [] (ix2 i d) (ix2 i d) fun a => ?_).trans (Pay.at2 i d)
  match a with
  | 0 => exact (Nat.zero_add _).symm
  | 1 => exact (Nat.zero_add _).symm
theorem load_row {sg : RefSig} {κ : Kind} {sp : Space} (v : View sg κ sp S8x1024 .f32) (L : Puts) {k : ℕ} (hk : k < 8) (inb : Fits k) (d : Fin 1024) :
    v.readCov L (Rect.unit ![k, 0] ![1, 1024] inb : Rect S8x1024).toLoadRect (ix2 0 d) = View.canon L (ix2 ⟨k, hk⟩ d) := by
  refine Stores.readCov_at (S := S8x1024) (e := .f32) v L inb (ix2 0 d) (ix2 ⟨k, hk⟩ d) fun a => ?_
  match a with
  | 0 => rfl
  | 1 => exact (Nat.zero_add _).symm
theorem in_wr {sg : RefSig} {κ : Kind} {sp : Space} (v : View sg κ sp S8x1024 .f32) (f : v.ty.Contents (Elt Ideal)) {k : ℕ} (inb : Fits k) (w : S1x1024.Idx → EReal)
    (L : Puts) (i : Fin 8) (d : Fin 1024) (hi : i.val = k) : v.read (Elt Ideal) (v.writes (Elt Ideal) f (put inb w :: L)) (ix2 i d) = w (ix2 0 d) := by
  refine View.read_writes_cons_unit_of_mem v f inb w L (ix2 i d) (ix2 0 d) rfl fun a => ?_
  match a with
  | 0 => exact hi
  | 1 => exact (Nat.zero_add _).symm
theorem out_wr {sg : RefSig} {κ : Kind} {sp : Space} (v : View sg κ sp S8x1024 .f32) (f : v.ty.Contents (Elt Ideal)) {k : ℕ} (inb : Fits k) (w : S1x1024.Idx → EReal)
    (L : Puts) (i : Fin 8) (d : Fin 1024) (hi : i.val < k ∨ k + 1 ≤ i.val) :
    v.read (Elt Ideal) (v.writes (Elt Ideal) f (put inb w :: L)) (ix2 i d) = v.read (Elt Ideal) (v.writes (Elt Ideal) f L) (ix2 i d) :=
  View.read_writes_cons_unit_of_not_mem v f inb w L (ix2 i d) rfl (0 : Fin 2) hi
theorem ld_row (X : Vec Ideal S8x1024 .f32) {k : ℕ} (hk : k < 8) (inb : Fits k) (d : Fin 1024) :
    View.ld X (Rect.unit ![k, 0] ![1, 1024] inb : Rect S8x1024) (ix2 0 d) = X (ix2 ⟨k, hk⟩ d) := by
  refine View.ld_unit_apply_of _ _ _ _ _ _ fun a => ?_
  match a with
  | 0 => rfl
  | 1 => exact (Nat.zero_add _).symm

section
include h
variable (t : Fin cfg0.N) (d : Fin 1024) (z : Vec Ideal S1x1024 .f32)

theorem acc0 (hz : z (ix2 0 d) = pre (term D d 0) (t.val * 256)) :
    k0_pay29 (k0_pay5 (iblk m c 0 t) (iblk m c 4 t)) (k0_pay23 (k0_pay18 (k0_pay6 (iblk m c 0 t) (iblk m c 4 t) (iblk m c 1 t) (iblk m c 5 t))
      (k0_pay9 (iblk m c 2 t) (iblk m c 6 t)) (k0_pay10 (iblk m c 2 t) (iblk m c 6 t)) Pay.kilo (iblk m c 7 t) (iblk m c 8 t) (iblk m c 9 t) (iblk m c 3 t))
      (k0_pay21 (k0_pay6 (iblk m c 0 t) (iblk m c 4 t) (iblk m c 1 t) (iblk m c 5 t))
      (k0_pay9 (iblk m c 2 t) (iblk m c 6 t)) (k0_pay10 (iblk m c 2 t) (iblk m c 6 t)) Pay.kilo (iblk m c 7 t) (iblk m c 8 t) (iblk m c 9 t) (iblk m c 3 t))
      (iblk m c 8 t)) z (ix2 0 d) = pre (term D d 0) (t.val * 256 + 256) :=
  (Pay.at29 _ _ _ d).trans (tile t d 0 _ _ hz fun r =>
    (congrArg₂ (· * ·) (Pay.dh (blocks m c h t) r d) (Pay.mh (blocks m c h t) r d)).trans (EReal.coe_mul _ _).symm)

theorem acc1 (hz : z (ix2 0 d) = pre (term D d 1) (t.val * 256)) :
    k0_pay30 (k0_pay12 (k0_pay9 (iblk m c 2 t) (iblk m c 6 t)) (k0_pay10 (iblk m c 2 t) (iblk m c 6 t)) Pay.kilo)
      (k0_pay19 (k0_pay6 (iblk m c 0 t) (iblk m c 4 t) (iblk m c 1 t) (iblk m c 5 t))
      (k0_pay9 (iblk m c 2 t) (iblk m c 6 t)) (k0_pay10 (iblk m c 2 t) (iblk m c 6 t)) Pay.kilo (iblk m c 7 t) (iblk m c 8 t) (iblk m c 9 t) (iblk m c 3 t))
      z (ix2 0 d) = pre (term D d 1) (t.val * 256 + 256) :=
  (Pay.at30 _ _ _ d).trans (tile t d 1 _ _ hz fun r =>
    (congrArg₂ (· * ·) (Pay.de (blocks m c h t) r d) (Pay.ph (blocks m c h t) r d)).trans (EReal.coe_mul _ _).symm)

theorem acc2 (hz : z (ix2 0 d) = pre (term D d 2) (t.val * 256)) :
    k0_pay31 (k0_pay20 (k0_pay6 (iblk m c 0 t) (iblk m c 4 t) (iblk m c 1 t) (iblk m c 5 t))
      (k0_pay9 (iblk m c 2 t) (iblk m c 6 t)) (k0_pay10 (iblk m c 2 t) (iblk m c 6 t)) Pay.kilo (iblk m c 7 t) (iblk m c 8 t) (iblk m c 9 t) (iblk m c 3 t))
      z (ix2 0 d) = pre (term D d 2) (t.val * 256 + 256) :=
  (Pay.at31 _ _ d).trans (tile t d 2 _ _ hz fun r => Pay.dg (blocks m c h t) r d)

theorem acc3 (hz : z (ix2 0 d) = pre (term D d 3) (t.val * 256)) :
    k0_pay1 (k0_pay17 (k0_pay6 (iblk m c 0 t) (iblk m c 4 t) (iblk m c 1 t) (iblk m c 5 t))
      (k0_pay9 (iblk m c 2 t) (iblk m c 6 t)) (k0_pay10 (iblk m c 2 t) (iblk m c 6 t)) Pay.kilo (iblk m c 7 t) (iblk m c 8 t) (iblk m c 9 t) (iblk m c 3 t))
      z (ix2 0 d) = pre (term D d 3) (t.val * 256 + 256) := by
  refine (Pay.at1 _ _ d).trans ?_
  simp only [Pay.df (blocks m c h t), hmilli_eq, ← EReal.coe_mul, sum_coe]
  rw [Finset.sum_mul, ← sum_coe]
  exact tile t d 3 _ _ hz fun r => rfl

theorem left_zero (hn : 0 < cfg0.N) : Left D ⟨0, hn⟩ (outsAt0 m c 0 hn) := by
  rw [outsAt0_A m c ⟨0, hn⟩ rfl]
  refine ⟨?_, ?_, ?_, ?_, ?_, ?_, ?_, ?_⟩
  · intro x d
    frame_out
    exact (Pay.at24 _ _ _ x d).trans (Pay.dh (blocks m c h ⟨0, hn⟩) x d)
  · intro x k
    frame_out
    exact Pay.da (blocks m c h ⟨0, hn⟩) x k
  · intro x d
    frame_out
    exact (Pay.at27 _ x d).trans (Pay.dmix (blocks m c h ⟨0, hn⟩) x d)
  · intro x d
    frame_out
    exact (Pay.at15 _ x d).trans (Pay.hid (blocks m c h ⟨0, hn⟩) x d)
  · intro x d
    frame_out
    exact (Pay.at22 _ x d).trans (Pay.dgh (blocks m c h ⟨0, hn⟩) x d)
  · intro x k
    frame_out
    exact (Pay.at8 _ x k).trans ((blocks m c h ⟨0, hn⟩).p x k)
  · intro x d
    frame_out
    exact Pay.dpe (blocks m c h ⟨0, hn⟩) x d
  · intro i d
    frame_out
    obtain ⟨i, hi⟩ := i
    match i, hi with
    | 0, _ =>
      refine (out_row (k := 3) _ _ _ _ d (Or.inl (by show 0 < 3; omega))).trans ?_
      refine (out_row (k := 2) _ _ _ _ d (Or.inl (by show 0 < 2; omega))).trans ?_
      refine (out_row (k := 1) _ _ _ _ d (Or.inl (by show 0 < 1; omega))).trans ?_
      refine (in_row (k := 0) _ _ _ _ d rfl).trans ?_
      refine acc0 m c h ⟨0, hn⟩ d _ ((load_row _ _ (k := 0) (by decide) _ d).trans ?_)
      exact (in_all _ _ d).trans ((congrArg _ (Nat.zero_mul 256)).trans (pre_zero _)).symm
    | 1, _ =>
      refine (out_row (k := 3) _ _ _ _ d (Or.inl (by show 1 < 3; omega))).trans ?_
      refine (out_row (k := 2) _ _ _ _ d (Or.inl (by show 1 < 2; omega))).trans ?_
      refine (in_row (k := 1) _ _ _ _ d rfl).trans ?_
      refine acc1 m c h ⟨0, hn⟩ d _ ((load_row _ _ (k := 1) (by decide) _ d).trans ?_)
      refine (out_row (k := 0) _ _ _ _ d (Or.inr (by show 0 + 1 ≤ 1; omega))).trans ?_
      exact (in_all _ _ d).trans ((congrArg _ (Nat.zero_mul 256)).trans (pre_zero _)).symm
    | 2, _ =>
      refine (out_row (k := 3) _ _ _ _ d (Or.inl (by show 2 < 3; omega))).trans ?_
      refine (in_row (k := 2) _ _ _ _ d rfl).trans ?_
      refine acc2 m c h ⟨0, hn⟩ d _ ((load_row _ _ (k := 2) (by decide) _ d).trans ?_)
      refine (out_row (k := 1) _ _ _ _ d (Or.inr (by show 1 + 1 ≤ 2; omega))).trans ?_
      refine (out_row (k := 0) _ _ _ _ d (Or.inr (by show 0 + 1 ≤ 2; omega))).trans ?_
      exact (in_all _ _ d).trans ((congrArg _ (Nat.zero_mul 256)).trans (pre_zero _)).symm
    | 3, _ =>
      refine (in_row (k := 3) _ _ _ _ d rfl).trans ?_
      refine acc3 m c h ⟨0, hn⟩ d _ ((load_row _ _ (k := 3) (by decide) _ d).trans ?_)
      refine (out_row (k := 2) _ _ _ _ d (Or.inr (by show 2 + 1 ≤ 3; omega))).trans ?_
      refine (out_row (k := 1) _ _ _ _ d (Or.inr (by show 1 + 1 ≤ 3; omega))).trans ?_
      refine (out_row (k := 0) _ _ _ _ d (Or.inr (by show 0 + 1 ≤ 3; omega))).trans ?_
      exact (in_all _ _ d).trans ((congrArg _ (Nat.zero_mul 256)).trans (pre_zero _)).symm
    | n + 4, hn' =>
      refine (out_row (k := 3) _ _ _ _ d (Or.inr (by show 3 + 1 ≤ n + 4; omega))).trans ?_
      refine (out_row (k := 2) _ _ _ _ d (Or.inr (by show 2 + 1 ≤ n + 4; omega))).trans ?_
      refine (out_row (k := 1) _ _ _ _ d (Or.inr (by show 1 + 1 ≤ n + 4; omega))).trans ?_
      refine (out_row (k := 0) _ _ _ _ d (Or.inr (by show 0 + 1 ≤ n + 4; omega))).trans ?_
      exact (in_all _ _ d).trans (pre_rest d _ (Nat.le_add_left 4 n) _).symm

theorem left_succ (n : ℕ) (hn : n + 1 < cfg0.N) (ih : Left D ⟨n, Nat.lt_of_succ_lt hn⟩ (outsAt0 m c n (Nat.lt_of_succ_lt hn))) :
    Left D ⟨n + 1, hn⟩ (outsAt0 m c (n + 1) hn) := by
  have hN := lt_of_lt_of_eq hn (show cfg0.N = 16 from N_0)
  rw [outsAt0_B m c ⟨n + 1, hn⟩ (by show ¬ (n + 1) % 16 = 0; omega)]
  refine ⟨?_, ?_, ?_, ?_, ?_, ?_, ?_, ?_⟩
  · intro x d
    frame_out
    exact (Pay.at24 _ _ _ x d).trans (Pay.dh (blocks m c h ⟨n + 1, hn⟩) x d)
  · intro x k
    frame_out
    exact Pay.da (blocks m c h ⟨n + 1, hn⟩) x k
  · intro x d
    frame_out
    exact (Pay.at27 _ x d).trans (Pay.dmix (blocks m c h ⟨n + 1, hn⟩) x d)
  · intro x d
    frame_out
    exact (Pay.at15 _ x d).trans (Pay.hid (blocks m c h ⟨n + 1, hn⟩) x d)
  · intro x d
    frame_out
    exact (Pay.at22 _ x d).trans (Pay.dgh (blocks m c h ⟨n + 1, hn⟩) x d)
  · intro x k
    frame_out
    exact (Pay.at8 _ x k).trans ((blocks m c h ⟨n + 1, hn⟩).p x k)
  · intro x d
    frame_out
    exact Pay.dpe (blocks m c h ⟨n + 1, hn⟩) x d
  · intro i d
    frame_out
    have hp : ∀ (k : ℕ) (hk : k < 8), (outsAt0 m c n (Nat.lt_of_succ_lt hn)).2.2.2.2.2.2.2 (ix2 ⟨k, hk⟩ d) = pre (term D d k) ((n + 1) * 256) := fun k hk =>
      (ih.acc ⟨k, hk⟩ d).trans (congrArg _ (by show n * 256 + 256 = (n + 1) * 256; omega))
    obtain ⟨i, hi⟩ := i
    match i, hi with
    | 0, _ =>
      refine (out_wr (k := 3) _ _ _ _ _ _ d (Or.inl (by show 0 < 3; omega))).trans ?_
      refine (out_wr (k := 2) _ _ _ _ _ _ d (Or.inl (by show 0 < 2; omega))).trans ?_
      refine (out_wr (k := 1) _ _ _ _ _ _ d (Or.inl (by show 0 < 1; omega))).trans ?_
      refine (in_wr (k := 0) _ _ _ _ _ _ d rfl).trans ?_
      exact acc0 m c h ⟨n + 1, hn⟩ d _ ((ld_row _ (by decide) _ d).trans (hp 0 (by decide)))
    | 1, _ =>
      refine (out_wr (k := 3) _ _ _ _ _ _ d (Or.inl (by show 1 < 3; omega))).trans ?_
      refine (out_wr (k := 2) _ _ _ _ _ _ d (Or.inl (by show 1 < 2; omega))).trans ?_
      refine (in_wr (k := 1) _ _ _ _ _ _ d rfl).trans ?_
      exact acc1 m c h ⟨n + 1, hn⟩ d _ ((ld_row _ (by decide) _ d).trans (hp 1 (by decide)))
    | 2, _ =>
      refine (out_wr (k := 3) _ _ _ _ _ _ d (Or.inl (by show 2 < 3; omega))).trans ?_
      refine (in_wr (k := 2) _ _ _ _ _ _ d rfl).trans ?_
      exact acc2 m c h ⟨n + 1, hn⟩ d _ ((ld_row _ (by decide) _ d).trans (hp 2 (by decide)))
    | 3, _ =>
      refine (in_wr (k := 3) _ _ _ _ _ _ d rfl).trans ?_
      exact acc3 m c h ⟨n + 1, hn⟩ d _ ((ld_row _ (by decide) _ d).trans (hp 3 (by decide)))
    | k + 4, hk =>
      refine (out_wr (k := 3) _ _ _ _ _ _ d (Or.inr (by show 3 + 1 ≤ k + 4; omega))).trans ?_
      refine (out_wr (k := 2) _ _ _ _ _ _ d (Or.inr (by show 2 + 1 ≤ k + 4; omega))).trans ?_
      refine (out_wr (k := 1) _ _ _ _ _ _ d (Or.inr (by show 1 + 1 ≤ k + 4; omega))).trans ?_
      refine (out_wr (k := 0) _ _ _ _ _ _ d (Or.inr (by show 0 + 1 ≤ k + 4; omega))).trans ?_
      rw [View.writes_nil, Memref.IsWhole.read_unread]
      exact (hp (k + 4) hk).trans ((pre_rest d _ (Nat.le_add_left 4 k) _).trans (pre_rest d _ (Nat.le_add_left 4 k) _).symm)

theorem left : ∀ (n : ℕ) (hn : n < cfg0.N), Left D ⟨n, hn⟩ (outsAt0 m c n hn)
  | 0, hn => left_zero m c h hn
  | n + 1, hn => left_succ m c h n hn (left n (Nat.lt_of_succ_lt hn))

end

end Cert.Tail.Ker

end
-- ==== Proof.TailFinal.lean ====
module

public import proofs.«01_k».proof.Proof.TailTiles

@[expose] public section

set_option maxRecDepth 16384

noncomputable section

/-! # The eight results of the tail's kernel -/

namespace Cert.Tail

open Idealize.ShloMosaic Idealize.ShloMosaic.TcCoe Idealize.SL.Sem

/-! The results as real arrays. -/

def tok {f : FTy} (g : Fin 4096 → Fin 1024 → ℝ) : FVec Ideal TailKernelIdeal.S4096x1024 f := fun i => (g (i 0) (i 1) : EReal)
def mixes (g : Fin 4096 → Fin 2048 → ℝ) : FVec Ideal TailKernelIdeal.S4096x2048 .f32 := fun i => (g (i 0) (i 1) : EReal)
def embeds (g : Fin 4096 → Fin 256 → ℝ) : FVec Ideal TailKernelIdeal.S4096x256 .bf16 := fun i => (g (i 0) (i 1) : EReal)
def sums (D : Data) : FVec Ideal TailKernelIdeal.S8x1024 .f32 := fun i => ((∑ t, D.row t (i 1) (i 0).val : ℝ) : EReal)

namespace Ker

open Cert.TailKernelIdeal Cert.TailKernelIdeal.Gen
open Idealize.ShloMosaic.Pipeline (Dat)
open Cert.Input.Ker (pre pre_zero pre_tile pre_all)
open Cert.Attn (sum_coe)

variable (m : (ℓ : Loc nD τ sig) → Buf (Elt Ideal) ℓ) (c : Dev nD) {D : Data} (h : HoldsK m c D)
include h

theorem final10 : (dats m 0 c).arrAt 10 cfg0.N = tok (f := .f32) D.dh := by
  refine (dats m 0 c).arrAt_eq_of_covers 10 _ (by decide +kernel) fun t hf y => ?_
  idx_vars y
  blk_simp; rw [after0_10]
  have e : (win0_10.blk t).view.emb (ix2 y0 y1) = ix2 (row t y0) y1 := by blk_ext [idx t, row]
  rw [e]
  exact (left m c h t.val t.isLt).dh y0 y1
theorem final11 : (dats m 0 c).arrAt 11 cfg0.N = mixes D.da := by
  refine (dats m 0 c).arrAt_eq_of_covers 11 _ (by decide +kernel) fun t hf y => ?_
  idx_vars y
  blk_simp; rw [after0_11]
  have e : (win0_11.blk t).view.emb (ix2 y0 y1) = ix2 (row t y0) y1 := by blk_ext [idx t, row]
  rw [e]
  exact (left m c h t.val t.isLt).da y0 y1
theorem final12 : (dats m 0 c).arrAt 12 cfg0.N = tok (f := .bf16) D.dmix := by
  refine (dats m 0 c).arrAt_eq_of_covers 12 _ (by decide +kernel) fun t hf y => ?_
  idx_vars y
  blk_simp; rw [after0_12]
  have e : (win0_12.blk t).view.emb (ix2 y0 y1) = ix2 (row t y0) y1 := by blk_ext [idx t, row]
  rw [e]
  exact (left m c h t.val t.isLt).dmix y0 y1
theorem final13 : (dats m 0 c).arrAt 13 cfg0.N = tok (f := .bf16) D.hid := by
  refine (dats m 0 c).arrAt_eq_of_covers 13 _ (by decide +kernel) fun t hf y => ?_
  idx_vars y
  blk_simp; rw [after0_13]
  have e : (win0_13.blk t).view.emb (ix2 y0 y1) = ix2 (row t y0) y1 := by blk_ext [idx t, row]
  rw [e]
  exact (left m c h t.val t.isLt).hid y0 y1
theorem final14 : (dats m 0 c).arrAt 14 cfg0.N = tok (f := .bf16) D.dg := by
  refine (dats m 0 c).arrAt_eq_of_covers 14 _ (by decide +kernel) fun t hf y => ?_
  idx_vars y
  blk_simp; rw [after0_14]
  have e : (win0_14.blk t).view.emb (ix2 y0 y1) = ix2 (row t y0) y1 := by blk_ext [idx t, row]
  rw [e]
  exact (left m c h t.val t.isLt).dg y0 y1
theorem final15 : (dats m 0 c).arrAt 15 cfg0.N = embeds D.p := by
  refine (dats m 0 c).arrAt_eq_of_covers 15 _ (by decide +kernel) fun t hf y => ?_
  idx_vars y
  blk_simp; rw [after0_15]
  have e : (win0_15.blk t).view.emb (ix2 y0 y1) = ix2 (row t y0) y1 := by blk_ext [idx t, row]
  rw [e]
  exact (left m c h t.val t.isLt).p y0 y1
theorem final16 : (dats m 0 c).arrAt 16 cfg0.N = tok (f := .bf16) D.dpe := by
  refine (dats m 0 c).arrAt_eq_of_covers 16 _ (by decide +kernel) fun t hf y => ?_
  idx_vars y
  blk_simp; rw [after0_16]
  have e : (win0_16.blk t).view.emb (ix2 y0 y1) = ix2 (row t y0) y1 := by blk_ext [idx t, row]
  rw [e]
  exact (left m c h t.val t.isLt).dpe y0 y1
theorem final17 : (dats m 0 c).arrAt 17 cfg0.N = sums D := by
  refine (dats m 0 c).arrAt_eq_of_covers 17 _ (by decide +kernel) fun t hf y => ?_
  idx_vars y
  blk_simp; rw [after0_17]
  have e : (win0_17.blk t).view.emb (ix2 y0 y1) = ix2 y0 y1 := by blk_ext [idx t]
  rw [e]
  have h15 : t.val * 256 + 256 = 4096 := by
    have h1 := (flush0_17 t).mp hf
    have h2 := lt_of_lt_of_eq t.isLt (show cfg0.N = 16 from N_0)
    omega
  refine ((left m c h t.val t.isLt).acc y0 y1).trans ?_
  rw [h15, pre_all]
  exact sum_coe _

end Ker

end Cert.Tail

end
-- ==== Proof.TailClaims.lean ====
module

public import proofs.«01_k».proof.Defs
public import proofs.«01_k».proof.Proof.Gen.TailReferenceIdeal.Run
public import proofs.«01_k».proof.Proof.Gen.TailKernel.Frame
public import proofs.«01_k».proof.Proof.TailFinal
public import proofs.«01_k».proof.Proof.InputClaims

@[expose] public section

set_option maxRecDepth 16384

noncomputable section

/-! # The claims about the tail

With finite arguments both programs leave the same eight arrays of real numbers. -/

namespace Cert.Tail

open Idealize.ShloMosaic Idealize.ShloMosaic.TcCoe Idealize.SL.Sem
open Cert.Input.Ref (Tok)
open Cert.Input (arr)

/-! ## What the precondition says -/

section
open Cert.Pre_each_finite

theorem facts : Cert.Pre_each_finite.Facts where
  bcast_S_S4096x2048 := by decide
  reducesTo_S4096x2048_S_d0_1 := by decide
  h_S_ := by decide
  bcast_S_S4096x1024 := by decide
  reducesTo_S4096x1024_S_d0_1 := by decide
  bcast_S_S4096x256 := by decide
  reducesTo_S4096x256_S_d0_1 := by decide
  bcast_S_S2048x1024 := by decide
  reducesTo_S2048x1024_S_d0_1 := by decide
  bcast_S_S1x1024 := by decide
  reducesTo_S1x1024_S_d0_1 := by decide
  bcast_S_S256x1024 := by decide
  reducesTo_S256x1024_S_d0_1 := by decide
  bcast_S_S1024x1024 := by decide
  reducesTo_S1024x1024_S_d0_1 := by decide

theorem args [Cert.Pre_each_finite.Facts] (A : FVec Ideal S4096x2048 .f32) (X : FVec Ideal S4096x1024 .f32) (P : FVec Ideal S4096x256 .f32) (T : FVec Ideal S4096x1024 .f32)
    (Wo : FVec Ideal S2048x1024 .f32) (G : FVec Ideal S1x1024 .f32) (Wp : FVec Ideal S256x1024 .f32) (E : FVec Ideal S1x1024 .f32)
    (Wg : FVec Ideal S1024x1024 .f32) (B : FVec Ideal S1x1024 .f32) (h : Cert.Pre_each_finite.fn (F := Ideal) A X P T Wo G Wp E Wg B = fun _ => 1#1) :
    ∃ D : Data, Holds A X P T Wo G Wp E Wg B D := by
  have h0 := congrFun h ix0
  dsimp only [Cert.Pre_each_finite.fn, Cert.Pre_each_finite.fn_part1, Cert.Pre_each_finite.fn_part2] at h0
  obtain ⟨h0, hB⟩ := IntOp.andi_eq_one.1 h0
  obtain ⟨h0, hWg⟩ := IntOp.andi_eq_one.1 h0
  obtain ⟨h0, hE⟩ := IntOp.andi_eq_one.1 h0
  obtain ⟨h0, hWp⟩ := IntOp.andi_eq_one.1 h0
  obtain ⟨h0, hG⟩ := IntOp.andi_eq_one.1 h0
  obtain ⟨h0, hWo⟩ := IntOp.andi_eq_one.1 h0
  obtain ⟨h0, hT⟩ := IntOp.andi_eq_one.1 h0
  obtain ⟨h0, hP⟩ := IntOp.andi_eq_one.1 h0
  obtain ⟨hA, hX⟩ := IntOp.andi_eq_one.1 h0
  obtain ⟨a, ha⟩ := arr A _ _ _ hA
  obtain ⟨x, hx⟩ := arr X _ _ _ hX
  obtain ⟨p, hp⟩ := arr P _ _ _ hP
  obtain ⟨t, ht⟩ := arr T _ _ _ hT
  obtain ⟨wo, hwo⟩ := arr Wo _ _ _ hWo
  obtain ⟨g, hg⟩ := arr G _ _ _ hG
  obtain ⟨wp, hwp⟩ := arr Wp _ _ _ hWp
  obtain ⟨e, he⟩ := arr E _ _ _ hE
  obtain ⟨wg, hwg⟩ := arr Wg _ _ _ hWg
  obtain ⟨b, hb⟩ := arr B _ _ _ hB
  exact ⟨⟨fun i j => a (ix2 i j), fun i j => x (ix2 i j), fun i j => p (ix2 i j), fun i j => t (ix2 i j), fun i j => wo (ix2 i j), fun d => g (ix2 0 d),
    fun i j => wp (ix2 i j), fun d => e (ix2 0 d), fun i j => wg (ix2 i j), fun d => b (ix2 0 d)⟩,
    ⟨fun _ _ => congrFun ha _, fun _ _ => congrFun hx _, fun _ _ => congrFun hp _, fun _ _ => congrFun ht _, fun _ _ => congrFun hwo _, fun _ => congrFun hg _,
      fun _ _ => congrFun hwp _, fun _ => congrFun he _, fun _ _ => congrFun hwg _, fun _ => congrFun hb _⟩⟩

end

/-! ## The frames -/

theorem frame_words : Cert.quiescent_TailKernel (hTailKernel := Cert.TailKernel.Gen.facts) := fun m ρ _ => Cert.TailKernel.Gen.frame m ρ
theorem frame_ideal : Cert.quiescent_TailKernelIdeal (hTailKernelIdeal := Cert.TailKernelIdeal.Gen.facts) := fun m ρ _ => Cert.TailKernelIdeal.Gen.frame m ρ
theorem frame_ideal_finite : Cert.quiescent_TailKernelIdeal_pre_each_finite (hTailKernelIdeal := Cert.TailKernelIdeal.Gen.facts) (hPre_each_finite := facts) :=
  fun m ρ _ => frame_ideal m ρ trivial
theorem frame_reference : Cert.quiescent_TailReferenceIdeal (hTailReferenceIdeal := Cert.TailReferenceIdeal.Gen.facts) :=
  fun m g _ => (θ_run Cert.TailReferenceIdeal.defs _ _).mono
    (fun r h => ⟨fun c => (h c).2.2.2.2.2.2.2.2, sem_eq_zero_of_no_sems (by decide) r.2⟩)
    (Cert.TailReferenceIdeal.Value.run m g)
theorem frame_reference_finite : Cert.quiescent_TailReferenceIdeal_pre_each_finite (hTailReferenceIdeal := Cert.TailReferenceIdeal.Gen.facts) (hPre_each_finite := facts) :=
  fun m g _ => frame_reference m g trivial

/-! ## The eight results -/

section
open Cert.TailReferenceIdeal Cert.TailReferenceIdeal.Gen

variable (m : (ℓ : Loc nD τ sig) → Buf (Elt Ideal) ℓ) (c : Dev nD) {D : Data}
  (h : Holds (Ref.aA m c) (Ref.aX m c) (Ref.aP m c) (Ref.aT m c) (Ref.aWo m c) (Ref.aG m c) (Ref.aWp m c) (Ref.aE m c) (Ref.aWg m c) (Ref.aB m c) D)
include h

theorem res0 : Value.res_main_v85 m c = tok (f := .f32) D.dh := by
  funext i
  idx_vars i
  rw [Ref.out0]
  exact Ref.vD_at m c h i0 i1
theorem res1 : Value.res_main_v115 m c = mixes D.da := by
  funext i
  idx_vars i
  rw [Ref.out1]
  exact Ref.da_at m c h i0 i1
theorem res2 : Value.res_main_v116 m c = tok (f := .bf16) D.dmix := by
  funext i
  idx_vars i
  rw [Ref.out2]
  exact Ref.vL_at m c h i0 i1
theorem res3 : truncf .bf16 (Ref.vH m c) bitsLt_bf16_f32 = tok (f := .bf16) D.hid := by
  funext i
  idx_vars i
  exact Ref.vH_at m c h i0 i1
theorem res4 : Value.res_main_v118 m c = tok (f := .bf16) D.dg := by
  funext i
  idx_vars i
  rw [Ref.out4]
  exact Ref.vN_at m c h i0 i1
theorem res5 : truncf .bf16 (Ref.aP m c) bitsLt_bf16_f32 = embeds D.p := by
  funext i
  idx_vars i
  exact h.p i0 i1
theorem res6 : Value.res_main_v120 m c = tok (f := .bf16) D.dpe := by
  funext i
  idx_vars i
  rw [Ref.out6]
  exact Ref.vQ_at m c h i0 i1
theorem res7 : Value.res_main_v114 m c = sums D := by
  funext i
  idx_vars i
  rw [Ref.out7]
  exact Ref.rows_real m c h i1 i0

end

theorem algebraic : Cert.algebraic_TailKernelIdeal_TailReferenceIdeal_pre_each_finite (hTailKernelIdeal := Cert.TailKernelIdeal.Gen.facts)
    (hTailReferenceIdeal := Cert.TailReferenceIdeal.Gen.facts) (hPre_each_finite := facts) := by
  intro m g m' g' hpre hargs
  have hD : ∀ c : Dev Cert.TailKernelIdeal.nD, ∃ D, Ker.HoldsK m c D := fun c => @args facts _ _ _ _ _ _ _ _ _ _ (hpre c)
  choose D hD using hD
  refine ⟨fun c => tok (f := .f32) (D c).dh, fun c => mixes (D c).da, fun c => tok (f := .bf16) (D c).dmix, fun c => tok (f := .bf16) (D c).hid,
    fun c => tok (f := .bf16) (D c).dg, fun c => embeds (D c).p, fun c => tok (f := .bf16) (D c).dpe, fun c => sums (D c), ?_, ?_⟩
  · refine (θ_run Cert.TailKernelIdeal.defs _ _).mono (fun r h c => ?_) (Cert.TailKernelIdeal.Value.run_blocks m g)
    obtain ⟨k0, k1, k2, k3, k4, k5, k6, k7, k⟩ := h c
    exact ⟨k0.trans (Ker.final10 m c (hD c)), k1.trans (Ker.final11 m c (hD c)), k2.trans (Ker.final12 m c (hD c)), k3.trans (Ker.final13 m c (hD c)),
      k4.trans (Ker.final14 m c (hD c)), k5.trans (Ker.final15 m c (hD c)), k6.trans (Ker.final16 m c (hD c)), k7.trans (Ker.final17 m c (hD c)), k⟩
  · refine (θ_run Cert.TailReferenceIdeal.defs _ _).mono (fun r h c => ?_) (Cert.TailReferenceIdeal.Value.run m' g')
    have hc : Holds (Ref.aA m' c) (Ref.aX m' c) (Ref.aP m' c) (Ref.aT m' c) (Ref.aWo m' c) (Ref.aG m' c) (Ref.aWp m' c) (Ref.aE m' c) (Ref.aWg m' c) (Ref.aB m' c) (D c) := by
      obtain ⟨sA, sX, sP, sT, sWo, sG, sWp, sE, sWg, sB⟩ := hargs c
      unfold Ref.aA Ref.aX Ref.aP Ref.aT Ref.aWo Ref.aG Ref.aWp Ref.aE Ref.aWg Ref.aB
      rw [sA, sX, sP, sT, sWo, sG, sWp, sE, sWg, sB]
      exact hD c
    obtain ⟨k0, k1, k2, k3, k4, k5, k6, k7, k⟩ := h c
    exact ⟨k0.trans (res0 m' c hc), k1.trans (res1 m' c hc), k2.trans (res2 m' c hc), k3.trans (res3 m' c hc), k4.trans (res4 m' c hc), k5.trans (res5 m' c hc),
      k6.trans (res6 m' c hc), k7.trans (res7 m' c hc), k⟩

end Cert.Tail

end
-- ==== Proof.BranchRun.lean ====
module

public import proofs.«01_k».proof.Proof.Gen.BranchKernelIdeal.Frame
public import proofs.«01_k».proof.Proof.Gen.BranchKernelIdeal.Skeleton

@[expose] public section

set_option maxRecDepth 16384
set_option Elab.async false

noncomputable section

namespace Cert.Branch

open Cert.BranchKernelIdeal Cert.BranchKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! # One step of the branches' backward kernel

A step clears the gain gradients' buffer if it is the first, then runs straight through. Both ways it ends, whatever its
buffers held. -/

variable {F : FTy → Type} [FloatOps F]

/-- The logic's algebra at this machine. -/
abbrev Alg (F : FTy → Type) : Type := MT nD τ sig Unit (Elt F) ℕ (UR sig nD τ) ℕ

/-- The step is the first: its coordinate's word is zero. -/
def First (i : grid0.Coords) : Prop :=
  Scalar.cmpi .ne (Scalar.extui (Scalar.cmpi .eq (BitVec.ofNat 32 (i 0).val) 0#32) : BitVec 32) 0#32 = 1#1

variable (c : Dev nD) (i : grid0.Coords) (arg1 : Memref sig .tc .vmem S256x2048 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x128 .bf16) (harg8 : arg8.IsWhole) (arg9 : Memref sig .tc .vmem S4096x1024 .bf16) (harg9 : arg9.IsWhole) (arg10 : Memref sig .tc .vmem S2048x128 .bf16) (harg10 : arg10.IsWhole) (arg11 : Memref sig .tc .vmem S4096x1024 .bf16) (harg11 : arg11.IsWhole) (arg12 : Memref sig .tc .vmem S512x128 .bf16) (harg12 : arg12.IsWhole) (arg13 : Memref sig .tc .vmem S4096x1024 .bf16) (harg13 : arg13.IsWhole) (arg14 : Memref sig .tc .vmem S256x2048 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S8x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S128x1024 .f32) (harg21 : arg21.IsWhole)

/-- The step's buffers, each at some contents. -/
def held (c : Dev nD) (arg1 : Memref sig .tc .vmem S256x2048 .f32) (arg2 : Memref sig .tc .vmem S256x1024 .f32) (arg3 : Memref sig .tc .vmem S256x1024 .f32) (arg4 : Memref sig .tc .vmem S256x1024 .f32) (arg5 : Memref sig .tc .vmem S256x1024 .f32) (arg6 : Memref sig .tc .vmem S1x1024 .f32) (arg7 : Memref sig .tc .vmem S1x1024 .f32) (arg8 : Memref sig .tc .vmem S4096x128 .bf16) (arg9 : Memref sig .tc .vmem S4096x1024 .bf16) (arg10 : Memref sig .tc .vmem S2048x128 .bf16) (arg11 : Memref sig .tc .vmem S4096x1024 .bf16) (arg12 : Memref sig .tc .vmem S512x128 .bf16) (arg13 : Memref sig .tc .vmem S4096x1024 .bf16) (arg14 : Memref sig .tc .vmem S256x2048 .bf16) (arg15 : Memref sig .tc .vmem S256x1024 .bf16) (arg16 : Memref sig .tc .vmem S256x1024 .bf16) (arg17 : Memref sig .tc .vmem S256x1024 .f32) (arg18 : Memref sig .tc .vmem S8x1024 .f32) (arg19 : Memref sig .tc .vmem S128x1024 .f32) (arg20 : Memref sig .tc .vmem S128x1024 .f32) (arg21 : Memref sig .tc .vmem S128x1024 .f32) : sProp (Alg F) :=
  iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d))

/-- The body runs and hands its buffers back. -/
def Ran : Prop :=
  ∀ K : PUnit → sProp (Alg F), iprop(held (F := F) c arg1 arg2 arg3 arg4 arg5 arg6 arg7 arg8 arg9 arg10 arg11 arg12 arg13 arg14 arg15 arg16 arg17 arg18 arg19 arg20 arg21 ∗ (held (F := F) c arg1 arg2 arg3 arg4 arg5 arg6 arg7 arg8 arg9 arg10 arg11 arg12 arg13 arg14 arg15 arg16 arg17 arg18 arg19 arg20 arg21 -∗ K ⟨⟩))
    ⊢ wp frame (wpE (defs₀ (F := F)) Variants.none c none) Set.univ (cc0_branches_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K

set_option maxHeartbeats 8000000 in
/-- The first step. -/
theorem run_first (h : First i) : Ran (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 := by
  intro K
  unfold held owns
  rw [cc0_branches_bwd_eq_skeleton]; unfold cc0_branches_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  iintro ⟨⟨⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, ⟨%d17, %f17, %h17, H17⟩, ⟨%d18, %f18, %h18, H18⟩, ⟨%d19, %f19, %h19, H19⟩, ⟨%d20, %f20, %h20, H20⟩, ⟨%d21, %f21, %h21, H21⟩⟩, Hk⟩
  obtain rfl := harg1.eq_unread h1; obtain rfl := harg2.eq_unread h2; obtain rfl := harg3.eq_unread h3; obtain rfl := harg4.eq_unread h4; obtain rfl := harg5.eq_unread h5; obtain rfl := harg6.eq_unread h6; obtain rfl := harg7.eq_unread h7; obtain rfl := harg8.eq_unread h8; obtain rfl := harg9.eq_unread h9; obtain rfl := harg10.eq_unread h10; obtain rfl := harg11.eq_unread h11; obtain rfl := harg12.eq_unread h12; obtain rfl := harg13.eq_unread h13; obtain rfl := harg14.eq_unread h14; obtain rfl := harg15.eq_unread h15; obtain rfl := harg16.eq_unread h16; obtain rfl := harg17.eq_unread h17; obtain rfl := harg18.eq_unread h18; obtain rfl := harg19.eq_unread h19; obtain rfl := harg20.eq_unread h20; obtain rfl := harg21.eq_unread h21
  sl_exec! (disch := first | (guard_target = (Scalar.cmpi _ _ _ = _); exact h))
  sl_step
  iapply Hk
  isplitl [H1]
  · iexists _; iexists _; isplitr; swap
    · iexact H1
    · ipureintro; rfl
  isplitl [H2]
  · iexists _; iexists _; isplitr; swap
    · iexact H2
    · ipureintro; rfl
  isplitl [H3]
  · iexists _; iexists _; isplitr; swap
    · iexact H3
    · ipureintro; rfl
  isplitl [H4]
  · iexists _; iexists _; isplitr; swap
    · iexact H4
    · ipureintro; rfl
  isplitl [H5]
  · iexists _; iexists _; isplitr; swap
    · iexact H5
    · ipureintro; rfl
  isplitl [H6]
  · iexists _; iexists _; isplitr; swap
    · iexact H6
    · ipureintro; rfl
  isplitl [H7]
  · iexists _; iexists _; isplitr; swap
    · iexact H7
    · ipureintro; rfl
  isplitl [H8]
  · iexists _; iexists _; isplitr; swap
    · iexact H8
    · ipureintro; rfl
  isplitl [H9]
  · iexists _; iexists _; isplitr; swap
    · iexact H9
    · ipureintro; rfl
  isplitl [H10]
  · iexists _; iexists _; isplitr; swap
    · iexact H10
    · ipureintro; rfl
  isplitl [H11]
  · iexists _; iexists _; isplitr; swap
    · iexact H11
    · ipureintro; rfl
  isplitl [H12]
  · iexists _; iexists _; isplitr; swap
    · iexact H12
    · ipureintro; rfl
  isplitl [H13]
  · iexists _; iexists _; isplitr; swap
    · iexact H13
    · ipureintro; rfl
  isplitl [H14]
  · iexists _; iexists _; isplitr; swap
    · iexact H14
    · ipureintro; rfl
  isplitl [H15]
  · iexists _; iexists _; isplitr; swap
    · iexact H15
    · ipureintro; rfl
  isplitl [H16]
  · iexists _; iexists _; isplitr; swap
    · iexact H16
    · ipureintro; rfl
  isplitl [H17]
  · iexists _; iexists _; isplitr; swap
    · iexact H17
    · ipureintro; rfl
  isplitl [H18]
  · iexists _; iexists _; isplitr; swap
    · iexact H18
    · ipureintro; rfl
  isplitl [H19]
  · iexists _; iexists _; isplitr; swap
    · iexact H19
    · ipureintro; rfl
  isplitl [H20]
  · iexists _; iexists _; isplitr; swap
    · iexact H20
    · ipureintro; rfl
  iexists _; iexists _; isplitr; swap
  · iexact H21
  · ipureintro; rfl

set_option maxHeartbeats 8000000 in
/-- A later step. -/
theorem run_later (h : ¬First i) : Ran (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 := by
  intro K
  unfold held owns
  rw [cc0_branches_bwd_eq_skeleton]; unfold cc0_branches_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  iintro ⟨⟨⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, ⟨%d17, %f17, %h17, H17⟩, ⟨%d18, %f18, %h18, H18⟩, ⟨%d19, %f19, %h19, H19⟩, ⟨%d20, %f20, %h20, H20⟩, ⟨%d21, %f21, %h21, H21⟩⟩, Hk⟩
  obtain rfl := harg1.eq_unread h1; obtain rfl := harg2.eq_unread h2; obtain rfl := harg3.eq_unread h3; obtain rfl := harg4.eq_unread h4; obtain rfl := harg5.eq_unread h5; obtain rfl := harg6.eq_unread h6; obtain rfl := harg7.eq_unread h7; obtain rfl := harg8.eq_unread h8; obtain rfl := harg9.eq_unread h9; obtain rfl := harg10.eq_unread h10; obtain rfl := harg11.eq_unread h11; obtain rfl := harg12.eq_unread h12; obtain rfl := harg13.eq_unread h13; obtain rfl := harg14.eq_unread h14; obtain rfl := harg15.eq_unread h15; obtain rfl := harg16.eq_unread h16; obtain rfl := harg17.eq_unread h17; obtain rfl := harg18.eq_unread h18; obtain rfl := harg19.eq_unread h19; obtain rfl := harg20.eq_unread h20; obtain rfl := harg21.eq_unread h21
  sl_exec! (disch := first | (guard_target = ¬(Scalar.cmpi _ _ _ = _); exact h))
  sl_step
  iapply Hk
  isplitl [H1]
  · iexists _; iexists _; isplitr; swap
    · iexact H1
    · ipureintro; rfl
  isplitl [H2]
  · iexists _; iexists _; isplitr; swap
    · iexact H2
    · ipureintro; rfl
  isplitl [H3]
  · iexists _; iexists _; isplitr; swap
    · iexact H3
    · ipureintro; rfl
  isplitl [H4]
  · iexists _; iexists _; isplitr; swap
    · iexact H4
    · ipureintro; rfl
  isplitl [H5]
  · iexists _; iexists _; isplitr; swap
    · iexact H5
    · ipureintro; rfl
  isplitl [H6]
  · iexists _; iexists _; isplitr; swap
    · iexact H6
    · ipureintro; rfl
  isplitl [H7]
  · iexists _; iexists _; isplitr; swap
    · iexact H7
    · ipureintro; rfl
  isplitl [H8]
  · iexists _; iexists _; isplitr; swap
    · iexact H8
    · ipureintro; rfl
  isplitl [H9]
  · iexists _; iexists _; isplitr; swap
    · iexact H9
    · ipureintro; rfl
  isplitl [H10]
  · iexists _; iexists _; isplitr; swap
    · iexact H10
    · ipureintro; rfl
  isplitl [H11]
  · iexists _; iexists _; isplitr; swap
    · iexact H11
    · ipureintro; rfl
  isplitl [H12]
  · iexists _; iexists _; isplitr; swap
    · iexact H12
    · ipureintro; rfl
  isplitl [H13]
  · iexists _; iexists _; isplitr; swap
    · iexact H13
    · ipureintro; rfl
  isplitl [H14]
  · iexists _; iexists _; isplitr; swap
    · iexact H14
    · ipureintro; rfl
  isplitl [H15]
  · iexists _; iexists _; isplitr; swap
    · iexact H15
    · ipureintro; rfl
  isplitl [H16]
  · iexists _; iexists _; isplitr; swap
    · iexact H16
    · ipureintro; rfl
  isplitl [H17]
  · iexists _; iexists _; isplitr; swap
    · iexact H17
    · ipureintro; rfl
  isplitl [H18]
  · iexists _; iexists _; isplitr; swap
    · iexact H18
    · ipureintro; rfl
  isplitl [H19]
  · iexists _; iexists _; isplitr; swap
    · iexact H19
    · ipureintro; rfl
  isplitl [H20]
  · iexists _; iexists _; isplitr; swap
    · iexact H20
    · ipureintro; rfl
  iexists _; iexists _; isplitr; swap
  · iexact H21
  · ipureintro; rfl

/-- Every step runs. -/
theorem ran : Ran (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 := by
  by_cases h : First i
  · exact run_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 h
  · exact run_later c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 h

end Cert.Branch

end
-- ==== Proof.BranchFrame.lean ====
module

public import proofs.«01_k».proof.Proof.BranchRun

@[expose] public section

set_option maxRecDepth 16384
set_option Elab.async false

noncomputable section

namespace Cert.Branch

open Cert.BranchKernelIdeal Cert.BranchKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

/-! # The branches' backward launch

Nothing is claimed of what a step leaves in its buffers; the run then says that nothing faults, that the arguments end as
launched and that every counter ends at zero. -/

variable {F : FTy → Type} [FloatOps F]
variable (m : (ℓ : Loc nD τ sig) → Buf (Elt F) ℓ) (ρ : Dev nD → PrngReg)

/-- The arrays as the host leaves them; of the buffers, nothing. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

set_option maxHeartbeats 4000000 in
theorem body (c : Dev nD) : (rdat m c).BodyObligation (defs₀ (F := F)) Variants.none () Set.univ := by
  intro t Y hY
  rw [bigSep_W0, bigSep_W0]
  rewrite [show (rdat m c).Φ t.castSucc = Pipeline.ΦA spec0 c from rfl, show (rdat m c).Φ t.succ = Pipeline.ΦA spec0 c from rfl,
    show (rdat m c).owesAt () t.succ = (rdat m c).owesAt () t.castSucc from rfl]
  iintro ⟨HP, Ho, H1, H2, H3, H4, H5, H6, H7, H8, H9, H10, H11, H12, H13, H14, H15, H16, H17, H18, H19, H20, H21⟩
  iapply ran c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) _
  unfold held
  isplitl [H1 H2 H3 H4 H5 H6 H7 H8 H9 H10 H11 H12 H13 H14 H15 H16 H17 H18 H19 H20 H21]
  · skip
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21
  iintro ⟨⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  isplitl [HP]; · iexact HP
  isplitl [Ho]; · iexact Ho
  isplitl [H1]
  · iexists d1; isplitr; · ipureintro; trivial
    iexact H1
  isplitl [H2]
  · iexists d2; isplitr; · ipureintro; trivial
    iexact H2
  isplitl [H3]
  · iexists d3; isplitr; · ipureintro; trivial
    iexact H3
  isplitl [H4]
  · iexists d4; isplitr; · ipureintro; trivial
    iexact H4
  isplitl [H5]
  · iexists d5; isplitr; · ipureintro; trivial
    iexact H5
  isplitl [H6]
  · iexists d6; isplitr; · ipureintro; trivial
    iexact H6
  isplitl [H7]
  · iexists d7; isplitr; · ipureintro; trivial
    iexact H7
  isplitl [H8]
  · iexists d8; isplitr; · ipureintro; trivial
    iexact H8
  isplitl [H9]
  · iexists d9; isplitr; · ipureintro; trivial
    iexact H9
  isplitl [H10]
  · iexists d10; isplitr; · ipureintro; trivial
    iexact H10
  isplitl [H11]
  · iexists d11; isplitr; · ipureintro; trivial
    iexact H11
  isplitl [H12]
  · iexists d12; isplitr; · ipureintro; trivial
    iexact H12
  isplitl [H13]
  · iexists d13; isplitr; · ipureintro; trivial
    iexact H13
  isplitl [H14]
  · iexists d14; isplitr; · ipureintro; trivial
    iexact H14
  isplitl [H15]
  · iexists d15; isplitr; · ipureintro; trivial
    iexact H15
  isplitl [H16]
  · iexists d16; isplitr; · ipureintro; trivial
    iexact H16
  isplitl [H17]
  · iexists d17; isplitr; · ipureintro; trivial
    iexact H17
  isplitl [H18]
  · iexists d18; isplitr; · ipureintro; trivial
    iexact H18
  isplitl [H19]
  · iexists d19; isplitr; · ipureintro; trivial
    iexact H19
  isplitl [H20]
  · iexists d20; isplitr; · ipureintro; trivial
    iexact H20
  iexists d21; isplitr; · ipureintro; trivial
  iexact H21

theorem share_eq (c : Dev nD) (w : Fin cfg0.W) : (rdat m c).share w = fullShare := by unfold RDat.share; split <;> rfl

set_option backward.isDefEq.respectTransparency.types false in
set_option maxHeartbeats 4000000 in
/-- The whole program's run. -/
theorem run : θ_run (defs (F := F)) (onTc (τ := τ) (main (F := F))) (s₀ m ρ)
    (fun r => RDat.FramePost cfg0 (fun c => rdat m c) (V m) r ∧ r.2.sem = fun _ => 0) :=
  RDat.θ_run_frame_track cfgs (0 : Fin 1) launch0 defs₀ Variants.none (fun c => rdat m c) m ρ main
    (hbody := fun c => body m c) (hshare := fun c w => share_eq m c w) (howed := fun _ _ => rfl) (V := V m)
    (hmain := hmain m Variants.none) (hA := fun _ _ => rfl) (hin := fun _ => BIBase.Entails.rfl) (hout := fun _ => BIBase.Entails.rfl)
    (Q' := fun r => RDat.FramePost cfg0 (fun c => rdat m c) (V m) r ∧ r.2.sem = fun _ => 0) (hQ' := fun _ h => h)

/-- The arguments end as launched. -/
theorem kept (r : PUnit × MemSt nD τ sig (Elt F)) (h : RDat.FramePost cfg0 (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((congrFun ((rdat m c).ArrAt_in 0 rfl _) _).mp ((h c).1 0)).trans (V_main_arg0 m c),
    ((congrFun ((rdat m c).ArrAt_in 1 rfl _) _).mp ((h c).1 1)).trans (V_main_arg1 m c),
    ((congrFun ((rdat m c).ArrAt_in 2 rfl _) _).mp ((h c).1 2)).trans (V_main_arg2 m c),
    ((congrFun ((rdat m c).ArrAt_in 3 rfl _) _).mp ((h c).1 3)).trans (V_main_arg3 m c),
    ((congrFun ((rdat m c).ArrAt_in 4 rfl _) _).mp ((h c).1 4)).trans (V_main_arg4 m c),
    ((congrFun ((rdat m c).ArrAt_in 5 rfl _) _).mp ((h c).1 5)).trans (V_main_arg5 m c),
    ((congrFun ((rdat m c).ArrAt_in 6 rfl _) _).mp ((h c).1 6)).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c)⟩

/-- The frame, over any floats. -/
theorem frame_run : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  (θ_run _ _ _).mono (fun r h => ⟨fun c => kept m r h.1 c, h.2⟩) (run m ρ)

end Cert.Branch

end
-- ==== Proof.BranchClaims.lean ====
module

public import proofs.«01_k».proof.Defs
public import proofs.«01_k».proof.Proof.BranchFrame
public import proofs.«01_k».proof.Proof.Gen.BranchKernel

@[expose] public section

set_option maxRecDepth 16384

/-! # The branches' backward frames

`frame_run` holds over any elements: the exact program is its instance at the extended reals, the program as printed its
instance at the machine's words. -/

namespace Cert.Branch

open Idealize.ShloMosaic Idealize.ShloMosaic.TcCoe Idealize.ShloMosaic.Tactic Idealize.SL.Sem

theorem frame_ideal : Cert.quiescent_BranchKernelIdeal (hBranchKernelIdeal := Cert.BranchKernelIdeal.Gen.facts) :=
  fun m ρ _ => frame_run (F := Ideal) m ρ

/-- The frame's statement for the exact program's text, over the machine's words. -/
def WordsFrame : Prop :=
  ∀ (m : (ℓ : Loc Cert.BranchKernelIdeal.nD Cert.BranchKernelIdeal.τ Cert.BranchKernelIdeal.sig) → Buf (Elt Bits) ℓ) (g : Dev Cert.BranchKernelIdeal.nD → PrngReg), True →
    θ_run (Cert.BranchKernelIdeal.defs (F := Bits)) (onTc (τ := Cert.BranchKernelIdeal.τ) (Cert.BranchKernelIdeal.main (F := Bits))) ⟨m, fun _ => 0, g⟩ (fun r => (∀ c : Dev Cert.BranchKernelIdeal.nD,
      r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
      ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1)
      ∧ r.2.mem ((c.tc : Thread Cert.BranchKernelIdeal.nD Cert.BranchKernelIdeal.τ).loc Cert.BranchKernelIdeal.main_arg2) = m ((c.tc : Thread Cert.BranchKernelIdeal.nD Cert.BranchKernelIdeal.τ).loc Cert.BranchKernelIdeal.main_arg2)
      ∧ r.2.mem ((c.tc : Thread Cert.BranchKernelIdeal.nD Cert.BranchKernelIdeal.τ).loc Cert.BranchKernelIdeal.main_arg3) = m ((c.tc : Thread Cert.BranchKernelIdeal.nD Cert.BranchKernelIdeal.τ).loc Cert.BranchKernelIdeal.main_arg3)
      ∧ r.2.mem ((c.tc : Thread Cert.BranchKernelIdeal.nD Cert.BranchKernelIdeal.τ).loc Cert.BranchKernelIdeal.main_arg4) = m ((c.tc : Thread Cert.BranchKernelIdeal.nD Cert.BranchKernelIdeal.τ).loc Cert.BranchKernelIdeal.main_arg4)
      ∧ r.2.mem ((c.tc : Thread Cert.BranchKernelIdeal.nD Cert.BranchKernelIdeal.τ).loc Cert.BranchKernelIdeal.main_arg5) = m ((c.tc : Thread Cert.BranchKernelIdeal.nD Cert.BranchKernelIdeal.τ).loc Cert.BranchKernelIdeal.main_arg5)
      ∧ r.2.mem ((c.tc : Thread Cert.BranchKernelIdeal.nD Cert.BranchKernelIdeal.τ).loc Cert.BranchKernelIdeal.main_arg6) = m ((c.tc : Thread Cert.BranchKernelIdeal.nD Cert.BranchKernelIdeal.τ).loc Cert.BranchKernelIdeal.main_arg6)
      ∧ r.2.mem ((c.tc : Thread Cert.BranchKernelIdeal.nD Cert.BranchKernelIdeal.τ).loc Cert.BranchKernelIdeal.main_arg7) = m ((c.tc : Thread Cert.BranchKernelIdeal.nD Cert.BranchKernelIdeal.τ).loc Cert.BranchKernelIdeal.main_arg7)
      ∧ r.2.mem ((c.tc : Thread Cert.BranchKernelIdeal.nD Cert.BranchKernelIdeal.τ).loc Cert.BranchKernelIdeal.main_arg8) = m ((c.tc : Thread Cert.BranchKernelIdeal.nD Cert.BranchKernelIdeal.τ).loc Cert.BranchKernelIdeal.main_arg8)
      ∧ r.2.mem ((c.tc : Thread Cert.BranchKernelIdeal.nD Cert.BranchKernelIdeal.τ).loc Cert.BranchKernelIdeal.main_arg9) = m ((c.tc : Thread Cert.BranchKernelIdeal.nD Cert.BranchKernelIdeal.τ).loc Cert.BranchKernelIdeal.main_arg9)
      ∧ r.2.mem ((c.tc : Thread Cert.BranchKernelIdeal.nD Cert.BranchKernelIdeal.τ).loc Cert.BranchKernelIdeal.main_arg10) = m ((c.tc : Thread Cert.BranchKernelIdeal.nD Cert.BranchKernelIdeal.τ).loc Cert.BranchKernelIdeal.main_arg10)
      ∧ r.2.mem ((c.tc : Thread Cert.BranchKernelIdeal.nD Cert.BranchKernelIdeal.τ).loc Cert.BranchKernelIdeal.main_arg11) = m ((c.tc : Thread Cert.BranchKernelIdeal.nD Cert.BranchKernelIdeal.τ).loc Cert.BranchKernelIdeal.main_arg11)
      ∧ r.2.mem ((c.tc : Thread Cert.BranchKernelIdeal.nD Cert.BranchKernelIdeal.τ).loc Cert.BranchKernelIdeal.main_arg12) = m ((c.tc : Thread Cert.BranchKernelIdeal.nD Cert.BranchKernelIdeal.τ).loc Cert.BranchKernelIdeal.main_arg12))
      ∧ r.2.sem = fun _ => 0)

theorem words_frame : WordsFrame := fun m ρ _ => frame_run (F := Bits) m ρ

/-- Word for word the printed program's frame. -/
theorem words_same : WordsFrame = Cert.quiescent_BranchKernel (hBranchKernel := Cert.BranchKernel.Gen.facts) := by
  sl_kernel_rfl

theorem frame_words : Cert.quiescent_BranchKernel (hBranchKernel := Cert.BranchKernel.Gen.facts) := words_same.mp words_frame

end Cert.Branch

end
-- ==== Proof.lean ====
module

public import proofs.«01_k».proof.Defs
public import proofs.«01_k».proof.Proof.Gen.LruKernel
public import proofs.«01_k».proof.Proof.Gen.LruKernel.Frame
public import proofs.«01_k».proof.Proof.Gen.LruKernelIdeal
public import proofs.«01_k».proof.Proof.Gen.LruKernelIdeal.Frame
public import proofs.«01_k».proof.Proof.Gen.InputKernel
public import proofs.«01_k».proof.Proof.Gen.InputKernel.Frame
public import proofs.«01_k».proof.Proof.Gen.InputKernelIdeal
public import proofs.«01_k».proof.Proof.Gen.InputKernelIdeal.Value
public import proofs.«01_k».proof.Proof.Gen.InputReferenceIdeal
public import proofs.«01_k».proof.Proof.Gen.InputReferenceIdeal.Run
public import proofs.«01_k».proof.Proof.Gen.TailKernel
public import proofs.«01_k».proof.Proof.Gen.TailKernel.Frame
public import proofs.«01_k».proof.Proof.Gen.TailKernelIdeal
public import proofs.«01_k».proof.Proof.Gen.TailKernelIdeal.Value
public import proofs.«01_k».proof.Proof.Gen.TailReferenceIdeal
public import proofs.«01_k».proof.Proof.Gen.TailReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnReferenceIdeal
public import proofs.«01_k».proof.Proof.Gen.AttnReferenceIdeal.Run
public import proofs.«01_k».proof.Proof.FgateEq
public import proofs.«01_k».proof.Proof.Gen.ReferenceIdeal
public import Idealize.ShloMosaic.Adequacy
public import Idealize.ShloMosaic.Init
public import proofs.«01_k».proof.Proof.AttnClaims
public import proofs.«01_k».proof.Proof.AttnAlgebraic
public import proofs.«01_k».proof.Proof.InputClaims
public import proofs.«01_k».proof.Proof.TailClaims
public import proofs.«01_k».proof.Proof.BranchClaims

@[expose] public section

noncomputable section

namespace Cert.Proof

open Idealize.ShloMosaic Idealize.SL.Sem Cert.Kernel

/-- The forget gate's backward call: its two results are the two cotangents of the forward lines. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.Fgate.Kernel.out2 m c, fun c => Cert.Fgate.Kernel.out3 m c, ?_, ?_⟩
  · exact (θ_run Cert.KernelIdeal.defs _ _).mono (fun r h c =>
      ⟨(h c).1.trans (Cert.Fgate.Kernel.final2 m c), (h c).2.1.trans (Cert.Fgate.Kernel.final3 m c), (h c).2.2⟩) (Cert.KernelIdeal.Value.run_blocks m g)
  · refine (θ_run Cert.ReferenceIdeal.defs _ _).mono (fun r h c =>
      ⟨(h c).1.trans ?_, (h c).2.1.trans ?_, (h c).2.2⟩) (Cert.Fgate.Ref.run m' g')
    · rw [(hargs c).1, (hargs c).2.1, (hargs c).2.2]
      exact (Cert.Fgate.out2_eq m c).symm
    · rw [(hargs c).1, (hargs c).2.1, (hargs c).2.2]
      exact (Cert.Fgate.out3_eq m c).symm

theorem frame_reference : Cert.quiescent_ReferenceIdeal (hReferenceIdeal := Cert.ReferenceIdeal.Gen.facts) := by
  intro m g _
  exact (θ_run Cert.ReferenceIdeal.defs _ _).mono (fun r h => ⟨fun c => (h c).2.2, sem_eq_zero_of_no_sems (by decide) r.2⟩)
    (Cert.ReferenceIdeal.Value.run m g)

theorem claim : Cert.Claim := ⟨Cert.Kernel.Gen.facts, Cert.KernelIdeal.Gen.facts, Cert.ReferenceIdeal.Gen.facts,
  Cert.AttnKernel.Gen.facts, Cert.AttnKernelIdeal.Gen.facts, Cert.AttnReferenceIdeal.Gen.facts,
  Cert.LruKernel.Gen.facts, Cert.LruKernelIdeal.Gen.facts,
  Cert.InputKernel.Gen.facts, Cert.InputKernelIdeal.Gen.facts, Cert.InputReferenceIdeal.Gen.facts,
  Cert.TailKernel.Gen.facts, Cert.TailKernelIdeal.Gen.facts, Cert.TailReferenceIdeal.Gen.facts,
  Cert.BranchKernel.Gen.facts, Cert.BranchKernelIdeal.Gen.facts,
  Cert.Attn.Finite.facts, Cert.Input.facts, Cert.Tail.facts,
  fun m ρ _ => Cert.Kernel.Gen.frame m ρ, fun m ρ _ => Cert.KernelIdeal.Gen.frame m ρ, frame_reference,
  Cert.Attn.frame_words, Cert.Attn.frame_ideal, Cert.Attn.frame_ideal_finite, Cert.Attn.frame_reference, Cert.Attn.frame_reference_finite,
  fun m ρ _ => Cert.LruKernel.Gen.frame m ρ, fun m ρ _ => Cert.LruKernelIdeal.Gen.frame m ρ,
  Cert.Input.frame_words, Cert.Input.frame_ideal, Cert.Input.frame_ideal_finite, Cert.Input.frame_reference, Cert.Input.frame_reference_finite,
  Cert.Tail.frame_words, Cert.Tail.frame_ideal, Cert.Tail.frame_ideal_finite, Cert.Tail.frame_reference, Cert.Tail.frame_reference_finite,
  Cert.Branch.frame_words, Cert.Branch.frame_ideal,
  trivial, algebraic, Cert.Attn.preserves, Cert.Attn.algebraic, trivial, trivial, Cert.Input.algebraic, trivial, Cert.Tail.algebraic, trivial⟩

end Cert.Proof

end
